-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite_in [hPre_finite_in : Cert.Pre_finite_in.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_in [hPre_finite_in : Cert.Pre_finite_in.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.2 = (fun _ => 1#1)

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxKernelIdeal_finite_ctx [hPre_finite_ctx : Cert.Pre_finite_ctx.Facts] (m : (ℓ : Loc Cert.CtxKernelIdeal.nD Cert.CtxKernelIdeal.τ Cert.CtxKernelIdeal.sig) → Buf (Elt Ideal) ℓ) : Prop :=
  ∀ c : Dev Cert.CtxKernelIdeal.nD,
    (Cert.Pre_finite_ctx.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2)) (m ((c.tc : Thread Cert.CtxKernelIdeal.nD Cert.CtxKernelIdeal.τ).loc Cert.CtxKernelIdeal.main_arg3)) (m ((c.tc : Thread Cert.CtxKernelIdeal.nD Cert.CtxKernelIdeal.τ).loc Cert.CtxKernelIdeal.main_arg4))).1 = (fun _ => 1#1)
    ∧ (Cert.Pre_finite_ctx.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2)) (m ((c.tc : Thread Cert.CtxKernelIdeal.nD Cert.CtxKernelIdeal.τ).loc Cert.CtxKernelIdeal.main_arg3)) (m ((c.tc : Thread Cert.CtxKernelIdeal.nD Cert.CtxKernelIdeal.τ).loc Cert.CtxKernelIdeal.main_arg4))).2.1 = (fun _ => 1#1)
    ∧ (Cert.Pre_finite_ctx.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2)) (m ((c.tc : Thread Cert.CtxKernelIdeal.nD Cert.CtxKernelIdeal.τ).loc Cert.CtxKernelIdeal.main_arg3)) (m ((c.tc : Thread Cert.CtxKernelIdeal.nD Cert.CtxKernelIdeal.τ).loc Cert.CtxKernelIdeal.main_arg4))).2.2.1 = (fun _ => 1#1)
    ∧ (Cert.Pre_finite_ctx.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2)) (m ((c.tc : Thread Cert.CtxKernelIdeal.nD Cert.CtxKernelIdeal.τ).loc Cert.CtxKernelIdeal.main_arg3)) (m ((c.tc : Thread Cert.CtxKernelIdeal.nD Cert.CtxKernelIdeal.τ).loc Cert.CtxKernelIdeal.main_arg4))).2.2.2 = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_ctx [hPre_finite_ctx : Cert.Pre_finite_ctx.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_ctx.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3)) (m ((c.tc : Thread Cert.CtxReferenceIdeal.nD Cert.CtxReferenceIdeal.τ).loc Cert.CtxReferenceIdeal.main_arg4))).1 = (fun _ => 1#1)
    ∧ (Cert.Pre_finite_ctx.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3)) (m ((c.tc : Thread Cert.CtxReferenceIdeal.nD Cert.CtxReferenceIdeal.τ).loc Cert.CtxReferenceIdeal.main_arg4))).2.1 = (fun _ => 1#1)
    ∧ (Cert.Pre_finite_ctx.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3)) (m ((c.tc : Thread Cert.CtxReferenceIdeal.nD Cert.CtxReferenceIdeal.τ).loc Cert.CtxReferenceIdeal.main_arg4))).2.2.1 = (fun _ => 1#1)
    ∧ (Cert.Pre_finite_ctx.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3)) (m ((c.tc : Thread Cert.CtxReferenceIdeal.nD Cert.CtxReferenceIdeal.τ).loc Cert.CtxReferenceIdeal.main_arg4))).2.2.2 = (fun _ => 1#1)

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetReferenceIdeal (m : (ℓ : Loc Cert.RetReferenceIdeal.nD Cert.RetReferenceIdeal.τ Cert.RetReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_finite_in [hInKernelIdeal : Cert.InKernelIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite_in m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_finite_in [hInReferenceIdeal : Cert.InReferenceIdeal.Facts] [hPre_finite_in : Cert.Pre_finite_in.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_in m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2)
      ∧ r.2.mem ((c.tc : Thread Cert.CtxKernel.nD Cert.CtxKernel.τ).loc Cert.CtxKernel.main_arg3) = m ((c.tc : Thread Cert.CtxKernel.nD Cert.CtxKernel.τ).loc Cert.CtxKernel.main_arg3)
      ∧ r.2.mem ((c.tc : Thread Cert.CtxKernel.nD Cert.CtxKernel.τ).loc Cert.CtxKernel.main_arg4) = m ((c.tc : Thread Cert.CtxKernel.nD Cert.CtxKernel.τ).loc Cert.CtxKernel.main_arg4))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
      ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4))
      ∧ r.2.sem = fun _ => 0)

def quiescent_CtxKernelIdeal_pre_finite_ctx [hCtxKernelIdeal : Cert.CtxKernelIdeal.Facts] [hPre_finite_ctx : Cert.Pre_finite_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal_finite_ctx m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
      ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4))
      ∧ r.2.sem = fun _ => 0)

def quiescent_CtxReferenceIdeal_pre_finite_ctx [hCtxReferenceIdeal : Cert.CtxReferenceIdeal.Facts] [hPre_finite_ctx : Cert.Pre_finite_ctx.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_ctx m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4))
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1)
      ∧ r.2.mem ((c.tc : Thread Cert.RetKernel.nD Cert.RetKernel.τ).loc Cert.RetKernel.main_arg2) = m ((c.tc : Thread Cert.RetKernel.nD Cert.RetKernel.τ).loc Cert.RetKernel.main_arg2)
      ∧ r.2.mem ((c.tc : Thread Cert.RetKernel.nD Cert.RetKernel.τ).loc Cert.RetKernel.main_arg3) = m ((c.tc : Thread Cert.RetKernel.nD Cert.RetKernel.τ).loc Cert.RetKernel.main_arg3)
      ∧ r.2.mem ((c.tc : Thread Cert.RetKernel.nD Cert.RetKernel.τ).loc Cert.RetKernel.main_arg4) = m ((c.tc : Thread Cert.RetKernel.nD Cert.RetKernel.τ).loc Cert.RetKernel.main_arg4)
      ∧ r.2.mem ((c.tc : Thread Cert.RetKernel.nD Cert.RetKernel.τ).loc Cert.RetKernel.main_arg5) = m ((c.tc : Thread Cert.RetKernel.nD Cert.RetKernel.τ).loc Cert.RetKernel.main_arg5)
      ∧ r.2.mem ((c.tc : Thread Cert.RetKernel.nD Cert.RetKernel.τ).loc Cert.RetKernel.main_arg6) = m ((c.tc : Thread Cert.RetKernel.nD Cert.RetKernel.τ).loc Cert.RetKernel.main_arg6)
      ∧ r.2.mem ((c.tc : Thread Cert.RetKernel.nD Cert.RetKernel.τ).loc Cert.RetKernel.main_arg7) = m ((c.tc : Thread Cert.RetKernel.nD Cert.RetKernel.τ).loc Cert.RetKernel.main_arg7))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
      ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
      ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3)
      ∧ r.2.mem ((c.tc : Thread Cert.RetKernelIdeal.nD Cert.RetKernelIdeal.τ).loc Cert.RetKernelIdeal.main_arg4) = m ((c.tc : Thread Cert.RetKernelIdeal.nD Cert.RetKernelIdeal.τ).loc Cert.RetKernelIdeal.main_arg4)
      ∧ r.2.mem ((c.tc : Thread Cert.RetKernelIdeal.nD Cert.RetKernelIdeal.τ).loc Cert.RetKernelIdeal.main_arg5) = m ((c.tc : Thread Cert.RetKernelIdeal.nD Cert.RetKernelIdeal.τ).loc Cert.RetKernelIdeal.main_arg5)
      ∧ r.2.mem ((c.tc : Thread Cert.RetKernelIdeal.nD Cert.RetKernelIdeal.τ).loc Cert.RetKernelIdeal.main_arg6) = m ((c.tc : Thread Cert.RetKernelIdeal.nD Cert.RetKernelIdeal.τ).loc Cert.RetKernelIdeal.main_arg6)
      ∧ r.2.mem ((c.tc : Thread Cert.RetKernelIdeal.nD Cert.RetKernelIdeal.τ).loc Cert.RetKernelIdeal.main_arg7) = m ((c.tc : Thread Cert.RetKernelIdeal.nD Cert.RetKernelIdeal.τ).loc Cert.RetKernelIdeal.main_arg7))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)
      ∧ r.2.mem ((c.tc : Thread Cert.RetReferenceIdeal.nD Cert.RetReferenceIdeal.τ).loc Cert.RetReferenceIdeal.main_arg2) = m ((c.tc : Thread Cert.RetReferenceIdeal.nD Cert.RetReferenceIdeal.τ).loc Cert.RetReferenceIdeal.main_arg2)
      ∧ r.2.mem ((c.tc : Thread Cert.RetReferenceIdeal.nD Cert.RetReferenceIdeal.τ).loc Cert.RetReferenceIdeal.main_arg3) = m ((c.tc : Thread Cert.RetReferenceIdeal.nD Cert.RetReferenceIdeal.τ).loc Cert.RetReferenceIdeal.main_arg3)
      ∧ r.2.mem ((c.tc : Thread Cert.RetReferenceIdeal.nD Cert.RetReferenceIdeal.τ).loc Cert.RetReferenceIdeal.main_arg4) = m ((c.tc : Thread Cert.RetReferenceIdeal.nD Cert.RetReferenceIdeal.τ).loc Cert.RetReferenceIdeal.main_arg4)
      ∧ r.2.mem ((c.tc : Thread Cert.RetReferenceIdeal.nD Cert.RetReferenceIdeal.τ).loc Cert.RetReferenceIdeal.main_arg5) = m ((c.tc : Thread Cert.RetReferenceIdeal.nD Cert.RetReferenceIdeal.τ).loc Cert.RetReferenceIdeal.main_arg5)
      ∧ r.2.mem ((c.tc : Thread Cert.RetReferenceIdeal.nD Cert.RetReferenceIdeal.τ).loc Cert.RetReferenceIdeal.main_arg6) = m ((c.tc : Thread Cert.RetReferenceIdeal.nD Cert.RetReferenceIdeal.τ).loc Cert.RetReferenceIdeal.main_arg6)
      ∧ r.2.mem ((c.tc : Thread Cert.RetReferenceIdeal.nD Cert.RetReferenceIdeal.τ).loc Cert.RetReferenceIdeal.main_arg7) = m ((c.tc : Thread Cert.RetReferenceIdeal.nD Cert.RetReferenceIdeal.τ).loc Cert.RetReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v13_0)) (v1 : (c : Dev Cert.MixKernelIdeal.nD) → Buf (Elt Ideal) ((c.tc : Thread Cert.MixKernelIdeal.nD Cert.MixKernelIdeal.τ).loc Cert.MixKernelIdeal.main_v13_1)) (v2 : (c : Dev Cert.MixKernelIdeal.nD) → Buf (Elt Ideal) ((c.tc : Thread Cert.MixKernelIdeal.nD Cert.MixKernelIdeal.τ).loc Cert.MixKernelIdeal.main_v13_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v13_0) = v0 c
          ∧ r.2.mem ((c.tc : Thread Cert.MixKernelIdeal.nD Cert.MixKernelIdeal.τ).loc Cert.MixKernelIdeal.main_v13_1) = v1 c
          ∧ r.2.mem ((c.tc : Thread Cert.MixKernelIdeal.nD Cert.MixKernelIdeal.τ).loc Cert.MixKernelIdeal.main_v13_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v11) = v0 c
          ∧ r.2.mem ((c.tc : Thread Cert.MixReferenceIdeal.nD Cert.MixReferenceIdeal.τ).loc Cert.MixReferenceIdeal.main_v44) = v1 c
          ∧ r.2.mem ((c.tc : Thread Cert.MixReferenceIdeal.nD Cert.MixReferenceIdeal.τ).loc Cert.MixReferenceIdeal.main_v46) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_InKernel_InKernelIdeal : Prop :=
  IdealRules.named_const.Statement Cert.InKernelIdeal.κ "q_scale" .f32 0x3E38AA3B#32 (((8 * (Real.log 2))⁻¹ : ℝ) : EReal)

def algebraic_InKernelIdeal_InReferenceIdeal_pre_finite_in [hInKernelIdeal : Cert.InKernelIdeal.Facts] [hInReferenceIdeal : Cert.InReferenceIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite_in m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v43_0)) (v1 : (c : Dev Cert.InKernelIdeal.nD) → Buf (Elt Ideal) ((c.tc : Thread Cert.InKernelIdeal.nD Cert.InKernelIdeal.τ).loc Cert.InKernelIdeal.main_v43_1)) (v2 : (c : Dev Cert.InKernelIdeal.nD) → Buf (Elt Ideal) ((c.tc : Thread Cert.InKernelIdeal.nD Cert.InKernelIdeal.τ).loc Cert.InKernelIdeal.main_v43_2)) (v3 : (c : Dev Cert.InKernelIdeal.nD) → Buf (Elt Ideal) ((c.tc : Thread Cert.InKernelIdeal.nD Cert.InKernelIdeal.τ).loc Cert.InKernelIdeal.main_v43_3)) (v4 : (c : Dev Cert.InKernelIdeal.nD) → Buf (Elt Ideal) ((c.tc : Thread Cert.InKernelIdeal.nD Cert.InKernelIdeal.τ).loc Cert.InKernelIdeal.main_v43_4)) (v5 : (c : Dev Cert.InKernelIdeal.nD) → Buf (Elt Ideal) ((c.tc : Thread Cert.InKernelIdeal.nD Cert.InKernelIdeal.τ).loc Cert.InKernelIdeal.main_v43_5)) (v6 : (c : Dev Cert.InKernelIdeal.nD) → Buf (Elt Ideal) ((c.tc : Thread Cert.InKernelIdeal.nD Cert.InKernelIdeal.τ).loc Cert.InKernelIdeal.main_v43_6)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v43_0) = v0 c
          ∧ r.2.mem ((c.tc : Thread Cert.InKernelIdeal.nD Cert.InKernelIdeal.τ).loc Cert.InKernelIdeal.main_v43_1) = v1 c
          ∧ r.2.mem ((c.tc : Thread Cert.InKernelIdeal.nD Cert.InKernelIdeal.τ).loc Cert.InKernelIdeal.main_v43_2) = v2 c
          ∧ r.2.mem ((c.tc : Thread Cert.InKernelIdeal.nD Cert.InKernelIdeal.τ).loc Cert.InKernelIdeal.main_v43_3) = v3 c
          ∧ r.2.mem ((c.tc : Thread Cert.InKernelIdeal.nD Cert.InKernelIdeal.τ).loc Cert.InKernelIdeal.main_v43_4) = v4 c
          ∧ r.2.mem ((c.tc : Thread Cert.InKernelIdeal.nD Cert.InKernelIdeal.τ).loc Cert.InKernelIdeal.main_v43_5) = v5 c
          ∧ r.2.mem ((c.tc : Thread Cert.InKernelIdeal.nD Cert.InKernelIdeal.τ).loc Cert.InKernelIdeal.main_v43_6) = v6 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v165) = v0 c
          ∧ r.2.mem ((c.tc : Thread Cert.InReferenceIdeal.nD Cert.InReferenceIdeal.τ).loc Cert.InReferenceIdeal.main_v166) = v1 c
          ∧ r.2.mem ((c.tc : Thread Cert.InReferenceIdeal.nD Cert.InReferenceIdeal.τ).loc Cert.InReferenceIdeal.main_v167) = v2 c
          ∧ r.2.mem ((c.tc : Thread Cert.InReferenceIdeal.nD Cert.InReferenceIdeal.τ).loc Cert.InReferenceIdeal.main_v57) = v3 c
          ∧ r.2.mem ((c.tc : Thread Cert.InReferenceIdeal.nD Cert.InReferenceIdeal.τ).loc Cert.InReferenceIdeal.main_v168) = v4 c
          ∧ r.2.mem ((c.tc : Thread Cert.InReferenceIdeal.nD Cert.InReferenceIdeal.τ).loc Cert.InReferenceIdeal.main_v169) = v5 c
          ∧ r.2.mem ((c.tc : Thread Cert.InReferenceIdeal.nD Cert.InReferenceIdeal.τ).loc Cert.InReferenceIdeal.main_v170) = v6 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_CtxKernel_CtxKernelIdeal : Prop :=
  True

def algebraic_CtxKernelIdeal_CtxReferenceIdeal_pre_finite_ctx [hCtxKernelIdeal : Cert.CtxKernelIdeal.Facts] [hCtxReferenceIdeal : Cert.CtxReferenceIdeal.Facts] [hPre_finite_ctx : Cert.Pre_finite_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal_finite_ctx m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)
      ∧ m' ((c.tc : Thread Cert.CtxReferenceIdeal.nD Cert.CtxReferenceIdeal.τ).loc Cert.CtxReferenceIdeal.main_arg3) = m ((c.tc : Thread Cert.CtxKernelIdeal.nD Cert.CtxKernelIdeal.τ).loc Cert.CtxKernelIdeal.main_arg3)
      ∧ m' ((c.tc : Thread Cert.CtxReferenceIdeal.nD Cert.CtxReferenceIdeal.τ).loc Cert.CtxReferenceIdeal.main_arg4) = m ((c.tc : Thread Cert.CtxKernelIdeal.nD Cert.CtxKernelIdeal.τ).loc Cert.CtxKernelIdeal.main_arg4)) →
    ∃ (v0 : (c : Dev Cert.CtxKernelIdeal.nD) → Buf (Elt Ideal) ((c.tc : Thread Cert.CtxKernelIdeal.nD Cert.CtxKernelIdeal.τ).loc Cert.CtxKernelIdeal.main_v12_1)) (v1 : (c : Dev Cert.CtxKernelIdeal.nD) → Buf (Elt Ideal) ((c.tc : Thread Cert.CtxKernelIdeal.nD Cert.CtxKernelIdeal.τ).loc Cert.CtxKernelIdeal.main_v12_2)) (v2 : (c : Dev Cert.CtxKernelIdeal.nD) → Buf (Elt Ideal) ((c.tc : Thread Cert.CtxKernelIdeal.nD Cert.CtxKernelIdeal.τ).loc Cert.CtxKernelIdeal.main_v12_5)) (v3 : (c : Dev Cert.CtxKernelIdeal.nD) → Buf (Elt Ideal) ((c.tc : Thread Cert.CtxKernelIdeal.nD Cert.CtxKernelIdeal.τ).loc Cert.CtxKernelIdeal.main_v12_6)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v12_1) = v0 c
          ∧ r.2.mem ((c.tc : Thread Cert.CtxKernelIdeal.nD Cert.CtxKernelIdeal.τ).loc Cert.CtxKernelIdeal.main_v12_2) = v1 c
          ∧ r.2.mem ((c.tc : Thread Cert.CtxKernelIdeal.nD Cert.CtxKernelIdeal.τ).loc Cert.CtxKernelIdeal.main_v12_5) = v2 c
          ∧ r.2.mem ((c.tc : Thread Cert.CtxKernelIdeal.nD Cert.CtxKernelIdeal.τ).loc Cert.CtxKernelIdeal.main_v12_6) = v3 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
          ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
          ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v56) = v0 c
          ∧ r.2.mem ((c.tc : Thread Cert.CtxReferenceIdeal.nD Cert.CtxReferenceIdeal.τ).loc Cert.CtxReferenceIdeal.main_v57) = v1 c
          ∧ r.2.mem ((c.tc : Thread Cert.CtxReferenceIdeal.nD Cert.CtxReferenceIdeal.τ).loc Cert.CtxReferenceIdeal.main_v58) = v2 c
          ∧ r.2.mem ((c.tc : Thread Cert.CtxReferenceIdeal.nD Cert.CtxReferenceIdeal.τ).loc Cert.CtxReferenceIdeal.main_v59) = v3 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4))

def preserves_RetKernel_RetKernelIdeal : Prop :=
  True

def algebraic_RetKernelIdeal_RetReferenceIdeal [hRetKernelIdeal : Cert.RetKernelIdeal.Facts] [hRetReferenceIdeal : Cert.RetReferenceIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)
      ∧ m' ((c.tc : Thread Cert.RetReferenceIdeal.nD Cert.RetReferenceIdeal.τ).loc Cert.RetReferenceIdeal.main_arg2) = m ((c.tc : Thread Cert.RetKernelIdeal.nD Cert.RetKernelIdeal.τ).loc Cert.RetKernelIdeal.main_arg2)
      ∧ m' ((c.tc : Thread Cert.RetReferenceIdeal.nD Cert.RetReferenceIdeal.τ).loc Cert.RetReferenceIdeal.main_arg3) = m ((c.tc : Thread Cert.RetKernelIdeal.nD Cert.RetKernelIdeal.τ).loc Cert.RetKernelIdeal.main_arg3)
      ∧ m' ((c.tc : Thread Cert.RetReferenceIdeal.nD Cert.RetReferenceIdeal.τ).loc Cert.RetReferenceIdeal.main_arg4) = m ((c.tc : Thread Cert.RetKernelIdeal.nD Cert.RetKernelIdeal.τ).loc Cert.RetKernelIdeal.main_arg4)
      ∧ m' ((c.tc : Thread Cert.RetReferenceIdeal.nD Cert.RetReferenceIdeal.τ).loc Cert.RetReferenceIdeal.main_arg5) = m ((c.tc : Thread Cert.RetKernelIdeal.nD Cert.RetKernelIdeal.τ).loc Cert.RetKernelIdeal.main_arg5)
      ∧ m' ((c.tc : Thread Cert.RetReferenceIdeal.nD Cert.RetReferenceIdeal.τ).loc Cert.RetReferenceIdeal.main_arg6) = m ((c.tc : Thread Cert.RetKernelIdeal.nD Cert.RetKernelIdeal.τ).loc Cert.RetKernelIdeal.main_arg6)
      ∧ m' ((c.tc : Thread Cert.RetReferenceIdeal.nD Cert.RetReferenceIdeal.τ).loc Cert.RetReferenceIdeal.main_arg7) = m ((c.tc : Thread Cert.RetKernelIdeal.nD Cert.RetKernelIdeal.τ).loc Cert.RetKernelIdeal.main_arg7)) →
    ∃ (v0 : (c : Dev Cert.RetKernelIdeal.nD) → Buf (Elt Ideal) ((c.tc : Thread Cert.RetKernelIdeal.nD Cert.RetKernelIdeal.τ).loc Cert.RetKernelIdeal.main_v6)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v6) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
          ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
          ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3)
          ∧ r.2.mem ((c.tc : Thread Cert.RetKernelIdeal.nD Cert.RetKernelIdeal.τ).loc Cert.RetKernelIdeal.main_arg4) = m ((c.tc : Thread Cert.RetKernelIdeal.nD Cert.RetKernelIdeal.τ).loc Cert.RetKernelIdeal.main_arg4)
          ∧ r.2.mem ((c.tc : Thread Cert.RetKernelIdeal.nD Cert.RetKernelIdeal.τ).loc Cert.RetKernelIdeal.main_arg5) = m ((c.tc : Thread Cert.RetKernelIdeal.nD Cert.RetKernelIdeal.τ).loc Cert.RetKernelIdeal.main_arg5)
          ∧ r.2.mem ((c.tc : Thread Cert.RetKernelIdeal.nD Cert.RetKernelIdeal.τ).loc Cert.RetKernelIdeal.main_arg6) = m ((c.tc : Thread Cert.RetKernelIdeal.nD Cert.RetKernelIdeal.τ).loc Cert.RetKernelIdeal.main_arg6)
          ∧ r.2.mem ((c.tc : Thread Cert.RetKernelIdeal.nD Cert.RetKernelIdeal.τ).loc Cert.RetKernelIdeal.main_arg7) = m ((c.tc : Thread Cert.RetKernelIdeal.nD Cert.RetKernelIdeal.τ).loc Cert.RetKernelIdeal.main_arg7))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v371) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1)
          ∧ r.2.mem ((c.tc : Thread Cert.RetReferenceIdeal.nD Cert.RetReferenceIdeal.τ).loc Cert.RetReferenceIdeal.main_arg2) = m' ((c.tc : Thread Cert.RetReferenceIdeal.nD Cert.RetReferenceIdeal.τ).loc Cert.RetReferenceIdeal.main_arg2)
          ∧ r.2.mem ((c.tc : Thread Cert.RetReferenceIdeal.nD Cert.RetReferenceIdeal.τ).loc Cert.RetReferenceIdeal.main_arg3) = m' ((c.tc : Thread Cert.RetReferenceIdeal.nD Cert.RetReferenceIdeal.τ).loc Cert.RetReferenceIdeal.main_arg3)
          ∧ r.2.mem ((c.tc : Thread Cert.RetReferenceIdeal.nD Cert.RetReferenceIdeal.τ).loc Cert.RetReferenceIdeal.main_arg4) = m' ((c.tc : Thread Cert.RetReferenceIdeal.nD Cert.RetReferenceIdeal.τ).loc Cert.RetReferenceIdeal.main_arg4)
          ∧ r.2.mem ((c.tc : Thread Cert.RetReferenceIdeal.nD Cert.RetReferenceIdeal.τ).loc Cert.RetReferenceIdeal.main_arg5) = m' ((c.tc : Thread Cert.RetReferenceIdeal.nD Cert.RetReferenceIdeal.τ).loc Cert.RetReferenceIdeal.main_arg5)
          ∧ r.2.mem ((c.tc : Thread Cert.RetReferenceIdeal.nD Cert.RetReferenceIdeal.τ).loc Cert.RetReferenceIdeal.main_arg6) = m' ((c.tc : Thread Cert.RetReferenceIdeal.nD Cert.RetReferenceIdeal.τ).loc Cert.RetReferenceIdeal.main_arg6)
          ∧ r.2.mem ((c.tc : Thread Cert.RetReferenceIdeal.nD Cert.RetReferenceIdeal.τ).loc Cert.RetReferenceIdeal.main_arg7) = m' ((c.tc : Thread Cert.RetReferenceIdeal.nD Cert.RetReferenceIdeal.τ).loc Cert.RetReferenceIdeal.main_arg7))

def Claim : Prop :=
  ∃ (hKernel : Cert.Kernel.Facts) (hKernelIdeal : Cert.KernelIdeal.Facts) (hReferenceIdeal : Cert.ReferenceIdeal.Facts) (hMixKernel : Cert.MixKernel.Facts) (hMixKernelIdeal : Cert.MixKernelIdeal.Facts) (hMixReferenceIdeal : Cert.MixReferenceIdeal.Facts) (hInKernel : Cert.InKernel.Facts) (hInKernelIdeal : Cert.InKernelIdeal.Facts) (hInReferenceIdeal : Cert.InReferenceIdeal.Facts) (hCtxKernel : Cert.CtxKernel.Facts) (hCtxKernelIdeal : Cert.CtxKernelIdeal.Facts) (hCtxReferenceIdeal : Cert.CtxReferenceIdeal.Facts) (hRetKernel : Cert.RetKernel.Facts) (hRetKernelIdeal : Cert.RetKernelIdeal.Facts) (hRetReferenceIdeal : Cert.RetReferenceIdeal.Facts) (hPre_finite : Cert.Pre_finite.Facts) (hPre_finite_in : Cert.Pre_finite_in.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_InKernel (hInKernel := hInKernel)
    ∧ quiescent_InKernelIdeal (hInKernelIdeal := hInKernelIdeal)
    ∧ quiescent_InKernelIdeal_pre_finite_in (hInKernelIdeal := hInKernelIdeal) (hPre_finite_in := hPre_finite_in)
    ∧ quiescent_InReferenceIdeal (hInReferenceIdeal := hInReferenceIdeal)
    ∧ quiescent_InReferenceIdeal_pre_finite_in (hInReferenceIdeal := hInReferenceIdeal) (hPre_finite_in := hPre_finite_in)
    ∧ quiescent_CtxKernel (hCtxKernel := hCtxKernel)
    ∧ quiescent_CtxKernelIdeal (hCtxKernelIdeal := hCtxKernelIdeal)
    ∧ quiescent_CtxKernelIdeal_pre_finite_ctx (hCtxKernelIdeal := hCtxKernelIdeal) (hPre_finite_ctx := hPre_finite_ctx)
    ∧ quiescent_CtxReferenceIdeal (hCtxReferenceIdeal := hCtxReferenceIdeal)
    ∧ quiescent_CtxReferenceIdeal_pre_finite_ctx (hCtxReferenceIdeal := hCtxReferenceIdeal) (hPre_finite_ctx := hPre_finite_ctx)
    ∧ quiescent_RetKernel (hRetKernel := hRetKernel)
    ∧ quiescent_RetKernelIdeal (hRetKernelIdeal := hRetKernelIdeal)
    ∧ quiescent_RetReferenceIdeal (hRetReferenceIdeal := hRetReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MixKernel_MixKernelIdeal
    ∧ algebraic_MixKernelIdeal_MixReferenceIdeal (hMixKernelIdeal := hMixKernelIdeal) (hMixReferenceIdeal := hMixReferenceIdeal)
    ∧ preserves_InKernel_InKernelIdeal
    ∧ algebraic_InKernelIdeal_InReferenceIdeal_pre_finite_in (hInKernelIdeal := hInKernelIdeal) (hInReferenceIdeal := hInReferenceIdeal) (hPre_finite_in := hPre_finite_in)
    ∧ preserves_CtxKernel_CtxKernelIdeal
    ∧ algebraic_CtxKernelIdeal_CtxReferenceIdeal_pre_finite_ctx (hCtxKernelIdeal := hCtxKernelIdeal) (hCtxReferenceIdeal := hCtxReferenceIdeal) (hPre_finite_ctx := hPre_finite_ctx)
    ∧ preserves_RetKernel_RetKernelIdeal
    ∧ algebraic_RetKernelIdeal_RetReferenceIdeal (hRetKernelIdeal := hRetKernelIdeal) (hRetReferenceIdeal := hRetReferenceIdeal)
-- ==== Pre_finite.lean ====
abbrev S8x2048x512 : Shape := ⟨3, ![8, 2048, 512]⟩
abbrev S8x256x512 : Shape := ⟨3, ![8, 256, 512]⟩
abbrev S1x4x64 : Shape := ⟨3, ![1, 4, 64]⟩
abbrev S1x4x128 : Shape := ⟨3, ![1, 4, 128]⟩
abbrev S_ : Shape := ⟨0, ![]⟩

class Facts : Prop where
  bcast_S_S8x2048x512 : S_.BroadcastsInDim S8x2048x512 (![] : Fin 0 → Fin S8x2048x512.rank)
  bcast_S_S8x256x512 : S_.BroadcastsInDim S8x256x512 (![] : Fin 0 → Fin S8x256x512.rank)
  bcast_S_S1x4x64 : S_.BroadcastsInDim S1x4x64 (![] : Fin 0 → Fin S1x4x64.rank)

variable [Facts]

def fn {F : FTy → Type} [FloatOps F] (main_arg0 : FVec F S8x2048x512 .bf16) (main_arg1 : FVec F S8x2048x512 .bf16) (main_arg2 : FVec F S8x2048x512 .bf16) (main_arg3 : FVec F S8x256x512 .bf16) (main_arg4 : FVec F S8x256x512 .bf16) (main_arg5 : FVec F S1x4x64 .f32) (main_arg6 : FVec F S1x4x128 .f32) : IVec S8x2048x512 1 × IVec S8x2048x512 1 × IVec S8x2048x512 1 × IVec S8x256x512 1 × IVec S8x256x512 1 × IVec S1x4x64 1 :=
  let main_v0 : FVec F S8x2048x512 .bf16 := Host.absf main_arg0
  let main_cst : FVec F S_ .bf16 := constant S_ .bf16 0x7F80#16
  let main_v1 : FVec F S8x2048x512 .bf16 := broadcastInDim S8x2048x512 ![] bcast_S_S8x2048x512 main_cst
  let main_v2 : IVec S8x2048x512 1 := cmpf .olt main_v0 main_v1
  let main_v3 : FVec F S8x2048x512 .bf16 := Host.absf main_arg1
  let main_cst_0 : FVec F S_ .bf16 := constant S_ .bf16 0x7F80#16
  let main_v4 : FVec F S8x2048x512 .bf16 := broadcastInDim S8x2048x512 ![] bcast_S_S8x2048x512 main_cst_0
  let main_v5 : IVec S8x2048x512 1 := cmpf .olt main_v3 main_v4
  let main_v6 : FVec F S8x2048x512 .bf16 := Host.absf main_arg2
  let main_cst_1 : FVec F S_ .bf16 := constant S_ .bf16 0x7F80#16
  let main_v7 : FVec F S8x2048x512 .bf16 := broadcastInDim S8x2048x512 ![] bcast_S_S8x2048x512 main_cst_1
  let main_v8 : IVec S8x2048x512 1 := cmpf .olt main_v6 main_v7
  let main_v9 : FVec F S8x256x512 .bf16 := Host.absf main_arg3
  let main_cst_2 : FVec F S_ .bf16 := constant S_ .bf16 0x7F80#16
  let main_v10 : FVec F S8x256x512 .bf16 := broadcastInDim S8x256x512 ![] bcast_S_S8x256x512 main_cst_2
  let main_v11 : IVec S8x256x512 1 := cmpf .olt main_v9 main_v10
  let main_v12 : FVec F S8x256x512 .bf16 := Host.absf main_arg4
  let main_cst_3 : FVec F S_ .bf16 := constant S_ .bf16 0x7F80#16
  let main_v13 : FVec F S8x256x512 .bf16 := broadcastInDim S8x256x512 ![] bcast_S_S8x256x512 main_cst_3
  let main_v14 : IVec S8x256x512 1 := cmpf .olt main_v12 main_v13
  let main_v15 : FVec F S1x4x64 .f32 := Host.absf main_arg5
  let main_cst_4 : FVec F S_ .f32 := constant S_ .f32 0x7F800000#32
  let main_v16 : FVec F S1x4x64 .f32 := broadcastInDim S1x4x64 ![] bcast_S_S1x4x64 main_cst_4
  let main_v17 : IVec S1x4x64 1 := cmpf .olt main_v15 main_v16
  (main_v2, main_v5, main_v8, main_v11, main_v14, main_v17)
-- ==== Pre_finite_ctx.lean ====
abbrev S8x256x1024 : Shape := ⟨3, ![8, 256, 1024]⟩
abbrev S16x6144 : Shape := ⟨2, ![16, 6144]⟩
abbrev S1x1024 : Shape := ⟨2, ![1, 1024]⟩
abbrev S1x1024x3072 : Shape := ⟨3, ![1, 1024, 3072]⟩
abbrev S1x2x64 : Shape := ⟨3, ![1, 2, 64]⟩
abbrev S_ : Shape := ⟨0, ![]⟩

class Facts : Prop where
  bcast_S_S8x256x1024 : S_.BroadcastsInDim S8x256x1024 (![] : Fin 0 → Fin S8x256x1024.rank)
  bcast_S_S16x6144 : S_.BroadcastsInDim S16x6144 (![] : Fin 0 → Fin S16x6144.rank)
  bcast_S_S1x1024 : S_.BroadcastsInDim S1x1024 (![] : Fin 0 → Fin S1x1024.rank)
  bcast_S_S1x1024x3072 : S_.BroadcastsInDim S1x1024x3072 (![] : Fin 0 → Fin S1x1024x3072.rank)

variable [Facts]

def fn {F : FTy → Type} [FloatOps F] (main_arg0 : FVec F S8x256x1024 .f32) (main_arg1 : FVec F S16x6144 .f32) (main_arg2 : FVec F S1x1024 .f32) (main_arg3 : FVec F S1x1024x3072 .f32) (main_arg4 : FVec F S1x2x64 .f32) : IVec S8x256x1024 1 × IVec S16x6144 1 × IVec S1x1024 1 × IVec S1x1024x3072 1 :=
  let main_v0 : FVec F S8x256x1024 .f32 := Host.absf main_arg0
  let main_cst : FVec F S_ .f32 := constant S_ .f32 0x7F800000#32
  let main_v1 : FVec F S8x256x1024 .f32 := broadcastInDim S8x256x1024 ![] bcast_S_S8x256x1024 main_cst
  let main_v2 : IVec S8x256x1024 1 := cmpf .olt main_v0 main_v1
  let main_v3 : FVec F S16x6144 .f32 := Host.absf main_arg1
  let main_cst_0 : FVec F S_ .f32 := constant S_ .f32 0x7F800000#32
  let main_v4 : FVec F S16x6144 .f32 := broadcastInDim S16x6144 ![] bcast_S_S16x6144 main_cst_0
  let main_v5 : IVec S16x6144 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x3072 .f32 := Host.absf main_arg3
  let main_cst_2 : FVec F S_ .f32 := constant S_ .f32 0x7F800000#32
  let main_v10 : FVec F S1x1024x3072 .f32 := broadcastInDim S1x1024x3072 ![] bcast_S_S1x1024x3072 main_cst_2
  let main_v11 : IVec S1x1024x3072 1 := cmpf .olt main_v9 main_v10
  (main_v2, main_v5, main_v8, main_v11)
-- ==== Pre_finite_in.lean ====
abbrev S8x2048x1024 : Shape := ⟨3, ![8, 2048, 1024]⟩
abbrev S16x6144 : Shape := ⟨2, ![16, 6144]⟩
abbrev S1x1024 : Shape := ⟨2, ![1, 1024]⟩
abbrev S1x1024x3072 : Shape := ⟨3, ![1, 1024, 3072]⟩
abbrev S1x2x64 : Shape := ⟨3, ![1, 2, 64]⟩
abbrev S_ : Shape := ⟨0, ![]⟩

class Facts : Prop where
  bcast_S_S8x2048x1024 : S_.BroadcastsInDim S8x2048x1024 (![] : Fin 0 → Fin S8x2048x1024.rank)
  bcast_S_S16x6144 : S_.BroadcastsInDim S16x6144 (![] : Fin 0 → Fin S16x6144.rank)
  bcast_S_S1x1024 : S_.BroadcastsInDim S1x1024 (![] : Fin 0 → Fin S1x1024.rank)
  bcast_S_S1x1024x3072 : S_.BroadcastsInDim S1x1024x3072 (![] : Fin 0 → Fin S1x1024x3072.rank)

variable [Facts]

def fn {F : FTy → Type} [FloatOps F] (main_arg0 : FVec F S8x2048x1024 .f32) (main_arg1 : FVec F S16x6144 .f32) (main_arg2 : FVec F S1x1024 .f32) (main_arg3 : FVec F S1x1024x3072 .f32) (main_arg4 : FVec F S1x2x64 .f32) : IVec S8x2048x1024 1 × IVec S16x6144 1 × IVec S1x1024 1 × IVec S1x1024x3072 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S16x6144 .f32 := Host.absf main_arg1
  let main_cst_0 : FVec F S_ .f32 := constant S_ .f32 0x7F800000#32
  let main_v4 : FVec F S16x6144 .f32 := broadcastInDim S16x6144 ![] bcast_S_S16x6144 main_cst_0
  let main_v5 : IVec S16x6144 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x3072 .f32 := Host.absf main_arg3
  let main_cst_2 : FVec F S_ .f32 := constant S_ .f32 0x7F800000#32
  let main_v10 : FVec F S1x1024x3072 .f32 := broadcastInDim S1x1024x3072 ![] bcast_S_S1x1024x3072 main_cst_2
  let main_v11 : IVec S1x1024x3072 1 := cmpf .olt main_v9 main_v10
  (main_v2, main_v5, main_v8, main_v11)
-- ==== Kernel.lean ====
abbrev S8x2048x512 : Shape := ⟨3, ![8, 2048, 512]⟩
abbrev S8x256x512 : Shape := ⟨3, ![8, 256, 512]⟩
abbrev S1x4x64 : Shape := ⟨3, ![1, 4, 64]⟩
abbrev S1x4x128 : Shape := ⟨3, ![1, 4, 128]⟩
abbrev S4x64 : Shape := ⟨2, ![4, 64]⟩
abbrev S4x128 : Shape := ⟨2, ![4, 128]⟩
abbrev S4x1x128 : Shape := ⟨3, ![4, 1, 128]⟩
abbrev S1x2048x128 : Shape := ⟨3, ![1, 2048, 128]⟩
abbrev S1x256x128 : Shape := ⟨3, ![1, 256, 128]⟩
abbrev S1x1x128 : Shape := ⟨3, ![1, 1, 128]⟩
abbrev S2048x128 : Shape := ⟨2, ![2048, 128]⟩
abbrev S1x128 : Shape := ⟨2, ![1, 128]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 11
  | .vmem => 15
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x256x512, .bf16⟩
  | .hbm, ⟨4, _⟩ => ⟨S8x256x512, .bf16⟩
  | .hbm, ⟨5, _⟩ => ⟨S1x4x64, .f32⟩
  | .hbm, ⟨6, _⟩ => ⟨S1x4x128, .f32⟩
  | .hbm, ⟨7, _⟩ => ⟨S4x64, .f32⟩
  | .hbm, ⟨8, _⟩ => ⟨S4x128, .f32⟩
  | .hbm, ⟨9, _⟩ => ⟨S4x1x128, .f32⟩
  | .hbm, ⟨10, _⟩ => ⟨S8x2048x512, .bf16⟩
  | .local _ .vmem, ⟨0, _⟩ => ⟨S4x64, .f32⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x1x128, .f32⟩
  | .local _ .vmem, ⟨12, _⟩ => ⟨S1x1x128, .f32⟩
  | .local _ .vmem, ⟨13, _⟩ => ⟨S1x2048x128, .bf16⟩
  | .local _ .vmem, ⟨14, _⟩ => ⟨S1x2048x128, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x2048x512 : Shape := ⟨3, ![8, 2048, 512]⟩
abbrev S8x256x512 : Shape := ⟨3, ![8, 256, 512]⟩
abbrev S1x4x64 : Shape := ⟨3, ![1, 4, 64]⟩
abbrev S1x4x128 : Shape := ⟨3, ![1, 4, 128]⟩
abbrev S8x2048x4x2x64 : Shape := ⟨5, ![8, 2048, 4, 2, 64]⟩
abbrev S8x4x2x2048x64 : Shape := ⟨5, ![8, 4, 2, 2048, 64]⟩
abbrev S_ : Shape := ⟨0, ![]⟩
abbrev S8x256x4x2x64 : Shape := ⟨5, ![8, 256, 4, 2, 64]⟩
abbrev S8x4x2x256x64 : Shape := ⟨5, ![8, 4, 2, 256, 64]⟩
abbrev S8x4x2x2304x64 : Shape := ⟨5, ![8, 4, 2, 2304, 64]⟩
abbrev S8x256x4x128 : Shape := ⟨4, ![8, 256, 4, 128]⟩
abbrev S8x4x256x128 : Shape := ⟨4, ![8, 4, 256, 128]⟩
abbrev S8x2048x4x128 : Shape := ⟨4, ![8, 2048, 4, 128]⟩
abbrev S8x4x2048x128 : Shape := ⟨4, ![8, 4, 2048, 128]⟩
abbrev S8x4x2304x128 : Shape := ⟨4, ![8, 4, 2304, 128]⟩
abbrev S4x64 : Shape := ⟨2, ![4, 64]⟩
abbrev S1x64 : Shape := ⟨2, ![1, 64]⟩
abbrev S64 : Shape := ⟨1, ![64]⟩
abbrev S8x4x2x2048x2304 : Shape := ⟨5, ![8, 4, 2, 2048, 2304]⟩
abbrev S8x4x2x2048 : Shape := ⟨4, ![8, 4, 2, 2048]⟩
abbrev S8x4x2x2048x1 : Shape := ⟨5, ![8, 4, 2, 2048, 1]⟩
abbrev S8x4x1x2048x2304 : Shape := ⟨5, ![8, 4, 1, 2048, 2304]⟩
abbrev S8x4x2048x2304 : Shape := ⟨4, ![8, 4, 2048, 2304]⟩
abbrev S8x4x2048 : Shape := ⟨3, ![8, 4, 2048]⟩
abbrev S8x4x2048x1 : Shape := ⟨4, ![8, 4, 2048, 1]⟩
abbrev S4x128 : Shape := ⟨2, ![4, 128]⟩
abbrev S4x1x128 : Shape := ⟨3, ![4, 1, 128]⟩
abbrev S1x4x1x128 : Shape := ⟨4, ![1, 4, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x256x512, .bf16⟩
  | .hbm, ⟨4, _⟩ => ⟨S8x256x512, .bf16⟩
  | .hbm, ⟨5, _⟩ => ⟨S1x4x64, .f32⟩
  | .hbm, ⟨6, _⟩ => ⟨S1x4x128, .f32⟩
  | .hbm, ⟨7, _⟩ => ⟨S8x2048x512, .f32⟩
  | .hbm, ⟨8, _⟩ => ⟨S8x2048x4x2x64, .f32⟩
  | .hbm, ⟨9, _⟩ => ⟨S8x4x2x2048x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x4x2x2048x64, .f32⟩
  | .hbm, ⟨15, _⟩ => ⟨S8x4x2x2048x64, .f32⟩
  | .hbm, ⟨16, _⟩ => ⟨S8x256x512, .f32⟩
  | .hbm, ⟨17, _⟩ => ⟨S8x256x4x2x64, .f32⟩
  | .hbm, ⟨18, _⟩ => ⟨S8x4x2x256x64, .f32⟩
  | .hbm, ⟨19, _⟩ => ⟨S8x2048x512, .f32⟩
  | .hbm, ⟨20, _⟩ => ⟨S8x2048x4x2x64, .f32⟩
  | .hbm, ⟨21, _⟩ => ⟨S8x4x2x2048x64, .f32⟩
  | .hbm, ⟨22, _⟩ => ⟨S8x4x2x2304x64, .f32⟩
  | .hbm, ⟨23, _⟩ => ⟨S8x256x512, .f32⟩
  | .hbm, ⟨24, _⟩ => ⟨S8x256x4x128, .f32⟩
  | .hbm, ⟨25, _⟩ => ⟨S8x4x256x128, .f32⟩
  | .hbm, ⟨26, _⟩ => ⟨S8x2048x512, .f32⟩
  | .hbm, ⟨27, _⟩ => ⟨S8x2048x4x128, .f32⟩
  | .hbm, ⟨28, _⟩ => ⟨S8x4x2048x128, .f32⟩
  | .hbm, ⟨29, _⟩ => ⟨S8x4x2304x128, .f32⟩
  | .hbm, ⟨30, _⟩ => ⟨S4x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x4x2x2048x2304, .f32⟩
  | .hbm, ⟨51, _⟩ => ⟨S_, .f32⟩
  | .hbm, ⟨52, _⟩ => ⟨S8x4x2x2048x2304, .f32⟩
  | .hbm, ⟨53, _⟩ => ⟨S8x4x2x2048x2304, .f32⟩
  | .hbm, ⟨54, _⟩ => ⟨S_, .f32⟩
  | .hbm, ⟨55, _⟩ => ⟨S8x4x2x2048, .f32⟩
  | .hbm, ⟨56, _⟩ => ⟨S_, .f32⟩
  | .hbm, ⟨57, _⟩ => ⟨S8x4x2x2048, .f32⟩
  | .hbm, ⟨58, _⟩ => ⟨S8x4x2x2048, .f32⟩
  | .hbm, ⟨59, _⟩ => ⟨S8x4x2x2048x1, .f32⟩
  | .hbm, ⟨60, _⟩ => ⟨S8x4x2x2048x2304, .f32⟩
  | .hbm, ⟨61, _⟩ => ⟨S8x4x2x2048x2304, .f32⟩
  | .hbm, ⟨62, _⟩ => ⟨S8x4x2x2048x2304, .f32⟩
  | .hbm, ⟨63, _⟩ => ⟨S_, .f32⟩
  | .hbm, ⟨64, _⟩ => ⟨S8x4x2x2048, .f32⟩
  | .hbm, ⟨65, _⟩ => ⟨S8x4x2x2048x1, .f32⟩
  | .hbm, ⟨66, _⟩ => ⟨S8x4x2x2048x2304, .f32⟩
  | .hbm, ⟨67, _⟩ => ⟨S8x4x2x2048x2304, .f32⟩
  | .hbm, ⟨68, _⟩ => ⟨S8x4x1x2048x2304, .f32⟩
  | .hbm, ⟨69, _⟩ => ⟨S8x4x2048x2304, .f32⟩
  | .hbm, ⟨70, _⟩ => ⟨S8x4x1x2048x2304, .f32⟩
  | .hbm, ⟨71, _⟩ => ⟨S8x4x2048x2304, .f32⟩
  | .hbm, ⟨72, _⟩ => ⟨S8x4x2048x2304, .f32⟩
  | .hbm, ⟨73, _⟩ => ⟨S8x4x2048x2304, .f32⟩
  | .hbm, ⟨74, _⟩ => ⟨S8x4x2048x2304, .f32⟩
  | .hbm, ⟨75, _⟩ => ⟨S8x4x2048x128, .f32⟩
  | .hbm, ⟨76, _⟩ => ⟨S8x4x2048x128, .f32⟩
  | .hbm, ⟨77, _⟩ => ⟨S_, .f32⟩
  | .hbm, ⟨78, _⟩ => ⟨S8x4x2048, .f32⟩
  | .hbm, ⟨79, _⟩ => ⟨S8x4x2048x1, .f32⟩
  | .hbm, ⟨80, _⟩ => ⟨S_, .f32⟩
  | .hbm, ⟨81, _⟩ => ⟨S8x4x2048x1, .f32⟩
  | .hbm, ⟨82, _⟩ => ⟨S8x4x2048x1, .f32⟩
  | .hbm, ⟨83, _⟩ => ⟨S_, .f32⟩
  | .hbm, ⟨84, _⟩ => ⟨S8x4x2048x1, .f32⟩
  | .hbm, ⟨85, _⟩ => ⟨S8x4x2048x1, .f32⟩
  | .hbm, ⟨86, _⟩ => ⟨S8x4x2048x1, .f32⟩
  | .hbm, ⟨87, _⟩ => ⟨S8x4x2048x128, .f32⟩
  | .hbm, ⟨88, _⟩ => ⟨S8x4x2048x128, .f32⟩
  | .hbm, ⟨89, _⟩ => ⟨S4x128, .f32⟩
  | .hbm, ⟨90, _⟩ => ⟨S4x1x128, .f32⟩
  | .hbm, ⟨91, _⟩ => ⟨S1x4x1x128, .f32⟩
  | .hbm, ⟨92, _⟩ => ⟨S8x4x2048x128, .f32⟩
  | .hbm, ⟨93, _⟩ => ⟨S8x4x2048x128, .f32⟩
  | .hbm, ⟨94, _⟩ => ⟨S_, .f32⟩
  | .hbm, ⟨95, _⟩ => ⟨S8x4x2048x128, .f32⟩
  | .hbm, ⟨96, _⟩ => ⟨S8x4x2048x128, .f32⟩
  | .hbm, ⟨97, _⟩ => ⟨S8x2048x4x128, .f32⟩
  | .hbm, ⟨98, _⟩ => ⟨S8x2048x512, .f32⟩
  | .hbm, ⟨99, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== MixKernel.lean ====
abbrev S8x2048x512 : Shape := ⟨3, ![8, 2048, 512]⟩
abbrev S8x2048x1024 : Shape := ⟨3, ![8, 2048, 1024]⟩
abbrev S16x6144 : Shape := ⟨2, ![16, 6144]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x8x2x128x128 : Shape := ⟨5, ![1, 8, 2, 128, 128]⟩
abbrev S16x1x6144 : Shape := ⟨3, ![16, 1, 6144]⟩
abbrev S1024 : Shape := ⟨1, ![1024]⟩
abbrev S1024x1024 : Shape := ⟨2, ![1024, 1024]⟩
abbrev S1024x2048 : Shape := ⟨2, ![1024, 2048]⟩
abbrev S2048x1024 : Shape := ⟨2, ![2048, 1024]⟩
abbrev S8x2x128x128 : Shape := ⟨4, ![8, 2, 128, 128]⟩
abbrev S16x128x128 : Shape := ⟨3, ![16, 128, 128]⟩
abbrev S512x1024 : Shape := ⟨2, ![512, 1024]⟩
abbrev S1024x16384 : Shape := ⟨2, ![1024, 16384]⟩
abbrev S16x128x16384 : Shape := ⟨3, ![16, 128, 16384]⟩
abbrev S1x1024x512 : Shape := ⟨3, ![1, 1024, 512]⟩
abbrev S1x1x1024 : Shape := ⟨3, ![1, 1, 1024]⟩
abbrev S16x128x1024 : Shape := ⟨3, ![16, 128, 1024]⟩
abbrev S1024x512 : Shape := ⟨2, ![1024, 512]⟩
abbrev S1024x1 : Shape := ⟨2, ![1024, 1]⟩
abbrev S1x128x128 : Shape := ⟨3, ![1, 128, 128]⟩
abbrev S128x128 : Shape := ⟨2, ![128, 128]⟩
abbrev S128x1024 : Shape := ⟨2, ![128, 1024]⟩
abbrev S1x128x1024 : Shape := ⟨3, ![1, 128, 1024]⟩

abbrev nBuf : Space → Nat
  | .hbm => 24
  | .vmem => 23
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S16x6144, .f32⟩
  | .hbm, ⟨4, _⟩ => ⟨S1x1024, .f32⟩
  | .hbm, ⟨5, _⟩ => ⟨S1x1024x1024, .f32⟩
  | .hbm, ⟨6, _⟩ => ⟨S1x1024x2048, .f32⟩
  | .hbm, ⟨7, _⟩ => ⟨S1x8x2x128x128, .f32⟩
  | .hbm, ⟨8, _⟩ => ⟨S16x1x6144, .f32⟩
  | .hbm, ⟨9, _⟩ => ⟨S1024, .f32⟩
  | .hbm, ⟨10, _⟩ => ⟨S1x1024, .f32⟩
  | .hbm, ⟨11, _⟩ => ⟨S1024x1024, .f32⟩
  | .hbm, ⟨12, _⟩ => ⟨S1024x1024, .bf16⟩
  | .hbm, ⟨13, _⟩ => ⟨S1024x2048, .f32⟩
  | .hbm, ⟨14, _⟩ => ⟨S2048x1024, .f32⟩
  | .hbm, ⟨15, _⟩ => ⟨S2048x1024, .bf16⟩
  | .hbm, ⟨16, _⟩ => ⟨S8x2x128x128, .f32⟩
  | .hbm, ⟨17, _⟩ => ⟨S16x128x128, .f32⟩
  | .hbm, ⟨18, _⟩ => ⟨S16x128x128, .bf16⟩
  | .hbm, ⟨19, _⟩ => ⟨S512x1024, .bf16⟩
  | .hbm, ⟨20, _⟩ => ⟨S512x1024, .bf16⟩
  | .hbm, ⟨21, _⟩ => ⟨S8x2048x1024, .f32⟩
  | .hbm, ⟨22, _⟩ => ⟨S1024x16384, .bf16⟩
  | .hbm, ⟨23, _⟩ => ⟨S16x128x16384, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S2048x1024, .bf16⟩
  | .local _ .vmem, ⟨16, _⟩ => ⟨S16x128x128, .bf16⟩
  | .local _ .vmem, ⟨17, _⟩ => ⟨S1x1024x1024, .f32⟩
  | .local _ .vmem, ⟨18, _⟩ => ⟨S1x1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S16x128x1024, .f32⟩
  | .local _ .vmem, ⟨22, _⟩ => ⟨S16x128x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixReferenceIdeal.lean ====
abbrev S8x2048x512 : Shape := ⟨3, ![8, 2048, 512]⟩
abbrev S8x2048x1024 : Shape := ⟨3, ![8, 2048, 1024]⟩
abbrev S16x6144 : Shape := ⟨2, ![16, 6144]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x8x2x128x128 : Shape := ⟨5, ![1, 8, 2, 128, 128]⟩
abbrev S8x6144 : Shape := ⟨2, ![8, 6144]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S16384x1024 : Shape := ⟨2, ![16384, 1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S1024x16384 : Shape := ⟨2, ![1024, 16384]⟩
abbrev S16384x16x128 : Shape := ⟨3, ![16384, 16, 128]⟩
abbrev S16x128x16384 : Shape := ⟨3, ![16, 128, 16384]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S16x6144, .f32⟩
  | .hbm, ⟨4, _⟩ => ⟨S1x1024, .f32⟩
  | .hbm, ⟨5, _⟩ => ⟨S1x1024x1024, .f32⟩
  | .hbm, ⟨6, _⟩ => ⟨S1x1024x2048, .f32⟩
  | .hbm, ⟨7, _⟩ => ⟨S1x8x2x128x128, .f32⟩
  | .hbm, ⟨8, _⟩ => ⟨S8x6144, .f32⟩
  | .hbm, ⟨9, _⟩ => ⟨S8x6x1x1024, .f32⟩
  | .hbm, ⟨10, _⟩ => ⟨S8x2048x512, .f32⟩
  | .hbm, ⟨11, _⟩ => ⟨S8x2048x512, .f32⟩
  | .hbm, ⟨12, _⟩ => ⟨S8x2048x1024, .f32⟩
  | .hbm, ⟨13, _⟩ => ⟨S8x1x1x1024, .f32⟩
  | .hbm, ⟨14, _⟩ => ⟨S8x1x1024, .f32⟩
  | .hbm, ⟨15, _⟩ => ⟨S1024x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S8x1x1x1024, .f32⟩
  | .hbm, ⟨38, _⟩ => ⟨S8x1x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x2048x1024, .f32⟩
  | .hbm, ⟨43, _⟩ => ⟨S8x2048x1024, .f32⟩
  | .hbm, ⟨44, _⟩ => ⟨S8x1x1x1024, .f32⟩
  | .hbm, ⟨45, _⟩ => ⟨S8x1x1024, .f32⟩
  | .hbm, ⟨46, _⟩ => ⟨S8x2048x1024, .f32⟩
  | .hbm, ⟨47, _⟩ => ⟨S8x2048x1024, .f32⟩
  | .hbm, ⟨48, _⟩ => ⟨S16384x1024, .f32⟩
  | .hbm, ⟨49, _⟩ => ⟨S1024x2048, .f32⟩
  | .hbm, ⟨50, _⟩ => ⟨S16384x2048, .f32⟩
  | .hbm, ⟨51, _⟩ => ⟨S16384x8x2x128, .f32⟩
  | .hbm, ⟨52, _⟩ => ⟨S8x2x128x128, .f32⟩
  | .hbm, ⟨53, _⟩ => ⟨S8x2x128x16384, .f32⟩
  | .hbm, ⟨54, _⟩ => ⟨S16384x8x2x128, .f32⟩
  | .hbm, ⟨55, _⟩ => ⟨S1024x16384, .f32⟩
  | .hbm, ⟨56, _⟩ => ⟨S1024x16384, .bf16⟩
  | .hbm, ⟨57, _⟩ => ⟨S16384x16x128, .f32⟩
  | .hbm, ⟨58, _⟩ => ⟨S16x128x16384, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== InKernel.lean ====
abbrev S8x2048x1024 : Shape := ⟨3, ![8, 2048, 1024]⟩
abbrev S16x6144 : Shape := ⟨2, ![16, 6144]⟩
abbrev S1x1024 : Shape := ⟨2, ![1, 1024]⟩
abbrev S1x1024x3072 : Shape := ⟨3, ![1, 1024, 3072]⟩
abbrev S1x2x64 : Shape := ⟨3, ![1, 2, 64]⟩
abbrev S16x1x6144 : Shape := ⟨3, ![16, 1, 6144]⟩
abbrev S1024x3072 : Shape := ⟨2, ![1024, 3072]⟩
abbrev S1024 : Shape := ⟨1, ![1024]⟩
abbrev S2x64 : Shape := ⟨2, ![2, 64]⟩
abbrev S1x2x1x64 : Shape := ⟨4, ![1, 2, 1, 64]⟩
abbrev S1x2x8x64 : Shape := ⟨4, ![1, 2, 8, 64]⟩
abbrev S2x512 : Shape := ⟨2, ![2, 512]⟩
abbrev S16 : Shape := ⟨1, ![16]⟩
abbrev S_ : Shape := ⟨0, ![]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S128 : Shape := ⟨1, ![128]⟩
abbrev S8x2048x256 : Shape := ⟨3, ![8, 2048, 256]⟩
abbrev S8x2048x512 : Shape := ⟨3, ![8, 2048, 512]⟩
abbrev S1x1024x1024 : Shape := ⟨3, ![1, 1024, 1024]⟩
abbrev S1x1x1024 : Shape := ⟨3, ![1, 1, 1024]⟩
abbrev S1024x128 : Shape := ⟨2, ![1024, 128]⟩
abbrev S1x1024x256 : Shape := ⟨3, ![1, 1024, 256]⟩
abbrev S1x1024x512 : Shape := ⟨3, ![1, 1024, 512]⟩
abbrev S1024x1024 : Shape := ⟨2, ![1024, 1024]⟩
abbrev S1024x1 : Shape := ⟨2, ![1024, 1]⟩
abbrev S1024x256 : Shape := ⟨2, ![1024, 256]⟩
abbrev S1x1024x128 : Shape := ⟨3, ![1, 1024, 128]⟩
abbrev S1024x512 : Shape := ⟨2, ![1024, 512]⟩
abbrev S1x512 : Shape := ⟨2, ![1, 512]⟩
abbrev S512x128 : Shape := ⟨2, ![512, 128]⟩
abbrev S128x512 : Shape := ⟨2, ![128, 512]⟩

abbrev nBuf : Space → Nat
  | .hbm => 87
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1x1024, .f32⟩
  | .hbm, ⟨3, _⟩ => ⟨S1x1024x3072, .f32⟩
  | .hbm, ⟨4, _⟩ => ⟨S1x2x64, .f32⟩
  | .hbm, ⟨5, _⟩ => ⟨S16x1x6144, .f32⟩
  | .hbm, ⟨6, _⟩ => ⟨S1024x3072, .f32⟩
  | .hbm, ⟨7, _⟩ => ⟨S1024x3072, .bf16⟩
  | .hbm, ⟨8, _⟩ => ⟨S1024, .f32⟩
  | .hbm, ⟨9, _⟩ => ⟨S1x1024, .f32⟩
  | .hbm, ⟨10, _⟩ => ⟨S2x64, .f32⟩
  | .hbm, ⟨11, _⟩ => ⟨S1x2x1x64, .f32⟩
  | .hbm, ⟨12, _⟩ => ⟨S1x2x8x64, .f32⟩
  | .hbm, ⟨13, _⟩ => ⟨S2x512, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S32, .f32⟩
  | .hbm, ⟨23, _⟩ => ⟨S32x64, .f32⟩
  | .hbm, ⟨24, _⟩ => ⟨S2048, .f32⟩
  | .hbm, ⟨25, _⟩ => ⟨S64, .f32⟩
  | .hbm, ⟨26, _⟩ => ⟨S1x64, .f32⟩
  | .hbm, ⟨27, _⟩ => ⟨S32x64, .f32⟩
  | .hbm, ⟨28, _⟩ => ⟨S2048, .f32⟩
  | .hbm, ⟨29, _⟩ => ⟨S2048x1, .f32⟩
  | .hbm, ⟨30, _⟩ => ⟨S1x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x1, .f32⟩
  | .hbm, ⟨35, _⟩ => ⟨S1x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x64, .f32⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S128, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S_, .i1⟩
  | .hbm, ⟨60, _⟩ => ⟨S128, .i1⟩
  | .hbm, ⟨61, _⟩ => ⟨S128, .i1⟩
  | .hbm, ⟨62, _⟩ => ⟨S128, .i1⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S2048x128, .f32⟩
  | .hbm, ⟨70, _⟩ => ⟨S_, .f32⟩
  | .hbm, ⟨71, _⟩ => ⟨S_, .f32⟩
  | .hbm, ⟨72, _⟩ => ⟨S2048x128, .i1⟩
  | .hbm, ⟨73, _⟩ => ⟨S2048x128, .f32⟩
  | .hbm, ⟨74, _⟩ => ⟨S2048x128, .f32⟩
  | .hbm, ⟨75, _⟩ => ⟨S_, .f32⟩
  | .hbm, ⟨76, _⟩ => ⟨S_, .f32⟩
  | .hbm, ⟨77, _⟩ => ⟨S2048x128, .i1⟩
  | .hbm, ⟨78, _⟩ => ⟨S2048x128, .f32⟩
  | .hbm, ⟨79, _⟩ => ⟨S2048x128, .f32⟩
  | .hbm, ⟨80, _⟩ => ⟨S8x2048x256, .bf16⟩
  | .hbm, ⟨81, _⟩ => ⟨S8x2048x256, .bf16⟩
  | .hbm, ⟨82, _⟩ => ⟨S8x2048x512, .bf16⟩
  | .hbm, ⟨83, _⟩ => ⟨S8x2048x512, .f32⟩
  | .hbm, ⟨84, _⟩ => ⟨S8x2048x512, .bf16⟩
  | .hbm, ⟨85, _⟩ => ⟨S8x2048x512, .bf16⟩
  | .hbm, ⟨86, _⟩ => ⟨S8x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S2x512, .f32⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .f32⟩
  | .local _ .vmem, ⟨22, _⟩ => ⟨S1x1024x512, .f32⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S1024x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_1 : Ref sig .tc := ⟨.hbm, 52, rfl⟩
abbrev main_call0_v5 : Ref sig .tc := ⟨.hbm, 53, rfl⟩
abbrev main_call0_v6 : Ref sig .tc := ⟨.hbm, 54, rfl⟩
abbrev main_call0_c_2 : Ref sig .tc := ⟨.hbm, 55, rfl⟩
abbrev main_call0_v7 : Ref sig .tc := ⟨.hbm, 56, rfl⟩
abbrev main_call0_v8 : Ref sig .tc := ⟨.hbm, 57, rfl⟩
abbrev main_call0_c_3 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_v37 : Ref sig .tc := ⟨.hbm, 65, rfl⟩
abbrev main_c_1 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_2 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v41 : Ref sig .tc := ⟨.hbm, 74, rfl⟩
abbrev main_cst_3 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v42 : Ref sig .tc := ⟨.hbm, 79, rfl⟩
abbrev main_v43_0 : Ref sig .tc := ⟨.hbm, 80, rfl⟩
abbrev main_v43_1 : Ref sig .tc := ⟨.hbm, 81, rfl⟩
abbrev main_v43_2 : Ref sig .tc := ⟨.hbm, 82, rfl⟩
abbrev main_v43_3 : Ref sig .tc := ⟨.hbm, 83, rfl⟩
abbrev main_v43_4 : Ref sig .tc := ⟨.hbm, 84, rfl⟩
abbrev main_v43_5 : Ref sig .tc := ⟨.hbm, 85, rfl⟩
abbrev main_v43_6 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== InKernelIdeal.lean ====
variable {F : FTy → Type} [FloatOps F] [Named F]
def κ : String → Option EReal := fun
  | "q_scale" => some (((8 * (Real.log 2))⁻¹ : ℝ) : EReal)
  | _ => none
-- ==== InReferenceIdeal.lean ====
abbrev S8x2048x1024 : Shape := ⟨3, ![8, 2048, 1024]⟩
abbrev S16x6144 : Shape := ⟨2, ![16, 6144]⟩
abbrev S1x1024 : Shape := ⟨2, ![1, 1024]⟩
abbrev S1x1024x3072 : Shape := ⟨3, ![1, 1024, 3072]⟩
abbrev S1x2x64 : Shape := ⟨3, ![1, 2, 64]⟩
abbrev S16 : Shape := ⟨1, ![16]⟩
abbrev S_ : Shape := ⟨0, ![]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S8x6144 : Shape := ⟨2, ![8, 6144]⟩
abbrev S8x6x1x1024 : Shape := ⟨4, ![8, 6, 1, 1024]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S1024x3072 : Shape := ⟨2, ![1024, 3072]⟩
abbrev S8x2048x3072 : Shape := ⟨3, ![8, 2048, 3072]⟩
abbrev S8x2048x256 : Shape := ⟨3, ![8, 2048, 256]⟩
abbrev S8x2048x512 : Shape := ⟨3, ![8, 2048, 512]⟩
abbrev S8x2048x4x64 : Shape := ⟨4, ![8, 2048, 4, 64]⟩
abbrev S8x4x2048x64 : Shape := ⟨4, ![8, 4, 2048, 64]⟩
abbrev S8x4x2048x2x2x16 : Shape := ⟨6, ![8, 4, 2048, 2, 2, 16]⟩
abbrev S8x4x2048x2x1x16 : Shape := ⟨6, ![8, 4, 2048, 2, 1, 16]⟩
abbrev S1x1x2048x64 : Shape := ⟨4, ![1, 1, 2048, 64]⟩
abbrev S1x1x64 : Shape := ⟨3, ![1, 1, 64]⟩
abbrev S8x2048x4x2x64 : Shape := ⟨5, ![8, 2048, 4, 2, 64]⟩
abbrev S8x4x2x2048x64 : Shape := ⟨5, ![8, 4, 2, 2048, 64]⟩
abbrev S8x4x2x2048 : Shape := ⟨4, ![8, 4, 2, 2048]⟩
abbrev S8x4x2x2048x1 : Shape := ⟨5, ![8, 4, 2, 2048, 1]⟩
abbrev S1x1x1x1x64 : Shape := ⟨5, ![1, 1, 1, 1, 64]⟩
abbrev S8x4x2x2048x2x2x16 : Shape := ⟨7, ![8, 4, 2, 2048, 2, 2, 16]⟩
abbrev S8x4x2x2048x2x1x16 : Shape := ⟨7, ![8, 4, 2, 2048, 2, 1, 16]⟩
abbrev S1x1x1x2048x64 : Shape := ⟨5, ![1, 1, 1, 2048, 64]⟩

abbrev nBuf : Space → Nat
  | .hbm => 191
  | .vmem => 0
  | .smem => 0
  | _ => 0

abbrev hbmTy0_0 (i : Nat) : BufTy := match i % 128 with
  | 0 => ⟨S8x2048x1024, .f32⟩
  | 1 => ⟨S16x6144, .f32⟩
  | 2 => ⟨S1x1024, .f32⟩
  | 3 => ⟨S1x1024x3072, .f32⟩
  | 4 => ⟨S1x2x64, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S32, .f32⟩
  | 14 => ⟨S32x64, .f32⟩
  | 15 => ⟨S2048, .f32⟩
  | 16 => ⟨S64, .f32⟩
  | 17 => ⟨S1x64, .f32⟩
  | 18 => ⟨S32x64, .f32⟩
  | 19 => ⟨S2048, .f32⟩
  | 20 => ⟨S2048x1, .f32⟩
  | 21 => ⟨S1x16, .f32⟩
  | 22 => ⟨S2048x16, .f32⟩
  | 23 => ⟨S2048x16, .f32⟩
  | 24 => ⟨S2048x16, .f32⟩
  | 25 => ⟨S2048x1, .f32⟩
  | 26 => ⟨S1x16, .f32⟩
  | 27 => ⟨S2048x16, .f32⟩
  | 28 => ⟨S2048x16, .f32⟩
  | 29 => ⟨S2048x16, .f32⟩
  | 30 => ⟨S2048x64, .f32⟩
  | 31 => ⟨S2048x64, .f32⟩
  | 32 => ⟨S2048x64, .f32⟩
  | 33 => ⟨S8x6144, .f32⟩
  | 34 => ⟨S8x6x1x1024, .f32⟩
  | 35 => ⟨S8x2048x1024, .f32⟩
  | 36 => ⟨S_, .f32⟩
  | 37 => ⟨S8x2048, .f32⟩
  | 38 => ⟨S8x2048x1, .f32⟩
  | 39 => ⟨S_, .f32⟩
  | 40 => ⟨S8x2048x1, .f32⟩
  | 41 => ⟨S8x2048x1, .f32⟩
  | 42 => ⟨S_, .f32⟩
  | 43 => ⟨S8x2048x1, .f32⟩
  | 44 => ⟨S8x2048x1, .f32⟩
  | 45 => ⟨S8x2048x1, .f32⟩
  | 46 => ⟨S8x2048x1024, .f32⟩
  | 47 => ⟨S8x2048x1024, .f32⟩
  | 48 => ⟨S1024, .f32⟩
  | 49 => ⟨S1x1x1024, .f32⟩
  | 50 => ⟨S8x2048x1024, .f32⟩
  | 51 => ⟨S8x2048x1024, .f32⟩
  | 52 => ⟨S8x1x1x1024, .f32⟩
  | 53 => ⟨S8x1x1024, .f32⟩
  | 54 => ⟨S_, .f32⟩
  | 55 => ⟨S8x1x1024, .f32⟩
  | 56 => ⟨S8x1x1024, .f32⟩
  | 57 => ⟨S8x2048x1024, .f32⟩
  | 58 => ⟨S8x2048x1024, .f32⟩
  | 59 => ⟨S8x1x1x1024, .f32⟩
  | 60 => ⟨S8x1x1024, .f32⟩
  | 61 => ⟨S8x2048x1024, .f32⟩
  | 62 => ⟨S8x2048x1024, .f32⟩
  | 63 => ⟨S1024x3072, .f32⟩
  | 64 => ⟨S8x2048x3072, .f32⟩
  | 65 => ⟨S8x2048x256, .f32⟩
  | 66 => ⟨S8x2048x256, .f32⟩
  | 67 => ⟨S8x2048x512, .f32⟩
  | 68 => ⟨S8x2048x512, .f32⟩
  | 69 => ⟨S8x2048x512, .f32⟩
  | 70 => ⟨S8x2048x512, .f32⟩
  | 71 => ⟨S8x2048x512, .f32⟩
  | 72 => ⟨S8x2048x4x64, .f32⟩
  | 73 => ⟨S8x4x2048x64, .f32⟩
  | 74 => ⟨S8x4x2048x2x2x16, .f32⟩
  | 75 => ⟨S8x4x2048x2x1x16, .f32⟩
  | 76 => ⟨S8x4x2048x2x1x16, .f32⟩
  | 77 => ⟨S8x4x2048x2x1x16, .f32⟩
  | 78 => ⟨S8x4x2048x2x2x16, .f32⟩
  | 79 => ⟨S8x4x2048x64, .f32⟩
  | 80 => ⟨S1x1x2048x64, .f32⟩
  | 81 => ⟨S8x4x2048x64, .f32⟩
  | 82 => ⟨S8x4x2048x64, .f32⟩
  | 83 => ⟨S1x1x2048x64, .f32⟩
  | 84 => ⟨S8x4x2048x64, .f32⟩
  | 85 => ⟨S8x4x2048x64, .f32⟩
  | 86 => ⟨S8x4x2048x64, .f32⟩
  | 87 => ⟨S8x2048x4x64, .f32⟩
  | 88 => ⟨S8x2048x256, .f32⟩
  | 89 => ⟨S8x2048x4x64, .f32⟩
  | 90 => ⟨S8x4x2048x64, .f32⟩
  | 91 => ⟨S8x4x2048x2x2x16, .f32⟩
  | 92 => ⟨S8x4x2048x2x1x16, .f32⟩
  | 93 => ⟨S8x4x2048x2x1x16, .f32⟩
  | 94 => ⟨S8x4x2048x2x1x16, .f32⟩
  | 95 => ⟨S8x4x2048x2x2x16, .f32⟩
  | 96 => ⟨S8x4x2048x64, .f32⟩
  | 97 => ⟨S1x1x2048x64, .f32⟩
  | 98 => ⟨S8x4x2048x64, .f32⟩
  | 99 => ⟨S8x4x2048x64, .f32⟩
  | 100 => ⟨S1x1x2048x64, .f32⟩
  | 101 => ⟨S8x4x2048x64, .f32⟩
  | 102 => ⟨S8x4x2048x64, .f32⟩
  | 103 => ⟨S8x4x2048x64, .f32⟩
  | 104 => ⟨S_, .f32⟩
  | 105 => ⟨S8x4x2048x64, .f32⟩
  | 106 => ⟨S8x4x2048x64, .f32⟩
  | 107 => ⟨S8x2048x4x64, .f32⟩
  | 108 => ⟨S8x2048x256, .f32⟩
  | 109 => ⟨S1x1x64, .f32⟩
  | 110 => ⟨S64, .f32⟩
  | 111 => ⟨S8x2048x4x2x64, .f32⟩
  | 112 => ⟨S8x4x2x2048x64, .f32⟩
  | 113 => ⟨S8x4x2x2048x64, .f32⟩
  | 114 => ⟨S_, .f32⟩
  | 115 => ⟨S8x4x2x2048, .f32⟩
  | 116 => ⟨S8x4x2x2048x1, .f32⟩
  | 117 => ⟨S_, .f32⟩
  | 118 => ⟨S8x4x2x2048x1, .f32⟩
  | 119 => ⟨S8x4x2x2048x1, .f32⟩
  | 120 => ⟨S_, .f32⟩
  | 121 => ⟨S8x4x2x2048x1, .f32⟩
  | 122 => ⟨S8x4x2x2048x1, .f32⟩
  | 123 => ⟨S8x4x2x2048x1, .f32⟩
  | 124 => ⟨S8x4x2x2048x64, .f32⟩
  | 125 => ⟨S8x4x2x2048x64, .f32⟩
  | 126 => ⟨S1x1x1x1x64, .f32⟩
  | 127 => ⟨S8x4x2x2048x64, .f32⟩
  | _ => ⟨S8x2048x1024, .f32⟩

abbrev hbmTy0_1 (i : Nat) : BufTy := match i % 128 with
  | 0 => ⟨S8x4x2x2048x64, .f32⟩
  | 1 => ⟨S8x4x2x2048x2x2x16, .f32⟩
  | 2 => ⟨S8x4x2x2048x2x1x16, .f32⟩
  | 3 => ⟨S8x4x2x2048x2x1x16, .f32⟩
  | 4 => ⟨S8x4x2x2048x2x1x16, .f32⟩
  | 5 => ⟨S8x4x2x2048x2x2x16, .f32⟩
  | 6 => ⟨S8x4x2x2048x64, .f32⟩
  | 7 => ⟨S1x1x1x2048x64, .f32⟩
  | 8 => ⟨S8x4x2x2048x64, .f32⟩
  | 9 => ⟨S8x4x2x2048x64, .f32⟩
  | 10 => ⟨S1x1x1x2048x64, .f32⟩
  | 11 => ⟨S8x4x2x2048x64, .f32⟩
  | 12 => ⟨S8x4x2x2048x64, .f32⟩
  | 13 => ⟨S8x4x2x2048x64, .f32⟩
  | 14 => ⟨S_, .f32⟩
  | 15 => ⟨S_, .f32⟩
  | 16 => ⟨S_, .f32⟩
  | 17 => ⟨S_, .f32⟩
  | 18 => ⟨S8x4x2x2048x64, .f32⟩
  | 19 => ⟨S8x4x2x2048x64, .f32⟩
  | 20 => ⟨S8x2048x4x2x64, .f32⟩
  | 21 => ⟨S8x2048x512, .f32⟩
  | 22 => ⟨S1x1x64, .f32⟩
  | 23 => ⟨S64, .f32⟩
  | 24 => ⟨S8x2048x4x2x64, .f32⟩
  | 25 => ⟨S8x4x2x2048x64, .f32⟩
  | 26 => ⟨S8x4x2x2048x64, .f32⟩
  | 27 => ⟨S_, .f32⟩
  | 28 => ⟨S8x4x2x2048, .f32⟩
  | 29 => ⟨S8x4x2x2048x1, .f32⟩
  | 30 => ⟨S_, .f32⟩
  | 31 => ⟨S8x4x2x2048x1, .f32⟩
  | 32 => ⟨S8x4x2x2048x1, .f32⟩
  | 33 => ⟨S_, .f32⟩
  | 34 => ⟨S8x4x2x2048x1, .f32⟩
  | 35 => ⟨S8x4x2x2048x1, .f32⟩
  | 36 => ⟨S8x4x2x2048x1, .f32⟩
  | 37 => ⟨S8x4x2x2048x64, .f32⟩
  | 38 => ⟨S8x4x2x2048x64, .f32⟩
  | 39 => ⟨S1x1x1x1x64, .f32⟩
  | 40 => ⟨S8x4x2x2048x64, .f32⟩
  | 41 => ⟨S8x4x2x2048x64, .f32⟩
  | 42 => ⟨S8x4x2x2048x2x2x16, .f32⟩
  | 43 => ⟨S8x4x2x2048x2x1x16, .f32⟩
  | 44 => ⟨S8x4x2x2048x2x1x16, .f32⟩
  | 45 => ⟨S8x4x2x2048x2x1x16, .f32⟩
  | 46 => ⟨S8x4x2x2048x2x2x16, .f32⟩
  | 47 => ⟨S8x4x2x2048x64, .f32⟩
  | 48 => ⟨S1x1x1x2048x64, .f32⟩
  | 49 => ⟨S8x4x2x2048x64, .f32⟩
  | 50 => ⟨S8x4x2x2048x64, .f32⟩
  | 51 => ⟨S1x1x1x2048x64, .f32⟩
  | 52 => ⟨S8x4x2x2048x64, .f32⟩
  | 53 => ⟨S8x4x2x2048x64, .f32⟩
  | 54 => ⟨S8x4x2x2048x64, .f32⟩
  | 55 => ⟨S8x2048x4x2x64, .f32⟩
  | 56 => ⟨S8x2048x512, .f32⟩
  | 57 => ⟨S8x2048x256, .bf16⟩
  | 58 => ⟨S8x2048x256, .bf16⟩
  | 59 => ⟨S8x2048x512, .bf16⟩
  | 60 => ⟨S8x2048x512, .bf16⟩
  | 61 => ⟨S8x2048x512, .bf16⟩
  | 62 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_5 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_cst_6 : Ref sig .tc := ⟨.hbm, 114, rfl⟩
abbrev main_v102 : Ref sig .tc := ⟨.hbm, 115, rfl⟩
abbrev main_v103 : Ref sig .tc := ⟨.hbm, 116, rfl⟩
abbrev main_cst_7 : Ref sig .tc := ⟨.hbm, 117, rfl⟩
abbrev main_v104 : Ref sig .tc := ⟨.hbm, 118, rfl⟩
abbrev main_v105 : Ref sig .tc := ⟨.hbm, 119, rfl⟩
abbrev main_cst_8 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_cst_9 : Ref sig .tc := ⟨.hbm, 142, rfl⟩
abbrev main_v127 : Ref sig .tc := ⟨.hbm, 143, rfl⟩
abbrev main_cst_10 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_cst_11 : Ref sig .tc := ⟨.hbm, 155, rfl⟩
abbrev main_v138 : Ref sig .tc := ⟨.hbm, 156, rfl⟩
abbrev main_v139 : Ref sig .tc := ⟨.hbm, 157, rfl⟩
abbrev main_cst_12 : Ref sig .tc := ⟨.hbm, 158, rfl⟩
abbrev main_v140 : Ref sig .tc := ⟨.hbm, 159, rfl⟩
abbrev main_v141 : Ref sig .tc := ⟨.hbm, 160, rfl⟩
abbrev main_cst_13 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩

abbrev nD : Nat := 1
abbrev τ : Topo := Topo.v7x

variable {F : FTy → Type} [FloatOps F]
-- ==== CtxKernel.lean ====
abbrev S8x256x1024 : Shape := ⟨3, ![8, 256, 1024]⟩
abbrev S16x6144 : Shape := ⟨2, ![16, 6144]⟩
abbrev S1x1024 : Shape := ⟨2, ![1, 1024]⟩
abbrev S1x1024x3072 : Shape := ⟨3, ![1, 1024, 3072]⟩
abbrev S1x2x64 : Shape := ⟨3, ![1, 2, 64]⟩
abbrev S16x1x6144 : Shape := ⟨3, ![16, 1, 6144]⟩
abbrev S1024x3072 : Shape := ⟨2, ![1024, 3072]⟩
abbrev S1024 : Shape := ⟨1, ![1024]⟩
abbrev S2x64 : Shape := ⟨2, ![2, 64]⟩
abbrev S1x2x1x64 : Shape := ⟨4, ![1, 2, 1, 64]⟩
abbrev S1x2x8x64 : Shape := ⟨4, ![1, 2, 8, 64]⟩
abbrev S2x512 : Shape := ⟨2, ![2, 512]⟩
abbrev S_ : Shape := ⟨0, ![]⟩
abbrev S256x128 : Shape := ⟨2, ![256, 128]⟩
abbrev S8x256x256 : Shape := ⟨3, ![8, 256, 256]⟩
abbrev S8x256x512 : Shape := ⟨3, ![8, 256, 512]⟩
abbrev S1x256x1024 : Shape := ⟨3, ![1, 256, 1024]⟩
abbrev S1x1x1024 : Shape := ⟨3, ![1, 1, 1024]⟩
abbrev S1x256x256 : Shape := ⟨3, ![1, 256, 256]⟩
abbrev S1x256x512 : Shape := ⟨3, ![1, 256, 512]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x256x128 : Shape := ⟨3, ![1, 256, 128]⟩
abbrev S256x512 : Shape := ⟨2, ![256, 512]⟩
abbrev S1x512 : Shape := ⟨2, ![1, 512]⟩
abbrev S512x128 : Shape := ⟨2, ![512, 128]⟩
abbrev S128x512 : Shape := ⟨2, ![128, 512]⟩

abbrev nBuf : Space → Nat
  | .hbm => 27
  | .vmem => 25
  | .smem => 0
  | _ => 0

abbrev bufTy : (tb : Table) → Fin (tcTables nBuf tb) → BufTy
  | .hbm, ⟨0, _⟩ => ⟨S8x256x1024, .f32⟩
  | .hbm, ⟨1, _⟩ => ⟨S16x6144, .f32⟩
  | .hbm, ⟨2, _⟩ => ⟨S1x1024, .f32⟩
  | .hbm, ⟨3, _⟩ => ⟨S1x1024x3072, .f32⟩
  | .hbm, ⟨4, _⟩ => ⟨S1x2x64, .f32⟩
  | .hbm, ⟨5, _⟩ => ⟨S16x1x6144, .f32⟩
  | .hbm, ⟨6, _⟩ => ⟨S1024x3072, .f32⟩
  | .hbm, ⟨7, _⟩ => ⟨S1024x3072, .bf16⟩
  | .hbm, ⟨8, _⟩ => ⟨S1024, .f32⟩
  | .hbm, ⟨9, _⟩ => ⟨S1x1024, .f32⟩
  | .hbm, ⟨10, _⟩ => ⟨S2x64, .f32⟩
  | .hbm, ⟨11, _⟩ => ⟨S1x2x1x64, .f32⟩
  | .hbm, ⟨12, _⟩ => ⟨S1x2x8x64, .f32⟩
  | .hbm, ⟨13, _⟩ => ⟨S2x512, .f32⟩
  | .hbm, ⟨14, _⟩ => ⟨S_, .f32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S8x256x256, .bf16⟩
  | .hbm, ⟨21, _⟩ => ⟨S8x256x256, .bf16⟩
  | .hbm, ⟨22, _⟩ => ⟨S8x256x512, .bf16⟩
  | .hbm, ⟨23, _⟩ => ⟨S8x256x512, .f32⟩
  | .hbm, ⟨24, _⟩ => ⟨S8x256x512, .bf16⟩
  | .hbm, ⟨25, _⟩ => ⟨S8x256x512, .bf16⟩
  | .hbm, ⟨26, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x3072, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S2x512, .f32⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .f32⟩
  | .local _ .vmem, ⟨17, _⟩ => ⟨S1x256x512, .f32⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S256x3072, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c1_i32 : BitVec 32 := 1#32
  let c0_i32_0 : BitVec 32 := 0#32
  ![c8_i32.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== CtxReferenceIdeal.lean ====
abbrev S8x256x1024 : Shape := ⟨3, ![8, 256, 1024]⟩
abbrev S16x6144 : Shape := ⟨2, ![16, 6144]⟩
abbrev S1x1024 : Shape := ⟨2, ![1, 1024]⟩
abbrev S1x1024x3072 : Shape := ⟨3, ![1, 1024, 3072]⟩
abbrev S1x2x64 : Shape := ⟨3, ![1, 2, 64]⟩
abbrev S1x6144 : Shape := ⟨2, ![1, 6144]⟩
abbrev S1x6x1x1024 : Shape := ⟨4, ![1, 6, 1, 1024]⟩
abbrev S_ : Shape := ⟨0, ![]⟩
abbrev S8x256 : Shape := ⟨2, ![8, 256]⟩
abbrev S8x256x1 : Shape := ⟨3, ![8, 256, 1]⟩
abbrev S1024 : Shape := ⟨1, ![1024]⟩
abbrev S1x1x1024 : Shape := ⟨3, ![1, 1, 1024]⟩
abbrev S1x1x1x1024 : Shape := ⟨4, ![1, 1, 1, 1024]⟩
abbrev S1024x3072 : Shape := ⟨2, ![1024, 3072]⟩
abbrev S8x256x3072 : Shape := ⟨3, ![8, 256, 3072]⟩
abbrev S8x256x256 : Shape := ⟨3, ![8, 256, 256]⟩
abbrev S8x256x512 : Shape := ⟨3, ![8, 256, 512]⟩
abbrev S8x256x4x2x64 : Shape := ⟨5, ![8, 256, 4, 2, 64]⟩
abbrev S8x4x2x256x64 : Shape := ⟨5, ![8, 4, 2, 256, 64]⟩
abbrev S8x4x2x256 : Shape := ⟨4, ![8, 4, 2, 256]⟩
abbrev S8x4x2x256x1 : Shape := ⟨5, ![8, 4, 2, 256, 1]⟩
abbrev S1x1x64 : Shape := ⟨3, ![1, 1, 64]⟩
abbrev S64 : Shape := ⟨1, ![64]⟩
abbrev S1x1x1x1x64 : Shape := ⟨5, ![1, 1, 1, 1, 64]⟩

abbrev nBuf : Space → Nat
  | .hbm => 73
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x6144, .f32⟩
  | .hbm, ⟨2, _⟩ => ⟨S1x1024, .f32⟩
  | .hbm, ⟨3, _⟩ => ⟨S1x1024x3072, .f32⟩
  | .hbm, ⟨4, _⟩ => ⟨S1x2x64, .f32⟩
  | .hbm, ⟨5, _⟩ => ⟨S1x6144, .f32⟩
  | .hbm, ⟨6, _⟩ => ⟨S1x6x1x1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S1x1x1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1x1x1x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S1024x3072, .f32⟩
  | .hbm, ⟨36, _⟩ => ⟨S8x256x3072, .f32⟩
  | .hbm, ⟨37, _⟩ => ⟨S8x256x256, .f32⟩
  | .hbm, ⟨38, _⟩ => ⟨S8x256x256, .f32⟩
  | .hbm, ⟨39, _⟩ => ⟨S8x256x512, .f32⟩
  | .hbm, ⟨40, _⟩ => ⟨S8x256x512, .f32⟩
  | .hbm, ⟨41, _⟩ => ⟨S8x256x512, .f32⟩
  | .hbm, ⟨42, _⟩ => ⟨S8x256x512, .f32⟩
  | .hbm, ⟨43, _⟩ => ⟨S8x256x512, .f32⟩
  | .hbm, ⟨44, _⟩ => ⟨S8x256x4x2x64, .f32⟩
  | .hbm, ⟨45, _⟩ => ⟨S8x4x2x256x64, .f32⟩
  | .hbm, ⟨46, _⟩ => ⟨S8x4x2x256x64, .f32⟩
  | .hbm, ⟨47, _⟩ => ⟨S_, .f32⟩
  | .hbm, ⟨48, _⟩ => ⟨S8x4x2x256, .f32⟩
  | .hbm, ⟨49, _⟩ => ⟨S8x4x2x256x1, .f32⟩
  | .hbm, ⟨50, _⟩ => ⟨S_, .f32⟩
  | .hbm, ⟨51, _⟩ => ⟨S8x4x2x256x1, .f32⟩
  | .hbm, ⟨52, _⟩ => ⟨S8x4x2x256x1, .f32⟩
  | .hbm, ⟨53, _⟩ => ⟨S_, .f32⟩
  | .hbm, ⟨54, _⟩ => ⟨S8x4x2x256x1, .f32⟩
  | .hbm, ⟨55, _⟩ => ⟨S8x4x2x256x1, .f32⟩
  | .hbm, ⟨56, _⟩ => ⟨S8x4x2x256x1, .f32⟩
  | .hbm, ⟨57, _⟩ => ⟨S8x4x2x256x64, .f32⟩
  | .hbm, ⟨58, _⟩ => ⟨S8x4x2x256x64, .f32⟩
  | .hbm, ⟨59, _⟩ => ⟨S1x1x64, .f32⟩
  | .hbm, ⟨60, _⟩ => ⟨S64, .f32⟩
  | .hbm, ⟨61, _⟩ => ⟨S1x1x1x1x64, .f32⟩
  | .hbm, ⟨62, _⟩ => ⟨S8x4x2x256x64, .f32⟩
  | .hbm, ⟨63, _⟩ => ⟨S8x4x2x256x64, .f32⟩
  | .hbm, ⟨64, _⟩ => ⟨S8x256x4x2x64, .f32⟩
  | .hbm, ⟨65, _⟩ => ⟨S8x256x512, .f32⟩
  | .hbm, ⟨66, _⟩ => ⟨S_, .f32⟩
  | .hbm, ⟨67, _⟩ => ⟨S8x256x256, .f32⟩
  | .hbm, ⟨68, _⟩ => ⟨S8x256x256, .f32⟩
  | .hbm, ⟨69, _⟩ => ⟨S8x256x256, .bf16⟩
  | .hbm, ⟨70, _⟩ => ⟨S8x256x512, .bf16⟩
  | .hbm, ⟨71, _⟩ => ⟨S8x256x512, .bf16⟩
  | .hbm, ⟨72, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== RetKernel.lean ====
abbrev S8x2048x256 : Shape := ⟨3, ![8, 2048, 256]⟩
abbrev S8x2048x512 : Shape := ⟨3, ![8, 2048, 512]⟩
abbrev S8x256x256 : Shape := ⟨3, ![8, 256, 256]⟩
abbrev S8x256x512 : Shape := ⟨3, ![8, 256, 512]⟩
abbrev S1x2x4 : Shape := ⟨3, ![1, 2, 4]⟩
abbrev S1x4x128 : Shape := ⟨3, ![1, 4, 128]⟩
abbrev S2x4 : Shape := ⟨2, ![2, 4]⟩
abbrev S4x2 : Shape := ⟨2, ![4, 2]⟩
abbrev S4x2x1 : Shape := ⟨3, ![4, 2, 1]⟩
abbrev S4x2x128 : Shape := ⟨3, ![4, 2, 128]⟩
abbrev S4x128 : Shape := ⟨2, ![4, 128]⟩
abbrev S4x1x128 : Shape := ⟨3, ![4, 1, 128]⟩
abbrev S1x2x128 : Shape := ⟨3, ![1, 2, 128]⟩
abbrev S1x2048x128 : Shape := ⟨3, ![1, 2048, 128]⟩
abbrev S1x256x128 : Shape := ⟨3, ![1, 256, 128]⟩
abbrev S1x1x128 : Shape := ⟨3, ![1, 1, 128]⟩
abbrev S16x128x128 : Shape := ⟨3, ![16, 128, 128]⟩
abbrev S1x128 : Shape := ⟨2, ![1, 128]⟩
abbrev S2x128 : Shape := ⟨2, ![2, 128]⟩
abbrev S128x128 : Shape := ⟨2, ![128, 128]⟩
abbrev S256x128 : Shape := ⟨2, ![256, 128]⟩
abbrev S128x256 : Shape := ⟨2, ![128, 256]⟩
abbrev S1x128x128 : Shape := ⟨3, ![1, 128, 128]⟩
abbrev S128 : Shape := ⟨1, ![128]⟩
abbrev S128x1 : Shape := ⟨2, ![128, 1]⟩

abbrev nBuf : Space → Nat
  | .hbm => 15
  | .vmem => 22
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S8x2048x512, .bf16⟩
  | .hbm, ⟨3, _⟩ => ⟨S8x2048x512, .f32⟩
  | .hbm, ⟨4, _⟩ => ⟨S8x256x256, .bf16⟩
  | .hbm, ⟨5, _⟩ => ⟨S8x256x512, .bf16⟩
  | .hbm, ⟨6, _⟩ => ⟨S1x2x4, .f32⟩
  | .hbm, ⟨7, _⟩ => ⟨S1x4x128, .f32⟩
  | .hbm, ⟨8, _⟩ => ⟨S2x4, .f32⟩
  | .hbm, ⟨9, _⟩ => ⟨S4x2, .f32⟩
  | .hbm, ⟨10, _⟩ => ⟨S4x2x1, .f32⟩
  | .hbm, ⟨11, _⟩ => ⟨S4x2x128, .f32⟩
  | .hbm, ⟨12, _⟩ => ⟨S4x128, .f32⟩
  | .hbm, ⟨13, _⟩ => ⟨S4x1x128, .f32⟩
  | .hbm, ⟨14, _⟩ => ⟨S8x2048x512, .bf16⟩
  | .local _ .vmem, ⟨0, _⟩ => ⟨S1x2x128, .f32⟩
  | .local _ .vmem, ⟨1, _⟩ => ⟨S1x2x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x1x128, .f32⟩
  | .local _ .vmem, ⟨15, _⟩ => ⟨S1x1x128, .f32⟩
  | .local _ .vmem, ⟨16, _⟩ => ⟨S1x2048x128, .bf16⟩
  | .local _ .vmem, ⟨17, _⟩ => ⟨S1x2048x128, .bf16⟩
  | .local _ .vmem, ⟨18, _⟩ => ⟨S16x128x128, .f32⟩
  | .local _ .vmem, ⟨19, _⟩ => ⟨S16x128x128, .f32⟩
  | .local _ .vmem, ⟨20, _⟩ => ⟨S16x128x128, .f32⟩
  | .local _ .vmem, ⟨21, _⟩ => ⟨S16x128x128, .f32⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_mult1 : BitVec 32 :=
  let c0_i32_34 : BitVec 32 := 0#32
  let c128_i32 : BitVec 32 := 128#32
  let v128 : BitVec 32 := Scalar.muli c0_i32_34 c128_i32
  v128
def k0_off1 (c0_i32_34 : BitVec 32) : Fin 3 → Nat :=
  let c0_35 : Index := 0#32
  let c128_i32 : BitVec 32 := 128#32
  let v128 : BitVec 32 := Scalar.muli c0_i32_34 c128_i32
  let v129 : BitVec 32 := v128
  let v130 : Index := Scalar.indexCast v129
  let c0_36 : Index := 0#32
  ![0, v130.toNat, 0]
def k0_mult2 : BitVec 32 :=
  let c1_i32_45 : BitVec 32 := 1#32
  let c128_i32_46 : BitVec 32 := 128#32
  let v153 : BitVec 32 := Scalar.muli c1_i32_45 c128_i32_46
  v153
def k0_mult3 : BitVec 32 :=
  let c2_i32_57 : BitVec 32 := 2#32
  let c128_i32_58 : BitVec 32 := 128#32
  let v178 : BitVec 32 := Scalar.muli c2_i32_57 c128_i32_58
  v178
def k0_mult4 : BitVec 32 :=
  let c3_i32 : BitVec 32 := 3#32
  let c128_i32_69 : BitVec 32 := 128#32
  let v203 : BitVec 32 := Scalar.muli c3_i32 c128_i32_69
  v203
def k0_mult5 : BitVec 32 :=
  let c4_i32 : BitVec 32 := 4#32
  let c128_i32_80 : BitVec 32 := 128#32
  let v228 : BitVec 32 := Scalar.muli c4_i32 c128_i32_80
  v228
def k0_mult6 : BitVec 32 :=
  let c5_i32 : BitVec 32 := 5#32
  let c128_i32_91 : BitVec 32 := 128#32
  let v253 : BitVec 32 := Scalar.muli c5_i32 c128_i32_91
  v253
def k0_mult7 : BitVec 32 :=
  let c6_i32 : BitVec 32 := 6#32
  let c128_i32_102 : BitVec 32 := 128#32
  let v278 : BitVec 32 := Scalar.muli c6_i32 c128_i32_102
  v278
def k0_mult8 : BitVec 32 :=
  let c7_i32 : BitVec 32 := 7#32
  let c128_i32_113 : BitVec 32 := 128#32
  let v303 : BitVec 32 := Scalar.muli c7_i32 c128_i32_113
  v303
def k0_mult9 : BitVec 32 :=
  let c8_i32 : BitVec 32 := 8#32
  let c128_i32_124 : BitVec 32 := 128#32
  let v328 : BitVec 32 := Scalar.muli c8_i32 c128_i32_124
  v328
def k0_mult10 : BitVec 32 :=
  let c9_i32 : BitVec 32 := 9#32
  let c128_i32_135 : BitVec 32 := 128#32
  let v353 : BitVec 32 := Scalar.muli c9_i32 c128_i32_135
  v353
def k0_mult11 : BitVec 32 :=
  let c10_i32 : BitVec 32 := 10#32
  let c128_i32_146 : BitVec 32 := 128#32
  let v378 : BitVec 32 := Scalar.muli c10_i32 c128_i32_146
  v378
def k0_mult12 : BitVec 32 :=
  let c11_i32 : BitVec 32 := 11#32
  let c128_i32_157 : BitVec 32 := 128#32
  let v403 : BitVec 32 := Scalar.muli c11_i32 c128_i32_157
  v403
def k0_mult13 : BitVec 32 :=
  let c12_i32 : BitVec 32 := 12#32
  let c128_i32_168 : BitVec 32 := 128#32
  let v428 : BitVec 32 := Scalar.muli c12_i32 c128_i32_168
  v428
def k0_mult14 : BitVec 32 :=
  let c13_i32 : BitVec 32 := 13#32
  let c128_i32_179 : BitVec 32 := 128#32
  let v453 : BitVec 32 := Scalar.muli c13_i32 c128_i32_179
  v453
def k0_mult15 : BitVec 32 :=
  let c14_i32 : BitVec 32 := 14#32
  let c128_i32_190 : BitVec 32 := 128#32
  let v478 : BitVec 32 := Scalar.muli c14_i32 c128_i32_190
  v478
def k0_mult16 : BitVec 32 :=
  let c15_i32 : BitVec 32 := 15#32
  let c128_i32_201 : BitVec 32 := 128#32
  let v503 : BitVec 32 := Scalar.muli c15_i32 c128_i32_201
  v503
def k0_off2 (c0_i32_293 : BitVec 32) : Fin 3 → Nat :=
  let c15_i32_294 : BitVec 32 := 15#32
  let v688 : BitVec 32 := Scalar.subi c15_i32_294 c0_i32_293
  let v689 : Index := Scalar.indexCast v688
  let c0_295 : Index := 0#32
  let c0_296 : Index := 0#32
  ![v689.toNat, 0, 0]
def k0_mult17 : BitVec 32 :=
  let c0_i32_393 : BitVec 32 := 0#32
  let c128_i32_394 : BitVec 32 := 128#32
  let v866 : BitVec 32 := Scalar.muli c0_i32_393 c128_i32_394
  v866
def k0_mult18 : BitVec 32 :=
  let c1_i32_420 : BitVec 32 := 1#32
  let c128_i32_421 : BitVec 32 := 128#32
  let v928 : BitVec 32 := Scalar.muli c1_i32_420 c128_i32_421
  v928
def k0_mult19 : BitVec 32 :=
  let c2_i32_447 : BitVec 32 := 2#32
  let c128_i32_448 : BitVec 32 := 128#32
  let v990 : BitVec 32 := Scalar.muli c2_i32_447 c128_i32_448
  v990
def k0_mult20 : BitVec 32 :=
  let c3_i32_474 : BitVec 32 := 3#32
  let c128_i32_475 : BitVec 32 := 128#32
  let v1052 : BitVec 32 := Scalar.muli c3_i32_474 c128_i32_475
  v1052
def k0_mult21 : BitVec 32 :=
  let c4_i32_501 : BitVec 32 := 4#32
  let c128_i32_502 : BitVec 32 := 128#32
  let v1114 : BitVec 32 := Scalar.muli c4_i32_501 c128_i32_502
  v1114
def k0_mult22 : BitVec 32 :=
  let c5_i32_528 : BitVec 32 := 5#32
  let c128_i32_529 : BitVec 32 := 128#32
  let v1176 : BitVec 32 := Scalar.muli c5_i32_528 c128_i32_529
  v1176
def k0_mult23 : BitVec 32 :=
  let c6_i32_555 : BitVec 32 := 6#32
  let c128_i32_556 : BitVec 32 := 128#32
  let v1238 : BitVec 32 := Scalar.muli c6_i32_555 c128_i32_556
  v1238
def k0_mult24 : BitVec 32 :=
  let c7_i32_582 : BitVec 32 := 7#32
  let c128_i32_583 : BitVec 32 := 128#32
  let v1300 : BitVec 32 := Scalar.muli c7_i32_582 c128_i32_583
  v1300
def k0_mult25 : BitVec 32 :=
  let c8_i32_609 : BitVec 32 := 8#32
  let c128_i32_610 : BitVec 32 := 128#32
  let v1362 : BitVec 32 := Scalar.muli c8_i32_609 c128_i32_610
  v1362
def k0_mult26 : BitVec 32 :=
  let c9_i32_636 : BitVec 32 := 9#32
  let c128_i32_637 : BitVec 32 := 128#32
  let v1424 : BitVec 32 := Scalar.muli c9_i32_636 c128_i32_637
  v1424
def k0_mult27 : BitVec 32 :=
  let c10_i32_663 : BitVec 32 := 10#32
  let c128_i32_664 : BitVec 32 := 128#32
  let v1486 : BitVec 32 := Scalar.muli c10_i32_663 c128_i32_664
  v1486
def k0_mult28 : BitVec 32 :=
  let c11_i32_690 : BitVec 32 := 11#32
  let c128_i32_691 : BitVec 32 := 128#32
  let v1548 : BitVec 32 := Scalar.muli c11_i32_690 c128_i32_691
  v1548
def k0_mult29 : BitVec 32 :=
  let c12_i32_717 : BitVec 32 := 12#32
  let c128_i32_718 : BitVec 32 := 128#32
  let v1610 : BitVec 32 := Scalar.muli c12_i32_717 c128_i32_718
  v1610
def k0_mult30 : BitVec 32 :=
  let c13_i32_744 : BitVec 32 := 13#32
  let c128_i32_745 : BitVec 32 := 128#32
  let v1672 : BitVec 32 := Scalar.muli c13_i32_744 c128_i32_745
  v1672
def k0_mult31 : BitVec 32 :=
  let c14_i32_771 : BitVec 32 := 14#32
  let c128_i32_772 : BitVec 32 := 128#32
  let v1734 : BitVec 32 := Scalar.muli c14_i32_771 c128_i32_772
  v1734
def k0_mult32 : BitVec 32 :=
  let c15_i32_798 : BitVec 32 := 15#32
  let c128_i32_799 : BitVec 32 := 128#32
  let v1796 : BitVec 32 := Scalar.muli c15_i32_798 c128_i32_799
  v1796
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetReferenceIdeal.lean ====
abbrev S8x2048x256 : Shape := ⟨3, ![8, 2048, 256]⟩
abbrev S8x2048x512 : Shape := ⟨3, ![8, 2048, 512]⟩
abbrev S8x256x256 : Shape := ⟨3, ![8, 256, 256]⟩
abbrev S8x256x512 : Shape := ⟨3, ![8, 256, 512]⟩
abbrev S1x2x4 : Shape := ⟨3, ![1, 2, 4]⟩
abbrev S1x4x128 : Shape := ⟨3, ![1, 4, 128]⟩
abbrev S2x4 : Shape := ⟨2, ![2, 4]⟩
abbrev S_ : Shape := ⟨0, ![]⟩
abbrev S8x2048x4x64 : Shape := ⟨4, ![8, 2048, 4, 64]⟩
abbrev S8x4x2048x64 : Shape := ⟨4, ![8, 4, 2048, 64]⟩
abbrev S8x2048x4x128 : Shape := ⟨4, ![8, 2048, 4, 128]⟩
abbrev S8x4x2048x128 : Shape := ⟨4, ![8, 4, 2048, 128]⟩
abbrev S8x256x4x64 : Shape := ⟨4, ![8, 256, 4, 64]⟩
abbrev S8x4x256x64 : Shape := ⟨4, ![8, 4, 256, 64]⟩
abbrev S8x256x4x128 : Shape := ⟨4, ![8, 256, 4, 128]⟩
abbrev S8x4x256x128 : Shape := ⟨4, ![8, 4, 256, 128]⟩
abbrev S1x4 : Shape := ⟨2, ![1, 4]⟩
abbrev S4 : Shape := ⟨1, ![4]⟩
abbrev S256 : Shape := ⟨1, ![256]⟩
abbrev S1x256 : Shape := ⟨2, ![1, 256]⟩
abbrev S4x1 : Shape := ⟨2, ![4, 1]⟩
abbrev S4x256 : Shape := ⟨2, ![4, 256]⟩
abbrev S1x4x256x1 : Shape := ⟨4, ![1, 4, 256, 1]⟩
abbrev S8x4x64x128 : Shape := ⟨4, ![8, 4, 64, 128]⟩
abbrev S8x4x16x128x64 : Shape := ⟨5, ![8, 4, 16, 128, 64]⟩
abbrev S8x4x16x128x128 : Shape := ⟨5, ![8, 4, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x128 : Shape := ⟨2, ![4, 128]⟩
abbrev S1x4x1x128x1 : Shape := ⟨5, ![1, 4, 1, 128, 1]⟩
abbrev S8x4x16x64x128 : Shape := ⟨5, ![8, 4, 16, 64, 128]⟩
abbrev S1x4x1x1 : Shape := ⟨4, ![1, 4, 1, 1]⟩
abbrev S8x4x1x64x128 : Shape := ⟨5, ![8, 4, 1, 64, 128]⟩
abbrev S8x4x2048 : Shape := ⟨3, ![8, 4, 2048]⟩
abbrev S8x4x2048x1 : Shape := ⟨4, ![8, 4, 2048, 1]⟩
abbrev S4x1x128 : Shape := ⟨3, ![4, 1, 128]⟩
abbrev S1x4x1x128 : Shape := ⟨4, ![1, 4, 1, 128]⟩

abbrev nBuf : Space → Nat
  | .hbm => 430
  | .vmem => 0
  | .smem => 0
  | _ => 0

abbrev hbmTy0_0 (i : Nat) : BufTy := match i % 128 with
  | 0 => ⟨S8x2048x256, .bf16⟩
  | 1 => ⟨S8x2048x256, .bf16⟩
  | 2 => ⟨S8x2048x512, .bf16⟩
  | 3 => ⟨S8x2048x512, .f32⟩
  | 4 => ⟨S8x256x256, .bf16⟩
  | 5 => ⟨S8x256x512, .bf16⟩
  | 6 => ⟨S1x2x4, .f32⟩
  | 7 => ⟨S1x4x128, .f32⟩
  | 8 => ⟨S8x2048x256, .f32⟩
  | 9 => ⟨S8x2048x256, .f32⟩
  | 10 => ⟨S8x2048x512, .f32⟩
  | 11 => ⟨S8x256x256, .f32⟩
  | 12 => ⟨S8x256x512, .f32⟩
  | 13 => ⟨S2x4, .f32⟩
  | 14 => ⟨S2x4, .f32⟩
  | 15 => ⟨S_, .f32⟩
  | 16 => ⟨S2x4, .f32⟩
  | 17 => ⟨S2x4, .f32⟩
  | 18 => ⟨S2x4, .f32⟩
  | 19 => ⟨S2x4, .f32⟩
  | 20 => ⟨S2x4, .i1⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S2x4, .f32⟩
  | 29 => ⟨S2x4, .f32⟩
  | 30 => ⟨S8x2048x4x64, .f32⟩
  | 31 => ⟨S8x4x2048x64, .f32⟩
  | 32 => ⟨S8x2048x4x64, .f32⟩
  | 33 => ⟨S8x4x2048x64, .f32⟩
  | 34 => ⟨S8x2048x4x128, .f32⟩
  | 35 => ⟨S8x4x2048x128, .f32⟩
  | 36 => ⟨S8x256x4x64, .f32⟩
  | 37 => ⟨S8x4x256x64, .f32⟩
  | 38 => ⟨S8x256x4x128, .f32⟩
  | 39 => ⟨S8x4x256x128, .f32⟩
  | 40 => ⟨S1x4, .f32⟩
  | 41 => ⟨S4, .f32⟩
  | 42 => ⟨S1x4, .f32⟩
  | 43 => ⟨S4, .f32⟩
  | 44 => ⟨S256, .i32⟩
  | 45 => ⟨S_, .i32⟩
  | 46 => ⟨S256, .i32⟩
  | 47 => ⟨S256, .i32⟩
  | 48 => ⟨S256, .f32⟩
  | 49 => ⟨S1x256, .f32⟩
  | 50 => ⟨S4x1, .f32⟩
  | 51 => ⟨S4x256, .f32⟩
  | 52 => ⟨S4x256, .f32⟩
  | 53 => ⟨S4x256, .f32⟩
  | 54 => ⟨S4x256, .f32⟩
  | 55 => ⟨S1x4x256x1, .f32⟩
  | 56 => ⟨S8x4x256x64, .f32⟩
  | 57 => ⟨S8x4x256x64, .f32⟩
  | 58 => ⟨S8x4x64x128, .f32⟩
  | 59 => ⟨S8x4x16x128x64, .f32⟩
  | 60 => ⟨S8x4x16x128x64, .f32⟩
  | 61 => ⟨S8x4x16x128x128, .f32⟩
  | 62 => ⟨S128, .f32⟩
  | 63 => ⟨S128x1, .f32⟩
  | 64 => ⟨S1x128, .f32⟩
  | 65 => ⟨S128x128, .f32⟩
  | 66 => ⟨S128x128, .f32⟩
  | 67 => ⟨S128x128, .f32⟩
  | 68 => ⟨S_, .f32⟩
  | 69 => ⟨S128x128, .f32⟩
  | 70 => ⟨S128x128, .i1⟩
  | 71 => ⟨S4x1x1, .f32⟩
  | 72 => ⟨S_, .f32⟩
  | 73 => ⟨S_, .f32⟩
  | 74 => ⟨S128x128, .f32⟩
  | 75 => ⟨S128x128, .f32⟩
  | 76 => ⟨S1x128x128, .f32⟩
  | 77 => ⟨S4x128x128, .f32⟩
  | 78 => ⟨S4x128x128, .f32⟩
  | 79 => ⟨S4x128x128, .f32⟩
  | 80 => ⟨S4x128x128, .f32⟩
  | 81 => ⟨S_, .f32⟩
  | 82 => ⟨S_, .f32⟩
  | 83 => ⟨S4x128x128, .i1⟩
  | 84 => ⟨S4x128x128, .f32⟩
  | 85 => ⟨S4x128x128, .f32⟩
  | 86 => ⟨S8x4x16x128x128, .f32⟩
  | 87 => ⟨S1x4x1x128x128, .f32⟩
  | 88 => ⟨S8x4x16x128x128, .f32⟩
  | 89 => ⟨S8x4x16x128x128, .f32⟩
  | 90 => ⟨S8x4x16x128x128, .f32⟩
  | 91 => ⟨S_, .f32⟩
  | 92 => ⟨S128, .f32⟩
  | 93 => ⟨S128, .f32⟩
  | 94 => ⟨S1x128, .f32⟩
  | 95 => ⟨S4x1, .f32⟩
  | 96 => ⟨S4x128, .f32⟩
  | 97 => ⟨S4x128, .f32⟩
  | 98 => ⟨S4x128, .f32⟩
  | 99 => ⟨S4x128, .f32⟩
  | 100 => ⟨S1x4x1x128x1, .f32⟩
  | 101 => ⟨S8x4x16x128x64, .f32⟩
  | 102 => ⟨S8x4x16x128x64, .f32⟩
  | 103 => ⟨S8x4x16x64x128, .f32⟩
  | 104 => ⟨S_, .f32⟩
  | 105 => ⟨S4, .f32⟩
  | 106 => ⟨S4, .f32⟩
  | 107 => ⟨S4, .f32⟩
  | 108 => ⟨S1x4x1x1, .f32⟩
  | 109 => ⟨S8x4x64x128, .f32⟩
  | 110 => ⟨S8x4x64x128, .f32⟩
  | 111 => ⟨S8x4x1x64x128, .f32⟩
  | 112 => ⟨S8x4x64x128, .f32⟩
  | 113 => ⟨S8x4x64x128, .f32⟩
  | 114 => ⟨S8x4x64x128, .f32⟩
  | 115 => ⟨S8x4x64x128, .f32⟩
  | 116 => ⟨S8x4x1x64x128, .f32⟩
  | 117 => ⟨S8x4x64x128, .f32⟩
  | 118 => ⟨S8x4x64x128, .f32⟩
  | 119 => ⟨S8x4x64x128, .f32⟩
  | 120 => ⟨S8x4x64x128, .f32⟩
  | 121 => ⟨S8x4x1x64x128, .f32⟩
  | 122 => ⟨S8x4x64x128, .f32⟩
  | 123 => ⟨S8x4x64x128, .f32⟩
  | 124 => ⟨S8x4x64x128, .f32⟩
  | 125 => ⟨S8x4x64x128, .f32⟩
  | 126 => ⟨S8x4x1x64x128, .f32⟩
  | 127 => ⟨S8x4x64x128, .f32⟩
  | _ => ⟨S8x2048x256, .bf16⟩

abbrev hbmTy0_1 (i : Nat) : BufTy := match i % 128 with
  | 0 => ⟨S8x4x64x128, .f32⟩
  | 1 => ⟨S8x4x64x128, .f32⟩
  | 2 => ⟨S8x4x64x128, .f32⟩
  | 3 => ⟨S8x4x1x64x128, .f32⟩
  | 4 => ⟨S8x4x64x128, .f32⟩
  | 5 => ⟨S8x4x64x128, .f32⟩
  | 6 => ⟨S8x4x64x128, .f32⟩
  | 7 => ⟨S8x4x64x128, .f32⟩
  | 8 => ⟨S8x4x1x64x128, .f32⟩
  | 9 => ⟨S8x4x64x128, .f32⟩
  | 10 => ⟨S8x4x64x128, .f32⟩
  | 11 => ⟨S8x4x64x128, .f32⟩
  | 12 => ⟨S8x4x64x128, .f32⟩
  | 13 => ⟨S8x4x1x64x128, .f32⟩
  | 14 => ⟨S8x4x64x128, .f32⟩
  | 15 => ⟨S8x4x64x128, .f32⟩
  | 16 => ⟨S8x4x64x128, .f32⟩
  | 17 => ⟨S8x4x64x128, .f32⟩
  | 18 => ⟨S8x4x1x64x128, .f32⟩
  | 19 => ⟨S8x4x64x128, .f32⟩
  | 20 => ⟨S8x4x64x128, .f32⟩
  | 21 => ⟨S8x4x64x128, .f32⟩
  | 22 => ⟨S8x4x64x128, .f32⟩
  | 23 => ⟨S8x4x1x64x128, .f32⟩
  | 24 => ⟨S8x4x64x128, .f32⟩
  | 25 => ⟨S8x4x64x128, .f32⟩
  | 26 => ⟨S8x4x64x128, .f32⟩
  | 27 => ⟨S8x4x64x128, .f32⟩
  | 28 => ⟨S8x4x1x64x128, .f32⟩
  | 29 => ⟨S8x4x64x128, .f32⟩
  | 30 => ⟨S8x4x64x128, .f32⟩
  | 31 => ⟨S8x4x64x128, .f32⟩
  | 32 => ⟨S8x4x64x128, .f32⟩
  | 33 => ⟨S8x4x1x64x128, .f32⟩
  | 34 => ⟨S8x4x64x128, .f32⟩
  | 35 => ⟨S8x4x64x128, .f32⟩
  | 36 => ⟨S8x4x64x128, .f32⟩
  | 37 => ⟨S8x4x64x128, .f32⟩
  | 38 => ⟨S8x4x1x64x128, .f32⟩
  | 39 => ⟨S8x4x64x128, .f32⟩
  | 40 => ⟨S8x4x64x128, .f32⟩
  | 41 => ⟨S8x4x64x128, .f32⟩
  | 42 => ⟨S8x4x64x128, .f32⟩
  | 43 => ⟨S8x4x1x64x128, .f32⟩
  | 44 => ⟨S8x4x64x128, .f32⟩
  | 45 => ⟨S8x4x64x128, .f32⟩
  | 46 => ⟨S8x4x64x128, .f32⟩
  | 47 => ⟨S8x4x64x128, .f32⟩
  | 48 => ⟨S8x4x1x64x128, .f32⟩
  | 49 => ⟨S8x4x64x128, .f32⟩
  | 50 => ⟨S8x4x64x128, .f32⟩
  | 51 => ⟨S8x4x64x128, .f32⟩
  | 52 => ⟨S8x4x64x128, .f32⟩
  | 53 => ⟨S8x4x1x64x128, .f32⟩
  | 54 => ⟨S8x4x64x128, .f32⟩
  | 55 => ⟨S8x4x64x128, .f32⟩
  | 56 => ⟨S8x4x1x64x128, .f32⟩
  | 57 => ⟨S8x4x1x64x128, .f32⟩
  | 58 => ⟨S8x4x1x64x128, .f32⟩
  | 59 => ⟨S8x4x1x64x128, .f32⟩
  | 60 => ⟨S8x4x1x64x128, .f32⟩
  | 61 => ⟨S8x4x1x64x128, .f32⟩
  | 62 => ⟨S8x4x1x64x128, .f32⟩
  | 63 => ⟨S8x4x1x64x128, .f32⟩
  | 64 => ⟨S8x4x1x64x128, .f32⟩
  | 65 => ⟨S8x4x1x64x128, .f32⟩
  | 66 => ⟨S8x4x1x64x128, .f32⟩
  | 67 => ⟨S8x4x1x64x128, .f32⟩
  | 68 => ⟨S8x4x1x64x128, .f32⟩
  | 69 => ⟨S8x4x1x64x128, .f32⟩
  | 70 => ⟨S8x4x1x64x128, .f32⟩
  | 71 => ⟨S8x4x1x64x128, .f32⟩
  | 72 => ⟨S8x4x16x64x128, .f32⟩
  | 73 => ⟨S_, .f32⟩
  | 74 => ⟨S128, .f32⟩
  | 75 => ⟨S128, .f32⟩
  | 76 => ⟨S1x128, .f32⟩
  | 77 => ⟨S4x1, .f32⟩
  | 78 => ⟨S4x128, .f32⟩
  | 79 => ⟨S4x128, .f32⟩
  | 80 => ⟨S4x128, .f32⟩
  | 81 => ⟨S4x128, .f32⟩
  | 82 => ⟨S1x4x1x128x1, .f32⟩
  | 83 => ⟨S8x4x16x128x64, .f32⟩
  | 84 => ⟨S8x4x16x128x64, .f32⟩
  | 85 => ⟨S8x4x16x128x128, .f32⟩
  | 86 => ⟨S8x4x16x128x128, .f32⟩
  | 87 => ⟨S8x4x2048x128, .f32⟩
  | 88 => ⟨S8x4x2048x64, .f32⟩
  | 89 => ⟨S8x4x2048x64, .f32⟩
  | 90 => ⟨S8x4x2048x128, .f32⟩
  | 91 => ⟨S1x4, .f32⟩
  | 92 => ⟨S4, .f32⟩
  | 93 => ⟨S8x4x256x64, .f32⟩
  | 94 => ⟨S8x4x256x128, .f32⟩
  | 95 => ⟨S1x4, .f32⟩
  | 96 => ⟨S4, .f32⟩
  | 97 => ⟨S256, .i32⟩
  | 98 => ⟨S_, .i32⟩
  | 99 => ⟨S256, .i32⟩
  | 100 => ⟨S256, .i32⟩
  | 101 => ⟨S256, .f32⟩
  | 102 => ⟨S1x256, .f32⟩
  | 103 => ⟨S4x1, .f32⟩
  | 104 => ⟨S4x256, .f32⟩
  | 105 => ⟨S4x256, .f32⟩
  | 106 => ⟨S4x256, .f32⟩
  | 107 => ⟨S4x256, .f32⟩
  | 108 => ⟨S1x4x256x1, .f32⟩
  | 109 => ⟨S8x4x256x64, .f32⟩
  | 110 => ⟨S8x4x256x64, .f32⟩
  | 111 => ⟨S8x4x64x128, .f32⟩
  | 112 => ⟨S8x4x16x128x64, .f32⟩
  | 113 => ⟨S8x4x16x128x64, .f32⟩
  | 114 => ⟨S8x4x16x128x128, .f32⟩
  | 115 => ⟨S128, .f32⟩
  | 116 => ⟨S128x1, .f32⟩
  | 117 => ⟨S1x128, .f32⟩
  | 118 => ⟨S128x128, .f32⟩
  | 119 => ⟨S128x128, .f32⟩
  | 120 => ⟨S128x128, .f32⟩
  | 121 => ⟨S_, .f32⟩
  | 122 => ⟨S128x128, .f32⟩
  | 123 => ⟨S128x128, .i1⟩
  | 124 => ⟨S4x1x1, .f32⟩
  | 125 => ⟨S_, .f32⟩
  | 126 => ⟨S_, .f32⟩
  | 127 => ⟨S128x128, .f32⟩
  | _ => ⟨S8x2048x256, .bf16⟩

abbrev hbmTy0_2 (i : Nat) : BufTy := match i % 128 with
  | 0 => ⟨S128x128, .f32⟩
  | 1 => ⟨S1x128x128, .f32⟩
  | 2 => ⟨S4x128x128, .f32⟩
  | 3 => ⟨S4x128x128, .f32⟩
  | 4 => ⟨S4x128x128, .f32⟩
  | 5 => ⟨S4x128x128, .f32⟩
  | 6 => ⟨S_, .f32⟩
  | 7 => ⟨S_, .f32⟩
  | 8 => ⟨S4x128x128, .i1⟩
  | 9 => ⟨S4x128x128, .f32⟩
  | 10 => ⟨S4x128x128, .f32⟩
  | 11 => ⟨S8x4x16x128x128, .f32⟩
  | 12 => ⟨S1x4x1x128x128, .f32⟩
  | 13 => ⟨S8x4x16x128x128, .f32⟩
  | 14 => ⟨S8x4x16x128x128, .f32⟩
  | 15 => ⟨S8x4x16x128x128, .f32⟩
  | 16 => ⟨S_, .f32⟩
  | 17 => ⟨S128, .f32⟩
  | 18 => ⟨S128, .f32⟩
  | 19 => ⟨S1x128, .f32⟩
  | 20 => ⟨S4x1, .f32⟩
  | 21 => ⟨S4x128, .f32⟩
  | 22 => ⟨S4x128, .f32⟩
  | 23 => ⟨S4x128, .f32⟩
  | 24 => ⟨S4x128, .f32⟩
  | 25 => ⟨S1x4x1x128x1, .f32⟩
  | 26 => ⟨S8x4x16x128x64, .f32⟩
  | 27 => ⟨S8x4x16x128x64, .f32⟩
  | 28 => ⟨S8x4x16x64x128, .f32⟩
  | 29 => ⟨S_, .f32⟩
  | 30 => ⟨S4, .f32⟩
  | 31 => ⟨S4, .f32⟩
  | 32 => ⟨S4, .f32⟩
  | 33 => ⟨S1x4x1x1, .f32⟩
  | 34 => ⟨S8x4x64x128, .f32⟩
  | 35 => ⟨S8x4x64x128, .f32⟩
  | 36 => ⟨S8x4x1x64x128, .f32⟩
  | 37 => ⟨S8x4x64x128, .f32⟩
  | 38 => ⟨S8x4x64x128, .f32⟩
  | 39 => ⟨S8x4x64x128, .f32⟩
  | 40 => ⟨S8x4x64x128, .f32⟩
  | 41 => ⟨S8x4x1x64x128, .f32⟩
  | 42 => ⟨S8x4x64x128, .f32⟩
  | 43 => ⟨S8x4x64x128, .f32⟩
  | 44 => ⟨S8x4x64x128, .f32⟩
  | 45 => ⟨S8x4x64x128, .f32⟩
  | 46 => ⟨S8x4x1x64x128, .f32⟩
  | 47 => ⟨S8x4x64x128, .f32⟩
  | 48 => ⟨S8x4x64x128, .f32⟩
  | 49 => ⟨S8x4x64x128, .f32⟩
  | 50 => ⟨S8x4x64x128, .f32⟩
  | 51 => ⟨S8x4x1x64x128, .f32⟩
  | 52 => ⟨S8x4x64x128, .f32⟩
  | 53 => ⟨S8x4x64x128, .f32⟩
  | 54 => ⟨S8x4x64x128, .f32⟩
  | 55 => ⟨S8x4x64x128, .f32⟩
  | 56 => ⟨S8x4x1x64x128, .f32⟩
  | 57 => ⟨S8x4x64x128, .f32⟩
  | 58 => ⟨S8x4x64x128, .f32⟩
  | 59 => ⟨S8x4x64x128, .f32⟩
  | 60 => ⟨S8x4x64x128, .f32⟩
  | 61 => ⟨S8x4x1x64x128, .f32⟩
  | 62 => ⟨S8x4x64x128, .f32⟩
  | 63 => ⟨S8x4x64x128, .f32⟩
  | 64 => ⟨S8x4x64x128, .f32⟩
  | 65 => ⟨S8x4x64x128, .f32⟩
  | 66 => ⟨S8x4x1x64x128, .f32⟩
  | 67 => ⟨S8x4x64x128, .f32⟩
  | 68 => ⟨S8x4x64x128, .f32⟩
  | 69 => ⟨S8x4x64x128, .f32⟩
  | 70 => ⟨S8x4x64x128, .f32⟩
  | 71 => ⟨S8x4x1x64x128, .f32⟩
  | 72 => ⟨S8x4x64x128, .f32⟩
  | 73 => ⟨S8x4x64x128, .f32⟩
  | 74 => ⟨S8x4x64x128, .f32⟩
  | 75 => ⟨S8x4x64x128, .f32⟩
  | 76 => ⟨S8x4x1x64x128, .f32⟩
  | 77 => ⟨S8x4x64x128, .f32⟩
  | 78 => ⟨S8x4x64x128, .f32⟩
  | 79 => ⟨S8x4x64x128, .f32⟩
  | 80 => ⟨S8x4x64x128, .f32⟩
  | 81 => ⟨S8x4x1x64x128, .f32⟩
  | 82 => ⟨S8x4x64x128, .f32⟩
  | 83 => ⟨S8x4x64x128, .f32⟩
  | 84 => ⟨S8x4x64x128, .f32⟩
  | 85 => ⟨S8x4x64x128, .f32⟩
  | 86 => ⟨S8x4x1x64x128, .f32⟩
  | 87 => ⟨S8x4x64x128, .f32⟩
  | 88 => ⟨S8x4x64x128, .f32⟩
  | 89 => ⟨S8x4x64x128, .f32⟩
  | 90 => ⟨S8x4x64x128, .f32⟩
  | 91 => ⟨S8x4x1x64x128, .f32⟩
  | 92 => ⟨S8x4x64x128, .f32⟩
  | 93 => ⟨S8x4x64x128, .f32⟩
  | 94 => ⟨S8x4x64x128, .f32⟩
  | 95 => ⟨S8x4x64x128, .f32⟩
  | 96 => ⟨S8x4x1x64x128, .f32⟩
  | 97 => ⟨S8x4x64x128, .f32⟩
  | 98 => ⟨S8x4x64x128, .f32⟩
  | 99 => ⟨S8x4x64x128, .f32⟩
  | 100 => ⟨S8x4x64x128, .f32⟩
  | 101 => ⟨S8x4x1x64x128, .f32⟩
  | 102 => ⟨S8x4x64x128, .f32⟩
  | 103 => ⟨S8x4x64x128, .f32⟩
  | 104 => ⟨S8x4x64x128, .f32⟩
  | 105 => ⟨S8x4x64x128, .f32⟩
  | 106 => ⟨S8x4x1x64x128, .f32⟩
  | 107 => ⟨S8x4x64x128, .f32⟩
  | 108 => ⟨S8x4x64x128, .f32⟩
  | 109 => ⟨S8x4x1x64x128, .f32⟩
  | 110 => ⟨S8x4x1x64x128, .f32⟩
  | 111 => ⟨S8x4x1x64x128, .f32⟩
  | 112 => ⟨S8x4x1x64x128, .f32⟩
  | 113 => ⟨S8x4x1x64x128, .f32⟩
  | 114 => ⟨S8x4x1x64x128, .f32⟩
  | 115 => ⟨S8x4x1x64x128, .f32⟩
  | 116 => ⟨S8x4x1x64x128, .f32⟩
  | 117 => ⟨S8x4x1x64x128, .f32⟩
  | 118 => ⟨S8x4x1x64x128, .f32⟩
  | 119 => ⟨S8x4x1x64x128, .f32⟩
  | 120 => ⟨S8x4x1x64x128, .f32⟩
  | 121 => ⟨S8x4x1x64x128, .f32⟩
  | 122 => ⟨S8x4x1x64x128, .f32⟩
  | 123 => ⟨S8x4x1x64x128, .f32⟩
  | 124 => ⟨S8x4x1x64x128, .f32⟩
  | 125 => ⟨S8x4x16x64x128, .f32⟩
  | 126 => ⟨S_, .f32⟩
  | 127 => ⟨S128, .f32⟩
  | _ => ⟨S8x2048x256, .bf16⟩

abbrev hbmTy0_3 (i : Nat) : BufTy := match i % 128 with
  | 0 => ⟨S128, .f32⟩
  | 1 => ⟨S1x128, .f32⟩
  | 2 => ⟨S4x1, .f32⟩
  | 3 => ⟨S4x128, .f32⟩
  | 4 => ⟨S4x128, .f32⟩
  | 5 => ⟨S4x128, .f32⟩
  | 6 => ⟨S4x128, .f32⟩
  | 7 => ⟨S1x4x1x128x1, .f32⟩
  | 8 => ⟨S8x4x16x128x64, .f32⟩
  | 9 => ⟨S8x4x16x128x64, .f32⟩
  | 10 => ⟨S8x4x16x128x128, .f32⟩
  | 11 => ⟨S8x4x16x128x128, .f32⟩
  | 12 => ⟨S8x4x2048x128, .f32⟩
  | 13 => ⟨S8x4x2048x128, .f32⟩
  | 14 => ⟨S8x4x2048x128, .f32⟩
  | 15 => ⟨S8x4x2048x128, .f32⟩
  | 16 => ⟨S_, .f32⟩
  | 17 => ⟨S8x4x2048, .f32⟩
  | 18 => ⟨S8x4x2048x1, .f32⟩
  | 19 => ⟨S_, .f32⟩
  | 20 => ⟨S8x4x2048x1, .f32⟩
  | 21 => ⟨S8x4x2048x1, .f32⟩
  | 22 => ⟨S_, .f32⟩
  | 23 => ⟨S8x4x2048x1, .f32⟩
  | 24 => ⟨S8x4x2048x1, .f32⟩
  | 25 => ⟨S8x4x2048x1, .f32⟩
  | 26 => ⟨S8x4x2048x128, .f32⟩
  | 27 => ⟨S8x4x2048x128, .f32⟩
  | 28 => ⟨S4x128, .f32⟩
  | 29 => ⟨S4x1x128, .f32⟩
  | 30 => ⟨S1x4x1x128, .f32⟩
  | 31 => ⟨S8x4x2048x128, .f32⟩
  | 32 => ⟨S8x4x2048x128, .f32⟩
  | 33 => ⟨S8x2048x4x128, .f32⟩
  | 34 => ⟨S8x2048x512, .f32⟩
  | 35 => ⟨S8x2048x512, .f32⟩
  | 36 => ⟨S8x2048x512, .f32⟩
  | 37 => ⟨S_, .f32⟩
  | 38 => ⟨S8x2048x512, .f32⟩
  | 39 => ⟨S8x2048x512, .f32⟩
  | 40 => ⟨S_, .f32⟩
  | 41 => ⟨S8x2048x512, .f32⟩
  | 42 => ⟨S8x2048x512, .f32⟩
  | 43 => ⟨S8x2048x512, .f32⟩
  | 44 => ⟨S8x2048x512, .f32⟩
  | 45 => ⟨S8x2048x512, .bf16⟩
  | _ => ⟨S8x2048x256, .bf16⟩

abbrev hbmTy (i : Nat) : BufTy := match i / 128 with
  | 0 => hbmTy0_0 i
  | 1 => hbmTy0_1 i
  | 2 => hbmTy0_2 i
  | 3 => hbmTy0_3 i
  | _ => ⟨S8x2048x256, .bf16⟩

abbrev bufTy : (tb : Table) → Fin (tcTables nBuf tb) → BufTy
  | .hbm, ⟨i, _⟩ => hbmTy i
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_0 : Ref sig .tc := ⟨.hbm, 72, rfl⟩
abbrev main_call1_v0 : Ref sig .tc := ⟨.hbm, 73, rfl⟩
abbrev main_call1_v1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_1 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_2 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_3 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_4 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_c_5 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_cst_6 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_cst_7 : Ref sig .tc := ⟨.hbm, 253, rfl⟩
abbrev main_call8_v0 : Ref sig .tc := ⟨.hbm, 254, rfl⟩
abbrev main_call8_v1 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_cst_8 : Ref sig .tc := ⟨.hbm, 262, rfl⟩
abbrev main_call9_v0 : Ref sig .tc := ⟨.hbm, 263, rfl⟩
abbrev main_call9_v1 : Ref sig .tc := ⟨.hbm, 264, rfl⟩
abbrev main_call9_v2 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_cst_9 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_cst_10 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_cst_11 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_v352 : Ref sig .tc := ⟨.hbm, 399, rfl⟩
abbrev main_cst_12 : Ref sig .tc := ⟨.hbm, 400, rfl⟩
abbrev main_v353 : Ref sig .tc := ⟨.hbm, 401, rfl⟩
abbrev main_v354 : Ref sig .tc := ⟨.hbm, 402, rfl⟩
abbrev main_cst_13 : Ref sig .tc := ⟨.hbm, 403, rfl⟩
abbrev main_v355 : Ref sig .tc := ⟨.hbm, 404, rfl⟩
abbrev main_v356 : Ref sig .tc := ⟨.hbm, 405, rfl⟩
abbrev main_cst_14 : Ref sig .tc := ⟨.hbm, 406, rfl⟩
abbrev main_v357 : Ref sig .tc := ⟨.hbm, 407, rfl⟩
abbrev main_v358 : Ref sig .tc := ⟨.hbm, 408, rfl⟩
abbrev main_v359 : Ref sig .tc := ⟨.hbm, 409, rfl⟩
abbrev main_v360 : Ref sig .tc := ⟨.hbm, 410, rfl⟩
abbrev main_v361 : Ref sig .tc := ⟨.hbm, 411, rfl⟩
abbrev main_v362 : Ref sig .tc := ⟨.hbm, 412, rfl⟩
abbrev main_v363 : Ref sig .tc := ⟨.hbm, 413, rfl⟩
abbrev main_v364 : Ref sig .tc := ⟨.hbm, 414, rfl⟩
abbrev main_v365 : Ref sig .tc := ⟨.hbm, 415, rfl⟩
abbrev main_v366 : Ref sig .tc := ⟨.hbm, 416, rfl⟩
abbrev main_v367 : Ref sig .tc := ⟨.hbm, 417, rfl⟩
abbrev main_v368 : Ref sig .tc := ⟨.hbm, 418, rfl⟩
abbrev main_call11_v0 : Ref sig .tc := ⟨.hbm, 419, rfl⟩
abbrev main_call11_v1 : Ref sig .tc := ⟨.hbm, 420, rfl⟩
abbrev main_call11_cst : Ref sig .tc := ⟨.hbm, 421, rfl⟩
abbrev main_call11_v2 : Ref sig .tc := ⟨.hbm, 422, rfl⟩
abbrev main_call11_v3 : Ref sig .tc := ⟨.hbm, 423, rfl⟩
abbrev main_call11_cst_0 : Ref sig .tc := ⟨.hbm, 424, rfl⟩
abbrev main_call11_v4 : Ref sig .tc := ⟨.hbm, 425, rfl⟩
abbrev main_call11_v5 : Ref sig .tc := ⟨.hbm, 426, rfl⟩
abbrev main_v369 : Ref sig .tc := ⟨.hbm, 427, rfl⟩
abbrev main_v370 : Ref sig .tc := ⟨.hbm, 428, rfl⟩
abbrev main_v371 : Ref sig .tc := ⟨.hbm, 429, rfl⟩

abbrev nD : Nat := 1
abbrev τ : Topo := Topo.v7x

variable {F : FTy → Type} [FloatOps F]
-- ==== Proof.Softmax.lean ====
/- The real arithmetic of one row of the attention: scores kept as powers of two, joined from two groups of keys with
   running maxima, against the softmax of all the keys at once. Nothing here mentions a program. -/
module

public import Idealize.ShloMosaic.PureOps.Ideal
public import Idealize.ShloMosaic.PureOps.IdealRules
public import Idealize.ShloMosaic.Lib.Pointwise

@[expose] public section

noncomputable section

namespace Cert.DiffAttn

open Idealize.ShloMosaic

/-! ## Finite values -/

/-- A sum of finite values is the finite value of the real sum. -/
theorem coe_sum {ι : Type*} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A sum of products of finite values is the finite value of the real sum of products. -/
theorem coe_dot {ι : Type*} [Fintype ι] (f g : ι → ℝ) :
    (∑ i, ((f i : ℝ) : EReal) * ((g i : ℝ) : EReal)) = ((∑ i, f i * g i : ℝ) : EReal) := by
  rw [← coe_sum]; exact Finset.sum_congr rfl fun i _ => (EReal.coe_mul _ _).symm

/-- The maximum of finitely many finite values, at least one, taken from minus infinity, is finite. -/
theorem fold_max_coe {n : ℕ} (f : Fin (n + 1) → ℝ) :
    ∃ M : ℝ, (Finset.univ : Finset (Fin (n + 1))).fold max (⊥ : EReal) (fun k => ((f k : ℝ) : EReal)) = (M : EReal) := by
  have h1 : (Finset.univ : Finset (Fin (n + 1))).fold max (⊥ : EReal) (fun k => ((f k : ℝ) : EReal)) ≠ ⊥ := by
    have : ((f 0 : ℝ) : EReal) ≤ (Finset.univ : Finset (Fin (n + 1))).fold max (⊥ : EReal) (fun k => ((f k : ℝ) : EReal)) :=
      (Finset.le_fold_max _).2 (Or.inr ⟨0, Finset.mem_univ _, le_refl _⟩)
    intro h; rw [h] at this; exact absurd (le_bot_iff.1 this) (EReal.coe_ne_bot _)
  have h2 : (Finset.univ : Finset (Fin (n + 1))).fold max (⊥ : EReal) (fun k => ((f k : ℝ) : EReal)) ≠ ⊤ := by
    have : (Finset.univ : Finset (Fin (n + 1))).fold max (⊥ : EReal) (fun k => ((f k : ℝ) : EReal)) < ⊤ :=
      (Finset.fold_max_lt _).2 ⟨bot_lt_top, fun x _ => EReal.coe_lt_top _⟩
    exact this.ne
  exact ⟨_, (EReal.coe_toReal h2 h1).symm⟩

/-- The larger of two finite values is finite. -/
theorem max_coe (a b : ℝ) : max (a : EReal) (b : EReal) = ((max a b : ℝ) : EReal) := (EReal.coe_strictMono.monotone.map_max).symm

/-- The quotient of two finite values, the divisor not zero. -/
theorem div_coe_coe (a : ℝ) {b : ℝ} (h : b ≠ 0) : Ideal.div (a : EReal) (b : EReal) = ((a / b : ℝ) : EReal) := by
  rw [Ideal.div_coe h, ← EReal.coe_mul, mul_one_div]

/-! ## Powers of two -/

/-- `2 ^ x` at a real exponent. -/
def p2 (x : ℝ) : ℝ := Real.rpow 2 x

theorem p2_pos (x : ℝ) : 0 < p2 x := Real.rpow_pos_of_pos (by norm_num) x

theorem p2_sub (x m : ℝ) : p2 (x - m) = p2 x / p2 m := Real.rpow_sub (by norm_num) x m

/-- The base-two exponential of a finite value. -/
theorem exp2_coe' (x : ℝ) : Ideal.exp2 (x : EReal) = ((p2 x : ℝ) : EReal) := Ideal.exp2_coe x

/-- `exp (x · log 2)` is `2 ^ x`. -/
theorem exp_mul_log_two (x : ℝ) : Real.exp (x * Real.log 2) = p2 x := by
  unfold p2; show _ = (2 : ℝ) ^ x
  rw [Real.rpow_def_of_pos (by norm_num), mul_comm]

/-- A sum of powers of two over an inhabited range is positive. -/
theorem sum_p2_pos {n : ℕ} (s : Fin (n + 1) → ℝ) : 0 < ∑ k, p2 (s k) :=
  Finset.sum_pos (fun k _ => p2_pos _) ⟨0, Finset.mem_univ _⟩

/-! ## One row -/

/-- One row of the attention with two groups of keys, scores `s` and `t`, values `u` and `v`: the weighted mean of the values
    with weights `2 ^ score`. -/
def attend {a b : ℕ} (s u : Fin a → ℝ) (t v : Fin b → ℝ) : ℝ :=
  ((∑ k, p2 (s k) * u k) + ∑ k, p2 (t k) * v k) / ((∑ k, p2 (s k)) + ∑ k, p2 (t k))

/-- The kernel's row: the first group's weights taken from its own maximum `m`, rescaled by `2 ^ (m - M)` when the second
    group's are taken from the joint maximum `M`. Whatever `m` and `M` are, the quotient is the weighted mean. -/
theorem rescaled_row {a b : ℕ} (s u : Fin a → ℝ) (t v : Fin (b + 1) → ℝ) (m M : ℝ) :
    (p2 (m - M) * (∑ k, p2 (s k - m) * u k) + ∑ k, p2 (t k - M) * v k)
        / (p2 (m - M) * (∑ k, p2 (s k - m)) + ∑ k, p2 (t k - M)) = attend s u t v := by
  have hm := (p2_pos m).ne'
  have hM := (p2_pos M).ne'
  have e1 : ∀ x : ℝ, p2 (m - M) * p2 (x - m) = p2 x / p2 M := fun x => by
    rw [p2_sub, p2_sub]; field_simp
  have h1 : p2 (m - M) * (∑ k, p2 (s k - m) * u k) = (∑ k, p2 (s k) * u k) / p2 M := by
    rw [Finset.mul_sum, Finset.sum_div]
    refine Finset.sum_congr rfl fun k _ => ?_
    rw [← mul_assoc, e1]; ring
  have h2 : p2 (m - M) * (∑ k, p2 (s k - m)) = (∑ k, p2 (s k)) / p2 M := by
    rw [Finset.mul_sum, Finset.sum_div]
    exact Finset.sum_congr rfl fun k _ => e1 _
  have h3 : (∑ k, p2 (t k - M) * v k) = (∑ k, p2 (t k) * v k) / p2 M := by
    rw [Finset.sum_div]
    refine Finset.sum_congr rfl fun k _ => ?_
    rw [p2_sub]; ring
  have h4 : (∑ k, p2 (t k - M)) = (∑ k, p2 (t k)) / p2 M := by
    rw [Finset.sum_div]
    exact Finset.sum_congr rfl fun k _ => p2_sub _ _
  rw [h1, h2, h3, h4, ← add_div, ← add_div, div_div_div_cancel_right₀ hM]
  rfl

/-- The divisor of the kernel's row is positive. -/
theorem rescaled_pos {a b : ℕ} (s : Fin a → ℝ) (t : Fin (b + 1) → ℝ) (m M : ℝ) :
    0 < p2 (m - M) * (∑ k, p2 (s k - m)) + ∑ k, p2 (t k - M) :=
  add_pos_of_nonneg_of_pos (mul_nonneg (p2_pos _).le (Finset.sum_nonneg fun k _ => (p2_pos _).le)) (sum_p2_pos fun k => t k - M)

/-- The softmax weight of key `k` is the weighted mean's, whatever maximum is taken off. -/
theorem softmax_weight {n : ℕ} (s : Fin (n + 1) → ℝ) (M : ℝ) (k : Fin (n + 1)) :
    Real.exp (s k * Real.log 2 - M) / (∑ j, Real.exp (s j * Real.log 2 - M)) = p2 (s k) / ∑ j, p2 (s j) := by
  have e : ∀ j, Real.exp (s j * Real.log 2 - M) = p2 (s j) / Real.exp M := fun j => by
    rw [Real.exp_sub, exp_mul_log_two]
  simp only [e]
  rw [← Finset.sum_div, div_div_div_cancel_right₀ (Real.exp_pos M).ne']

/-- The softmax weights of all the keys, the second score's taken off `l` times the first's, against the values: the
    difference of the two weighted means. -/
theorem diff_row {n : ℕ} (s r v : Fin (n + 1) → ℝ) (l : ℝ) :
    (∑ k, (p2 (s k) / (∑ j, p2 (s j)) - l * (p2 (r k) / ∑ j, p2 (r j))) * v k)
      = (∑ k, p2 (s k) * v k) / (∑ j, p2 (s j)) - l * ((∑ k, p2 (r k) * v k) / ∑ j, p2 (r j)) := by
  rw [Finset.sum_div, Finset.sum_div, Finset.mul_sum, ← Finset.sum_sub_distrib]
  exact Finset.sum_congr rfl fun k _ => by ring

/-- The weighted mean over `a + b` keys, the first `a` of one group and the rest of the other, is the two groups'. -/
theorem attend_joined {a b : ℕ} (s v : Fin (a + b) → ℝ) :
    (∑ k, p2 (s k) * v k) / (∑ k, p2 (s k))
      = attend (fun k => s (Fin.castAdd b k)) (fun k => v (Fin.castAdd b k)) (fun k => s (Fin.natAdd a k)) (fun k => v (Fin.natAdd a k)) := by
  unfold attend
  rw [Fin.sum_univ_add, Fin.sum_univ_add]

/-- A dot product over 128 lanes whose left operand is zero in the upper half is one over 64. -/
theorem dot_lower (f g : Fin 128 → ℝ) :
    (∑ l : Fin 128, (if l.val < 64 then f l else 0) * g l)
      = ∑ d : Fin 64, f ⟨d.val, by omega⟩ * g ⟨d.val, by omega⟩ := by
  rw [show (∑ l : Fin 128, (if l.val < 64 then f l else 0) * g l) = ∑ l : Fin (64 + 64), (if l.val < 64 then f l else 0) * g l from rfl,
    Fin.sum_univ_add]
  have hz : (∑ i : Fin 64, (if (Fin.natAdd 64 i : Fin (64 + 64)).val < 64 then f (Fin.natAdd 64 i : Fin (64 + 64)) else 0) * g (Fin.natAdd 64 i : Fin (64 + 64))) = 0 :=
    Finset.sum_eq_zero fun i _ => by rw [if_neg (by simp), zero_mul]
  rw [hz, add_zero]
  refine Finset.sum_congr rfl fun i _ => ?_
  rw [if_pos (by simp)]; rfl

/-- A dot product over 128 lanes whose left operand is zero in the lower half is one over 64. -/
theorem dot_upper (f g : Fin 128 → ℝ) :
    (∑ l : Fin 128, (if l.val < 64 then 0 else f l) * g l)
      = ∑ d : Fin 64, f ⟨64 + d.val, by omega⟩ * g ⟨64 + d.val, by omega⟩ := by
  rw [show (∑ l : Fin 128, (if l.val < 64 then 0 else f l) * g l) = ∑ l : Fin (64 + 64), (if l.val < 64 then 0 else f l) * g l from rfl,
    Fin.sum_univ_add]
  have hz : (∑ i : Fin 64, (if (Fin.castAdd 64 i : Fin (64 + 64)).val < 64 then 0 else f (Fin.castAdd 64 i : Fin (64 + 64))) * g (Fin.castAdd 64 i : Fin (64 + 64))) = 0 :=
    Finset.sum_eq_zero fun i _ => by rw [if_pos (by simp), zero_mul]
  rw [hz, zero_add]
  refine Finset.sum_congr rfl fun i _ => ?_
  rw [if_neg (by simp)]; rfl

end Cert.DiffAttn

end
-- ==== Proof.Block.lean ====
/- One block of the kernel: what the body computes of one batch row's and one head's queries, keys and values, at an index,
   when they are finite. -/
module

public import proofs.«01_k».proof.Proof.Gen.KernelIdeal.Value
public import proofs.«01_k».proof.Proof.Softmax
public import Idealize.ShloMosaic.Lib.Pipeline.ValueKit

@[expose] public section

noncomputable section

namespace Cert.DiffAttn

open Idealize.ShloMosaic Cert.KernelIdeal Cert.KernelIdeal.Gen

/-- One sub-head's attention as the body computes it from the sub-head's queries (the other sub-head's lanes zero). -/
def sub (q : FVec Ideal S2048x128 .bf16) (ck cv : Vec Ideal S1x256x128 .bf16) (k v : Vec Ideal S1x2048x128 .bf16) : FVec Ideal S2048x128 .f32 :=
  k0_pay11 q (k0_pay13 q ck) (k0_pay14 q ck) (k0_pay15 q ck) cv k v

/-- Minus infinity's pattern is `⊥`. -/
theorem ofBits_neg_inf : Ideal.ofBits .f32 0xFF800000#32 = (⊥ : EReal) := by
  simp [Ideal.ofBits, Ideal.ieee]

/-- The base-two exponential at the extended reals. -/
theorem exp2_def {φ : FTy} (x : Ideal φ) : FloatOps.exp2 x = Ideal.exp2 x := rfl

section Sub
variable {q : FVec Ideal S2048x128 .bf16} {ck cv : Vec Ideal S1x256x128 .bf16} {k v : Vec Ideal S1x2048x128 .bf16}
variable {q' : Fin 2048 → Fin 128 → ℝ} {ck' cv' : Fin 256 → Fin 128 → ℝ} {k' v' : Fin 2048 → Fin 128 → ℝ}

/-- The scores against the first group of keys are the real dot products. -/
theorem pay12_apply (hq : ∀ i l, q (ix2 i l) = ((q' i l : ℝ) : EReal)) (hck : ∀ j l, ck (ix3 0 j l) = ((ck' j l : ℝ) : EReal))
    (i : Fin 2048) (j : Fin 256) : k0_pay12 q ck (ix2 i j) = ((∑ l, q' i l * ck' j l : ℝ) : EReal) := by
  rw [← coe_dot]
  pointwise [k0_pay12]
  simp only [hq, hck]

/-- Their maximum is finite. -/
theorem pay13_apply (hq : ∀ i l, q (ix2 i l) = ((q' i l : ℝ) : EReal)) (hck : ∀ j l, ck (ix3 0 j l) = ((ck' j l : ℝ) : EReal))
    (i : Fin 2048) : ∃ m : ℝ, k0_pay13 q ck (ix2 i 0) = (m : EReal) := by
  obtain ⟨m, hm⟩ := fold_max_coe fun j : Fin 256 => ∑ l, q' i l * ck' j l
  refine ⟨m, hm ▸ ?_⟩
  pointwise [k0_pay13]
  simp only [pay12_apply hq hck, ofBits_neg_inf]

/-- The first group's weights, from the maximum found, are powers of two. -/
theorem pay14_apply (hq : ∀ i l, q (ix2 i l) = ((q' i l : ℝ) : EReal)) (hck : ∀ j l, ck (ix3 0 j l) = ((ck' j l : ℝ) : EReal))
    (i : Fin 2048) (m : ℝ) (hm : k0_pay13 q ck (ix2 i 0) = (m : EReal)) (j : Fin 256) :
    k0_pay14 q ck (ix2 i j) = ((p2 ((∑ l, q' i l * ck' j l) - m) : ℝ) : EReal) := by
  rw [← exp2_coe', EReal.coe_sub, ← pay12_apply hq hck, ← hm]
  pointwise [k0_pay14]
  rfl

/-- The first group's weights, summed. -/
theorem pay15_apply (hq : ∀ i l, q (ix2 i l) = ((q' i l : ℝ) : EReal)) (hck : ∀ j l, ck (ix3 0 j l) = ((ck' j l : ℝ) : EReal))
    (i : Fin 2048) (m : ℝ) (hm : k0_pay13 q ck (ix2 i 0) = (m : EReal)) :
    k0_pay15 q ck (ix2 i 0) = ((∑ j, p2 ((∑ l, q' i l * ck' j l) - m) : ℝ) : EReal) := by
  rw [← coe_sum]
  pointwise [k0_pay15]
  simp only [pay14_apply hq hck i m hm]

/-- A sub-head's attention at a query and a value lane is the weighted mean of the values over both groups of keys. -/
theorem sub_apply (hq : ∀ i l, q (ix2 i l) = ((q' i l : ℝ) : EReal)) (hck : ∀ j l, ck (ix3 0 j l) = ((ck' j l : ℝ) : EReal))
    (hcv : ∀ j l, cv (ix3 0 j l) = ((cv' j l : ℝ) : EReal)) (hk : ∀ j l, k (ix3 0 j l) = ((k' j l : ℝ) : EReal))
    (hv : ∀ j l, v (ix3 0 j l) = ((v' j l : ℝ) : EReal)) (i : Fin 2048) (e : Fin 128) :
    sub q ck cv k v (ix2 i e)
      = ((attend (fun j => ∑ l, q' i l * ck' j l) (fun j => cv' j e) (fun j => ∑ l, q' i l * k' j l) (fun j => v' j e) : ℝ) : EReal) := by
  obtain ⟨m, hm⟩ := pay13_apply hq hck i
  obtain ⟨n, hn⟩ := fold_max_coe fun j : Fin 2048 => ∑ l, q' i l * k' j l
  have h14 := pay14_apply hq hck i m hm
  have h15 := pay15_apply hq hck i m hm
  rw [← rescaled_row _ _ _ _ m (max m n)]
  rw [← div_coe_coe _ (rescaled_pos _ _ m (max m n)).ne']
  unfold sub
  pointwise [k0_pay11]
  simp only [hm, h14, h15, hq, hk, hv, hcv, coe_dot, ofBits_neg_inf, exp2_def, hn, max_coe, ← EReal.coe_sub, exp2_coe', coe_sum, ← EReal.coe_mul, ← EReal.coe_add]

end Sub

/-! ## The masked queries and the weight of the second sub-head -/

/-- The lane mask: a lane's number compared with 64 as 32-bit words is the numbers' comparison. -/
theorem mask_word : ∀ l : Fin 128, IntOp.cmpi CmpIPredicate.slt (BitVec.ofNat 32 l.val) 64#32 = if l.val < 64 then 1#1 else 0#1 := by
  decide +kernel

theorem mask_select (l : Fin 128) (a b : EReal) :
    Scalar.select (IntOp.cmpi CmpIPredicate.slt (BitVec.ofNat 32 l.val) 64#32) a b = if l.val < 64 then a else b := by
  rw [mask_word]
  split <;> simp [Scalar.select]

/-- The first sub-head's queries: the upper half's lanes zero. -/
theorem pay4_apply {x : Vec Ideal S1x2048x128 .bf16} {q' : Fin 2048 → Fin 128 → ℝ} (hx : ∀ i l, x (ix3 0 i l) = ((q' i l : ℝ) : EReal))
    (i : Fin 2048) (l : Fin 128) : k0_pay4 x (ix2 i l) = (((if l.val < 64 then q' i l else 0) : ℝ) : EReal) := by
  have hl := l.isLt
  pointwise [k0_pay4, k0_pay3, k0_pay2]
  rw [mask_select]
  split
  · exact hx i l
  · rfl

/-- The second sub-head's queries: the lower half's lanes zero. -/
theorem pay5_apply {x : Vec Ideal S1x2048x128 .bf16} {q' : Fin 2048 → Fin 128 → ℝ} (hx : ∀ i l, x (ix3 0 i l) = ((q' i l : ℝ) : EReal))
    (i : Fin 2048) (l : Fin 128) : k0_pay5 x (ix2 i l) = (((if l.val < 64 then 0 else q' i l) : ℝ) : EReal) := by
  have hl := l.isLt
  pointwise [k0_pay5, k0_pay3, k0_pay2]
  rw [mask_select]
  split
  · rfl
  · exact hx i l

/-- The constant added to the second sub-head's weight, as a real number. -/
def lamInit : ℝ := (Ideal.ofBits .f32 0x3E4CCCCD#32).toReal

theorem lamInit_coe : Ideal.ofBits .f32 0x3E4CCCCD#32 = ((lamInit : ℝ) : EReal) := by
  unfold lamInit
  refine (EReal.coe_toReal ?_ ?_).symm <;> simp [Ideal.ofBits, Ideal.ieee, -EReal.coe_mul]

/-- The second sub-head's weight, of the four parameter rows. -/
def lam (p : Fin 4 → Fin 64 → ℝ) : ℝ :=
  Real.exp (∑ d, p 0 d * p 1 d) - Real.exp (∑ d, p 2 d * p 3 d) + lamInit

theorem pay6_apply {x : Vec Ideal S4x64 .f32} {p : Fin 4 → Fin 64 → ℝ} (hx : ∀ i d, x (ix2 i d) = ((p i d : ℝ) : EReal)) :
    k0_pay6 x (ix2 0 0) = ((lam p : ℝ) : EReal) := by
  unfold lam
  pointwise [k0_pay6]
  simp only [hx, coe_dot, Ideal.exp_coe, lamInit_coe, EReal.coe_sub, EReal.coe_add]

/-! ## The whole block -/

/-- The head's norm and gain: a row `y` of 128 lanes over the root of its mean square, times the gain, times `0.8`. -/
def finish (y : Fin 128 → ℝ) (g : EReal) (e : Fin 128) : EReal :=
  ((y e : ℝ) : EReal) * Ideal.rsqrt (Ideal.div (∑ l, ((y l : ℝ) : EReal) * ((y l : ℝ) : EReal)) (Ideal.ofBits .f32 0x43000000#32)
    + Ideal.ofBits .f32 0x358637BD#32) * g * Ideal.ofBits .f32 0x3F4CCCCD#32

/-- The body's last steps from the two sub-heads' attentions: the second, weighted, taken off the first, then the norm. -/
theorem pay17_apply {q : FVec Ideal S2048x128 .bf16} {ck cv : Vec Ideal S1x256x128 .bf16} {k v : Vec Ideal S1x2048x128 .bf16}
    {w : FVec Ideal S1x1 .f32} {a : FVec Ideal S2048x128 .f32} {g : Vec Ideal S1x1x128 .f32} {y : Fin 2048 → Fin 128 → ℝ}
    (hy : ∀ i e, a (ix2 i e) - w (ix2 0 0) * sub q ck cv k v (ix2 i e) = ((y i e : ℝ) : EReal)) (i : Fin 2048) (e : Fin 128) :
    k0_pay1 (k0_pay17 q w a (k0_pay13 q ck) (k0_pay15 q ck) (k0_pay16 q ck) cv k v) g (ix3 0 i e)
      = finish (y i) (g (ix3 0 0 e)) e := by
  have key : k0_pay17 q w a (k0_pay13 q ck) (k0_pay15 q ck) (k0_pay16 q ck) cv k v =
      (let d : FVec Ideal S2048x128 .f32 := subf a (mulf (broadcastTo S2048x128 w broadcasts_S1x1_S2048x128) (sub q ck cv k v))
       mulf d (broadcastTo S2048x128 (rsqrt (addf (divf (shapeCast S2048x1 (multiReduction .add [1] S2048 (mulf d d) 0x00000000#32
        reduces_S2048x128_S2048 (.inl rfl) rfl) shapeCasts_S2048_S2048x1) (broadcast S2048x1 (Scalar.ofBits .f32 0x43000000#32)))
        (broadcast S2048x1 (Scalar.ofBits .f32 0x358637BD#32)))) broadcasts_S2048x1_S2048x128)) := rfl
  rw [key]
  unfold finish
  simp only [← hy]
  generalize sub q ck cv k v = s
  pointwise [k0_pay1]

/-- The difference of one query's two attentions, before the norm, of a head's queries, keys and values as real numbers: lanes
    0 to 63 are the first sub-head's, lanes 64 to 127 the second's. -/
def diffRow (p : Fin 4 → Fin 64 → ℝ) (q : Fin 2048 → Fin 128 → ℝ) (ck cv : Fin 256 → Fin 128 → ℝ) (k v : Fin 2048 → Fin 128 → ℝ)
    (i : Fin 2048) (e : Fin 128) : ℝ :=
  attend (fun j => ∑ d : Fin 64, q i ⟨d.val, by omega⟩ * ck j ⟨d.val, by omega⟩) (fun j => cv j e)
      (fun j => ∑ d : Fin 64, q i ⟨d.val, by omega⟩ * k j ⟨d.val, by omega⟩) (fun j => v j e)
    - lam p * attend (fun j => ∑ d : Fin 64, q i ⟨64 + d.val, by omega⟩ * ck j ⟨64 + d.val, by omega⟩) (fun j => cv j e)
      (fun j => ∑ d : Fin 64, q i ⟨64 + d.val, by omega⟩ * k j ⟨64 + d.val, by omega⟩) (fun j => v j e)

/-- THE BLOCK: what the body stores of finite queries, keys, values and parameters, at a query and a lane. -/
theorem block_apply {P0 : Vec Ideal S1x2048x128 .bf16} {P1 : Vec Ideal S4x64 .f32} {P2 P3 : Vec Ideal S1x256x128 .bf16}
    {P4 P5 : Vec Ideal S1x2048x128 .bf16} {P6 : Vec Ideal S1x1x128 .f32}
    {p : Fin 4 → Fin 64 → ℝ} {q k v : Fin 2048 → Fin 128 → ℝ} {ck cv : Fin 256 → Fin 128 → ℝ}
    (h0 : ∀ i l, P0 (ix3 0 i l) = ((q i l : ℝ) : EReal)) (h1 : ∀ i d, P1 (ix2 i d) = ((p i d : ℝ) : EReal))
    (h2 : ∀ j l, P2 (ix3 0 j l) = ((ck j l : ℝ) : EReal)) (h3 : ∀ j l, P3 (ix3 0 j l) = ((cv j l : ℝ) : EReal))
    (h4 : ∀ j l, P4 (ix3 0 j l) = ((k j l : ℝ) : EReal)) (h5 : ∀ j l, P5 (ix3 0 j l) = ((v j l : ℝ) : EReal))
    (i : Fin 2048) (e : Fin 128) :
    k0_pay1 (k0_pay17 (k0_pay5 P0) (k0_pay6 P1) (k0_pay11 (k0_pay4 P0) (k0_pay8 P0 P2) (k0_pay9 P0 P2) (k0_pay10 P0 P2) P3 P4 P5)
      (k0_pay13 (k0_pay5 P0) P2) (k0_pay15 (k0_pay5 P0) P2) (k0_pay16 (k0_pay5 P0) P2) P3 P4 P5) P6 (ix3 0 i e)
      = finish (diffRow p q ck cv k v i) (P6 (ix3 0 0 e)) e := by
  have hs : k0_pay11 (k0_pay4 P0) (k0_pay8 P0 P2) (k0_pay9 P0 P2) (k0_pay10 P0 P2) P3 P4 P5 = sub (k0_pay4 P0) P2 P3 P4 P5 := rfl
  rw [hs]
  refine pay17_apply (fun i e => ?_) i e
  rw [sub_apply (pay4_apply h0) h2 h3 h4 h5, sub_apply (pay5_apply h0) h2 h3 h4 h5, pay6_apply h1, ← EReal.coe_mul, ← EReal.coe_sub]
  simp only [dot_lower, dot_upper]
  rfl

end Cert.DiffAttn

end
-- ==== Proof.RefRow.lean ====
/- The reference's stages at an index, when the queries, keys, values and parameters are finite. -/
module

public import proofs.«01_k».proof.Proof.Gen.ReferenceIdeal.Read
public import proofs.«01_k».proof.Proof.Block

@[expose] public section

noncomputable section

namespace Cert.DiffAttn

open Idealize.ShloMosaic Cert.ReferenceIdeal Cert.ReferenceIdeal.Gen Cert.ReferenceIdeal.Read

/-- Lane `e` of head `h` among the 512 lanes. -/
def ln (h : Fin 4) (e : Fin 128) : Fin 512 := ⟨h.val * 128 + e.val, by omega⟩

/-- Lane `d` of sub-head `p` among a head's 128 lanes. -/
def sl (p : Fin 2) (d : Fin 64) : Fin 128 := ⟨p.val * 64 + d.val, by omega⟩

section Heads

/-- The scale the reference puts back on the queries. -/
theorem scale_coe : Ideal.ofBits .f32 0x41000000#32 * Ideal.log (Ideal.ofBits .f32 0x40000000#32) = ((8 * Real.log 2 : ℝ) : EReal) := by
  have h8 : Ideal.ofBits .f32 0x41000000#32 = ((8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h8, h2, Ideal.log_coe, if_neg (by norm_num), ← EReal.coe_mul]

/-- The queries as sub-heads, rescaled. -/
theorem q_apply (x : Vec Ideal S8x2048x512 .bf16) (b : Fin 8) (h : Fin 4) (p : Fin 2) (i : Fin 2048) (d : Fin 64) :
    val_main_v6 (F := Ideal) x (ix5 b h p i d) = x (ix3 b i (ln h (sl p d))) * ((8 * Real.log 2 : ℝ) : EReal) := by
  rw [← scale_coe]
  refine congrArg₂ (· * ·) ?_ ?_
  · rw [val_main_v2_apply, val_main_v1_apply]
    refine congrArg x (funext fun a => Fin.ext ?_)
    match a with
    | ⟨0, _⟩ => simp [idx_main_v1, idx_main_v2, ix3, ix5, ln, sl]; omega
    | ⟨1, _⟩ => simp [idx_main_v1, idx_main_v2, ix3, ix5, ln, sl]; omega
    | ⟨2, _⟩ => simp [idx_main_v1, idx_main_v2, ix3, ix5, ln, sl]; omega
  · rw [val_main_v5_apply]; rfl

/-- The first group's keys as sub-heads. -/
theorem ck_apply (x : Vec Ideal S8x256x512 .bf16) (b : Fin 8) (h : Fin 4) (p : Fin 2) (j : Fin 256) (d : Fin 64) :
    val_main_v9 (F := Ideal) x (ix5 b h p j d) = x (ix3 b j (ln h (sl p d))) := by
  rw [val_main_v9_apply, val_main_v8_apply]
  refine congrArg x (funext fun a => Fin.ext ?_)
  match a with
  | ⟨0, _⟩ => simp [idx_main_v8, idx_main_v9, ix3, ix5, ln, sl]; omega
  | ⟨1, _⟩ => simp [idx_main_v8, idx_main_v9, ix3, ix5, ln, sl]; omega
  | ⟨2, _⟩ => simp [idx_main_v8, idx_main_v9, ix3, ix5, ln, sl]; omega

/-- The second group's keys as sub-heads. -/
theorem k_apply (x : Vec Ideal S8x2048x512 .bf16) (b : Fin 8) (h : Fin 4) (p : Fin 2) (j : Fin 2048) (d : Fin 64) :
    val_main_v12 (F := Ideal) x (ix5 b h p j d) = x (ix3 b j (ln h (sl p d))) := by
  rw [val_main_v12_apply, val_main_v11_apply]
  refine congrArg x (funext fun a => Fin.ext ?_)
  match a with
  | ⟨0, _⟩ => simp [idx_main_v11, idx_main_v12, ix3, ix5, ln, sl]; omega
  | ⟨1, _⟩ => simp [idx_main_v11, idx_main_v12, ix3, ix5, ln, sl]; omega
  | ⟨2, _⟩ => simp [idx_main_v11, idx_main_v12, ix3, ix5, ln, sl]; omega

/-- The first group's values as heads. -/
theorem cv_apply (x : Vec Ideal S8x256x512 .bf16) (b : Fin 8) (h : Fin 4) (j : Fin 256) (e : Fin 128) :
    val_main_v16 (F := Ideal) x (ix4 b h j e) = x (ix3 b j (ln h e)) := by
  rw [val_main_v16_apply, val_main_v15_apply]
  refine congrArg x (funext fun a => Fin.ext ?_)
  match a with
  | ⟨0, _⟩ => simp [idx_main_v15, idx_main_v16, ix3, ix4, ln]; omega
  | ⟨1, _⟩ => simp [idx_main_v15, idx_main_v16, ix3, ix4, ln]; omega
  | ⟨2, _⟩ => simp [idx_main_v15, idx_main_v16, ix3, ix4, ln]; omega

/-- The second group's values as heads. -/
theorem v_apply (x : Vec Ideal S8x2048x512 .bf16) (b : Fin 8) (h : Fin 4) (j : Fin 2048) (e : Fin 128) :
    val_main_v19 (F := Ideal) x (ix4 b h j e) = x (ix3 b j (ln h e)) := by
  rw [val_main_v19_apply, val_main_v18_apply]
  refine congrArg x (funext fun a => Fin.ext ?_)
  match a with
  | ⟨0, _⟩ => simp [idx_main_v18, idx_main_v19, ix3, ix4, ln]; omega
  | ⟨1, _⟩ => simp [idx_main_v18, idx_main_v19, ix3, ix4, ln]; omega
  | ⟨2, _⟩ => simp [idx_main_v18, idx_main_v19, ix3, ix4, ln]; omega

end Heads

/-- A row of the first group (256 rows) followed by a row of the second (2048), as one of 2304. -/
def joined (c : Fin 256 → ℝ) (f : Fin 2048 → ℝ) (j : Fin 2304) : ℝ :=
  if h : j.val < 256 then c ⟨j.val, h⟩ else f ⟨j.val - 256, by omega⟩

theorem joined_left (c : Fin 256 → ℝ) (f : Fin 2048 → ℝ) (j : Fin 256) : joined c f (Fin.castAdd 2048 j : Fin (256 + 2048)) = c j := by
  unfold joined; rw [dif_pos (show (Fin.castAdd 2048 j : Fin (256 + 2048)).val < 256 from j.isLt)]; rfl

theorem joined_right (c : Fin 256 → ℝ) (f : Fin 2048 → ℝ) (j : Fin 2048) : joined c f (Fin.natAdd 256 j : Fin (256 + 2048)) = f j := by
  unfold joined
  rw [dif_neg (by simp)]
  exact congrArg f (Fin.ext (by simp))

/-- The weighted mean over the joined keys is the two groups'. -/
theorem attend_joined' (s u : Fin 256 → ℝ) (t v : Fin 2048 → ℝ) :
    (∑ j, p2 (joined s t j) * joined u v j) / (∑ j, p2 (joined s t j)) = attend s u t v := by
  have := attend_joined (a := 256) (b := 2048) (joined s t) (joined u v)
  simp only [joined_left, joined_right] at this
  exact this

section Row
variable {x0 x1 x2 : Vec Ideal S8x2048x512 .bf16} {x3 x4 : Vec Ideal S8x256x512 .bf16} {x5 : Vec Ideal S1x4x64 .f32} {x6 : Vec Ideal S1x4x128 .f32}
variable {q k v : Fin 8 → Fin 2048 → Fin 512 → ℝ} {ck cv : Fin 8 → Fin 256 → Fin 512 → ℝ} {p : Fin 4 → Fin 64 → ℝ}

/-- The real scores of a query of sub-head `s`, in powers of two, over all the keys. -/
def score (q k : Fin 8 → Fin 2048 → Fin 512 → ℝ) (ck : Fin 8 → Fin 256 → Fin 512 → ℝ) (b : Fin 8) (h : Fin 4) (s : Fin 2) (i : Fin 2048) :
    Fin 2304 → ℝ :=
  joined (fun j => ∑ d, q b i (ln h (sl s d)) * ck b j (ln h (sl s d))) (fun j => ∑ d, q b i (ln h (sl s d)) * k b j (ln h (sl s d)))

theorem score_apply (h0 : ∀ b i l, x0 (ix3 b i l) = ((q b i l : ℝ) : EReal)) (h1 : ∀ b i l, x1 (ix3 b i l) = ((k b i l : ℝ) : EReal))
    (h3 : ∀ b i l, x3 (ix3 b i l) = ((ck b i l : ℝ) : EReal)) (b : Fin 8) (h : Fin 4) (s : Fin 2) (i : Fin 2048) (j : Fin 2304) :
    val_main_v40 (F := Ideal) x0 x1 x3 (ix5 b h s i j) = ((score q k ck b h s i j * Real.log 2 : ℝ) : EReal) := by
  have he : Ideal.ofBits .f32 0x3E000000#32 = ((1 / 8 : ℝ) : EReal) := by
    simp [Ideal.ofBits, Ideal.ieee, -EReal.coe_mul]; norm_num
  have hs : val_main_v38 (F := Ideal) x0 x1 x3 (ix5 b h s i j) = ((score q k ck b h s i j * (8 * Real.log 2) : ℝ) : EReal) := by
    rw [val_main_v38_apply]
    have hk : ∀ d : Fin 64, val_main_v13 (F := Ideal) x1 x3 (ix5 b h s j d)
        = ((joined (fun j => ck b j (ln h (sl s d))) (fun j => k b j (ln h (sl s d))) j : ℝ) : EReal) := fun d => by
      pointwise [val_main_v13]
      unfold joined
      split
      · rw [ck_apply, h3]
      · rw [k_apply, h1]
    have e : ∀ d : Fin 64, val_main_v6 (F := Ideal) x0 (lidx_main_v38 (ix5 b h s i j) d) * val_main_v13 (F := Ideal) x1 x3 (ridx_main_v38 (ix5 b h s i j) d)
        = ((q b i (ln h (sl s d)) * (8 * Real.log 2) : ℝ) : EReal)
          * ((joined (fun j => ck b j (ln h (sl s d))) (fun j => k b j (ln h (sl s d))) j : ℝ) : EReal) := fun d => by
      have e1 : lidx_main_v38 (ix5 b h s i j) d = ix5 b h s i d := funext fun a => by
        match a with | ⟨0, _⟩ => rfl | ⟨1, _⟩ => rfl | ⟨2, _⟩ => rfl | ⟨3, _⟩ => rfl | ⟨4, _⟩ => rfl
      have e2 : ridx_main_v38 (ix5 b h s i j) d = ix5 b h s j d := funext fun a => by
        match a with | ⟨0, _⟩ => rfl | ⟨1, _⟩ => rfl | ⟨2, _⟩ => rfl | ⟨3, _⟩ => rfl | ⟨4, _⟩ => rfl
      rw [e1, e2, q_apply, hk, h0, ← EReal.coe_mul]
    rw [Finset.sum_congr rfl fun d _ => e d, coe_dot]
    congr 1
    unfold score joined
    split
    · rw [Finset.sum_mul]; exact Finset.sum_congr rfl fun d _ => by ring
    · rw [Finset.sum_mul]; exact Finset.sum_congr rfl fun d _ => by ring
  rw [val_main_v40_apply, hs, val_main_v39_apply]
  show _ * Ideal.ofBits .f32 0x3E000000#32 = _
  rw [he, ← EReal.coe_mul]
  congr 1; ring

/-- The second sub-head's weight. -/
theorem lam_apply (h5 : ∀ i d, x5 (ix3 0 i d) = ((p i d : ℝ) : EReal)) : val_main_v37 (F := Ideal) x5 ix0 = ((lam p : ℝ) : EReal) := by
  unfold lam
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_cst_1, val_main_cst_2, val_main_cst_3]
  simp only [h5, coe_dot, Ideal.exp_coe, lamInit_coe, EReal.coe_sub, EReal.coe_add]

end Row

end Cert.DiffAttn

end
-- ==== Proof.RefSoft.lean ====
/- The reference's softmax, its difference of attentions and its result at an index. -/
module

public import proofs.«01_k».proof.Proof.RefRow

@[expose] public section

noncomputable section

namespace Cert.DiffAttn

open Idealize.ShloMosaic Cert.ReferenceIdeal Cert.ReferenceIdeal.Gen Cert.ReferenceIdeal.Read

section Soft
variable {x0 x1 x2 : Vec Ideal S8x2048x512 .bf16} {x3 x4 : Vec Ideal S8x256x512 .bf16} {x5 : Vec Ideal S1x4x64 .f32} {x6 : Vec Ideal S1x4x128 .f32}
variable {q k v : Fin 8 → Fin 2048 → Fin 512 → ℝ} {ck cv : Fin 8 → Fin 256 → Fin 512 → ℝ} {p : Fin 4 → Fin 64 → ℝ}

/-- The row maximum reads the row's scores. -/
theorem max_apply (b : Fin 8) (h : Fin 4) (s : Fin 2) (i : Fin 2048) :
    val_main_v41 (F := Ideal) x0 x1 x3 (ix4 b h s i)
      = Finset.univ.fold max (Ideal.ofBits .f32 0xFF800000#32) (fun j : Fin 2304 => val_main_v40 (F := Ideal) x0 x1 x3 (ix5 b h s i j)) := by
  unfold val_main_v41
  generalize val_main_v40 (F := Ideal) x0 x1 x3 = y
  pointwise [val_main_cst_5]

/-- The row maximum is a real number. -/
theorem max_coe_apply (h0 : ∀ b i l, x0 (ix3 b i l) = ((q b i l : ℝ) : EReal)) (h1 : ∀ b i l, x1 (ix3 b i l) = ((k b i l : ℝ) : EReal))
    (h3 : ∀ b i l, x3 (ix3 b i l) = ((ck b i l : ℝ) : EReal)) (b : Fin 8) (h : Fin 4) (s : Fin 2) (i : Fin 2048) :
    ∃ M : ℝ, val_main_v43 (F := Ideal) x0 x1 x3 (ix4 b h s i) = (M : EReal) := by
  obtain ⟨M, hM⟩ := fold_max_coe (n := 2303) fun j => score q k ck b h s i j * Real.log 2
  refine ⟨M, ?_⟩
  rw [val_main_v43_apply, max_apply, val_main_v42_apply, val_main_cst_6_apply, ← hM]
  simp only [score_apply h0 h1 h3 b h s i, ofBits_neg_inf]
  exact max_eq_right bot_le

/-- The exponential of a score less the row's maximum. -/
theorem exp_apply (h0 : ∀ b i l, x0 (ix3 b i l) = ((q b i l : ℝ) : EReal)) (h1 : ∀ b i l, x1 (ix3 b i l) = ((k b i l : ℝ) : EReal))
    (h3 : ∀ b i l, x3 (ix3 b i l) = ((ck b i l : ℝ) : EReal)) (b : Fin 8) (h : Fin 4) (s : Fin 2) (i : Fin 2048) {M : ℝ}
    (hM : val_main_v43 (F := Ideal) x0 x1 x3 (ix4 b h s i) = (M : EReal)) (j : Fin 2304) :
    val_main_v47 (F := Ideal) x0 x1 x3 (ix5 b h s i j) = ((Real.exp (score q k ck b h s i j * Real.log 2 - M) : ℝ) : EReal) := by
  have hi : idx_main_v44 (idx_main_v45 (ix5 b h s i j)) = ix4 b h s i := funext fun a => by
    match a with | ⟨0, _⟩ => rfl | ⟨1, _⟩ => rfl | ⟨2, _⟩ => rfl | ⟨3, _⟩ => rfl
  rw [val_main_v47_apply, val_main_v46_apply, val_main_v45_apply, val_main_v44_apply, hi, hM, score_apply h0 h1 h3 b h s i]
  show Ideal.exp (((_ : ℝ) : EReal) - ((_ : ℝ) : EReal)) = _
  rw [← EReal.coe_sub, Ideal.exp_coe]

/-- The sum of a row's exponentials. -/
theorem sum_apply (h0 : ∀ b i l, x0 (ix3 b i l) = ((q b i l : ℝ) : EReal)) (h1 : ∀ b i l, x1 (ix3 b i l) = ((k b i l : ℝ) : EReal))
    (h3 : ∀ b i l, x3 (ix3 b i l) = ((ck b i l : ℝ) : EReal)) (b : Fin 8) (h : Fin 4) (s : Fin 2) (i : Fin 2048) {M : ℝ}
    (hM : val_main_v43 (F := Ideal) x0 x1 x3 (ix4 b h s i) = (M : EReal)) :
    val_main_v48 (F := Ideal) x0 x1 x3 (ix4 b h s i) = ((∑ j, Real.exp (score q k ck b h s i j * Real.log 2 - M) : ℝ) : EReal) := by
  have hi : ∀ j, idx_main_v48 (ix4 b h s i) j = ix5 b h s i j := fun j => funext fun a => by
    match a with | ⟨0, _⟩ => rfl | ⟨1, _⟩ => rfl | ⟨2, _⟩ => rfl | ⟨3, _⟩ => rfl | ⟨4, _⟩ => rfl
  rw [val_main_v48_apply, val_main_cst_7_apply]
  simp only [hi, exp_apply h0 h1 h3 b h s i hM]
  rw [coe_sum]
  show Ideal.ofBits .f32 0x00000000#32 + _ = _
  rw [show Ideal.ofBits .f32 0x00000000#32 = 0 by simp [Ideal.ofBits, Ideal.ieee], zero_add]

/-- The softmax weight of a key. -/
theorem weight_apply (h0 : ∀ b i l, x0 (ix3 b i l) = ((q b i l : ℝ) : EReal)) (h1 : ∀ b i l, x1 (ix3 b i l) = ((k b i l : ℝ) : EReal))
    (h3 : ∀ b i l, x3 (ix3 b i l) = ((ck b i l : ℝ) : EReal)) (b : Fin 8) (h : Fin 4) (s : Fin 2) (i : Fin 2048) (j : Fin 2304) :
    val_main_v51 (F := Ideal) x0 x1 x3 (ix5 b h s i j)
      = ((p2 (score q k ck b h s i j) / ∑ j, p2 (score q k ck b h s i j) : ℝ) : EReal) := by
  obtain ⟨M, hM⟩ := max_coe_apply h0 h1 h3 b h s i
  have hi : idx_main_v49 (idx_main_v50 (ix5 b h s i j)) = ix4 b h s i := funext fun a => by
    match a with | ⟨0, _⟩ => rfl | ⟨1, _⟩ => rfl | ⟨2, _⟩ => rfl | ⟨3, _⟩ => rfl
  rw [val_main_v51_apply, val_main_v50_apply, val_main_v49_apply, hi, exp_apply h0 h1 h3 b h s i hM j, sum_apply h0 h1 h3 b h s i hM]
  rw [← softmax_weight (n := 2303) (score q k ck b h s i) M j]
  exact div_coe_coe _ (Finset.sum_pos (fun k _ => Real.exp_pos _) ⟨j, Finset.mem_univ _⟩).ne'

end Soft

end Cert.DiffAttn

end
-- ==== Proof.RefOut.lean ====
/- The reference's difference of attentions and its result at an index. -/
module

public import proofs.«01_k».proof.Proof.RefSoft

@[expose] public section

noncomputable section

namespace Cert.DiffAttn

open Idealize.ShloMosaic Cert.ReferenceIdeal Cert.ReferenceIdeal.Gen Cert.ReferenceIdeal.Read

section Out
variable {x0 x1 x2 : Vec Ideal S8x2048x512 .bf16} {x3 x4 : Vec Ideal S8x256x512 .bf16} {x5 : Vec Ideal S1x4x64 .f32} {x6 : Vec Ideal S1x4x128 .f32}
variable {q k v : Fin 8 → Fin 2048 → Fin 512 → ℝ} {ck cv : Fin 8 → Fin 256 → Fin 512 → ℝ} {p : Fin 4 → Fin 64 → ℝ}

/-- The joined values at an index. -/
theorem vcat_apply (h2 : ∀ b i l, x2 (ix3 b i l) = ((v b i l : ℝ) : EReal)) (h4 : ∀ b i l, x4 (ix3 b i l) = ((cv b i l : ℝ) : EReal))
    (b : Fin 8) (h : Fin 4) (j : Fin 2304) (e : Fin 128) : val_main_v20 (F := Ideal) x2 x4 (ix4 b h j e)
      = ((joined (fun j => cv b j (ln h e)) (fun j => v b j (ln h e)) j : ℝ) : EReal) := by
  have e1 := fun j => cv_apply x4 b h j e
  have e2 := fun j => v_apply x2 b h j e
  unfold val_main_v20
  generalize val_main_v16 (F := Ideal) x4 = y at e1 ⊢
  generalize val_main_v19 (F := Ideal) x2 = z at e2 ⊢
  unfold joined
  pointwise
  split
  · rw [e1, h4]
  · rw [e2, h2]

/-- The difference of the two sub-heads' weights at an index. -/
theorem gap_apply (h0 : ∀ b i l, x0 (ix3 b i l) = ((q b i l : ℝ) : EReal)) (h1 : ∀ b i l, x1 (ix3 b i l) = ((k b i l : ℝ) : EReal))
    (h3 : ∀ b i l, x3 (ix3 b i l) = ((ck b i l : ℝ) : EReal)) (h5 : ∀ i d, x5 (ix3 0 i d) = ((p i d : ℝ) : EReal))
    (b : Fin 8) (h : Fin 4) (i : Fin 2048) (j : Fin 2304) :
    val_main_v58 (F := Ideal) x0 x1 x3 x5 (ix4 b h i j)
      = ((p2 (score q k ck b h 0 i j) / (∑ j, p2 (score q k ck b h 0 i j))
          - lam p * (p2 (score q k ck b h 1 i j) / ∑ j, p2 (score q k ck b h 1 i j)) : ℝ) : EReal) := by
  have i1 : idx_main_v52 (idx_main_v53 (ix4 b h i j)) = ix5 b h 0 i j := by
    funext a; apply Fin.ext
    match a with
    | ⟨0, _⟩ => simp [idx_main_v52, idx_main_v53, ix4, ix5]; omega
    | ⟨1, _⟩ => simp [idx_main_v52, idx_main_v53, ix4, ix5]; omega
    | ⟨2, _⟩ => simp [idx_main_v52, idx_main_v53, ix4, ix5]
    | ⟨3, _⟩ => simp [idx_main_v52, idx_main_v53, ix4, ix5]; omega
    | ⟨4, _⟩ => simp [idx_main_v52, idx_main_v53, ix4, ix5]
  have i2 : idx_main_v54 (idx_main_v55 (ix4 b h i j)) = ix5 b h 1 i j := by
    funext a; apply Fin.ext
    match a with
    | ⟨0, _⟩ => simp [idx_main_v54, idx_main_v55, ix4, ix5]; omega
    | ⟨1, _⟩ => simp [idx_main_v54, idx_main_v55, ix4, ix5]; omega
    | ⟨2, _⟩ => simp [idx_main_v54, idx_main_v55, ix4, ix5]
    | ⟨3, _⟩ => simp [idx_main_v54, idx_main_v55, ix4, ix5]; omega
    | ⟨4, _⟩ => simp [idx_main_v54, idx_main_v55, ix4, ix5]
  have i3 : idx_main_v56 (ix4 b h i j) = ix0 := funext fun a => a.elim0
  rw [val_main_v58_apply, val_main_v57_apply, val_main_v56_apply, val_main_v55_apply, val_main_v54_apply, val_main_v53_apply, val_main_v52_apply,
    i1, i2, i3, weight_apply h0 h1 h3, weight_apply h0 h1 h3, lam_apply h5, EReal.coe_sub, EReal.coe_mul]
  rfl

/-- The difference of a query's two attentions is the kernel's. -/
theorem diff_apply (h0 : ∀ b i l, x0 (ix3 b i l) = ((q b i l : ℝ) : EReal)) (h1 : ∀ b i l, x1 (ix3 b i l) = ((k b i l : ℝ) : EReal))
    (h2 : ∀ b i l, x2 (ix3 b i l) = ((v b i l : ℝ) : EReal))
    (h3 : ∀ b i l, x3 (ix3 b i l) = ((ck b i l : ℝ) : EReal)) (h4 : ∀ b i l, x4 (ix3 b i l) = ((cv b i l : ℝ) : EReal))
    (h5 : ∀ i d, x5 (ix3 0 i d) = ((p i d : ℝ) : EReal)) (b : Fin 8) (h : Fin 4) (i : Fin 2048) (e : Fin 128) :
    val_main_v59 (F := Ideal) x0 x1 x2 x3 x4 x5 (ix4 b h i e)
      = ((diffRow p (fun i l => q b i (ln h l)) (fun j l => ck b j (ln h l)) (fun j l => cv b j (ln h l)) (fun j l => k b j (ln h l))
          (fun j l => v b j (ln h l)) i e : ℝ) : EReal) := by
  have i1 : ∀ j, lidx_main_v59 (ix4 b h i e) j = ix4 b h i j := fun j => funext fun a => by
    match a with | ⟨0, _⟩ => rfl | ⟨1, _⟩ => rfl | ⟨2, _⟩ => rfl | ⟨3, _⟩ => rfl
  have i2 : ∀ j, ridx_main_v59 (ix4 b h i e) j = ix4 b h j e := fun j => funext fun a => by
    match a with | ⟨0, _⟩ => rfl | ⟨1, _⟩ => rfl | ⟨2, _⟩ => rfl | ⟨3, _⟩ => rfl
  rw [val_main_v59_apply]
  simp only [i1, i2, vcat_apply h2 h4, gap_apply h0 h1 h3 h5, coe_dot]
  congr 1
  rw [diff_row (n := 2303)]
  unfold score
  rw [attend_joined', attend_joined']
  unfold diffRow
  simp [sl]

/-- The gain at an index. -/
theorem gain_apply (b : Fin 8) (h : Fin 4) (i : Fin 2048) (e : Fin 128) : val_main_v73 (F := Ideal) x6 (ix4 b h i e) = x6 (ix3 0 h e) := by
  pointwise [val_main_v73, val_main_v72, val_main_v71, val_main_v70]

/-- A row's sum of squares. -/
theorem squares_apply (b : Fin 8) (h : Fin 4) (i : Fin 2048) :
    val_main_v61 (F := Ideal) x0 x1 x2 x3 x4 x5 (ix3 b h i)
      = ∑ l, val_main_v59 (F := Ideal) x0 x1 x2 x3 x4 x5 (ix4 b h i l) * val_main_v59 (F := Ideal) x0 x1 x2 x3 x4 x5 (ix4 b h i l) := by
  have i1 : ∀ l, idx_main_v61 (ix3 b h i) l = ix4 b h i l := fun l => funext fun a => by
    match a with | ⟨0, _⟩ => rfl | ⟨1, _⟩ => rfl | ⟨2, _⟩ => rfl | ⟨3, _⟩ => rfl
  rw [val_main_v61_apply, val_main_cst_8_apply]
  have z : (FloatOps.ofBits .f32 0x00000000#32 : Ideal .f32) = (0 : EReal) := by
    show Ideal.ofBits .f32 0x00000000#32 = 0
    simp [Ideal.ofBits, Ideal.ieee]
  rw [z]
  refine (zero_add _).trans (Finset.sum_congr rfl fun l _ => ?_)
  rw [i1, val_main_v60_apply]
  rfl

/-- A row's mean square plus the norm's small constant. -/
theorem mean_apply (b : Fin 8) (h : Fin 4) (i : Fin 2048) :
    val_main_v66 (F := Ideal) x0 x1 x2 x3 x4 x5 (ix4 b h i 0)
      = Ideal.div (val_main_v61 (F := Ideal) x0 x1 x2 x3 x4 x5 (ix3 b h i)) (Ideal.ofBits .f32 0x43000000#32) + Ideal.ofBits .f32 0x358637BD#32 := by
  have i1 : idx_main_v62 (ix4 b h i 0) = ix3 b h i := funext fun a => by
    match a with | ⟨0, _⟩ => rfl | ⟨1, _⟩ => rfl | ⟨2, _⟩ => rfl
  rw [val_main_v66_apply, val_main_v65_apply, val_main_v64_apply, val_main_v63_apply, val_main_v62_apply, val_main_cst_9_apply,
    val_main_cst_10_apply, i1]
  generalize val_main_v61 (F := Ideal) x0 x1 x2 x3 x4 x5 (ix3 b h i) = y
  rfl

/-- The reciprocal root mean square of a row. -/
theorem rms_apply (b : Fin 8) (h : Fin 4) (i : Fin 2048) (e : Fin 128) :
    val_main_v68 (F := Ideal) x0 x1 x2 x3 x4 x5 (ix4 b h i e)
      = Ideal.rsqrt (Ideal.div (∑ l, val_main_v59 (F := Ideal) x0 x1 x2 x3 x4 x5 (ix4 b h i l) * val_main_v59 (F := Ideal) x0 x1 x2 x3 x4 x5 (ix4 b h i l))
          (Ideal.ofBits .f32 0x43000000#32) + Ideal.ofBits .f32 0x358637BD#32) := by
  have i1 : idx_main_v68 (ix4 b h i e) = ix4 b h i 0 := funext fun a => by
    match a with | ⟨0, _⟩ => rfl | ⟨1, _⟩ => rfl | ⟨2, _⟩ => rfl | ⟨3, _⟩ => rfl
  rw [← squares_apply, ← mean_apply, val_main_v68_apply, val_main_v67_apply, i1]
  generalize val_main_v66 (F := Ideal) x0 x1 x2 x3 x4 x5 (ix4 b h i 0) = y
  rfl

/-- THE REFERENCE AT AN INDEX: the normalised, scaled difference of the two attentions. -/
theorem ref_apply (h0 : ∀ b i l, x0 (ix3 b i l) = ((q b i l : ℝ) : EReal)) (h1 : ∀ b i l, x1 (ix3 b i l) = ((k b i l : ℝ) : EReal))
    (h2 : ∀ b i l, x2 (ix3 b i l) = ((v b i l : ℝ) : EReal))
    (h3 : ∀ b i l, x3 (ix3 b i l) = ((ck b i l : ℝ) : EReal)) (h4 : ∀ b i l, x4 (ix3 b i l) = ((cv b i l : ℝ) : EReal))
    (h5 : ∀ i d, x5 (ix3 0 i d) = ((p i d : ℝ) : EReal)) (b : Fin 8) (h : Fin 4) (i : Fin 2048) (e : Fin 128) :
    val_main_v79 (F := Ideal) x0 x1 x2 x3 x4 x5 x6 (ix3 b i (ln h e))
      = finish (diffRow p (fun i l => q b i (ln h l)) (fun j l => ck b j (ln h l)) (fun j l => cv b j (ln h l)) (fun j l => k b j (ln h l))
          (fun j l => v b j (ln h l)) i) (x6 (ix3 0 h e)) e := by
  have hi : idx_main_v77 (idx_main_v78 (ix3 b i (ln h e))) = ix4 b h i e := by
    funext a; apply Fin.ext
    match a with
    | ⟨0, _⟩ => simp [idx_main_v77, idx_main_v78, ix3, ix4, ln]; omega
    | ⟨1, _⟩ => simp [idx_main_v77, idx_main_v78, ix3, ix4, ln]; omega
    | ⟨2, _⟩ => simp [idx_main_v77, idx_main_v78, ix3, ix4, ln]; omega
    | ⟨3, _⟩ => simp [idx_main_v77, idx_main_v78, ix3, ix4, ln]; omega
  rw [val_main_v79_apply, val_main_v78_apply, val_main_v77_apply, hi, val_main_v76_apply, val_main_v75_apply, val_main_cst_11_apply,
    val_main_v74_apply, val_main_v69_apply, rms_apply, gain_apply]
  unfold finish
  simp only [diff_apply h0 h1 h2 h3 h4 h5 b h i]
  rfl

end Out

end Cert.DiffAttn

end
-- ==== Proof.Array.lean ====
/- The kernel's result array is the reference's, when the arguments are finite. -/
module

public import proofs.«01_k».proof.Proof.RefOut

@[expose] public section

noncomputable section

namespace Cert.DiffAttn

open Idealize.ShloMosaic Idealize.SL.Sem Cert.KernelIdeal Cert.KernelIdeal.Gen Cert.KernelIdeal.Value

/-- Every window's block at a grid point, by the point's batch and head. -/
theorem idx : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val]
    ∧ win0_4.index t = ![(grid0.coords t 0).val, 0, (grid0.coords t 1).val] ∧ win0_5.index t = ![(grid0.coords t 0).val, 0, (grid0.coords t 1).val]
    ∧ win0_6.index t = ![(grid0.coords t 1).val, 0, 0] ∧ win0_7.index t = ![(grid0.coords t 0).val, 0, (grid0.coords t 1).val] :=
  (by decide +kernel : ∀ t : Fin grid0.N, _)

variable (m : (ℓ : Loc nD τ sig) → Buf (Elt Ideal) ℓ) (c : Dev nD)
variable {q k v : Fin 8 → Fin 2048 → Fin 512 → ℝ} {ck cv : Fin 8 → Fin 256 → Fin 512 → ℝ} {p : Fin 4 → Fin 64 → ℝ}

/-- A point's batch. -/
def batch (t : Fin cfg0.N) : Fin 8 := grid0.coords t 0

/-- A point's head. -/
def head (t : Fin cfg0.N) : Fin 4 := grid0.coords t 1

theorem iblk1 (t : Fin cfg0.N) (i : Fin 2048) (l : Fin 128) :
    iblk m c 1 t (ix3 0 i l) = m ((c.tc : Thread nD τ).loc main_arg0) (ix3 (batch t) i (ln (head t) l)) := by
  blk_ext! [iblk, V, idx t, batch, head, ln]

theorem iblk2 (t : Fin cfg0.N) (i : Fin 2048) (l : Fin 128) :
    iblk m c 2 t (ix3 0 i l) = m ((c.tc : Thread nD τ).loc main_arg1) (ix3 (batch t) i (ln (head t) l)) := by
  blk_ext! [iblk, V, idx t, batch, head, ln]

theorem iblk3 (t : Fin cfg0.N) (i : Fin 2048) (l : Fin 128) :
    iblk m c 3 t (ix3 0 i l) = m ((c.tc : Thread nD τ).loc main_arg2) (ix3 (batch t) i (ln (head t) l)) := by
  blk_ext! [iblk, V, idx t, batch, head, ln]

theorem iblk4 (t : Fin cfg0.N) (i : Fin 256) (l : Fin 128) :
    iblk m c 4 t (ix3 0 i l) = m ((c.tc : Thread nD τ).loc main_arg3) (ix3 (batch t) i (ln (head t) l)) := by
  blk_ext! [iblk, V, idx t, batch, head, ln]

theorem iblk5 (t : Fin cfg0.N) (i : Fin 256) (l : Fin 128) :
    iblk m c 5 t (ix3 0 i l) = m ((c.tc : Thread nD τ).loc main_arg4) (ix3 (batch t) i (ln (head t) l)) := by
  blk_ext! [iblk, V, idx t, batch, head, ln]

theorem iblk0 (t : Fin cfg0.N) (i : Fin 4) (d : Fin 64) :
    iblk m c 0 t (ix2 i d) = m ((c.tc : Thread nD τ).loc main_arg5) (ix3 0 i d) := by
  blk_ext! [iblk, V, idx t, batch, head, ln]

theorem iblk6 (t : Fin cfg0.N) (l : Fin 128) :
    iblk m c 6 t (ix3 0 0 l) = m ((c.tc : Thread nD τ).loc main_arg6) (ix3 0 (head t) l) := by
  blk_ext! [iblk, V, idx t, batch, head, ln]

/-- What a point's body leaves at an index of its block, the loads as variables. -/
theorem out_apply {P0 : Vec Ideal S4x64 .f32} {P1 P2 P3 : Vec Ideal S1x2048x128 .bf16} {P4 P5 : Vec Ideal S1x256x128 .bf16}
    {P6 : Vec Ideal S1x1x128 .f32} {p : Fin 4 → Fin 64 → ℝ} {q k v : Fin 2048 → Fin 128 → ℝ} {ck cv : Fin 256 → Fin 128 → ℝ}
    (h0 : ∀ i l, P1 (ix3 0 i l) = ((q i l : ℝ) : EReal)) (h1 : ∀ i d, P0 (ix2 i d) = ((p i d : ℝ) : EReal))
    (h2 : ∀ j l, P4 (ix3 0 j l) = ((ck j l : ℝ) : EReal)) (h3 : ∀ j l, P5 (ix3 0 j l) = ((cv j l : ℝ) : EReal))
    (h4 : ∀ j l, P2 (ix3 0 j l) = ((k j l : ℝ) : EReal)) (h5 : ∀ j l, P3 (ix3 0 j l) = ((v j l : ℝ) : EReal)) (y : S1x2048x128.Idx) :
    out0_7 P0 P1 P2 P3 P4 P5 P6 y = finish (diffRow p q ck cv k v (y 1)) (P6 (ix3 0 0 (y 2))) (y 2) := by
  have hy : y = ix3 0 (y 1) (y 2) := by
    funext a
    match a with
    | ⟨0, _⟩ => exact Fin.ext (by have := (y 0).isLt; simp [ix3] at *)
    | ⟨1, _⟩ => rfl
    | ⟨2, _⟩ => rfl
  frame_out
  have h18 : k0_pay18 P0 P1 P2 P3 P4 P5 P6 = k0_pay5 P1 := by
    unfold k0_pay18
    exact congrArg k0_pay5 (View.ld_unit_zero (by decide) _ _)
  rw [h18, ← block_apply (P0 := P1) (P1 := P0) (P2 := P4) (P3 := P5) (P4 := P2) (P5 := P3) (P6 := P6) h0 h1 h2 h3 h4 h5 (y 1) (y 2)]
  exact congrArg (k0_pay1 _ _) hy

/-- THE RESULT ARRAY: what the blocks leave is the reference's value. -/
theorem out_eq (h0 : ∀ b i l, m ((c.tc : Thread nD τ).loc main_arg0) (ix3 b i l) = ((q b i l : ℝ) : EReal))
    (h1 : ∀ b i l, m ((c.tc : Thread nD τ).loc main_arg1) (ix3 b i l) = ((k b i l : ℝ) : EReal))
    (h2 : ∀ b i l, m ((c.tc : Thread nD τ).loc main_arg2) (ix3 b i l) = ((v b i l : ℝ) : EReal))
    (h3 : ∀ b i l, m ((c.tc : Thread nD τ).loc main_arg3) (ix3 b i l) = ((ck b i l : ℝ) : EReal))
    (h4 : ∀ b i l, m ((c.tc : Thread nD τ).loc main_arg4) (ix3 b i l) = ((cv b i l : ℝ) : EReal))
    (h5 : ∀ i d, m ((c.tc : Thread nD τ).loc main_arg5) (ix3 0 i d) = ((p i d : ℝ) : EReal)) :
    (dats m 0 c).arrAt 7 cfg0.N = Cert.ReferenceIdeal.Read.val_main_v79 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  have he : (win0_7.blk t).view.emb y = ix3 (batch t) (y 1) (ln (head t) (y 2)) := by
    blk_ext [idx t, batch, head, ln]
  rw [after0_7]
  refine (out_apply (fun i l => (iblk1 m c t i l).trans (h0 _ _ _)) (fun i d => (iblk0 m c t i d).trans (h5 _ _))
    (fun i l => (iblk4 m c t i l).trans (h3 _ _ _)) (fun i l => (iblk5 m c t i l).trans (h4 _ _ _))
    (fun i l => (iblk2 m c t i l).trans (h1 _ _ _)) (fun i l => (iblk3 m c t i l).trans (h2 _ _ _)) y).trans ?_
  refine (congrArg (fun g => finish _ g _) (iblk6 m c t (y 2))).trans ?_
  exact (ref_apply (x6 := m ((c.tc : Thread nD τ).loc main_arg6)) h0 h1 h2 h3 h4 h5 (batch t) (head t) (y 1) (y 2)).symm.trans
    (congrArg _ he.symm)

end Cert.DiffAttn

end
-- ==== Proof.Pre.lean ====
/- What the precondition gives: every element of the six checked arrays is a real number. -/
module

public import proofs.«01_k».proof.Defs
public import proofs.«01_k».proof.Proof.Gen.Pre_finite
public import Idealize.ShloMosaic.Lib.Pointwise

@[expose] public section

noncomputable section

namespace Cert.DiffAttn

open Idealize.ShloMosaic

/-- An extended real whose absolute value is below infinity is a real number. -/
theorem real_of_abs_lt {x : EReal} (h : max x (-x) < ⊤) : ∃ r : ℝ, x = (r : EReal) := by
  induction x using EReal.rec with
  | bot => simp at h
  | coe r => exact ⟨r, rfl⟩
  | top => simp at h

/-- A comparison that came out true is true. -/
theorem lt_of_cmp {x y : EReal} (h : Ideal.cmp .olt x y = 1#1) : x < y := by
  by_contra hn
  simp [Ideal.cmp, hn] at h

theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

/-- An element of a checked bf16 array is real. -/
theorem real_bf16 {s : Shape} {x y : FVec Ideal s .bf16} (hy : ∀ i, y i = (⊤ : EReal)) (h : cmpf .olt (Host.absf x) y = fun _ => 1#1) (i : s.Idx) :
    ∃ r : ℝ, x i = (r : EReal) := by
  have e : Ideal.cmp .olt (max (x i : EReal) (-(x i : EReal))) (y i) = 1#1 := congrFun h i
  rw [hy] at e
  exact real_of_abs_lt (lt_of_cmp e)

/-- An element of a checked f32 array is real. -/
theorem real_f32 {s : Shape} {x y : FVec Ideal s .f32} (hy : ∀ i, y i = (⊤ : EReal)) (h : cmpf .olt (Host.absf x) y = fun _ => 1#1) (i : s.Idx) :
    ∃ r : ℝ, x i = (r : EReal) := by
  have e : Ideal.cmp .olt (max (x i : EReal) (-(x i : EReal))) (y i) = 1#1 := congrFun h i
  rw [hy] at e
  exact real_of_abs_lt (lt_of_cmp e)

section
open Cert.Pre_finite
variable {a b c : FVec Ideal S8x2048x512 .bf16} {d e : FVec Ideal S8x256x512 .bf16} {p : FVec Ideal S1x4x64 .f32} {g : FVec Ideal S1x4x128 .f32}

/-- THE PRECONDITION READ: the six checked arrays are real, element by element. -/
theorem finite_real (h1 : (fn (F := Ideal) a b c d e p g).1 = fun _ => 1#1) (h2 : (fn (F := Ideal) a b c d e p g).2.1 = fun _ => 1#1)
    (h3 : (fn (F := Ideal) a b c d e p g).2.2.1 = fun _ => 1#1) (h4 : (fn (F := Ideal) a b c d e p g).2.2.2.1 = fun _ => 1#1)
    (h5 : (fn (F := Ideal) a b c d e p g).2.2.2.2.1 = fun _ => 1#1) (h6 : (fn (F := Ideal) a b c d e p g).2.2.2.2.2 = fun _ => 1#1) :
    (∀ i, ∃ r : ℝ, a i = (r : EReal)) ∧ (∀ i, ∃ r : ℝ, b i = (r : EReal)) ∧ (∀ i, ∃ r : ℝ, c i = (r : EReal))
      ∧ (∀ i, ∃ r : ℝ, d i = (r : EReal)) ∧ (∀ i, ∃ r : ℝ, e i = (r : EReal)) ∧ (∀ i, ∃ r : ℝ, p i = (r : EReal)) :=
  ⟨real_bf16 (fun _ => inf_bf16) h1, real_bf16 (fun _ => inf_bf16) h2, real_bf16 (fun _ => inf_bf16) h3, real_bf16 (fun _ => inf_bf16) h4,
    real_bf16 (fun _ => inf_bf16) h5, real_f32 (fun _ => inf_f32) h6⟩

end

end Cert.DiffAttn

end
-- ==== Proof.MixBlock.lean ====
/- One block of the output projection: what the body computes of one tile of tokens, at an index. -/
module

public import proofs.«01_k».proof.Proof.Gen.MixKernelIdeal.Value
public import Idealize.ShloMosaic.Lib.Pipeline.ValueKit

@[expose] public section

noncomputable section

namespace Cert.MixOut

open Idealize.ShloMosaic Cert.MixKernelIdeal Cert.MixKernelIdeal.Gen Cert.MixKernelIdeal.Value

/-- A token's stream at a lane: what came in and, gated, the two mixers' outputs through their halves of the output weights. -/
def stream (r d : Fin 512 → EReal) (wa wb : Fin 512 → Fin 1024 → EReal) (x g : Fin 1024 → EReal) (n : Fin 1024) : EReal :=
  x n + g n * ((∑ k, r k * wa k n) + ∑ k, d k * wb k n)

/-- A token's modulated norm at a lane: the lane over the root mean square, times the gain, scaled and shifted. -/
def normed (x g sc sh : Fin 1024 → EReal) (n : Fin 1024) : EReal :=
  x n * (FloatOps.rsqrt (F := Ideal) (φ := .f32) (FloatOps.addf (FloatOps.divf (F := Ideal) (φ := .f32) (∑ k, x k * x k)
    (Ideal.ofBits .f32 0x44800000#32)) (Ideal.ofBits .f32 0x358637BD#32)) : EReal) * g n * (Ideal.ofBits .f32 0x3F800000#32 + sc n) + sh n

section Block
variable {P0 P2 : Vec Ideal S1x1024x512 .bf16} {P1 P3 : Vec Ideal S512x1024 .bf16} {P4 : Vec Ideal S1x1024x1024 .f32}
variable {P5 P7 P8 : Vec Ideal S1x1x1024 .f32} {P6 : Vec Ideal S1x1024 .f32} {P9 : Vec Ideal S2048x1024 .bf16}

/-- The stream the body computes of its operands. -/
def tok (P0 : Vec Ideal S1x1024x512 .bf16) (P1 : Vec Ideal S512x1024 .bf16) (P2 : Vec Ideal S1x1024x512 .bf16) (P3 : Vec Ideal S512x1024 .bf16)
    (P4 : Vec Ideal S1x1024x1024 .f32) (P5 : Vec Ideal S1x1x1024 .f32) (t : Fin 1024) : Fin 1024 → EReal :=
  stream (fun k => P0 (ix3 0 t k)) (fun k => P2 (ix3 0 t k)) (fun k n => P1 (ix2 k n)) (fun k n => P3 (ix2 k n))
    (fun n => P4 (ix3 0 t n)) (fun n => P5 (ix3 0 0 n))

/-- The stream at a token and a lane. -/
theorem pay4_apply (t n : Fin 1024) : k0_pay4 P0 P1 P2 P3 P4 P5 (ix2 t n) = tok P0 P1 P2 P3 P4 P5 t n := by
  unfold tok stream
  pointwise [k0_pay4]

/-- The norm the body computes of its operands. -/
def hid (P0 : Vec Ideal S1x1024x512 .bf16) (P1 : Vec Ideal S512x1024 .bf16) (P2 : Vec Ideal S1x1024x512 .bf16) (P3 : Vec Ideal S512x1024 .bf16)
    (P4 : Vec Ideal S1x1024x1024 .f32) (P5 : Vec Ideal S1x1x1024 .f32) (P6 : Vec Ideal S1x1024 .f32) (P7 P8 : Vec Ideal S1x1x1024 .f32)
    (t : Fin 1024) : Fin 1024 → EReal :=
  normed (tok P0 P1 P2 P3 P4 P5 t) (fun n => P6 (ix2 0 n)) (fun n => P7 (ix3 0 0 n)) (fun n => P8 (ix3 0 0 n))

/-- The token's lane over its root mean square. -/
theorem pay6_apply (t n : Fin 1024) : k0_pay6 P0 P1 P2 P3 P4 P5 (ix2 t n) = tok P0 P1 P2 P3 P4 P5 t n
    * (FloatOps.rsqrt (F := Ideal) (φ := .f32) (FloatOps.addf (FloatOps.divf (F := Ideal) (φ := .f32) (∑ k, tok P0 P1 P2 P3 P4 P5 t k * tok P0 P1 P2 P3 P4 P5 t k)
    (Ideal.ofBits .f32 0x44800000#32)) (Ideal.ofBits .f32 0x358637BD#32)) : EReal) := by
  pointwise [k0_pay6]
  simp only [pay4_apply]

/-- The normed stream, lanes first, at a lane and a token. -/
theorem pay7_apply (t n : Fin 1024) : k0_pay7 (k0_pay6 P0 P1 P2 P3 P4 P5) P6 P7 P8 (ix2 n t) = hid P0 P1 P2 P3 P4 P5 P6 P7 P8 t n := by
  unfold hid normed
  rw [← pay6_apply]
  pointwise [k0_pay7]

/-- The queries, lanes first. -/
theorem pay8_apply (t : Fin 1024) (r : Fin 2048) : k0_pay8 (k0_pay6 P0 P1 P2 P3 P4 P5) P6 P7 P8 P9 (ix2 r t)
    = ∑ n, P9 (ix2 r n) * hid P0 P1 P2 P3 P4 P5 P6 P7 P8 t n := by
  simp only [← pay7_apply]
  pointwise [k0_pay8]

end Block

/-- Lane `c` of head half `h` among the 2048 query lanes. -/
def ql (h : Fin 16) (c : Fin 128) : Fin 2048 := ⟨h.val * 128 + c.val, by omega⟩

section Out
variable (x0 x1 : Vec Ideal S1x1024x512 .bf16) (x2 : Vec Ideal S1x1024x1024 .f32) (x3 x4 x5 : Vec Ideal S1x1x1024 .f32)
variable (x6 : Vec Ideal S1x1024 .f32) (x7 x8 : Vec Ideal S512x1024 .bf16) (x9 : Vec Ideal S2048x1024 .bf16) (x10 : Vec Ideal S16x128x128 .bf16)

/-- What a point leaves of the stream at an index of its block. -/
theorem out11_apply (y : S1x1024x1024.Idx) : out0_11 x0 x1 x2 x3 x4 x5 x6 x7 x8 x9 x10 y = tok x0 x7 x1 x8 x2 x3 (y 1) (y 2) := by
  refine Eq.trans ?_ (pay4_apply (y 1) (y 2))
  frame_out
  pointwise [k0_pay5]

/-- What a point leaves of the normed stream at an index of its block. -/
theorem out12_apply (y : S1024x1024.Idx) : out0_12 x0 x1 x2 x3 x4 x5 x6 x7 x8 x9 x10 y = hid x0 x7 x1 x8 x2 x3 x6 x5 x4 (y 1) (y 0) := by
  refine Eq.trans ?_ (pay7_apply (y 1) (y 0))
  frame_out
  have h26 : k0_pay26 x0 x1 x2 x3 x4 x5 x6 x7 x8 x9 x10 = k0_pay6 x0 x7 x1 x8 x2 x3 := by
    unfold k0_pay26
    simp (disch := decide) only [View.ld_unit_zero]
  rw [h26]
  refine congrArg _ (funext fun a => ?_)
  match a with | ⟨0, _⟩ => rfl | ⟨1, _⟩ => rfl

/-- The queries of a block. -/
theorem pay27_apply (r : Fin 2048) (t : Fin 1024) : k0_pay27 x0 x1 x2 x3 x4 x5 x6 x7 x8 x9 x10 (ix2 r t)
    = ∑ n, x9 (ix2 r n) * hid x0 x7 x1 x8 x2 x3 x6 x5 x4 t n := by
  rw [← pay8_apply]
  unfold k0_pay27 k0_pay26
  simp (disch := decide) only [View.ld_unit_zero]

/-- What a point leaves of the scores at an index of its block. -/
theorem out13_apply (y : S16x128x1024.Idx) : out0_13 x0 x1 x2 x3 x4 x5 x6 x7 x8 x9 x10 y
    = ∑ c, x10 (ix3 (y 0) (y 1) c) * k0_pay27 x0 x1 x2 x3 x4 x5 x6 x7 x8 x9 x10 (ix2 (ql (y 0) c) (y 2)) := by
  canon_tiles x g
  all_goals
    unfold k0_pay27
    pointwise [k0_pay1, k0_pay2, k0_pay3, k0_pay9, k0_pay10, k0_pay11, k0_pay12, k0_pay13, k0_pay14, k0_pay15, k0_pay16, k0_pay17,
      k0_pay18, k0_pay19, k0_pay20, k0_pay21, k0_pay22, k0_pay23, k0_pay24, k0_pay25]
    refine Finset.sum_congr rfl fun c _ => congrArg₂ (· * ·) (congrArg x10 (funext fun a => Fin.ext ?_))
      (congrArg (k0_pay8 _ _ _ _ _) (funext fun a => Fin.ext ?_))
    · match a with
      | ⟨0, _⟩ => simp [ix3] at *; omega
      | ⟨1, _⟩ => simp [ix3] at *; omega
      | ⟨2, _⟩ => rfl
    · match a with
      | ⟨0, _⟩ => simp [ix2, ql] at *; omega
      | ⟨1, _⟩ => simp [ix2, ql] at *; omega

end Out

end Cert.MixOut

end
-- ==== Proof.MixRef.lean ====
/- The reference's output projection, second norm and key scores, each stage at an index. -/
module

public import proofs.«01_k».proof.Proof.Gen.MixReferenceIdeal.Read
public import proofs.«01_k».proof.Proof.MixBlock

@[expose] public section

noncomputable section

namespace Cert.MixOut

open Idealize.ShloMosaic Cert.MixReferenceIdeal Cert.MixReferenceIdeal.Gen Cert.MixReferenceIdeal.Read

/-- A sample's row of the modulation. -/
def mrow (b : Fin 8) : Fin 16 := ⟨b.val, by omega⟩

/-- Lane `n` of the `k`-th of the six modulation vectors. -/
def md (k : Fin 6) (n : Fin 1024) : Fin 6144 := ⟨k.val * 1024 + n.val, by omega⟩

/-- A row of the output weights' first half. -/
def lo (k : Fin 512) : Fin 1024 := ⟨k.val, by omega⟩

/-- A row of the output weights' second half. -/
def hi (k : Fin 512) : Fin 1024 := ⟨512 + k.val, by omega⟩

/-- Token `i` of sample `b` among all tokens. -/
def tk (b : Fin 8) (i : Fin 2048) : Fin 16384 := ⟨b.val * 2048 + i.val, by omega⟩

/-- A sum over 1024 rows is the sum over the first 512 and over the last. -/
theorem sum_halves (f : Fin 1024 → EReal) : ∑ k, f k = (∑ k : Fin 512, f (lo k)) + ∑ k : Fin 512, f (hi k) :=
  Fin.sum_univ_add (a := 512) (b := 512) f

section Stages
variable (x0 x1 : Vec Ideal S8x2048x512 .bf16) (x2 : Vec Ideal S8x2048x1024 .f32) (x3 : Vec Ideal S16x6144 .f32)
variable (x4 : Vec Ideal S1x1024 .f32) (x5 : Vec Ideal S1x1024x1024 .f32) (x6 : Vec Ideal S1x1024x2048 .f32) (x7 : Vec Ideal S1x8x2x128x128 .f32)

/-- The modulation as six vectors a sample. -/
theorem mod_apply (b : Fin 8) (k : Fin 6) (n : Fin 1024) : val_main_v1 (F := Ideal) x3 (ix4 b k 0 n) = x3 (ix2 (mrow b) (md k n)) := by
  rw [val_main_v1_apply, val_main_v0_apply]
  refine congrArg x3 (funext fun a => Fin.ext ?_)
  match a with
  | ⟨0, _⟩ => simp [idx_main_v1, idx_main_v0, ix4, ix2, mrow, md] <;> omega
  | ⟨1, _⟩ => simp [idx_main_v1, idx_main_v0, ix4, ix2, mrow, md] <;> omega

/-- The residual's gate. -/
theorem gate_apply (b : Fin 8) (i : Fin 2048) (n : Fin 1024) : val_main_v9 (F := Ideal) x3 (ix3 b i n) = x3 (ix2 (mrow b) (md 2 n)) := by
  rw [val_main_v9_apply, val_main_v6_apply, val_main_v5_apply, ← mod_apply x3]
  refine congrArg _ (funext fun a => Fin.ext ?_)
  match a with
  | ⟨0, _⟩ => simp [idx_main_v9, idx_main_v6, idx_main_v5, ix4, ix3] <;> omega
  | ⟨1, _⟩ => simp [idx_main_v9, idx_main_v6, idx_main_v5, ix4, ix3]
  | ⟨2, _⟩ => simp [idx_main_v9, idx_main_v6, idx_main_v5, ix4, ix3]
  | ⟨3, _⟩ => simp [idx_main_v9, idx_main_v6, idx_main_v5, ix4, ix3] <;> omega

/-- The norm's scale, one added. -/
theorem scale_apply (b : Fin 8) (i : Fin 2048) (n : Fin 1024) :
    val_main_v30 (F := Ideal) x3 (ix3 b i n) = Ideal.ofBits .f32 0x3F800000#32 + x3 (ix2 (mrow b) (md 4 n)) := by
  rw [val_main_v30_apply, val_main_v29_apply, val_main_v28_apply, val_main_v27_apply, val_main_v26_apply, ← mod_apply x3]
  refine congrArg (fun z : EReal => Ideal.ofBits .f32 0x3F800000#32 + z) (congrArg _ (funext fun a => Fin.ext ?_))
  match a with
  | ⟨0, _⟩ => simp [idx_main_v30, idx_main_v27, idx_main_v26, ix4, ix3] <;> omega
  | ⟨1, _⟩ => simp [idx_main_v30, idx_main_v27, idx_main_v26, ix4, ix3]
  | ⟨2, _⟩ => simp [idx_main_v30, idx_main_v27, idx_main_v26, ix4, ix3]
  | ⟨3, _⟩ => simp [idx_main_v30, idx_main_v27, idx_main_v26, ix4, ix3] <;> omega

/-- The norm's shift. -/
theorem shift_apply (b : Fin 8) (i : Fin 2048) (n : Fin 1024) : val_main_v34 (F := Ideal) x3 (ix3 b i n) = x3 (ix2 (mrow b) (md 3 n)) := by
  rw [val_main_v34_apply, val_main_v33_apply, val_main_v32_apply, ← mod_apply x3]
  refine congrArg _ (funext fun a => Fin.ext ?_)
  match a with
  | ⟨0, _⟩ => simp [idx_main_v34, idx_main_v33, idx_main_v32, ix4, ix3] <;> omega
  | ⟨1, _⟩ => simp [idx_main_v34, idx_main_v33, idx_main_v32, ix4, ix3]
  | ⟨2, _⟩ => simp [idx_main_v34, idx_main_v33, idx_main_v32, ix4, ix3]
  | ⟨3, _⟩ => simp [idx_main_v34, idx_main_v33, idx_main_v32, ix4, ix3] <;> omega

/-- The norm's gain. -/
theorem gain_apply (b : Fin 8) (i : Fin 2048) (n : Fin 1024) : val_main_v24 (F := Ideal) x4 (ix3 b i n) = x4 (ix2 0 n) := by
  rw [val_main_v24_apply, val_main_v23_apply, val_main_v22_apply]
  refine congrArg _ (funext fun a => Fin.ext ?_)
  match a with
  | ⟨0, _⟩ => simp [idx_main_v24, idx_main_v23, idx_main_v22, ix2, ix3]
  | ⟨1, _⟩ => simp [idx_main_v24, idx_main_v23, idx_main_v22, ix2, ix3] <;> omega

/-- The two mixers' outputs side by side: the first. -/
theorem mixed_lo (b : Fin 8) (i : Fin 2048) (k : Fin 512) : val_main_v4 (F := Ideal) x0 x1 (ix3 b i (lo k)) = x0 (ix3 b i k) := by
  have hk : (lo k).val < 512 := k.isLt
  pointwise [val_main_v4, val_main_v2, val_main_v3, lo]

/-- The two mixers' outputs side by side: the second. -/
theorem mixed_hi (b : Fin 8) (i : Fin 2048) (k : Fin 512) : val_main_v4 (F := Ideal) x0 x1 (ix3 b i (hi k)) = x1 (ix3 b i k) := by
  have hk : ¬ (hi k).val < 512 := by simp [hi]
  pointwise [val_main_v4, val_main_v2, val_main_v3, hi]

/-- The output weights. -/
theorem wout_apply (k n : Fin 1024) : val_main_v7 (F := Ideal) x5 (ix2 k n) = x5 (ix3 0 k n) := by
  rw [val_main_v7_apply]
  refine congrArg _ (funext fun a => Fin.ext ?_)
  match a with
  | ⟨0, _⟩ => rfl
  | ⟨1, _⟩ => simp [idx_main_v7, ix2, ix3] <;> omega
  | ⟨2, _⟩ => simp [idx_main_v7, ix2, ix3] <;> omega

/-- A token's stream, of the reference's arguments. -/
def tokR (b : Fin 8) (i : Fin 2048) : Fin 1024 → EReal :=
  stream (fun k => x0 (ix3 b i k)) (fun k => x1 (ix3 b i k)) (fun k n => x5 (ix3 0 (lo k) n)) (fun k n => x5 (ix3 0 (hi k) n))
    (fun n => x2 (ix3 b i n)) (fun n => x3 (ix2 (mrow b) (md 2 n)))

/-- The stream is the gated residual of the projection. -/
theorem stream_apply (b : Fin 8) (i : Fin 2048) (n : Fin 1024) :
    val_main_v11 (F := Ideal) x0 x1 x2 x3 x5 (ix3 b i n) = tokR x0 x1 x2 x3 x5 b i n := by
  have h8 : val_main_v8 (F := Ideal) x0 x1 x5 (ix3 b i n)
      = (∑ k : Fin 512, x0 (ix3 b i k) * x5 (ix3 0 (lo k) n)) + ∑ k : Fin 512, x1 (ix3 b i k) * x5 (ix3 0 (hi k) n) := by
    have il : ∀ k, lidx_main_v8 (ix3 b i n) k = ix3 b i k := fun k => funext fun a => by
      match a with | ⟨0, _⟩ => rfl | ⟨1, _⟩ => rfl | ⟨2, _⟩ => rfl
    have ir : ∀ k, ridx_main_v8 (ix3 b i n) k = ix2 k n := fun k => funext fun a => by
      match a with | ⟨0, _⟩ => rfl | ⟨1, _⟩ => rfl
    rw [val_main_v8_apply, sum_halves]
    simp only [il, ir, wout_apply, mixed_lo, mixed_hi]
  rw [val_main_v11_apply, val_main_v10_apply, gate_apply, h8]
  rfl

/-- A token's sum of squares. -/
theorem squares_apply (b : Fin 8) (i : Fin 2048) :
    val_main_v13 (F := Ideal) x0 x1 x2 x3 x5 (ix2 b i) = ∑ k, tokR x0 x1 x2 x3 x5 b i k * tokR x0 x1 x2 x3 x5 b i k := by
  have i1 : ∀ l, idx_main_v13 (ix2 b i) l = ix3 b i l := fun l => funext fun a => by
    match a with | ⟨0, _⟩ => rfl | ⟨1, _⟩ => rfl | ⟨2, _⟩ => rfl
  rw [val_main_v13_apply, val_main_cst_apply]
  have z : (FloatOps.ofBits .f32 0x00000000#32 : Ideal .f32) = (0 : EReal) := by
    show Ideal.ofBits .f32 0x00000000#32 = 0
    simp [Ideal.ofBits, Ideal.ieee]
  rw [z]
  refine (zero_add _).trans (Finset.sum_congr rfl fun l _ => ?_)
  rw [i1, val_main_v12_apply, stream_apply]
  rfl

/-- A token's modulated norm, of the reference's arguments. -/
def hidR (b : Fin 8) (i : Fin 2048) : Fin 1024 → EReal :=
  normed (tokR x0 x1 x2 x3 x5 b i) (fun n => x4 (ix2 0 n)) (fun n => x3 (ix2 (mrow b) (md 4 n))) (fun n => x3 (ix2 (mrow b) (md 3 n)))

/-- One over a token's root mean square. -/
theorem rms_apply (b : Fin 8) (i : Fin 2048) (n : Fin 1024) : val_main_v20 (F := Ideal) x0 x1 x2 x3 x5 (ix3 b i n)
    = FloatOps.rsqrt (F := Ideal) (φ := .f32) (FloatOps.addf (FloatOps.divf (F := Ideal) (φ := .f32)
      (∑ k, tokR x0 x1 x2 x3 x5 b i k * tokR x0 x1 x2 x3 x5 b i k) (Ideal.ofBits .f32 0x44800000#32)) (Ideal.ofBits .f32 0x358637BD#32)) := by
  have i1 : idx_main_v14 (idx_main_v20 (ix3 b i n)) = ix2 b i := funext fun a => by
    match a with | ⟨0, _⟩ => rfl | ⟨1, _⟩ => rfl
  rw [val_main_v20_apply, val_main_v19_apply, val_main_v18_apply, val_main_v16_apply, val_main_v14_apply, i1, squares_apply,
    val_main_v15_apply, val_main_v17_apply, val_main_cst_0_apply, val_main_cst_1_apply]
  generalize (∑ k, tokR x0 x1 x2 x3 x5 b i k * tokR x0 x1 x2 x3 x5 b i k) = y
  rfl

/-- The normed stream is the token's modulated norm. -/
theorem normed_apply (b : Fin 8) (i : Fin 2048) (n : Fin 1024) :
    val_main_v35 (F := Ideal) x0 x1 x2 x3 x4 x5 (ix3 b i n) = hidR x0 x1 x2 x3 x4 x5 b i n := by
  rw [val_main_v35_apply, val_main_v31_apply, val_main_v25_apply, val_main_v21_apply, stream_apply, rms_apply, gain_apply, scale_apply, shift_apply]
  unfold hidR normed
  generalize tokR x0 x1 x2 x3 x5 b i = y
  rfl

/-- The normed stream with the tokens in one row. -/
theorem rows_apply (b : Fin 8) (i : Fin 2048) (n : Fin 1024) :
    val_main_v36 (F := Ideal) x0 x1 x2 x3 x4 x5 (ix2 (tk b i) n) = hidR x0 x1 x2 x3 x4 x5 b i n := by
  rw [val_main_v36_apply, ← normed_apply]
  refine congrArg _ (funext fun a => Fin.ext ?_)
  match a with
  | ⟨0, _⟩ => simp [idx_main_v36, ix2, ix3, tk] <;> omega
  | ⟨1, _⟩ => simp [idx_main_v36, ix2, ix3, tk] <;> omega
  | ⟨2, _⟩ => simp [idx_main_v36, ix2, ix3, tk] <;> omega

/-- The second result: the normed stream, the tokens last. -/
theorem ht_apply (b : Fin 8) (i : Fin 2048) (n : Fin 1024) :
    val_main_v44 (F := Ideal) x0 x1 x2 x3 x4 x5 (ix2 n (tk b i)) = hidR x0 x1 x2 x3 x4 x5 b i n := by
  have i1 : idx_main_v43 (ix2 n (tk b i)) = ix2 (tk b i) n := funext fun a => by
    match a with | ⟨0, _⟩ => rfl | ⟨1, _⟩ => rfl
  rw [val_main_v44_apply, val_main_v43_apply, i1, rows_apply]
  rfl

/-- The query weights. -/
theorem wq_apply (k : Fin 1024) (r : Fin 2048) : val_main_v37 (F := Ideal) x6 (ix2 k r) = x6 (ix3 0 k r) := by
  rw [val_main_v37_apply]
  refine congrArg _ (funext fun a => Fin.ext ?_)
  match a with
  | ⟨0, _⟩ => rfl
  | ⟨1, _⟩ => simp [idx_main_v37, ix2, ix3] <;> omega
  | ⟨2, _⟩ => simp [idx_main_v37, ix2, ix3] <;> omega

/-- A token's queries. -/
theorem query_apply (b : Fin 8) (i : Fin 2048) (r : Fin 2048) : val_main_v38 (F := Ideal) x0 x1 x2 x3 x4 x5 x6 (ix2 (tk b i) r)
    = ∑ k, hidR x0 x1 x2 x3 x4 x5 b i k * x6 (ix3 0 k r) := by
  have il : ∀ k, lidx_main_v38 (ix2 (tk b i) r) k = ix2 (tk b i) k := fun k => funext fun a => by
    match a with | ⟨0, _⟩ => rfl | ⟨1, _⟩ => rfl
  have ir : ∀ k, ridx_main_v38 (ix2 (tk b i) r) k = ix2 k r := fun k => funext fun a => by
    match a with | ⟨0, _⟩ => rfl | ⟨1, _⟩ => rfl
  rw [val_main_v38_apply]
  simp only [il, ir, rows_apply, wq_apply]

/-- A head, of a head half. -/
def hd (h : Fin 16) : Fin 8 := ⟨h.val / 2, by omega⟩

/-- Which half of its head a head half is. -/
def hf (h : Fin 16) : Fin 2 := ⟨h.val % 2, by omega⟩

/-- The keys. -/
theorem key_apply (h : Fin 8) (p : Fin 2) (n c : Fin 128) : val_main_v40 (F := Ideal) x7 (ix4 h p n c) = x7 (ix5 0 h p n c) := by
  rw [val_main_v40_apply]
  refine congrArg _ (funext fun a => Fin.ext ?_)
  match a with
  | ⟨0, _⟩ => rfl
  | ⟨1, _⟩ => simp [idx_main_v40, ix4, ix5] <;> omega
  | ⟨2, _⟩ => simp [idx_main_v40, ix4, ix5] <;> omega
  | ⟨3, _⟩ => simp [idx_main_v40, ix4, ix5] <;> omega
  | ⟨4, _⟩ => simp [idx_main_v40, ix4, ix5] <;> omega

/-- A token's queries as heads, halves and lanes. -/
theorem heads_apply (b : Fin 8) (i : Fin 2048) (h : Fin 16) (c : Fin 128) :
    val_main_v39 (F := Ideal) x0 x1 x2 x3 x4 x5 x6 (ix4 (tk b i) (hd h) (hf h) c)
      = ∑ k, hidR x0 x1 x2 x3 x4 x5 b i k * x6 (ix3 0 k (ql h c)) := by
  rw [val_main_v39_apply, ← query_apply]
  refine congrArg _ (funext fun a => Fin.ext ?_)
  match a with
  | ⟨0, _⟩ => simp [idx_main_v39, ix2, ix4, tk, hd, hf, ql] <;> omega
  | ⟨1, _⟩ => simp [idx_main_v39, ix2, ix4, tk, hd, hf, ql] <;> omega

/-- THE REFERENCE'S SCORES at an index: the key with the token's query. -/
theorem score_apply (b : Fin 8) (i : Fin 2048) (h : Fin 16) (n : Fin 128) :
    val_main_v46 (F := Ideal) x0 x1 x2 x3 x4 x5 x6 x7 (ix3 h n (tk b i))
      = ∑ c, x7 (ix5 0 (hd h) (hf h) n c) * ∑ k, x6 (ix3 0 k (ql h c)) * hidR x0 x1 x2 x3 x4 x5 b i k := by
  have i1 : idx_main_v42 (idx_main_v45 (idx_main_v46 (ix3 h n (tk b i)))) = ix4 (hd h) (hf h) n (tk b i) := funext fun a => Fin.ext (by
    match a with
    | ⟨0, _⟩ => simp [idx_main_v46, idx_main_v45, idx_main_v42, ix3, ix4, tk, hd, hf] <;> omega
    | ⟨1, _⟩ => simp [idx_main_v46, idx_main_v45, idx_main_v42, ix3, ix4, tk, hd, hf] <;> omega
    | ⟨2, _⟩ => simp [idx_main_v46, idx_main_v45, idx_main_v42, ix3, ix4, tk, hd, hf] <;> omega
    | ⟨3, _⟩ => simp [idx_main_v46, idx_main_v45, idx_main_v42, ix3, ix4, tk, hd, hf] <;> omega)
  have il : ∀ c, lidx_main_v41 (ix4 (hd h) (hf h) n (tk b i)) c = ix4 (hd h) (hf h) n c := fun k => funext fun a => by
    match a with | ⟨0, _⟩ => rfl | ⟨1, _⟩ => rfl | ⟨2, _⟩ => rfl | ⟨3, _⟩ => rfl
  have ir : ∀ c, ridx_main_v41 (ix4 (hd h) (hf h) n (tk b i)) c = ix4 (tk b i) (hd h) (hf h) c := fun k => funext fun a => by
    match a with | ⟨0, _⟩ => rfl | ⟨1, _⟩ => rfl | ⟨2, _⟩ => rfl | ⟨3, _⟩ => rfl
  rw [val_main_v46_apply, val_main_v45_apply, val_main_v42_apply, i1, val_main_v41_apply]
  simp only [il, ir, key_apply, heads_apply, mul_comm (hidR x0 x1 x2 x3 x4 x5 b i _)]

end Stages

end Cert.MixOut

end
-- ==== Proof.MixArray.lean ====
/- The mixing kernel's three result arrays are the reference's. -/
module

public import proofs.«01_k».proof.Proof.MixRef

@[expose] public section

noncomputable section

namespace Cert.MixOut

open Idealize.ShloMosaic Idealize.SL.Sem Cert.MixKernelIdeal Cert.MixKernelIdeal.Gen Cert.MixKernelIdeal.Value

/-- Every window's block at a grid point, by the point's sample and tile. -/
theorem idx : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, (grid0.coords t 1).val, 0]
    ∧ win0_3.index t = ![(grid0.coords t 0).val, 0, 2] ∧ win0_4.index t = ![(grid0.coords t 0).val, 0, 3] ∧ win0_5.index t = ![(grid0.coords t 0).val, 0, 4]
    ∧ win0_6.index t = ![0, 0] ∧ win0_7.index t = ![0, 0] ∧ win0_8.index t = ![0, 0] ∧ win0_9.index t = ![0, 0] ∧ win0_10.index t = ![0, 0, 0]
    ∧ win0_11.index t = ![(grid0.coords t 0).val, (grid0.coords t 1).val, 0]
    ∧ win0_12.index t = ![0, (grid0.coords t 0).val * 2 + (grid0.coords t 1).val]
    ∧ win0_13.index t = ![0, 0, (grid0.coords t 0).val * 2 + (grid0.coords t 1).val] :=
  (by decide +kernel : ∀ t : Fin grid0.N, _)

variable (m : (ℓ : Loc nD τ sig) → Buf (Elt Ideal) ℓ) (c : Dev nD)

/-- A point's sample. -/
def batch (t : Fin cfg0.N) : Fin 8 := grid0.coords t 0

/-- A point's tile of its sample's tokens. -/
def tile (t : Fin cfg0.N) : Fin 2 := grid0.coords t 1

/-- Token `i` of a tile among its sample's. -/
def tt (u : Fin 2) (i : Fin 1024) : Fin 2048 := ⟨u.val * 1024 + i.val, by omega⟩

theorem iblk0 (t : Fin cfg0.N) (i : Fin 1024) (l : Fin 512) :
    iblk m c 0 t (ix3 0 i l) = m ((c.tc : Thread nD τ).loc main_arg0) (ix3 (batch t) (tt (tile t) i) l) := by
  blk_ext! [iblk, V, idx t, batch, tile, tt]

theorem iblk1 (t : Fin cfg0.N) (i : Fin 1024) (l : Fin 512) :
    iblk m c 1 t (ix3 0 i l) = m ((c.tc : Thread nD τ).loc main_arg1) (ix3 (batch t) (tt (tile t) i) l) := by
  blk_ext! [iblk, V, idx t, batch, tile, tt]

theorem iblk2 (t : Fin cfg0.N) (i : Fin 1024) (l : Fin 1024) :
    iblk m c 2 t (ix3 0 i l) = m ((c.tc : Thread nD τ).loc main_arg2) (ix3 (batch t) (tt (tile t) i) l) := by
  blk_ext! [iblk, V, idx t, batch, tile, tt]

theorem iblk3 (t : Fin cfg0.N) (n : Fin 1024) :
    iblk m c 3 t (ix3 0 0 n) = m ((c.tc : Thread nD τ).loc main_arg3) (ix2 (mrow (batch t)) (md 2 n)) := by
  blk_ext! [iblk, V, idx t, batch, mrow, md]

theorem iblk4 (t : Fin cfg0.N) (n : Fin 1024) :
    iblk m c 4 t (ix3 0 0 n) = m ((c.tc : Thread nD τ).loc main_arg3) (ix2 (mrow (batch t)) (md 3 n)) := by
  blk_ext! [iblk, V, idx t, batch, mrow, md]

theorem iblk5 (t : Fin cfg0.N) (n : Fin 1024) :
    iblk m c 5 t (ix3 0 0 n) = m ((c.tc : Thread nD τ).loc main_arg3) (ix2 (mrow (batch t)) (md 4 n)) := by
  blk_ext! [iblk, V, idx t, batch, mrow, md]

theorem iblk6 (t : Fin cfg0.N) (n : Fin 1024) :
    iblk m c 6 t (ix2 0 n) = m ((c.tc : Thread nD τ).loc main_arg4) (ix2 0 n) := by
  blk_ext! [iblk, V, idx t]

theorem iblk7 (t : Fin cfg0.N) (k : Fin 512) (n : Fin 1024) :
    iblk m c 7 t (ix2 k n) = m ((c.tc : Thread nD τ).loc main_arg5) (ix3 0 (lo k) n) := by
  blk_ext! [iblk, V, idx t, lo]

theorem iblk8 (t : Fin cfg0.N) (k : Fin 512) (n : Fin 1024) :
    iblk m c 8 t (ix2 k n) = m ((c.tc : Thread nD τ).loc main_arg5) (ix3 0 (hi k) n) := by
  blk_ext! [iblk, V, idx t, hi]

theorem iblk9 (t : Fin cfg0.N) (r : Fin 2048) (n : Fin 1024) :
    iblk m c 9 t (ix2 r n) = m ((c.tc : Thread nD τ).loc main_arg6) (ix3 0 n r) := by
  blk_ext! [iblk, V, idx t]

theorem iblk10 (t : Fin cfg0.N) (h : Fin 16) (n l : Fin 128) :
    iblk m c 10 t (ix3 h n l) = m ((c.tc : Thread nD τ).loc main_arg7) (ix5 0 (hd h) (hf h) n l) := by
  blk_ext! [iblk, V, idx t, hd, hf]

/-- The stream of a point's token is the reference's. -/
theorem tok_eq (t : Fin cfg0.N) (i : Fin 1024) : tok (iblk m c 0 t) (iblk m c 7 t) (iblk m c 1 t) (iblk m c 8 t) (iblk m c 2 t) (iblk m c 3 t) i
    = tokR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) (batch t) (tt (tile t) i) := by
  unfold tok tokR
  simp only [iblk0, iblk1, iblk2, iblk3, iblk7, iblk8]

/-- The norm of a point's token is the reference's. -/
theorem hid_eq (t : Fin cfg0.N) (i : Fin 1024) : hid (iblk m c 0 t) (iblk m c 7 t) (iblk m c 1 t) (iblk m c 8 t) (iblk m c 2 t) (iblk m c 3 t)
      (iblk m c 6 t) (iblk m c 5 t) (iblk m c 4 t) i
    = hidR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (batch t) (tt (tile t) i) := by
  unfold hid hidR
  rw [tok_eq]
  simp only [iblk4, iblk5, iblk6]

/-- THE STREAM: what the blocks leave is the reference's value. -/
theorem out11_eq : (dats m 0 c).arrAt 11 cfg0.N = Cert.MixReferenceIdeal.Read.val_main_v11 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg5)) := by
  refine (dats m 0 c).arrAt_eq_of_covers 11 _ (by decide +kernel) fun t hf y => ?_
  blk_simp
  have he : (win0_11.blk t).view.emb y = ix3 (batch t) (tt (tile t) (y 1)) (y 2) := by
    blk_ext [idx t, batch, tile, tt]
  rw [after0_11]
  refine (out11_apply _ _ _ _ _ _ _ _ _ _ _ y).trans ((congrFun (tok_eq m c t (y 1)) (y 2)).trans ?_)
  exact (stream_apply _ _ _ _ _ (batch t) (tt (tile t) (y 1)) (y 2)).symm.trans (congrArg _ he.symm)

/-- THE NORMED STREAM: what the blocks leave is the reference's value. -/
theorem out12_eq : (dats m 0 c).arrAt 12 cfg0.N = Cert.MixReferenceIdeal.Read.val_main_v44 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := by
  refine (dats m 0 c).arrAt_eq_of_covers 12 _ (by decide +kernel) fun t hf y => ?_
  blk_simp
  have he : (win0_12.blk t).view.emb y = ix2 (y 0) (tk (batch t) (tt (tile t) (y 1))) := by
    blk_ext [idx t, batch, tile, tt, tk]
  rw [after0_12]
  refine (out12_apply _ _ _ _ _ _ _ _ _ _ _ y).trans ((congrFun (hid_eq m c t (y 1)) (y 0)).trans ?_)
  exact (ht_apply _ _ _ _ _ _ (batch t) (tt (tile t) (y 1)) (y 0)).symm.trans (congrArg _ he.symm)

/-- THE SCORES: what the blocks leave is the reference's value. -/
theorem out13_eq : (dats m 0 c).arrAt 13 cfg0.N = Cert.MixReferenceIdeal.Read.val_main_v46 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) := by
  refine (dats m 0 c).arrAt_eq_of_covers 13 _ (by decide +kernel) fun t hf y => ?_
  blk_simp
  have he : (win0_13.blk t).view.emb y = ix3 (y 0) (y 1) (tk (batch t) (tt (tile t) (y 2))) := by
    blk_ext [idx t, batch, tile, tt, tk]
  rw [after0_13]
  refine (out13_apply _ _ _ _ _ _ _ _ _ _ _ y).trans (Eq.trans (Finset.sum_congr rfl fun l _ => ?_)
    ((score_apply _ _ _ _ _ _ _ _ (batch t) (tt (tile t) (y 2)) (y 0) (y 1)).symm.trans (congrArg _ he.symm)))
  refine congrArg₂ (· * ·) (iblk10 m c t (y 0) (y 1) l) ((pay27_apply _ _ _ _ _ _ _ _ _ _ _ (ql (y 0) l) (y 2)).trans (Finset.sum_congr rfl fun n _ => ?_))
  exact congrArg₂ (· * ·) (iblk9 m c t (ql (y 0) l) n) (congrFun (hid_eq m c t (y 2)) n)

end Cert.MixOut

end
-- ==== Proof.InBlock.lean ====
/- One block of the input projection: what the body computes of one tile of tokens, at an index. -/
module

public import proofs.«01_k».proof.Proof.Gen.InKernelIdeal.Frame
public import Idealize.ShloMosaic.Lib.Pipeline.ValueKit
public import Idealize.ShloMosaic.Lib.Pipeline.ReadBack
public import proofs.«01_k».proof.Proof.MixBlock

@[expose] public section

noncomputable section

namespace Cert.InProj

open Idealize.ShloMosaic Cert.InKernelIdeal Cert.InKernelIdeal.Gen
open Cert.MixOut (normed)

/-- Whether a lane is in a group of 64: one where it is, zero where not. -/
def sel (q : Fin 512) (j : Fin 128) : EReal := if q.val / 64 = j.val then 1 else 0

/-- One over the root mean square of a group's lanes, as the body takes it: the squares and what their rounding left, each through the group's selection. -/
def grms (v : Fin 512 → EReal) (j : Fin 128) : EReal :=
  Ideal.rsqrt (((∑ q, v q * v q * sel q j) + ∑ q, (v q * v q - v q * v q) * sel q j) * Ideal.ofBits .f32 0x3C800000#32 + Ideal.ofBits .f32 0x358637BD#32)

/-- A lane over its group's root mean square, as the body takes it, times its gain. -/
def gnorm (v g : Fin 512 → EReal) (q : Fin 512) : EReal :=
  v q * ((∑ j, grms v j * sel q j) + ∑ j, (grms v j - grms v j) * sel q j) * g q

/-- The lane `s` after `l`, around 128 lanes. -/
def rot (l : Fin 128) (s : Nat) : Fin 128 := ⟨(l.val + s) % 128, Nat.mod_lt _ (by decide)⟩

/-- A slab of 128 lanes turned, as the body turns it: by the cosines, the lanes 16 after and the lanes 16 before. -/
def slab (v cs up dn : Fin 128 → EReal) (l : Fin 128) : EReal := v l * cs l + v (rot l 16) * up l + v (rot l 112) * dn l

/-- A row of whole slabs turned, slab by slab. -/
def wide {n : Nat} (hn : 128 ∣ n) (v : Fin n → EReal) (cs up dn : Fin 128 → EReal) (q : Fin n) : EReal :=
  slab (fun l => v ⟨q.val / 128 * 128 + l.val, by have := q.isLt; omega⟩) cs up dn ⟨q.val % 128, Nat.mod_lt _ (by decide)⟩

/-- Column `o + q` of the projection. -/
def col {n : Nat} (o : Nat) (h : o + n ≤ 3072) (q : Fin n) : Fin 3072 := ⟨o + q.val, by omega⟩

/-- The group the selection's word names is the lane's 64. -/
theorem quot_eq : ∀ q : Fin 512, (Scalar.select (IntOp.andi (IntOp.cmpi .ne
      (IntOp.subi (BitVec.setWidth 32 (IntOp.cmpi .sgt (BitVec.ofNat 32 q.val) 0#32)) (BitVec.setWidth 32 (IntOp.cmpi .slt (BitVec.ofNat 32 q.val) 0#32)))
      (Scalar.subi (Scalar.extui (Scalar.cmpi .sgt 64#32 0#32)) (Scalar.extui (Scalar.cmpi .slt 64#32 0#32))))
      (IntOp.cmpi .ne (IntOp.remsi .vector (BitVec.ofNat 32 q.val) 64#32) 0#32))
    (IntOp.subi (IntOp.divsi .vector (BitVec.ofNat 32 q.val) 64#32) 1#32)
    (IntOp.divsi .vector (BitVec.ofNat 32 q.val) 64#32) : BitVec 32) = BitVec.ofNat 32 (q.val / 64) := by
  decide +kernel

/-- The selection's word as a number. -/
theorem sel_word (q : Fin 512) (j : Fin 128) : (FloatOps.sitofp (F := Ideal) FTy.f32
    (BitVec.setWidth 32 (IntOp.cmpi .eq (BitVec.ofNat 32 (q.val / 64)) (BitVec.ofNat 32 j.val))) : EReal) = sel q j := by
  unfold sel
  by_cases h : q.val / 64 = j.val
  · rw [if_pos h, h]
    simp [IntOp.cmpi, FloatOps.sitofp]
  · rw [if_neg h]
    have : BitVec.ofNat 32 (q.val / 64) ≠ BitVec.ofNat 32 j.val := by
      intro e
      have := congrArg BitVec.toNat e
      simp only [BitVec.toNat_ofNat] at this
      omega
    simp [IntOp.cmpi, FloatOps.sitofp, beq_eq_false_iff_ne.mpr this]

section Block
variable (P0 : Vec Ideal S1x1024x1024 .f32) (P1 : Vec Ideal S1x1024 .f32) (P2 P3 : Vec Ideal S1x1x1024 .f32) (P4 : Vec Ideal S1024x3072 .bf16)

/-- A token's modulated norm, of the body's operands. -/
def hid (t : Fin 1024) : Fin 1024 → EReal :=
  normed (fun n => P0 (ix3 0 t n)) (fun n => P1 (ix2 0 n)) (fun n => P2 (ix3 0 0 n)) (fun n => P3 (ix3 0 0 n))

/-- A token's projection, of the body's operands. -/
def row (t : Fin 1024) (k : Fin 3072) : EReal := ∑ n, hid P0 P1 P2 P3 t n * P4 (ix2 n k)

/-- The projection at a token and a column. -/
theorem pay3_apply (t : Fin 1024) (k : Fin 3072) : k0_pay3 P0 P1 P2 P3 P4 (ix2 t k) = row P0 P1 P2 P3 P4 t k := by
  unfold row hid normed
  pointwise [k0_pay3]

variable (g : FVec Ideal S1x512 .f32) (v : Vec Ideal S1024x512 .f32)

theorem pay15_apply (q : Fin 512) (j : Fin 128) : k0_pay15 (F := Ideal) (ix2 q j) = sel q j := by
  rw [← sel_word, ← quot_eq]
  pointwise [k0_pay15]

theorem pay27_apply (q : Fin 512) (j : Fin 128) : k0_pay27 (F := Ideal) (ix2 q j) = sel q j := by
  rw [← sel_word, ← quot_eq]
  pointwise [k0_pay27]

/-- The queries' norm. -/
theorem pay19_apply (t : Fin 1024) (q : Fin 512) :
    k0_pay19 (F := Ideal) g v k0_pay15 (iota Kind.tc S128x512 32 [1] iota_S128x512_d1_w32) k0_pay16 k0_pay17 k0_pay18 (ix2 t q)
      = gnorm (fun q => v (ix2 t q)) (fun q => g (ix2 0 q)) q := by
  unfold gnorm grms
  simp only [← pay15_apply]
  simp only [pay15_apply q, ← sel_word, ← quot_eq]
  pointwise [k0_pay19, k0_pay16, k0_pay17, k0_pay18]

/-- The keys' norm. -/
theorem pay30_apply (t : Fin 1024) (q : Fin 512) :
    k0_pay30 (F := Ideal) g v k0_pay27 (iota Kind.tc S128x512 32 [1] iota_S128x512_d1_w32) (64#32) k0_pay28 k0_pay29 0#32 (ix2 t q)
      = gnorm (fun q => v (ix2 t q)) (fun q => g (ix2 0 q)) q := by
  unfold gnorm grms
  simp only [← pay27_apply]
  simp only [pay27_apply q, ← sel_word, ← quot_eq]
  pointwise [k0_pay30, k0_pay28, k0_pay29]

end Block

end Cert.InProj

end
-- ==== Proof.InSlab.lean ====
/- The input projection's stores, slab by slab: each is its 128 lanes turned by the token's tables. -/
module

public import proofs.«01_k».proof.Proof.InBlock

@[expose] public section

noncomputable section

namespace Cert.InProj

open Idealize.ShloMosaic Cert.InKernelIdeal Cert.InKernelIdeal.Gen

/-- A row of whole slabs turned, at lane `l` of slab `s`. -/
theorem wide_at {n : Nat} (hn : 128 ∣ n) (v : Fin n → EReal) (cs up dn : Fin 128 → EReal) (s : Nat) (l : Fin 128) (h : s * 128 + l.val < n) :
    wide hn v cs up dn ⟨s * 128 + l.val, h⟩ = v ⟨s * 128 + l.val, h⟩ * cs l
      + v ⟨s * 128 + (l.val + 128 - 112) % 128, by omega⟩ * up l + v ⟨s * 128 + (l.val + 128 - 16) % 128, by omega⟩ * dn l := by
  have e : (⟨(s * 128 + l.val) % 128, Nat.mod_lt _ (by decide)⟩ : Fin 128) = l := Fin.ext (by show (s * 128 + l.val) % 128 = l.val; omega)
  unfold wide slab rot
  refine congrArg₂ (· + ·) (congrArg₂ (· + ·) (congrArg₂ (· * ·) (congrArg v (Fin.ext ?_)) (congrArg cs e))
    (congrArg₂ (· * ·) (congrArg v (Fin.ext ?_)) (congrArg up e))) (congrArg₂ (· * ·) (congrArg v (Fin.ext ?_)) (congrArg dn e))
  · show (s * 128 + l.val) / 128 * 128 + (s * 128 + l.val) % 128 = s * 128 + l.val
    omega
  · show (s * 128 + l.val) / 128 * 128 + ((s * 128 + l.val) % 128 + 16) % 128 = s * 128 + (l.val + 128 - 112) % 128
    omega
  · show (s * 128 + l.val) / 128 * 128 + ((s * 128 + l.val) % 128 + 112) % 128 = s * 128 + (l.val + 128 - 16) % 128
    omega

/-- A token's row of whole slabs turned by its tables. -/
def turn (cs up dn : Vec Ideal S1024x128 .f32) (i : Fin 1024) {n : Nat} (hn : 128 ∣ n) (v : Fin n → EReal) : Fin n → EReal :=
  wide hn v (fun l => cs (ix2 i l)) (fun l => up (ix2 i l)) (fun l => dn (ix2 i l))

/-- Lane `l` of slab `s`. -/
def lane {n : Nat} (s : Nat) (h : s * 128 + 128 ≤ n) (l : Fin 128) : Fin n := ⟨s * 128 + l.val, by omega⟩

/-- The two slabs of the retention's lanes. -/
abbrev two : 128 ∣ 256 := ⟨2, rfl⟩

/-- The four slabs of the attention's lanes. -/
abbrev four : 128 ∣ 512 := ⟨4, rfl⟩

section
variable (cs up dn : Vec Ideal S1024x128 .f32) (i : Fin 1024) (l : Fin 128)

/-- The retention's queries, slab 0. -/
theorem rq0 (v : Vec Ideal S1024x256 .f32) : k0_pay7 (F := Ideal) (k0_pay4 cs) up dn v (ix3 0 i l)
    = turn cs up dn i two (fun q => v (ix2 i q)) (lane 0 (by decide) l) := by
  unfold turn lane
  rw [wide_at]
  pointwise [k0_pay7, k0_pay8, k0_pay4, k0_pay5, k0_pay6]

/-- The retention's queries, slab 1. -/
theorem rq1 (v : Vec Ideal S1024x256 .f32) : k0_pay8 (F := Ideal) (k0_pay4 cs) up dn v (ix3 0 i l)
    = turn cs up dn i two (fun q => v (ix2 i q)) (lane 1 (by decide) l) := by
  unfold turn lane
  rw [wide_at]
  pointwise [k0_pay7, k0_pay8, k0_pay4, k0_pay5, k0_pay6]

/-- The retention's keys, slab 0. -/
theorem rk0 (v : Vec Ideal S1024x256 .f32) : k0_pay10 (F := Ideal) (k0_pay9 (k0_pay4 cs) up dn v) (ix3 0 i l)
    = turn cs up dn i two (fun q => v (ix2 i q)) (lane 0 (by decide) l) * Ideal.ofBits .f32 0x3E000000#32 := by
  unfold turn lane
  rw [wide_at]
  pointwise [k0_pay9, k0_pay10, k0_pay11, k0_pay4, k0_pay5, k0_pay6]

/-- The retention's keys, slab 1. -/
theorem rk1 (v : Vec Ideal S1024x256 .f32) : k0_pay11 (F := Ideal) (k0_pay4 cs) (k0_pay5 up) (k0_pay6 dn) v (ix3 0 i l)
    = turn cs up dn i two (fun q => v (ix2 i q)) (lane 1 (by decide) l) * Ideal.ofBits .f32 0x3E000000#32 := by
  unfold turn lane
  rw [wide_at]
  pointwise [k0_pay9, k0_pay10, k0_pay11, k0_pay4, k0_pay5, k0_pay6]

section
variable (v : FVec Ideal S1024x512 .f32)

/-- The attention's queries, slab 1. -/
theorem dq1  : k0_pay22 (F := Ideal) (k0_pay4 cs) (k0_pay5 up) (k0_pay6 dn) v (ix3 0 i l)
    = turn cs up dn i four (fun q => v (ix2 i q)) (lane 1 (by decide) l) * Named.named (F := Ideal) (φ := .f32) κ "q_scale" 0x3E38AA3B#32 := by
  unfold turn lane
  rw [wide_at]
  pointwise [k0_pay22, k0_pay23, k0_pay24, k0_pay25, k0_pay4, k0_pay5, k0_pay6]

/-- The attention's queries, slab 2. -/
theorem dq2  : k0_pay23 (F := Ideal) (k0_pay4 cs) (k0_pay5 up) (k0_pay6 dn) v (ix3 0 i l)
    = turn cs up dn i four (fun q => v (ix2 i q)) (lane 2 (by decide) l) * Named.named (F := Ideal) (φ := .f32) κ "q_scale" 0x3E38AA3B#32 := by
  unfold turn lane
  rw [wide_at]
  pointwise [k0_pay22, k0_pay23, k0_pay24, k0_pay25, k0_pay4, k0_pay5, k0_pay6]

/-- The attention's queries, slab 3. -/
theorem dq3  : k0_pay25 (F := Ideal) (k0_pay24 (k0_pay4 cs) (k0_pay5 up) (k0_pay6 dn) v) (ix3 0 i l)
    = turn cs up dn i four (fun q => v (ix2 i q)) (lane 3 (by decide) l) * Named.named (F := Ideal) (φ := .f32) κ "q_scale" 0x3E38AA3B#32 := by
  unfold turn lane
  rw [wide_at]
  pointwise [k0_pay22, k0_pay23, k0_pay24, k0_pay25, k0_pay4, k0_pay5, k0_pay6]

/-- The attention's keys, slab 1. -/
theorem dk1  : k0_pay34 (F := Ideal) (k0_pay4 cs) (k0_pay5 up) (k0_pay6 dn) v (ix3 0 i l)
    = turn cs up dn i four (fun q => v (ix2 i q)) (lane 1 (by decide) l) := by
  unfold turn lane
  rw [wide_at]
  pointwise [k0_pay34, k0_pay35, k0_pay36, k0_pay37, k0_pay38, k0_pay1, k0_pay4, k0_pay5, k0_pay6]

/-- The attention's keys, slab 2. -/
theorem dk2  : k0_pay35 (F := Ideal) (k0_pay4 cs) (k0_pay5 up) (k0_pay6 dn) v (ix3 0 i l)
    = turn cs up dn i four (fun q => v (ix2 i q)) (lane 2 (by decide) l) := by
  unfold turn lane
  rw [wide_at]
  pointwise [k0_pay34, k0_pay35, k0_pay36, k0_pay37, k0_pay38, k0_pay1, k0_pay4, k0_pay5, k0_pay6]

/-- The attention's keys, slab 3. -/
theorem dk3  : k0_pay1 (F := Ideal) (k0_pay37 (k0_pay4 cs) (k0_pay5 up) v) (k0_pay38 (k0_pay6 dn) v) (ix3 0 i l)
    = turn cs up dn i four (fun q => v (ix2 i q)) (lane 3 (by decide) l) := by
  unfold turn lane
  rw [wide_at]
  pointwise [k0_pay34, k0_pay35, k0_pay36, k0_pay37, k0_pay38, k0_pay1, k0_pay4, k0_pay5, k0_pay6]

end

/-- The attention's queries, slab 0. -/
theorem dq0 (g : FVec Ideal S1x512 .f32) (w : Vec Ideal S1024x512 .f32) (S : FVec Ideal S512x128 .bf16) (a b e : IVec S128x512 32) (d : IVec S128x512 1) : k0_pay21 (F := Ideal) (k0_pay20 (k0_pay4 cs) (k0_pay5 up) (k0_pay6 dn) g w S a b d e) (ix3 0 i l)
    = turn cs up dn i four (fun q => k0_pay19 g w S a b d e (ix2 i q)) (lane 0 (by decide) l) * Named.named (F := Ideal) (φ := .f32) κ "q_scale" 0x3E38AA3B#32 := by
  unfold turn lane
  rw [wide_at]
  pointwise [k0_pay20, k0_pay21, k0_pay4, k0_pay5, k0_pay6]

/-- The attention's keys, slab 0. -/
theorem dk0 (g : FVec Ideal S1x512 .f32) (w : Vec Ideal S1024x512 .f32) (S : FVec Ideal S512x128 .bf16) (a b d : IVec S128x512 32) (e f : BitVec 32) : k0_pay33 (F := Ideal) (k0_pay4 cs) (k0_pay5 up) (k0_pay6 dn) (k0_pay31 g w S a e b d f) (k0_pay32 g w S a e b d f) (ix3 0 i l)
    = turn cs up dn i four (fun q => k0_pay30 g w S a e b d f (ix2 i q)) (lane 0 (by decide) l) := by
  unfold turn lane
  rw [wide_at]
  pointwise [k0_pay31, k0_pay32, k0_pay33, k0_pay4, k0_pay5, k0_pay6]

end

end Cert.InProj

end
-- ==== Proof.InOut.lean ====
/- What a point of the input projection's grid leaves in each of the seven outputs' blocks, at an index. -/
module

public import proofs.«01_k».proof.Proof.InSlab

@[expose] public section

noncomputable section

namespace Cert.InProj

open Idealize.ShloMosaic Idealize.SL.Sem Cert.InKernelIdeal Cert.InKernelIdeal.Gen

/-- An index of a store, by its token and lane. -/
theorem at_token (x : S1x1024x128.Idx) : x = ix3 0 (x 1) (x 2) := funext fun a => by
  match a with
  | ⟨0, _⟩ => exact Fin.ext (by have := (x 0).isLt; show (x 0).val = 0; change (x 0).val < 1 at this; omega)
  | ⟨1, _⟩ => rfl
  | ⟨2, _⟩ => rfl

/-- Turned rows of equal tokens, rows and lanes are equal. -/
theorem turn_congr (cs up dn : Vec Ideal S1024x128 .f32) {i i' : Fin 1024} {n : Nat} (hn : 128 ∣ n) {v v' : Fin n → EReal} {q q' : Fin n}
    (hi : i = i') (hv : ∀ q, v q = v' q) (hq : q = q') : turn cs up dn i hn v q = turn cs up dn i' hn v' q' := by
  obtain rfl := hi
  obtain rfl := hq
  obtain rfl := funext hv
  rfl

variable (m : (ℓ : Loc nD τ sig) → Buf (Elt Ideal) ℓ) (c : Dev nD) (t : Fin cfg0.N)

/-- The projection of a point's token. -/
def prow (i : Fin 1024) : Fin 3072 → EReal := row (iblk m c 0 t) (iblk m c 3 t) (iblk m c 2 t) (iblk m c 1 t) (iblk m c 4 t) i

/-- A row of a point's whole slabs turned by the token's tables. -/
def turned {n : Nat} (hn : 128 ∣ n) (i : Fin 1024) (v : Fin n → EReal) : Fin n → EReal := turn (iblk m c 5 t) (iblk m c 6 t) (iblk m c 7 t) i hn v

/-- The retention's queries. -/
theorem out9_apply (y : S1x1024x256.Idx) : (outsAt0 m c t).1 y
    = turned m c t two (y 1) (fun q => prow m c t (y 1) (col 0 (by decide) q)) (y 2) := by
  rw [outsAt0]
  dsimp only
  frame_out
  simp (disch := decide) only [View.readCov_fill]
  canon_tiles x h
  · refine (congrArg _ (at_token x)).trans ((rq1 _ _ _ (x 1) (x 2) _).trans (turn_congr _ _ _ two (Fin.ext h1.symm) (fun q => ?_) (Fin.ext ?_)))
    · refine Eq.trans ?_ ((pay3_apply _ _ _ _ _ (x 1) (col (n := 256) 0 (by decide) q)).trans (congrArg (fun i => prow m c t i _) (Fin.ext h1.symm)))
      pointwise [col]
    · show 1 * 128 + (x 2).val = (y 2).val
      omega
  · refine (congrArg _ (at_token x)).trans ((rq0 _ _ _ (x 1) (x 2) _).trans (turn_congr _ _ _ two (Fin.ext h1.symm) (fun q => ?_) (Fin.ext ?_)))
    · refine Eq.trans ?_ ((pay3_apply _ _ _ _ _ (x 1) (col (n := 256) 0 (by decide) q)).trans (congrArg (fun i => prow m c t i _) (Fin.ext h1.symm)))
      pointwise [col]
    · show 0 * 128 + (x 2).val = (y 2).val
      omega

/-- The retention's keys. -/
theorem out10_apply (y : S1x1024x256.Idx) : (outsAt0 m c t).2.1 y
    = turned m c t two (y 1) (fun q => prow m c t (y 1) (col 256 (by decide) q)) (y 2) * Ideal.ofBits .f32 0x3E000000#32 := by
  rw [outsAt0]
  dsimp only
  frame_out
  simp (disch := decide) only [View.readCov_fill]
  canon_tiles x h
  · refine (congrArg _ (at_token x)).trans ((rk1 _ _ _ (x 1) (x 2) _).trans (congrArg (· * _) (turn_congr _ _ _ two (Fin.ext h1.symm) (fun q => ?_) (Fin.ext ?_))))
    · refine Eq.trans ?_ ((pay3_apply _ _ _ _ _ (x 1) (col (n := 256) 256 (by decide) q)).trans (congrArg (fun i => prow m c t i _) (Fin.ext h1.symm)))
      pointwise [col]
    · show 1 * 128 + (x 2).val = (y 2).val
      omega
  · refine (congrArg _ (at_token x)).trans ((rk0 _ _ _ (x 1) (x 2) _).trans (congrArg (· * _) (turn_congr _ _ _ two (Fin.ext h1.symm) (fun q => ?_) (Fin.ext ?_))))
    · refine Eq.trans ?_ ((pay3_apply _ _ _ _ _ (x 1) (col (n := 256) 256 (by decide) q)).trans (congrArg (fun i => prow m c t i _) (Fin.ext h1.symm)))
      pointwise [col]
    · show 0 * 128 + (x 2).val = (y 2).val
      omega

/-- The retention's values. -/
theorem out11_apply (y : S1x1024x512.Idx) : (outsAt0 m c t).2.2.1 y = prow m c t (y 1) (col (n := 512) 512 (by decide) (y 2)) := by
  rw [outsAt0]
  dsimp only
  frame_out
  simp (disch := decide) only [View.readCov_fill]
  refine Eq.trans ?_ (pay3_apply _ _ _ _ _ (y 1) (col (n := 512) 512 (by decide) (y 2)))
  pointwise [k0_pay12, col]

/-- The retention's gates. -/
theorem out12_apply (y : S1x1024x512.Idx) : (outsAt0 m c t).2.2.2.1 y = prow m c t (y 1) (col (n := 512) 1024 (by decide) (y 2)) := by
  rw [outsAt0]
  dsimp only
  frame_out
  simp (disch := decide) only [View.readCov_fill]
  refine Eq.trans ?_ (pay3_apply _ _ _ _ _ (y 1) (col (n := 512) 1024 (by decide) (y 2)))
  pointwise [k0_pay13, col]

/-- The attention's values. -/
theorem out15_apply (y : S1x1024x512.Idx) : (outsAt0 m c t).2.2.2.2.2.2 y = prow m c t (y 1) (col (n := 512) 2560 (by decide) (y 2)) := by
  rw [outsAt0]
  dsimp only
  frame_out
  simp (disch := decide) only [View.readCov_fill]
  refine Eq.trans ?_ (pay3_apply _ _ _ _ _ (y 1) (col (n := 512) 2560 (by decide) (y 2)))
  pointwise [k0_pay2, col]

/-- A token's attention queries, normed. -/
def dqn (i : Fin 1024) : Fin 512 → EReal := gnorm (fun q => prow m c t i (col 1536 (by decide) q)) (fun q => iblk m c 8 t (ix2 0 q))

/-- The body's normed queries. -/
theorem dqn_apply (i : Fin 1024) (q : Fin 512) :
    k0_pay19 (F := Ideal) (k0_pay14 (View.ld (iblk m c 8 t) (Rect.unit ![0, 0] ![1, 512] inb_S2x512_S1x512_0_0)))
      (View.ld (Val := Elt Ideal) (e' := .f32) (k0_pay3 (F := Ideal) (iblk m c 0 t) (iblk m c 3 t) (iblk m c 2 t) (iblk m c 1 t) (iblk m c 4 t)) (Rect.unit (s := S1024x3072) ![0, 1536] ![1024, 512] inb_S1024x3072_S1024x512_0_1536))
      k0_pay15 (iota Kind.tc S128x512 32 [1] iota_S128x512_d1_w32) k0_pay16 k0_pay17 k0_pay18 (ix2 i q) = dqn m c t i q := by
  refine (pay19_apply _ _ i q).trans ?_
  unfold dqn
  refine congrArg₂ (fun a b => gnorm a b q) (funext fun q => ?_) (funext fun q => ?_)
  · refine Eq.trans ?_ (pay3_apply _ _ _ _ _ i (col (n := 512) 1536 (by decide) q))
    pointwise [col]
  · pointwise [k0_pay14]

/-- A token's attention keys, normed. -/
def dkn (i : Fin 1024) : Fin 512 → EReal := gnorm (fun q => prow m c t i (col 2048 (by decide) q)) (fun q => iblk m c 8 t (ix2 1 q))

/-- The body's normed keys. -/
theorem dkn_apply (i : Fin 1024) (q : Fin 512) :
    k0_pay30 (F := Ideal) (k0_pay26 (View.ld (iblk m c 8 t) (Rect.unit ![1, 0] ![1, 512] inb_S2x512_S1x512_1_0)))
      (View.ld (Val := Elt Ideal) (e' := .f32) (k0_pay3 (F := Ideal) (iblk m c 0 t) (iblk m c 3 t) (iblk m c 2 t) (iblk m c 1 t) (iblk m c 4 t)) (Rect.unit (s := S1024x3072) ![0, 2048] ![1024, 512] inb_S1024x3072_S1024x512_0_2048))
      k0_pay27 (iota Kind.tc S128x512 32 [1] iota_S128x512_d1_w32) (64#32) k0_pay28 k0_pay29 0#32 (ix2 i q) = dkn m c t i q := by
  refine (pay30_apply _ _ i q).trans ?_
  unfold dkn
  refine congrArg₂ (fun a b => gnorm a b q) (funext fun q => ?_) (funext fun q => ?_)
  · refine Eq.trans ?_ (pay3_apply _ _ _ _ _ i (col (n := 512) 2048 (by decide) q))
    pointwise [col]
  · pointwise [k0_pay26]

/-- The attention's queries. -/
theorem out13_apply (y : S1x1024x512.Idx) : (outsAt0 m c t).2.2.2.2.1 y
    = turned m c t four (y 1) (dqn m c t (y 1)) (y 2) * Named.named (F := Ideal) (φ := .f32) κ "q_scale" 0x3E38AA3B#32 := by
  rw [outsAt0]
  dsimp only
  frame_out
  simp (disch := decide) only [View.readCov_fill]
  canon_tiles x h
  · refine (congrArg _ (at_token x)).trans ((dq3 _ _ _ (x 1) (x 2) _).trans (congrArg (· * _) (turn_congr _ _ _ four (Fin.ext h1.symm) (fun q => ?_) (Fin.ext ?_))))
    · exact (dqn_apply m c t (x 1) q).trans (congrArg (fun i => dqn m c t i q) (Fin.ext h1.symm))
    · show 3 * 128 + (x 2).val = (y 2).val
      omega
  · refine (congrArg _ (at_token x)).trans ((dq2 _ _ _ (x 1) (x 2) _).trans (congrArg (· * _) (turn_congr _ _ _ four (Fin.ext h1.symm) (fun q => ?_) (Fin.ext ?_))))
    · exact (dqn_apply m c t (x 1) q).trans (congrArg (fun i => dqn m c t i q) (Fin.ext h1.symm))
    · show 2 * 128 + (x 2).val = (y 2).val
      omega
  · refine (congrArg _ (at_token x)).trans ((dq1 _ _ _ (x 1) (x 2) _).trans (congrArg (· * _) (turn_congr _ _ _ four (Fin.ext h1.symm) (fun q => ?_) (Fin.ext ?_))))
    · exact (dqn_apply m c t (x 1) q).trans (congrArg (fun i => dqn m c t i q) (Fin.ext h1.symm))
    · show 1 * 128 + (x 2).val = (y 2).val
      omega
  · refine (congrArg _ (at_token x)).trans ((dq0 _ _ _ (x 1) (x 2) _ _ _ _ _ _ _).trans (congrArg (· * _) (turn_congr _ _ _ four (Fin.ext h1.symm) (fun q => ?_) (Fin.ext ?_))))
    · exact (dqn_apply m c t (x 1) q).trans (congrArg (fun i => dqn m c t i q) (Fin.ext h1.symm))
    · show 0 * 128 + (x 2).val = (y 2).val
      omega

/-- The attention's keys. -/
theorem out14_apply (y : S1x1024x512.Idx) : (outsAt0 m c t).2.2.2.2.2.1 y
    = turned m c t four (y 1) (dkn m c t (y 1)) (y 2) := by
  rw [outsAt0]
  dsimp only
  frame_out
  simp (disch := decide) only [View.readCov_fill]
  canon_tiles x h
  · refine (congrArg _ (at_token x)).trans ((dk3 _ _ _ (x 1) (x 2) _).trans (turn_congr _ _ _ four (Fin.ext h1.symm) (fun q => ?_) (Fin.ext ?_)))
    · exact (dkn_apply m c t (x 1) q).trans (congrArg (fun i => dkn m c t i q) (Fin.ext h1.symm))
    · show 3 * 128 + (x 2).val = (y 2).val
      omega
  · refine (congrArg _ (at_token x)).trans ((dk2 _ _ _ (x 1) (x 2) _).trans (turn_congr _ _ _ four (Fin.ext h1.symm) (fun q => ?_) (Fin.ext ?_)))
    · exact (dkn_apply m c t (x 1) q).trans (congrArg (fun i => dkn m c t i q) (Fin.ext h1.symm))
    · show 2 * 128 + (x 2).val = (y 2).val
      omega
  · refine (congrArg _ (at_token x)).trans ((dk1 _ _ _ (x 1) (x 2) _).trans (turn_congr _ _ _ four (Fin.ext h1.symm) (fun q => ?_) (Fin.ext ?_)))
    · exact (dkn_apply m c t (x 1) q).trans (congrArg (fun i => dkn m c t i q) (Fin.ext h1.symm))
    · show 1 * 128 + (x 2).val = (y 2).val
      omega
  · refine (congrArg _ (at_token x)).trans ((dk0 _ _ _ (x 1) (x 2) _ _ _ _ _ _ _ _).trans (turn_congr _ _ _ four (Fin.ext h1.symm) (fun q => ?_) (Fin.ext ?_)))
    · exact (dkn_apply m c t (x 1) q).trans (congrArg (fun i => dkn m c t i q) (Fin.ext h1.symm))
    · show 0 * 128 + (x 2).val = (y 2).val
      omega

end Cert.InProj

end
-- ==== Proof.InMath.lean ====
/- The input projection's two identities on a row of extended reals: slabs of 128 lanes turned are heads of 64 lanes turned, and of real rows the
   groups' norm taken through a selection is the norm of each group. -/
module

public import proofs.«01_k».proof.Proof.InBlock
public import proofs.«01_k».proof.Proof.Softmax

@[expose] public section

noncomputable section

namespace Cert.InProj

open Idealize.ShloMosaic
open Cert.MixOut (normed)

/-- A lane's partner in its half of 32 lanes, negated for the first 16. -/
def swap (v : Fin 64 → EReal) (l : Fin 64) : EReal :=
  if h : l.val % 32 < 16 then -(v ⟨l.val + 16, by omega⟩) else v ⟨l.val - 16, by omega⟩

/-- A head of 64 lanes turned: each lane by the cosine, its partner by the sine. -/
def spin (v co si : Fin 64 → EReal) (l : Fin 64) : EReal := v l * co l + swap v l * si l

/-- A lane among its 64. -/
def m64 (q : Nat) : Fin 64 := ⟨q % 64, Nat.mod_lt _ (by decide)⟩

/-- Lane `l` of the 64 that lane `q` is among. -/
def own {n : Nat} (hn : 128 ∣ n) (q : Fin n) (l : Fin 64) : Fin n := ⟨q.val / 64 * 64 + l.val, by have := q.isLt; omega⟩

/-- SLABS ARE HEADS: with tables of 64 lanes taken twice, a row turned slab by slab is turned head by head. -/
theorem wide_spin {n : Nat} (hn : 128 ∣ n) (v : Fin n → EReal) (cs up dn : Fin 128 → EReal) (co si : Fin 64 → EReal)
    (hc : ∀ l, cs l = co (m64 l.val)) (hu : ∀ l, up l = if l.val % 32 < 16 then -(si (m64 l.val)) else 0)
    (hd : ∀ l, dn l = if l.val % 32 < 16 then 0 else si (m64 l.val)) (q : Fin n) :
    wide hn v cs up dn q = spin (fun l => v (own hn q l)) co si (m64 q.val) := by
  have hq := q.isLt
  have e0 : m64 (q.val % 128) = m64 q.val := Fin.ext (by simp only [m64]; omega)
  have i0 : (⟨q.val / 128 * 128 + q.val % 128, by omega⟩ : Fin n) = own hn q (m64 q.val) := Fin.ext (by simp only [own, m64]; omega)
  unfold wide slab spin swap
  simp only [hc, hu, hd, e0]
  rw [i0]
  by_cases h : q.val % 32 < 16
  · have h1 : q.val % 128 % 32 < 16 := by omega
    have h2 : (m64 q.val).val % 32 < 16 := by simp only [m64]; omega
    have i1 : (⟨q.val / 128 * 128 + (rot ⟨q.val % 128, Nat.mod_lt _ (by decide)⟩ 16).val, by simp only [rot]; omega⟩ : Fin n)
        = own hn q ⟨(m64 q.val).val + 16, by omega⟩ := Fin.ext (by simp only [own, m64, rot]; omega)
    rw [if_pos h1, if_pos h1, dif_pos h2, i1, mul_zero, add_zero, mul_neg, EReal.neg_mul]
  · have h1 : ¬ q.val % 128 % 32 < 16 := by omega
    have h2 : ¬ (m64 q.val).val % 32 < 16 := by simp only [m64]; omega
    have i1 : (⟨q.val / 128 * 128 + (rot ⟨q.val % 128, Nat.mod_lt _ (by decide)⟩ 112).val, by simp only [rot]; omega⟩ : Fin n)
        = own hn q ⟨(m64 q.val).val - 16, by omega⟩ := Fin.ext (by simp only [own, m64, rot]; omega)
    rw [if_neg h1, if_neg h1, dif_neg h2, i1, mul_zero, add_zero]

/-- The lane's group. -/
def grp (q : Fin 512) : Fin 8 := ⟨q.val / 64, by omega⟩

/-- Lane `l` of a group. -/
def gl (a : Fin 8) (l : Fin 64) : Fin 512 := ⟨a.val * 64 + l.val, by omega⟩

/-- A sum through a group's selection is the sum over the group. -/
theorem sum_sel (f : Fin 512 → EReal) (a : Fin 8) (j : Fin 128) (hj : j.val = a.val) : ∑ q, f q * sel q j = ∑ l, f (gl a l) := by
  have e : ∑ q, f q * sel q j = ∑ p : Fin 8 × Fin 64, f (gl p.1 p.2) * sel (gl p.1 p.2) j := by
    refine (Fintype.sum_equiv (finProdFinEquiv (m := 8) (n := 64)) _ _ fun p => ?_).symm
    have : gl p.1 p.2 = finProdFinEquiv (m := 8) (n := 64) p := Fin.ext (by simp [gl, finProdFinEquiv]; omega)
    rw [this]
  rw [e, Fintype.sum_prod_type, Finset.sum_eq_single a]
  · refine Finset.sum_congr rfl fun l _ => ?_
    have : sel (gl a l) j = 1 := if_pos (by simp only [gl]; omega)
    rw [this, mul_one]
  · intro b _ hb
    refine Finset.sum_eq_zero fun l _ => ?_
    have : sel (gl b l) j = 0 := if_neg (by simp only [gl]; intro h; exact hb (Fin.ext (by omega)))
    rw [this, mul_zero]
  · intro h; exact absurd (Finset.mem_univ a) h

/-- A lane's own group, through the selection. -/
theorem sum_back (f : Fin 128 → EReal) (q : Fin 512) : ∑ j, f j * sel q j = f ⟨q.val / 64, by omega⟩ := by
  rw [Finset.sum_eq_single (⟨q.val / 64, by omega⟩ : Fin 128)]
  · rw [sel, if_pos rfl, mul_one]
  · intro b _ hb
    rw [sel, if_neg (fun h => hb (Fin.ext h.symm)), mul_zero]
  · intro h; exact absurd (Finset.mem_univ _) h

/-- A real number less itself is zero. -/
theorem sub_self_real {x : EReal} (h : ∃ r : ℝ, x = (r : EReal)) : x - x = 0 := by
  obtain ⟨r, rfl⟩ := h
  rw [← EReal.coe_sub, sub_self, EReal.coe_zero]

/-- The added constant is a positive real. -/
theorem eps_pos : ∃ e : ℝ, 0 < e ∧ Ideal.ofBits .f32 0x358637BD#32 = (e : EReal) :=
  ⟨8796093 * (2 ^ 43)⁻¹, by positivity, by simp [Ideal.ofBits, Ideal.ieee, -EReal.coe_mul]⟩

theorem inv64 : Ideal.ofBits .f32 0x3C800000#32 = ((1 / 64 : ℝ) : EReal) := by
  simp [Ideal.ofBits, Ideal.ieee, -EReal.coe_mul]; norm_num

theorem nat64 : Ideal.ofBits .f32 0x42800000#32 = ((64 : ℝ) : EReal) := by
  simp [Ideal.ofBits, Ideal.ieee, -EReal.coe_mul]; norm_num

theorem nat1024 : Ideal.ofBits .f32 0x44800000#32 = ((1024 : ℝ) : EReal) := by
  simp [Ideal.ofBits, Ideal.ieee, -EReal.coe_mul]; norm_num

theorem nat1 : Ideal.ofBits .f32 0x3F800000#32 = ((1 : ℝ) : EReal) := by
  simp [Ideal.ofBits, Ideal.ieee, -EReal.coe_mul]; norm_num

/-- One over the root of a positive real is real. -/
theorem rsqrt_real {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (by linarith), if_neg (by linarith)]

/-- A sum of squares of reals, as a real. -/
theorem squares_real {n : Nat} {v : Fin n → EReal} {w : Fin n → ℝ} (h : ∀ i, v i = (w i : EReal)) :
    ∑ i, v i * v i = ((∑ i, w i * w i : ℝ) : EReal) := by
  rw [← Cert.DiffAttn.coe_sum]
  exact Finset.sum_congr rfl fun i _ => by rw [h, EReal.coe_mul]

/-- A group's norm of the lane `q`: the lane over its group's root mean square, times the gain. -/
def hnorm (v g : Fin 64 → EReal) (l : Fin 64) : EReal :=
  v l * (FloatOps.rsqrt (F := Ideal) (φ := .f32) (FloatOps.addf (FloatOps.divf (F := Ideal) (φ := .f32) (∑ k, v k * v k)
    (Ideal.ofBits .f32 0x42800000#32)) (Ideal.ofBits .f32 0x358637BD#32)) : EReal) * g l

/-- THE GROUPS' NORM: of a real row, the norm taken through the selection is the norm of the lane's own group. -/
theorem gnorm_real (v g : Fin 512 → EReal) (hv : ∀ q, ∃ r : ℝ, v q = (r : EReal)) (q : Fin 512) :
    gnorm v g q = hnorm (fun l => v (gl (grp q) l)) (fun l => g (gl (grp q) l)) (m64 q.val) := by
  choose w hw using hv
  obtain ⟨e, he, ee⟩ := eps_pos
  have hz : ∀ q, v q * v q - v q * v q = 0 := fun q => sub_self_real ⟨w q * w q, by rw [hw, EReal.coe_mul]⟩
  have hs : ∀ j : Fin 128, ∀ a : Fin 8, j.val = a.val → grms v j = (((Real.sqrt ((∑ l, w (gl a l) * w (gl a l)) / 64 + e))⁻¹ : ℝ) : EReal) := by
    intro j a hj
    have hp : 0 < (∑ l, w (gl a l) * w (gl a l)) / 64 + e := by
      have : 0 ≤ ∑ l, w (gl a l) * w (gl a l) := Finset.sum_nonneg fun l _ => mul_self_nonneg _
      positivity
    have s1 : ∑ q, (v q * v q - v q * v q) * sel q j = 0 := Finset.sum_eq_zero fun q _ => by rw [hz, zero_mul]
    have s2 : ∑ q, v q * v q * sel q j = ((∑ l, w (gl a l) * w (gl a l) : ℝ) : EReal) :=
      (sum_sel (fun q => v q * v q) a j hj).trans (squares_real fun l => hw (gl a l))
    unfold grms
    rw [s1, s2, add_zero, inv64, ee, ← EReal.coe_mul, ← EReal.coe_add, mul_one_div, rsqrt_real hp]
  have hr : ∀ j : Fin 128, ∀ a : Fin 8, j.val = a.val → grms v j - grms v j = 0 := fun j a hj => sub_self_real ⟨_, hs j a hj⟩
  have hg : gl (grp q) (m64 q.val) = q := Fin.ext (by simp only [gl, grp, m64]; omega)
  have hp : 0 < (∑ l, w (gl (grp q) l) * w (gl (grp q) l)) / 64 + e := by
    have : 0 ≤ ∑ l, w (gl (grp q) l) * w (gl (grp q) l) := Finset.sum_nonneg fun l _ => mul_self_nonneg _
    positivity
  have hh : (FloatOps.rsqrt (F := Ideal) (φ := .f32) (FloatOps.addf (FloatOps.divf (F := Ideal) (φ := .f32) (∑ k, v (gl (grp q) k) * v (gl (grp q) k))
      (Ideal.ofBits .f32 0x42800000#32)) (Ideal.ofBits .f32 0x358637BD#32)) : EReal)
      = (((Real.sqrt ((∑ l, w (gl (grp q) l) * w (gl (grp q) l)) / 64 + e))⁻¹ : ℝ) : EReal) := by
    rw [squares_real fun l => hw (gl (grp q) l)]
    show Ideal.rsqrt (Ideal.div _ _ + _) = _
    rw [nat64, ee, Cert.DiffAttn.div_coe_coe _ (by norm_num), ← EReal.coe_add, rsqrt_real hp]
  unfold gnorm hnorm
  simp only [hg]
  rw [sum_back, sum_back (fun j => grms v j - grms v j), hr ⟨q.val / 64, by omega⟩ (grp q) rfl, add_zero, hs ⟨q.val / 64, by omega⟩ (grp q) rfl, hh]

/-- A modulated norm of real operands is real. -/
theorem normed_real {x g sc sh : Fin 1024 → EReal} (hx : ∀ n, ∃ r : ℝ, x n = (r : EReal)) (hg : ∀ n, ∃ r : ℝ, g n = (r : EReal))
    (hc : ∀ n, ∃ r : ℝ, sc n = (r : EReal)) (hs : ∀ n, ∃ r : ℝ, sh n = (r : EReal)) (n : Fin 1024) :
    ∃ r : ℝ, normed x g sc sh n = (r : EReal) := by
  choose w hw using hx
  obtain ⟨b, hb⟩ := hg n
  obtain ⟨c, hc⟩ := hc n
  obtain ⟨d, hd⟩ := hs n
  obtain ⟨e, he, ee⟩ := eps_pos
  have hp : 0 < (∑ l, w l * w l) / 1024 + e := by
    have : 0 ≤ ∑ l, w l * w l := Finset.sum_nonneg fun l _ => mul_self_nonneg _
    positivity
  have hh : (FloatOps.rsqrt (F := Ideal) (φ := .f32) (FloatOps.addf (FloatOps.divf (F := Ideal) (φ := .f32) (∑ k, x k * x k)
      (Ideal.ofBits .f32 0x44800000#32)) (Ideal.ofBits .f32 0x358637BD#32)) : EReal)
      = (((Real.sqrt ((∑ l, w l * w l) / 1024 + e))⁻¹ : ℝ) : EReal) := by
    rw [squares_real hw]
    show Ideal.rsqrt (Ideal.div _ _ + _) = _
    rw [nat1024, ee, Cert.DiffAttn.div_coe_coe _ (by norm_num), ← EReal.coe_add, rsqrt_real hp]
  refine ⟨w n * (Real.sqrt ((∑ l, w l * w l) / 1024 + e))⁻¹ * b * (1 + c) + d, ?_⟩
  unfold normed
  rw [hh, hw, hb, hc, hd, nat1]
  push_cast
  rfl

/-- A product of a real row with a real column is real. -/
theorem dot_real {n : Nat} {f g : Fin n → EReal} (hf : ∀ i, ∃ r : ℝ, f i = (r : EReal)) (hg : ∀ i, ∃ r : ℝ, g i = (r : EReal)) :
    ∃ r : ℝ, ∑ i, f i * g i = (r : EReal) := by
  choose a ha using hf
  choose b hb using hg
  exact ⟨∑ i, a i * b i, by
    rw [← Cert.DiffAttn.coe_sum]
    exact Finset.sum_congr rfl fun i _ => by rw [ha, hb, EReal.coe_mul]⟩

end Cert.InProj

end
-- ==== Proof.InRef.lean ====
/- The reference's first norm and its projection, each stage at an index. -/
module

public import proofs.«01_k».proof.Proof.Gen.InReferenceIdeal.Read
public import proofs.«01_k».proof.Proof.MixRef
public import proofs.«01_k».proof.Proof.InMath

@[expose] public section

noncomputable section

namespace Cert.InProj

open Idealize.ShloMosaic Cert.InReferenceIdeal Cert.InReferenceIdeal.Gen Cert.InReferenceIdeal.Read
open Cert.MixOut (normed mrow md)

/-- The reference's cosines at a token. -/
def cosR (i : Fin 2048) (l : Fin 64) : EReal := val_main_v24 (F := Ideal) (ix2 i l)

/-- The reference's sines at a token. -/
def sinR (i : Fin 2048) (l : Fin 64) : EReal := val_main_v25 (F := Ideal) (ix2 i l)

section Stages
variable (x0 : Vec Ideal S8x2048x1024 .f32) (x1 : Vec Ideal S16x6144 .f32) (x2 : Vec Ideal S1x1024 .f32) (x3 : Vec Ideal S1x1024x3072 .f32)

/-- The modulation as six vectors a sample. -/
theorem mod_apply (b : Fin 8) (k : Fin 6) (n : Fin 1024) : val_main_v27 (F := Ideal) x1 (ix4 b k 0 n) = x1 (ix2 (mrow b) (md k n)) := by
  rw [val_main_v27_apply, val_main_v26_apply]
  refine congrArg x1 (funext fun a => Fin.ext ?_)
  match a with
  | ⟨0, _⟩ => simp [idx_main_v27, idx_main_v26, ix4, ix2, mrow, md] <;> omega
  | ⟨1, _⟩ => simp [idx_main_v27, idx_main_v26, ix4, ix2, mrow, md] <;> omega

/-- The norm's scale, one added. -/
theorem scale_apply (b : Fin 8) (i : Fin 2048) (n : Fin 1024) :
    val_main_v46 (F := Ideal) x1 (ix3 b i n) = Ideal.ofBits .f32 0x3F800000#32 + x1 (ix2 (mrow b) (md 1 n)) := by
  rw [val_main_v46_apply, val_main_v45_apply, val_main_v44_apply, val_main_v43_apply, val_main_v42_apply, ← mod_apply x1]
  refine congrArg (fun z : EReal => Ideal.ofBits .f32 0x3F800000#32 + z) (congrArg _ (funext fun a => Fin.ext ?_))
  match a with
  | ⟨0, _⟩ => simp [idx_main_v46, idx_main_v43, idx_main_v42, ix4, ix3] <;> omega
  | ⟨1, _⟩ => simp [idx_main_v46, idx_main_v43, idx_main_v42, ix4, ix3]
  | ⟨2, _⟩ => simp [idx_main_v46, idx_main_v43, idx_main_v42, ix4, ix3]
  | ⟨3, _⟩ => simp [idx_main_v46, idx_main_v43, idx_main_v42, ix4, ix3] <;> omega

/-- The norm's shift. -/
theorem shift_apply (b : Fin 8) (i : Fin 2048) (n : Fin 1024) : val_main_v50 (F := Ideal) x1 (ix3 b i n) = x1 (ix2 (mrow b) (md 0 n)) := by
  rw [val_main_v50_apply, val_main_v49_apply, val_main_v48_apply, ← mod_apply x1]
  refine congrArg _ (funext fun a => Fin.ext ?_)
  match a with
  | ⟨0, _⟩ => simp [idx_main_v50, idx_main_v49, idx_main_v48, ix4, ix3] <;> omega
  | ⟨1, _⟩ => simp [idx_main_v50, idx_main_v49, idx_main_v48, ix4, ix3]
  | ⟨2, _⟩ => simp [idx_main_v50, idx_main_v49, idx_main_v48, ix4, ix3]
  | ⟨3, _⟩ => simp [idx_main_v50, idx_main_v49, idx_main_v48, ix4, ix3] <;> omega

/-- The norm's gain. -/
theorem gain_apply (b : Fin 8) (i : Fin 2048) (n : Fin 1024) : val_main_v40 (F := Ideal) x2 (ix3 b i n) = x2 (ix2 0 n) := by
  rw [val_main_v40_apply, val_main_v39_apply, val_main_v38_apply]
  refine congrArg _ (funext fun a => Fin.ext ?_)
  match a with
  | ⟨0, _⟩ => simp [idx_main_v40, idx_main_v39, idx_main_v38, ix2, ix3]
  | ⟨1, _⟩ => simp [idx_main_v40, idx_main_v39, idx_main_v38, ix2, ix3] <;> omega

/-- The float zero a sum starts from. -/
theorem zero_bits : (FloatOps.ofBits .f32 0x00000000#32 : Ideal .f32) = (0 : EReal) := by
  show Ideal.ofBits .f32 0x00000000#32 = 0
  simp [Ideal.ofBits, Ideal.ieee]

/-- A token's sum of squares. -/
theorem squares_apply (b : Fin 8) (i : Fin 2048) : val_main_v29 (F := Ideal) x0 (ix2 b i) = ∑ k, x0 (ix3 b i k) * x0 (ix3 b i k) := by
  have i1 : ∀ l, idx_main_v29 (ix2 b i) l = ix3 b i l := fun l => funext fun a => by
    match a with | ⟨0, _⟩ => rfl | ⟨1, _⟩ => rfl | ⟨2, _⟩ => rfl
  rw [val_main_v29_apply, val_main_cst_1_apply, zero_bits]
  refine (zero_add _).trans (Finset.sum_congr rfl fun l _ => ?_)
  rw [i1, val_main_v28_apply]
  rfl

/-- One over a token's root mean square. -/
theorem rms_apply (b : Fin 8) (i : Fin 2048) (n : Fin 1024) : val_main_v36 (F := Ideal) x0 (ix3 b i n)
    = FloatOps.rsqrt (F := Ideal) (φ := .f32) (FloatOps.addf (FloatOps.divf (F := Ideal) (φ := .f32)
      (∑ k, x0 (ix3 b i k) * x0 (ix3 b i k)) (Ideal.ofBits .f32 0x44800000#32)) (Ideal.ofBits .f32 0x358637BD#32)) := by
  have i1 : idx_main_v30 (idx_main_v36 (ix3 b i n)) = ix2 b i := funext fun a => by
    match a with | ⟨0, _⟩ => rfl | ⟨1, _⟩ => rfl
  rw [val_main_v36_apply, val_main_v35_apply, val_main_v34_apply, val_main_v32_apply, val_main_v30_apply, i1, squares_apply,
    val_main_v31_apply, val_main_v33_apply, val_main_cst_2_apply, val_main_cst_3_apply]
  generalize (∑ k, x0 (ix3 b i k) * x0 (ix3 b i k)) = y
  rfl

/-- A token's modulated norm, of the reference's arguments. -/
def hidR (b : Fin 8) (i : Fin 2048) : Fin 1024 → EReal :=
  normed (fun n => x0 (ix3 b i n)) (fun n => x2 (ix2 0 n)) (fun n => x1 (ix2 (mrow b) (md 1 n))) (fun n => x1 (ix2 (mrow b) (md 0 n)))

/-- The normed tokens are the modulated norm. -/
theorem normed_apply (b : Fin 8) (i : Fin 2048) (n : Fin 1024) : val_main_v51 (F := Ideal) x0 x1 x2 (ix3 b i n) = hidR x0 x1 x2 b i n := by
  rw [val_main_v51_apply, val_main_v47_apply, val_main_v41_apply, val_main_v37_apply, rms_apply, gain_apply, scale_apply, shift_apply]
  rfl

/-- The projection's weights. -/
theorem weight_apply (n : Fin 1024) (k : Fin 3072) : val_main_v52 (F := Ideal) x3 (ix2 n k) = x3 (ix3 0 n k) := by
  rw [val_main_v52_apply]
  refine congrArg _ (funext fun a => Fin.ext ?_)
  match a with
  | ⟨0, _⟩ => rfl
  | ⟨1, _⟩ => simp [idx_main_v52, ix2, ix3] <;> omega
  | ⟨2, _⟩ => simp [idx_main_v52, ix2, ix3] <;> omega

/-- A token's projection, of the reference's arguments. -/
def rowR (b : Fin 8) (i : Fin 2048) (k : Fin 3072) : EReal := ∑ n, hidR x0 x1 x2 b i n * x3 (ix3 0 n k)

/-- The projection at a token and a column. -/
theorem row_apply (b : Fin 8) (i : Fin 2048) (k : Fin 3072) : val_main_v53 (F := Ideal) x0 x1 x2 x3 (ix3 b i k) = rowR x0 x1 x2 x3 b i k := by
  have il : ∀ n, lidx_main_v53 (ix3 b i k) n = ix3 b i n := fun k => funext fun a => by
    match a with | ⟨0, _⟩ => rfl | ⟨1, _⟩ => rfl | ⟨2, _⟩ => rfl
  have ir : ∀ n, ridx_main_v53 (ix3 b i k) n = ix2 n k := fun k => funext fun a => by
    match a with | ⟨0, _⟩ => rfl | ⟨1, _⟩ => rfl
  rw [val_main_v53_apply]
  simp only [il, ir, normed_apply, weight_apply]
  rfl

/-- A real projection: of real operands, every column is real. -/
theorem row_real (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (b : Fin 8) (i : Fin 2048) (k : Fin 3072) : ∃ r : ℝ, rowR x0 x1 x2 x3 b i k = (r : EReal) :=
  dot_real (fun n => normed_real (fun _ => h0 _) (fun _ => h2 _) (fun _ => h1 _) (fun _ => h1 _) n) (fun _ => h3 _)

/-- The retention's queries' columns. -/
theorem cols54 (b : Fin 8) (i : Fin 2048) (q : Fin 256) :
    val_main_v54 (F := Ideal) x0 x1 x2 x3 (ix3 b i q) = rowR x0 x1 x2 x3 b i (col (n := 256) 0 (by decide) q) := by
  have i1 : idx_main_v54 (ix3 b i q) = ix3 b i (col (n := 256) 0 (by decide) q) := funext fun a => Fin.ext (by
    match a with
    | ⟨0, _⟩ => rfl
    | ⟨1, _⟩ => rfl
    | ⟨2, _⟩ => simp [idx_main_v54, ix3, col])
  rw [val_main_v54_apply, i1, row_apply]

/-- The retention's keys' columns. -/
theorem cols55 (b : Fin 8) (i : Fin 2048) (q : Fin 256) :
    val_main_v55 (F := Ideal) x0 x1 x2 x3 (ix3 b i q) = rowR x0 x1 x2 x3 b i (col (n := 256) 256 (by decide) q) := by
  have i1 : idx_main_v55 (ix3 b i q) = ix3 b i (col (n := 256) 256 (by decide) q) := funext fun a => Fin.ext (by
    match a with
    | ⟨0, _⟩ => rfl
    | ⟨1, _⟩ => rfl
    | ⟨2, _⟩ => simp [idx_main_v55, ix3, col])
  rw [val_main_v55_apply, i1, row_apply]

/-- The retention's values' columns. -/
theorem cols56 (b : Fin 8) (i : Fin 2048) (q : Fin 512) :
    val_main_v56 (F := Ideal) x0 x1 x2 x3 (ix3 b i q) = rowR x0 x1 x2 x3 b i (col (n := 512) 512 (by decide) q) := by
  have i1 : idx_main_v56 (ix3 b i q) = ix3 b i (col (n := 512) 512 (by decide) q) := funext fun a => Fin.ext (by
    match a with
    | ⟨0, _⟩ => rfl
    | ⟨1, _⟩ => rfl
    | ⟨2, _⟩ => simp [idx_main_v56, ix3, col])
  rw [val_main_v56_apply, i1, row_apply]

/-- The retention's gate' columns. -/
theorem cols57 (b : Fin 8) (i : Fin 2048) (q : Fin 512) :
    val_main_v57 (F := Ideal) x0 x1 x2 x3 (ix3 b i q) = rowR x0 x1 x2 x3 b i (col (n := 512) 1024 (by decide) q) := by
  have i1 : idx_main_v57 (ix3 b i q) = ix3 b i (col (n := 512) 1024 (by decide) q) := funext fun a => Fin.ext (by
    match a with
    | ⟨0, _⟩ => rfl
    | ⟨1, _⟩ => rfl
    | ⟨2, _⟩ => simp [idx_main_v57, ix3, col])
  rw [val_main_v57_apply, i1, row_apply]

/-- The attention's queries' columns. -/
theorem cols58 (b : Fin 8) (i : Fin 2048) (q : Fin 512) :
    val_main_v58 (F := Ideal) x0 x1 x2 x3 (ix3 b i q) = rowR x0 x1 x2 x3 b i (col (n := 512) 1536 (by decide) q) := by
  have i1 : idx_main_v58 (ix3 b i q) = ix3 b i (col (n := 512) 1536 (by decide) q) := funext fun a => Fin.ext (by
    match a with
    | ⟨0, _⟩ => rfl
    | ⟨1, _⟩ => rfl
    | ⟨2, _⟩ => simp [idx_main_v58, ix3, col])
  rw [val_main_v58_apply, i1, row_apply]

/-- The attention's keys' columns. -/
theorem cols59 (b : Fin 8) (i : Fin 2048) (q : Fin 512) :
    val_main_v59 (F := Ideal) x0 x1 x2 x3 (ix3 b i q) = rowR x0 x1 x2 x3 b i (col (n := 512) 2048 (by decide) q) := by
  have i1 : idx_main_v59 (ix3 b i q) = ix3 b i (col (n := 512) 2048 (by decide) q) := funext fun a => Fin.ext (by
    match a with
    | ⟨0, _⟩ => rfl
    | ⟨1, _⟩ => rfl
    | ⟨2, _⟩ => simp [idx_main_v59, ix3, col])
  rw [val_main_v59_apply, i1, row_apply]

/-- The attention's values' columns. -/
theorem cols60 (b : Fin 8) (i : Fin 2048) (q : Fin 512) :
    val_main_v60 (F := Ideal) x0 x1 x2 x3 (ix3 b i q) = rowR x0 x1 x2 x3 b i (col (n := 512) 2560 (by decide) q) := by
  have i1 : idx_main_v60 (ix3 b i q) = ix3 b i (col (n := 512) 2560 (by decide) q) := funext fun a => Fin.ext (by
    match a with
    | ⟨0, _⟩ => rfl
    | ⟨1, _⟩ => rfl
    | ⟨2, _⟩ => simp [idx_main_v60, ix3, col])
  rw [val_main_v60_apply, i1, row_apply]

end Stages

end Cert.InProj

end
-- ==== Proof.InTab.lean ====
/- The kernel's rotation tables: 128 lanes holding the reference's 64 lanes twice, the sines split by which of its pair a lane is. -/
module

public import proofs.«01_k».proof.Proof.Gen.InKernelIdeal.Value
public import proofs.«01_k».proof.Proof.InRef
public import Idealize.ShloMosaic.Lib.StableHlo.RunRead

@[expose] public section

noncomputable section

namespace Cert.InProj

open Idealize.ShloMosaic Idealize.SL.Sem Cert.InKernelIdeal Cert.InKernelIdeal.Gen Cert.InKernelIdeal.Value

/-- Sixty-four lanes taken twice, at a lane. -/
theorem twice_apply (y : FVec Ideal S2048x64 .f32) (i : Fin 2048) (l : Fin 128) :
    concatenate S2048x128 1 [⟨S2048x64, y⟩, ⟨S2048x64, y⟩] concatenates_S2048x64_S2048x64_S2048x128_d1 (ix2 i l) = y (ix2 i (m64 l.val)) := by
  by_cases h : l.val < 64
  · pointwise
    rw [dif_pos h]
    exact congrArg (fun k => y (ix2 i k)) (Fin.ext (by simp only [m64]; omega))
  · pointwise
    rw [dif_neg h]
    exact congrArg (fun k => y (ix2 i k)) (Fin.ext (by simp only [m64]; omega))

variable (m : (ℓ : Loc nD τ sig) → Buf (Elt Ideal) ℓ) (c : Dev nD)

/-- The kernel's angles are the reference's. -/
theorem angle_eq : @Eq (FVec Ideal S2048x64 .f32) (V m c main_v32) (Cert.InReferenceIdeal.Read.val_main_v23 (F := Ideal)) := by
  after_reads_simp
  rfl

/-- The cosines' array. -/
theorem cos_eq : @Eq (FVec Ideal S2048x128 .f32) (V m c main_v34) (Host.cos (F := Ideal) (φ := .f32)
    (concatenate S2048x128 1 [⟨S2048x64, V m c main_v32⟩, ⟨S2048x64, V m c main_v32⟩] concatenates_S2048x64_S2048x64_S2048x128_d1)) := by
  after_reads_simp
  rfl

/-- The sines' array. -/
theorem sin_eq : @Eq (FVec Ideal S2048x128 .f32) (V m c main_v35) (Host.sin (F := Ideal) (φ := .f32)
    (concatenate S2048x128 1 [⟨S2048x64, V m c main_v32⟩, ⟨S2048x64, V m c main_v32⟩] concatenates_S2048x64_S2048x64_S2048x128_d1)) := by
  after_reads_simp
  rfl

/-- Which of its pair a lane is, as a bit. -/
theorem half_word (l : Fin 128) : @Eq (BitVec 1) (V m c main_v39 (ix1 l)) (if l.val % 32 < 16 then 1#1 else 0#1) := by
  after_reads_simp
  simp only [StableHlo.TRef.ofBuf_toBuf]
  revert l
  decide +kernel

/-- The array of the sines the first of a pair takes. -/
theorem up_eq : @Eq (FVec Ideal S2048x128 .f32) (V m c main_v41)
    (select (broadcastInDim S2048x128 ![1] bcast_S128_S2048x128_1 (V m c main_v39 : IVec S128 1))
      (Host.negf (F := Ideal) (φ := .f32) (V m c main_v35)) (broadcastInDim S2048x128 ![] bcast_S_S2048x128 (constant (F := Ideal) S_ FTy.f32 0#32))) := by
  after_reads_simp
  rfl

/-- The array of the sines the last of a pair takes. -/
theorem dn_eq : @Eq (FVec Ideal S2048x128 .f32) (V m c main_v42)
    (select (broadcastInDim S2048x128 ![1] bcast_S128_S2048x128_1 (V m c main_v39 : IVec S128 1))
      (broadcastInDim S2048x128 ![] bcast_S_S2048x128 (constant (F := Ideal) S_ FTy.f32 0#32)) (V m c main_v35 : FVec Ideal S2048x128 .f32)) := by
  after_reads_simp
  rfl

/-- The kernel's cosines are the reference's. -/
theorem cos_apply (i : Fin 2048) (l : Fin 128) : @Eq EReal (V m c main_v34 (ix2 i l)) (cosR i (m64 l.val)) := by
  rw [cos_eq, angle_eq]
  exact congrArg (fun z => (FloatOps.hostUnary (F := Ideal) (φ := .f32) .cos z : EReal)) (twice_apply _ i l)

/-- The kernel's sines are the reference's. -/
theorem sin_apply (i : Fin 2048) (l : Fin 128) : @Eq EReal (V m c main_v35 (ix2 i l)) (sinR i (m64 l.val)) := by
  rw [sin_eq, angle_eq]
  exact congrArg (fun z => (FloatOps.hostUnary (F := Ideal) (φ := .f32) .sin z : EReal)) (twice_apply _ i l)

/-- A choice by a lane's bit, at an index. -/
theorem choice_apply (w : IVec S128 1) (a b : FVec Ideal S2048x128 .f32) (i : Fin 2048) (l : Fin 128) :
    @Eq EReal (select (broadcastInDim S2048x128 ![1] bcast_S128_S2048x128_1 w) a b (ix2 i l)) (Scalar.select (w (ix1 l)) (a (ix2 i l)) (b (ix2 i l))) := by
  pointwise

/-- The zero array, at an index. -/
theorem zero_apply (j : S2048x128.Idx) :
    @Eq EReal (broadcastInDim S2048x128 ![] bcast_S_S2048x128 (constant (F := Ideal) S_ FTy.f32 0#32) j) 0 := by
  show Ideal.ofBits .f32 0#32 = 0
  simp [Ideal.ofBits, Ideal.ieee]

/-- The sines the first of a pair takes. -/
theorem up_apply (i : Fin 2048) (l : Fin 128) :
    @Eq EReal (V m c main_v41 (ix2 i l)) (if l.val % 32 < 16 then -(sinR i (m64 l.val)) else 0) := by
  rw [up_eq]
  refine (choice_apply _ _ _ i l).trans ?_
  rw [half_word, zero_apply]
  have e : @Eq EReal (Host.negf (F := Ideal) (φ := .f32) (V m c main_v35) (ix2 i l)) (-(sinR i (m64 l.val))) := congrArg (fun z : EReal => -z) (sin_apply m c i l)
  rw [e]
  by_cases h : l.val % 32 < 16
  · rw [if_pos h, if_pos h]; rfl
  · rw [if_neg h, if_neg h]; rfl

/-- The sines the last of a pair takes. -/
theorem dn_apply (i : Fin 2048) (l : Fin 128) :
    @Eq EReal (V m c main_v42 (ix2 i l)) (if l.val % 32 < 16 then 0 else sinR i (m64 l.val)) := by
  rw [dn_eq]
  refine (choice_apply _ _ _ i l).trans ?_
  rw [half_word, zero_apply, sin_apply]
  by_cases h : l.val % 32 < 16
  · rw [if_pos h, if_pos h]; rfl
  · rw [if_neg h, if_neg h]; rfl

end Cert.InProj

end
-- ==== Proof.InRot.lean ====
/- The reference's half rotation at an index: of each 32 lanes, the last 16 negated come first and the first 16 last. -/
module

public import proofs.«01_k».proof.Proof.Gen.InReferenceIdeal
public import proofs.«01_k».proof.Proof.InMath
public import Idealize.ShloMosaic.Lib.Pointwise

@[expose] public section

noncomputable section

namespace Cert.InProj

open Idealize.ShloMosaic Cert.InReferenceIdeal Cert.InReferenceIdeal.Gen

/-- The half rotation of the retention's heads. -/
theorem swap4 (y : FVec Ideal S8x4x2048x64 .f32) (b : Fin 8) (h : Fin 4) (i : Fin 2048) (l : Fin 64) :
    shapeCast S8x4x2048x64 (concatenate S8x4x2048x2x2x16 4 [⟨S8x4x2048x2x1x16, Host.negf (extractStridedSlice S8x4x2048x2x1x16 ![0, 0, 0, 0, 1, 0]
        (shapeCast S8x4x2048x2x2x16 y shapeCasts_S8x4x2048x64_S8x4x2048x2x2x16) slices_S8x4x2048x2x2x16_S8x4x2048x2x1x16_0_0_0_0_1_0)⟩,
      ⟨S8x4x2048x2x1x16, extractStridedSlice S8x4x2048x2x1x16 ![0, 0, 0, 0, 0, 0]
        (shapeCast S8x4x2048x2x2x16 y shapeCasts_S8x4x2048x64_S8x4x2048x2x2x16) slices_S8x4x2048x2x2x16_S8x4x2048x2x1x16_0_0_0_0_0_0⟩]
      concatenates_S8x4x2048x2x1x16_S8x4x2048x2x1x16_S8x4x2048x2x2x16_d4) shapeCasts_S8x4x2048x2x2x16_S8x4x2048x64 (ix4 b h i l)
    = swap (fun l => y (ix4 b h i l)) l := by
  unfold swap
  by_cases hl : l.val % 32 < 16
  · have h0 : l.val / 16 % 2 < 1 := by omega
    rw [dif_pos hl]
    pointwise
    rw [dif_pos h0]
    exact congrArg (fun k => -y (ix4 b h i k)) (Fin.ext (by dsimp only; omega))
  · have h0 : ¬ l.val / 16 % 2 < 1 := by omega
    rw [dif_neg hl]
    pointwise
    rw [dif_neg h0]
    exact congrArg (fun k => y (ix4 b h i k)) (Fin.ext (by dsimp only; omega))

/-- The half rotation of the attention's half heads. -/
theorem swap5 (y : FVec Ideal S8x4x2x2048x64 .f32) (b : Fin 8) (h : Fin 4) (s : Fin 2) (i : Fin 2048) (l : Fin 64) :
    shapeCast S8x4x2x2048x64 (concatenate S8x4x2x2048x2x2x16 5 [⟨S8x4x2x2048x2x1x16, Host.negf (extractStridedSlice S8x4x2x2048x2x1x16 ![0, 0, 0, 0, 0, 1, 0]
        (shapeCast S8x4x2x2048x2x2x16 y shapeCasts_S8x4x2x2048x64_S8x4x2x2048x2x2x16) slices_S8x4x2x2048x2x2x16_S8x4x2x2048x2x1x16_0_0_0_0_0_1_0)⟩,
      ⟨S8x4x2x2048x2x1x16, extractStridedSlice S8x4x2x2048x2x1x16 ![0, 0, 0, 0, 0, 0, 0]
        (shapeCast S8x4x2x2048x2x2x16 y shapeCasts_S8x4x2x2048x64_S8x4x2x2048x2x2x16) slices_S8x4x2x2048x2x2x16_S8x4x2x2048x2x1x16_0_0_0_0_0_0_0⟩]
      concatenates_S8x4x2x2048x2x1x16_S8x4x2x2048x2x1x16_S8x4x2x2048x2x2x16_d5) shapeCasts_S8x4x2x2048x2x2x16_S8x4x2x2048x64 (ix5 b h s i l)
    = swap (fun l => y (ix5 b h s i l)) l := by
  unfold swap
  by_cases hl : l.val % 32 < 16
  · have h0 : l.val / 16 % 2 < 1 := by omega
    rw [dif_pos hl]
    pointwise
    rw [dif_pos h0]
    exact congrArg (fun k => -y (ix5 b h s i k)) (Fin.ext (by dsimp only; omega))
  · have h0 : ¬ l.val / 16 % 2 < 1 := by omega
    rw [dif_neg hl]
    pointwise
    rw [dif_neg h0]
    exact congrArg (fun k => y (ix5 b h s i k)) (Fin.ext (by dsimp only; omega))

end Cert.InProj

end
-- ==== Proof.InHead.lean ====
/- The reference's retention queries and keys: heads of 64 lanes turned, each stage at an index. -/
module

public import proofs.«01_k».proof.Proof.InRef
public import proofs.«01_k».proof.Proof.InRot

@[expose] public section

noncomputable section

namespace Cert.InProj

open Idealize.ShloMosaic Cert.InReferenceIdeal Cert.InReferenceIdeal.Gen Cert.InReferenceIdeal.Read

/-- A retention row holds whole slabs. -/
theorem dvd256 : 128 ∣ 256 := by decide

/-- Lane `l` of a retention head. -/
def q4 (h : Fin 4) (l : Fin 64) : Fin 256 := ⟨h.val * 64 + l.val, by omega⟩

section Stages
variable (x0 : Vec Ideal S8x2048x1024 .f32) (x1 : Vec Ideal S16x6144 .f32) (x2 : Vec Ideal S1x1024 .f32) (x3 : Vec Ideal S1x1024x3072 .f32)

/-- The queries as heads. -/
theorem heads62 (b : Fin 8) (h : Fin 4) (i : Fin 2048) (l : Fin 64) :
    val_main_v62 (F := Ideal) x0 x1 x2 x3 (ix4 b h i l) = rowR x0 x1 x2 x3 b i (col (n := 256) 0 (by decide) (q4 h l)) := by
  have i1 : idx_main_v61 (idx_main_v62 (ix4 b h i l)) = ix3 b i (q4 h l) := funext fun a => Fin.ext (by
    match a with
    | ⟨0, _⟩ => simp [idx_main_v62, idx_main_v61, ix3, ix4, q4] <;> omega
    | ⟨1, _⟩ => simp [idx_main_v62, idx_main_v61, ix3, ix4, q4] <;> omega
    | ⟨2, _⟩ => simp [idx_main_v62, idx_main_v61, ix3, ix4, q4] <;> omega)
  rw [val_main_v62_apply, val_main_v61_apply, i1, cols54]

/-- The queries with each lane's partner in its place. -/
theorem swap68 (b : Fin 8) (h : Fin 4) (i : Fin 2048) (l : Fin 64) : val_main_v68 (F := Ideal) x0 x1 x2 x3 (ix4 b h i l)
    = swap (fun l => val_main_v62 (F := Ideal) x0 x1 x2 x3 (ix4 b h i l)) l := by
  unfold val_main_v68 val_main_v67 val_main_v66 val_main_v65 val_main_v64 val_main_v63
  generalize val_main_v62 (F := Ideal) x0 x1 x2 x3 = y
  exact swap4 y b h i l

/-- The queries turned. -/
theorem rope75 (b : Fin 8) (h : Fin 4) (i : Fin 2048) (l : Fin 64) : val_main_v75 (F := Ideal) x0 x1 x2 x3 (ix4 b h i l)
    = spin (fun l => rowR x0 x1 x2 x3 b i (col (n := 256) 0 (by decide) (q4 h l))) (cosR i) (sinR i) l := by
  have ic : idx_main_v69 (idx_main_v70 (ix4 b h i l)) = ix2 i l := funext fun a => by
    match a with | ⟨0, _⟩ => rfl | ⟨1, _⟩ => rfl
  have is : idx_main_v72 (idx_main_v73 (ix4 b h i l)) = ix2 i l := funext fun a => by
    match a with | ⟨0, _⟩ => rfl | ⟨1, _⟩ => rfl
  rw [val_main_v75_apply, val_main_v71_apply, val_main_v74_apply, val_main_v70_apply, val_main_v69_apply,
    val_main_v73_apply, val_main_v72_apply, ic, is, swap68]
  simp only [heads62]
  rfl

/-- THE RETENTION'S QUERIES at an index. -/
theorem rq_apply (b : Fin 8) (i : Fin 2048) (q : Fin 256) : val_main_v165 (F := Ideal) x0 x1 x2 x3 (ix3 b i q)
    = spin (fun l => rowR x0 x1 x2 x3 b i (col (n := 256) 0 (by decide) (own dvd256 q l))) (cosR i) (sinR i) (m64 q.val) := by
  have i1 : idx_main_v76 (idx_main_v77 (ix3 b i q)) = ix4 b ⟨q.val / 64, by omega⟩ i (m64 q.val) := funext fun a => Fin.ext (by
    match a with
    | ⟨0, _⟩ => simp [idx_main_v77, idx_main_v76, ix3, ix4, m64] <;> omega
    | ⟨1, _⟩ => simp [idx_main_v77, idx_main_v76, ix3, ix4, m64] <;> omega
    | ⟨2, _⟩ => simp [idx_main_v77, idx_main_v76, ix3, ix4, m64] <;> omega
    | ⟨3, _⟩ => simp [idx_main_v77, idx_main_v76, ix3, ix4, m64] <;> omega)
  rw [val_main_v165_apply, val_main_v77_apply, val_main_v76_apply, i1, rope75]
  rfl

/-- The keys as heads. -/
theorem heads79 (b : Fin 8) (h : Fin 4) (i : Fin 2048) (l : Fin 64) :
    val_main_v79 (F := Ideal) x0 x1 x2 x3 (ix4 b h i l) = rowR x0 x1 x2 x3 b i (col (n := 256) 256 (by decide) (q4 h l)) := by
  have i1 : idx_main_v78 (idx_main_v79 (ix4 b h i l)) = ix3 b i (q4 h l) := funext fun a => Fin.ext (by
    match a with
    | ⟨0, _⟩ => simp [idx_main_v79, idx_main_v78, ix3, ix4, q4] <;> omega
    | ⟨1, _⟩ => simp [idx_main_v79, idx_main_v78, ix3, ix4, q4] <;> omega
    | ⟨2, _⟩ => simp [idx_main_v79, idx_main_v78, ix3, ix4, q4] <;> omega)
  rw [val_main_v79_apply, val_main_v78_apply, i1, cols55]

/-- The keys with each lane's partner in its place. -/
theorem swap85 (b : Fin 8) (h : Fin 4) (i : Fin 2048) (l : Fin 64) : val_main_v85 (F := Ideal) x0 x1 x2 x3 (ix4 b h i l)
    = swap (fun l => val_main_v79 (F := Ideal) x0 x1 x2 x3 (ix4 b h i l)) l := by
  unfold val_main_v85 val_main_v84 val_main_v83 val_main_v82 val_main_v81 val_main_v80
  generalize val_main_v79 (F := Ideal) x0 x1 x2 x3 = y
  exact swap4 y b h i l

/-- The keys turned. -/
theorem rope92 (b : Fin 8) (h : Fin 4) (i : Fin 2048) (l : Fin 64) : val_main_v92 (F := Ideal) x0 x1 x2 x3 (ix4 b h i l)
    = spin (fun l => rowR x0 x1 x2 x3 b i (col (n := 256) 256 (by decide) (q4 h l))) (cosR i) (sinR i) l := by
  have ic : idx_main_v86 (idx_main_v87 (ix4 b h i l)) = ix2 i l := funext fun a => by
    match a with | ⟨0, _⟩ => rfl | ⟨1, _⟩ => rfl
  have is : idx_main_v89 (idx_main_v90 (ix4 b h i l)) = ix2 i l := funext fun a => by
    match a with | ⟨0, _⟩ => rfl | ⟨1, _⟩ => rfl
  rw [val_main_v92_apply, val_main_v88_apply, val_main_v91_apply, val_main_v87_apply, val_main_v86_apply,
    val_main_v90_apply, val_main_v89_apply, ic, is, swap85]
  simp only [heads79]
  rfl

/-- THE RETENTION'S KEYS at an index. -/
theorem rk_apply (b : Fin 8) (i : Fin 2048) (q : Fin 256) : val_main_v166 (F := Ideal) x0 x1 x2 x3 (ix3 b i q)
    = spin (fun l => rowR x0 x1 x2 x3 b i (col (n := 256) 256 (by decide) (own dvd256 q l))) (cosR i) (sinR i) (m64 q.val)
      * Ideal.ofBits .f32 0x3E000000#32 := by
  have i1 : idx_main_v95 (idx_main_v96 (ix3 b i q)) = ix4 b ⟨q.val / 64, by omega⟩ i (m64 q.val) := funext fun a => Fin.ext (by
    match a with
    | ⟨0, _⟩ => simp [idx_main_v96, idx_main_v95, ix3, ix4, m64] <;> omega
    | ⟨1, _⟩ => simp [idx_main_v96, idx_main_v95, ix3, ix4, m64] <;> omega
    | ⟨2, _⟩ => simp [idx_main_v96, idx_main_v95, ix3, ix4, m64] <;> omega
    | ⟨3, _⟩ => simp [idx_main_v96, idx_main_v95, ix3, ix4, m64] <;> omega)
  rw [val_main_v166_apply, val_main_v96_apply, val_main_v95_apply, i1, val_main_v94_apply, rope92, val_main_v93_apply, val_main_cst_5_apply]
  rfl

end Stages

end Cert.InProj

end
-- ==== Proof.InDiff.lean ====
/- The reference's attention queries and keys: half heads of 64 lanes normed and turned, each stage at an index. -/
module

public import proofs.«01_k».proof.Proof.InRef
public import proofs.«01_k».proof.Proof.InRot

@[expose] public section

noncomputable section

namespace Cert.InProj

open Idealize.ShloMosaic Cert.InReferenceIdeal Cert.InReferenceIdeal.Gen Cert.InReferenceIdeal.Read

/-- The group of a head's half. -/
def hg (h : Fin 4) (s : Fin 2) : Fin 8 := ⟨h.val * 2 + s.val, by omega⟩

section Stages
variable (x0 : Vec Ideal S8x2048x1024 .f32) (x1 : Vec Ideal S16x6144 .f32) (x2 : Vec Ideal S1x1024 .f32) (x3 : Vec Ideal S1x1024x3072 .f32)
  (x4 : Vec Ideal S1x2x64 .f32)

/-- The queries' gain. -/
theorem gain112 (b : Fin 8) (h : Fin 4) (s : Fin 2) (i : Fin 2048) (l : Fin 64) :
    val_main_v112 (F := Ideal) x4 (ix5 b h s i l) = x4 (ix3 0 0 l) := by
  have i1 : idx_main_v97 (idx_main_v98 (idx_main_v111 (idx_main_v112 (ix5 b h s i l)))) = ix3 0 0 l := funext fun a => Fin.ext (by
    match a with
    | ⟨0, _⟩ => rfl
    | ⟨1, _⟩ => rfl
    | ⟨2, _⟩ => simp [idx_main_v97, idx_main_v98, idx_main_v111, idx_main_v112, ix3, ix5] <;> omega)
  rw [val_main_v112_apply, val_main_v111_apply, val_main_v98_apply, val_main_v97_apply, i1]

/-- The queries as half heads. -/
theorem heads100 (b : Fin 8) (h : Fin 4) (s : Fin 2) (i : Fin 2048) (l : Fin 64) :
    val_main_v100 (F := Ideal) x0 x1 x2 x3 (ix5 b h s i l) = rowR x0 x1 x2 x3 b i (col (n := 512) 1536 (by decide) (gl (hg h s) l)) := by
  have i1 : idx_main_v99 (idx_main_v100 (ix5 b h s i l)) = ix3 b i (gl (hg h s) l) := funext fun a => Fin.ext (by
    match a with
    | ⟨0, _⟩ => simp [idx_main_v100, idx_main_v99, ix3, ix5, gl, hg] <;> omega
    | ⟨1, _⟩ => simp [idx_main_v100, idx_main_v99, ix3, ix5, gl, hg] <;> omega
    | ⟨2, _⟩ => simp [idx_main_v100, idx_main_v99, ix3, ix5, gl, hg] <;> omega)
  rw [val_main_v100_apply, val_main_v99_apply, i1, cols58]

/-- A half head's sum of squares. -/
theorem squares102 (b : Fin 8) (h : Fin 4) (s : Fin 2) (i : Fin 2048) : val_main_v102 (F := Ideal) x0 x1 x2 x3 (ix4 b h s i)
    = ∑ l, rowR x0 x1 x2 x3 b i (col (n := 512) 1536 (by decide) (gl (hg h s) l)) * rowR x0 x1 x2 x3 b i (col (n := 512) 1536 (by decide) (gl (hg h s) l)) := by
  have i1 : ∀ l, idx_main_v102 (ix4 b h s i) l = ix5 b h s i l := fun l => funext fun a => by
    match a with | ⟨0, _⟩ => rfl | ⟨1, _⟩ => rfl | ⟨2, _⟩ => rfl | ⟨3, _⟩ => rfl | ⟨4, _⟩ => rfl
  rw [val_main_v102_apply, val_main_cst_6_apply, zero_bits]
  refine (zero_add _).trans (Finset.sum_congr rfl fun l _ => ?_)
  rw [i1, val_main_v101_apply, heads100]
  rfl

/-- One over a half head's root mean square. -/
theorem rms109 (b : Fin 8) (h : Fin 4) (s : Fin 2) (i : Fin 2048) (l : Fin 64) : val_main_v109 (F := Ideal) x0 x1 x2 x3 (ix5 b h s i l)
    = FloatOps.rsqrt (F := Ideal) (φ := .f32) (FloatOps.addf (FloatOps.divf (F := Ideal) (φ := .f32)
      (∑ l, rowR x0 x1 x2 x3 b i (col (n := 512) 1536 (by decide) (gl (hg h s) l)) * rowR x0 x1 x2 x3 b i (col (n := 512) 1536 (by decide) (gl (hg h s) l)))
      (Ideal.ofBits .f32 0x42800000#32)) (Ideal.ofBits .f32 0x358637BD#32)) := by
  have i1 : idx_main_v103 (idx_main_v109 (ix5 b h s i l)) = ix4 b h s i := funext fun a => by
    match a with | ⟨0, _⟩ => rfl | ⟨1, _⟩ => rfl | ⟨2, _⟩ => rfl | ⟨3, _⟩ => rfl
  rw [val_main_v109_apply, val_main_v108_apply, val_main_v107_apply, val_main_v105_apply, val_main_v103_apply, i1, squares102,
    val_main_v104_apply, val_main_v106_apply, val_main_cst_7_apply, val_main_cst_8_apply]
  generalize (∑ l, rowR x0 x1 x2 x3 b i (col (n := 512) 1536 (by decide) (gl (hg h s) l)) * rowR x0 x1 x2 x3 b i (col (n := 512) 1536 (by decide) (gl (hg h s) l))) = y
  rfl

/-- The queries normed. -/
theorem normed113 (b : Fin 8) (h : Fin 4) (s : Fin 2) (i : Fin 2048) (l : Fin 64) : val_main_v113 (F := Ideal) x0 x1 x2 x3 x4 (ix5 b h s i l)
    = hnorm (fun l => rowR x0 x1 x2 x3 b i (col (n := 512) 1536 (by decide) (gl (hg h s) l))) (fun l => x4 (ix3 0 0 l)) l := by
  rw [val_main_v113_apply, val_main_v110_apply, heads100, rms109, gain112]
  rfl

/-- The queries with each lane's partner in its place. -/
theorem swap119 (b : Fin 8) (h : Fin 4) (s : Fin 2) (i : Fin 2048) (l : Fin 64) : val_main_v119 (F := Ideal) x0 x1 x2 x3 x4 (ix5 b h s i l)
    = swap (fun l => val_main_v113 (F := Ideal) x0 x1 x2 x3 x4 (ix5 b h s i l)) l := by
  unfold val_main_v119 val_main_v118 val_main_v117 val_main_v116 val_main_v115 val_main_v114
  generalize val_main_v113 (F := Ideal) x0 x1 x2 x3 x4 = y
  exact swap5 y b h s i l

/-- The queries turned. -/
theorem rope126 (b : Fin 8) (h : Fin 4) (s : Fin 2) (i : Fin 2048) (l : Fin 64) : val_main_v126 (F := Ideal) x0 x1 x2 x3 x4 (ix5 b h s i l)
    = spin (hnorm (fun l => rowR x0 x1 x2 x3 b i (col (n := 512) 1536 (by decide) (gl (hg h s) l))) (fun l => x4 (ix3 0 0 l))) (cosR i) (sinR i) l := by
  have ic : idx_main_v120 (idx_main_v121 (ix5 b h s i l)) = ix2 i l := funext fun a => by
    match a with | ⟨0, _⟩ => rfl | ⟨1, _⟩ => rfl
  have is : idx_main_v123 (idx_main_v124 (ix5 b h s i l)) = ix2 i l := funext fun a => by
    match a with | ⟨0, _⟩ => rfl | ⟨1, _⟩ => rfl
  rw [val_main_v126_apply, val_main_v122_apply, val_main_v125_apply, val_main_v121_apply, val_main_v120_apply,
    val_main_v124_apply, val_main_v123_apply, ic, is, swap119]
  simp only [normed113]
  rfl

/-- What the queries are divided by: eight times the logarithm of two. -/
def den : EReal := FloatOps.mulf (F := Ideal) (φ := .f32) (Ideal.ofBits .f32 0x41000000#32) (FloatOps.hostUnary (F := Ideal) (φ := .f32) .log (Ideal.ofBits .f32 0x40000000#32))

/-- THE ATTENTION'S QUERIES at an index. -/
theorem dq_apply (b : Fin 8) (i : Fin 2048) (q : Fin 512) : val_main_v168 (F := Ideal) x0 x1 x2 x3 x4 (ix3 b i q)
    = Ideal.div (spin (hnorm (fun l => rowR x0 x1 x2 x3 b i (col (n := 512) 1536 (by decide) (gl (grp q) l))) (fun l => x4 (ix3 0 0 l)))
      (cosR i) (sinR i) (m64 q.val)) den := by
  have i1 : idx_main_v131 (idx_main_v132 (ix3 b i q)) = ix5 b ⟨q.val / 128, by omega⟩ ⟨q.val / 64 % 2, by omega⟩ i (m64 q.val) := funext fun a => Fin.ext (by
    match a with
    | ⟨0, _⟩ => simp [idx_main_v132, idx_main_v131, ix3, ix5, m64] <;> omega
    | ⟨1, _⟩ => simp [idx_main_v132, idx_main_v131, ix3, ix5, m64] <;> omega
    | ⟨2, _⟩ => simp [idx_main_v132, idx_main_v131, ix3, ix5, m64] <;> omega
    | ⟨3, _⟩ => simp [idx_main_v132, idx_main_v131, ix3, ix5, m64] <;> omega
    | ⟨4, _⟩ => simp [idx_main_v132, idx_main_v131, ix3, ix5, m64] <;> omega)
  have eg : hg ⟨q.val / 128, by omega⟩ ⟨q.val / 64 % 2, by omega⟩ = grp q := Fin.ext (by simp only [hg, grp]; omega)
  rw [val_main_v168_apply, val_main_v132_apply, val_main_v131_apply, i1, val_main_v130_apply, rope126, eg, val_main_v129_apply, val_main_v128_apply, val_main_v127_apply, val_main_cst_9_apply, val_main_cst_10_apply]
  rfl

/-- The keys' gain. -/
theorem gain148 (b : Fin 8) (h : Fin 4) (s : Fin 2) (i : Fin 2048) (l : Fin 64) :
    val_main_v148 (F := Ideal) x4 (ix5 b h s i l) = x4 (ix3 0 1 l) := by
  have i1 : idx_main_v133 (idx_main_v134 (idx_main_v147 (idx_main_v148 (ix5 b h s i l)))) = ix3 0 1 l := funext fun a => Fin.ext (by
    match a with
    | ⟨0, _⟩ => rfl
    | ⟨1, _⟩ => rfl
    | ⟨2, _⟩ => simp [idx_main_v133, idx_main_v134, idx_main_v147, idx_main_v148, ix3, ix5] <;> omega)
  rw [val_main_v148_apply, val_main_v147_apply, val_main_v134_apply, val_main_v133_apply, i1]

/-- The keys as half heads. -/
theorem heads136 (b : Fin 8) (h : Fin 4) (s : Fin 2) (i : Fin 2048) (l : Fin 64) :
    val_main_v136 (F := Ideal) x0 x1 x2 x3 (ix5 b h s i l) = rowR x0 x1 x2 x3 b i (col (n := 512) 2048 (by decide) (gl (hg h s) l)) := by
  have i1 : idx_main_v135 (idx_main_v136 (ix5 b h s i l)) = ix3 b i (gl (hg h s) l) := funext fun a => Fin.ext (by
    match a with
    | ⟨0, _⟩ => simp [idx_main_v136, idx_main_v135, ix3, ix5, gl, hg] <;> omega
    | ⟨1, _⟩ => simp [idx_main_v136, idx_main_v135, ix3, ix5, gl, hg] <;> omega
    | ⟨2, _⟩ => simp [idx_main_v136, idx_main_v135, ix3, ix5, gl, hg] <;> omega)
  rw [val_main_v136_apply, val_main_v135_apply, i1, cols59]

/-- A half head's sum of squares. -/
theorem squares138 (b : Fin 8) (h : Fin 4) (s : Fin 2) (i : Fin 2048) : val_main_v138 (F := Ideal) x0 x1 x2 x3 (ix4 b h s i)
    = ∑ l, rowR x0 x1 x2 x3 b i (col (n := 512) 2048 (by decide) (gl (hg h s) l)) * rowR x0 x1 x2 x3 b i (col (n := 512) 2048 (by decide) (gl (hg h s) l)) := by
  have i1 : ∀ l, idx_main_v138 (ix4 b h s i) l = ix5 b h s i l := fun l => funext fun a => by
    match a with | ⟨0, _⟩ => rfl | ⟨1, _⟩ => rfl | ⟨2, _⟩ => rfl | ⟨3, _⟩ => rfl | ⟨4, _⟩ => rfl
  rw [val_main_v138_apply, val_main_cst_11_apply, zero_bits]
  refine (zero_add _).trans (Finset.sum_congr rfl fun l _ => ?_)
  rw [i1, val_main_v137_apply, heads136]
  rfl

/-- One over a half head's root mean square. -/
theorem rms145 (b : Fin 8) (h : Fin 4) (s : Fin 2) (i : Fin 2048) (l : Fin 64) : val_main_v145 (F := Ideal) x0 x1 x2 x3 (ix5 b h s i l)
    = FloatOps.rsqrt (F := Ideal) (φ := .f32) (FloatOps.addf (FloatOps.divf (F := Ideal) (φ := .f32)
      (∑ l, rowR x0 x1 x2 x3 b i (col (n := 512) 2048 (by decide) (gl (hg h s) l)) * rowR x0 x1 x2 x3 b i (col (n := 512) 2048 (by decide) (gl (hg h s) l)))
      (Ideal.ofBits .f32 0x42800000#32)) (Ideal.ofBits .f32 0x358637BD#32)) := by
  have i1 : idx_main_v139 (idx_main_v145 (ix5 b h s i l)) = ix4 b h s i := funext fun a => by
    match a with | ⟨0, _⟩ => rfl | ⟨1, _⟩ => rfl | ⟨2, _⟩ => rfl | ⟨3, _⟩ => rfl
  rw [val_main_v145_apply, val_main_v144_apply, val_main_v143_apply, val_main_v141_apply, val_main_v139_apply, i1, squares138,
    val_main_v140_apply, val_main_v142_apply, val_main_cst_12_apply, val_main_cst_13_apply]
  generalize (∑ l, rowR x0 x1 x2 x3 b i (col (n := 512) 2048 (by decide) (gl (hg h s) l)) * rowR x0 x1 x2 x3 b i (col (n := 512) 2048 (by decide) (gl (hg h s) l))) = y
  rfl

/-- The keys normed. -/
theorem normed149 (b : Fin 8) (h : Fin 4) (s : Fin 2) (i : Fin 2048) (l : Fin 64) : val_main_v149 (F := Ideal) x0 x1 x2 x3 x4 (ix5 b h s i l)
    = hnorm (fun l => rowR x0 x1 x2 x3 b i (col (n := 512) 2048 (by decide) (gl (hg h s) l))) (fun l => x4 (ix3 0 1 l)) l := by
  rw [val_main_v149_apply, val_main_v146_apply, heads136, rms145, gain148]
  rfl

/-- The keys with each lane's partner in its place. -/
theorem swap155 (b : Fin 8) (h : Fin 4) (s : Fin 2) (i : Fin 2048) (l : Fin 64) : val_main_v155 (F := Ideal) x0 x1 x2 x3 x4 (ix5 b h s i l)
    = swap (fun l => val_main_v149 (F := Ideal) x0 x1 x2 x3 x4 (ix5 b h s i l)) l := by
  unfold val_main_v155 val_main_v154 val_main_v153 val_main_v152 val_main_v151 val_main_v150
  generalize val_main_v149 (F := Ideal) x0 x1 x2 x3 x4 = y
  exact swap5 y b h s i l

/-- The keys turned. -/
theorem rope162 (b : Fin 8) (h : Fin 4) (s : Fin 2) (i : Fin 2048) (l : Fin 64) : val_main_v162 (F := Ideal) x0 x1 x2 x3 x4 (ix5 b h s i l)
    = spin (hnorm (fun l => rowR x0 x1 x2 x3 b i (col (n := 512) 2048 (by decide) (gl (hg h s) l))) (fun l => x4 (ix3 0 1 l))) (cosR i) (sinR i) l := by
  have ic : idx_main_v156 (idx_main_v157 (ix5 b h s i l)) = ix2 i l := funext fun a => by
    match a with | ⟨0, _⟩ => rfl | ⟨1, _⟩ => rfl
  have is : idx_main_v159 (idx_main_v160 (ix5 b h s i l)) = ix2 i l := funext fun a => by
    match a with | ⟨0, _⟩ => rfl | ⟨1, _⟩ => rfl
  rw [val_main_v162_apply, val_main_v158_apply, val_main_v161_apply, val_main_v157_apply, val_main_v156_apply,
    val_main_v160_apply, val_main_v159_apply, ic, is, swap155]
  simp only [normed149]
  rfl

/-- THE ATTENTION'S KEYS at an index. -/
theorem dk_apply (b : Fin 8) (i : Fin 2048) (q : Fin 512) : val_main_v169 (F := Ideal) x0 x1 x2 x3 x4 (ix3 b i q)
    = spin (hnorm (fun l => rowR x0 x1 x2 x3 b i (col (n := 512) 2048 (by decide) (gl (grp q) l))) (fun l => x4 (ix3 0 1 l)))
      (cosR i) (sinR i) (m64 q.val) := by
  have i1 : idx_main_v163 (idx_main_v164 (ix3 b i q)) = ix5 b ⟨q.val / 128, by omega⟩ ⟨q.val / 64 % 2, by omega⟩ i (m64 q.val) := funext fun a => Fin.ext (by
    match a with
    | ⟨0, _⟩ => simp [idx_main_v164, idx_main_v163, ix3, ix5, m64] <;> omega
    | ⟨1, _⟩ => simp [idx_main_v164, idx_main_v163, ix3, ix5, m64] <;> omega
    | ⟨2, _⟩ => simp [idx_main_v164, idx_main_v163, ix3, ix5, m64] <;> omega
    | ⟨3, _⟩ => simp [idx_main_v164, idx_main_v163, ix3, ix5, m64] <;> omega
    | ⟨4, _⟩ => simp [idx_main_v164, idx_main_v163, ix3, ix5, m64] <;> omega)
  have eg : hg ⟨q.val / 128, by omega⟩ ⟨q.val / 64 % 2, by omega⟩ = grp q := Fin.ext (by simp only [hg, grp]; omega)
  rw [val_main_v169_apply, val_main_v164_apply, val_main_v163_apply, i1, rope162, eg]
  rfl

end Stages

end Cert.InProj

end
-- ==== Proof.InArray.lean ====
/- The input projection kernel's seven result arrays are the reference's. -/
module

public import proofs.«01_k».proof.Proof.InOut
public import proofs.«01_k».proof.Proof.InTab
public import proofs.«01_k».proof.Proof.InHead
public import proofs.«01_k».proof.Proof.InDiff

@[expose] public section

noncomputable section

namespace Cert.InProj

open Idealize.ShloMosaic Idealize.SL.Sem Cert.InKernelIdeal Cert.InKernelIdeal.Gen Cert.InKernelIdeal.Value
open Cert.MixOut (mrow md)

/-- Every window's block at a grid point, by the point's sample and tile. -/
theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 1]
    ∧ win0_3.index t = ![0, 0] ∧ win0_4.index t = ![0, 0]
    ∧ win0_5.index t = ![(grid0.coords t 1).val, 0] ∧ win0_6.index t = ![(grid0.coords t 1).val, 0] ∧ win0_7.index t = ![(grid0.coords t 1).val, 0]
    ∧ win0_8.index t = ![0, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0] :=
  (by decide +kernel : ∀ t : Fin grid0.N, _)

variable (m : (ℓ : Loc nD τ sig) → Buf (Elt Ideal) ℓ) (c : Dev nD)

/-- A point's sample. -/
def batch (t : Fin cfg0.N) : Fin 8 := grid0.coords t 0

/-- A point's tile of its sample's tokens. -/
def tile (t : Fin cfg0.N) : Fin 2 := grid0.coords t 1

/-- Token `i` of a tile among its sample's. -/
def tt (u : Fin 2) (i : Fin 1024) : Fin 2048 := ⟨u.val * 1024 + i.val, by omega⟩

theorem iblk0 (t : Fin cfg0.N) (i l : Fin 1024) :
    iblk m c 0 t (ix3 0 i l) = m ((c.tc : Thread nD τ).loc main_arg0) (ix3 (batch t) (tt (tile t) i) l) := by
  blk_ext! [iblk, V, idx t, batch, tile, tt]

theorem arr1 (b : Fin 16) (n : Fin 6144) : @Eq EReal (V m c main_v0 (ix3 b 0 n)) (m ((c.tc : Thread nD τ).loc main_arg1) (ix2 b n)) := by
  after_reads_simp
  pointwise

theorem iblk1 (t : Fin cfg0.N) (n : Fin 1024) :
    @Eq EReal (iblk m c 1 t (ix3 0 0 n)) (m ((c.tc : Thread nD τ).loc main_arg1) (ix2 (mrow (batch t)) (md 0 n))) := by
  refine Eq.trans ?_ (arr1 m c (mrow (batch t)) (md 0 n))
  show V m c main_v0 ((win0_1.blk t).view.emb (ix3 0 0 n)) = V m c main_v0 _
  refine congrArg (V m c main_v0) ?_
  blk_ext [idx t, batch, mrow, md]

theorem iblk2 (t : Fin cfg0.N) (n : Fin 1024) :
    @Eq EReal (iblk m c 2 t (ix3 0 0 n)) (m ((c.tc : Thread nD τ).loc main_arg1) (ix2 (mrow (batch t)) (md 1 n))) := by
  refine Eq.trans ?_ (arr1 m c (mrow (batch t)) (md 1 n))
  show V m c main_v0 ((win0_2.blk t).view.emb (ix3 0 0 n)) = V m c main_v0 _
  refine congrArg (V m c main_v0) ?_
  blk_ext [idx t, batch, mrow, md]

theorem arr3 (n : Fin 1024) : @Eq EReal (V m c main_v4 (ix2 0 n)) (m ((c.tc : Thread nD τ).loc main_arg2) (ix2 0 n)) := by
  after_reads_simp
  pointwise

theorem iblk3 (t : Fin cfg0.N) (n : Fin 1024) : @Eq EReal (iblk m c 3 t (ix2 0 n)) (m ((c.tc : Thread nD τ).loc main_arg2) (ix2 0 n)) := by
  refine Eq.trans ?_ (arr3 m c n)
  show V m c main_v4 ((win0_3.blk t).view.emb (ix2 0 n)) = V m c main_v4 _
  refine congrArg (V m c main_v4) ?_
  blk_ext [idx t]

theorem arr4 (n : Fin 1024) (k : Fin 3072) : @Eq EReal (V m c main_v2 (ix2 n k)) (m ((c.tc : Thread nD τ).loc main_arg3) (ix3 0 n k)) := by
  after_reads_simp
  pointwise

theorem iblk4 (t : Fin cfg0.N) (n : Fin 1024) (k : Fin 3072) :
    @Eq EReal (iblk m c 4 t (ix2 n k)) (m ((c.tc : Thread nD τ).loc main_arg3) (ix3 0 n k)) := by
  refine Eq.trans ?_ (arr4 m c n k)
  show V m c main_v2 ((win0_4.blk t).view.emb (ix2 n k)) = V m c main_v2 _
  refine congrArg (V m c main_v2) ?_
  blk_ext [idx t]

theorem iblk5 (t : Fin cfg0.N) (i : Fin 1024) (l : Fin 128) : @Eq EReal (iblk m c 5 t (ix2 i l)) (cosR (tt (tile t) i) (m64 l.val)) := by
  refine Eq.trans ?_ (cos_apply m c (tt (tile t) i) l)
  show V m c main_v34 ((win0_5.blk t).view.emb (ix2 i l)) = V m c main_v34 _
  refine congrArg (V m c main_v34) ?_
  blk_ext [idx t, tile, tt]

theorem iblk6 (t : Fin cfg0.N) (i : Fin 1024) (l : Fin 128) : @Eq EReal (iblk m c 6 t (ix2 i l)) (if l.val % 32 < 16 then -(sinR (tt (tile t) i) (m64 l.val)) else 0) := by
  refine Eq.trans ?_ (up_apply m c (tt (tile t) i) l)
  show V m c main_v41 ((win0_6.blk t).view.emb (ix2 i l)) = V m c main_v41 _
  refine congrArg (V m c main_v41) ?_
  blk_ext [idx t, tile, tt]

theorem iblk7 (t : Fin cfg0.N) (i : Fin 1024) (l : Fin 128) : @Eq EReal (iblk m c 7 t (ix2 i l)) (if l.val % 32 < 16 then 0 else sinR (tt (tile t) i) (m64 l.val)) := by
  refine Eq.trans ?_ (dn_apply m c (tt (tile t) i) l)
  show V m c main_v42 ((win0_7.blk t).view.emb (ix2 i l)) = V m c main_v42 _
  refine congrArg (V m c main_v42) ?_
  blk_ext [idx t, tile, tt]

/-- The gains, one row for the queries and one for the keys, each over its group's lanes. -/
theorem arr8 (r : Fin 2) (q : Fin 512) : @Eq EReal (V m c main_v8 (ix2 r q)) (m ((c.tc : Thread nD τ).loc main_arg4) (ix3 0 r (m64 q.val))) := by
  after_reads_simp
  pointwise [m64]

theorem iblk8 (t : Fin cfg0.N) (r : Fin 2) (q : Fin 512) :
    @Eq EReal (iblk m c 8 t (ix2 r q)) (m ((c.tc : Thread nD τ).loc main_arg4) (ix3 0 r (m64 q.val))) := by
  refine Eq.trans ?_ (arr8 m c r q)
  show V m c main_v8 ((win0_8.blk t).view.emb (ix2 r q)) = V m c main_v8 _
  refine congrArg (V m c main_v8) ?_
  blk_ext [idx t]

/-- A point's projection is the reference's. -/
theorem prow_eq (t : Fin cfg0.N) (i : Fin 1024) : prow m c t i = rowR (m ((c.tc : Thread nD τ).loc main_arg0)) (m ((c.tc : Thread nD τ).loc main_arg1)) (m ((c.tc : Thread nD τ).loc main_arg2)) (m ((c.tc : Thread nD τ).loc main_arg3)) (batch t) (tt (tile t) i) := by
  have h : hid (iblk m c 0 t) (iblk m c 3 t) (iblk m c 2 t) (iblk m c 1 t) i = hidR (m ((c.tc : Thread nD τ).loc main_arg0)) (m ((c.tc : Thread nD τ).loc main_arg1)) (m ((c.tc : Thread nD τ).loc main_arg2)) (batch t) (tt (tile t) i) := by
    unfold hid hidR
    simp only [iblk0, iblk1, iblk2, iblk3]
  funext k
  unfold prow row rowR
  rw [h]
  exact Finset.sum_congr rfl fun n _ => congrArg _ (iblk4 m c t n k)

/-- A point's row turned is each of its heads turned. -/
theorem turned_eq (t : Fin cfg0.N) {n : Nat} (hn : 128 ∣ n) (i : Fin 1024) (v : Fin n → EReal) (q : Fin n) :
    turned m c t hn i v q = spin (fun l => v (own hn q l)) (cosR (tt (tile t) i)) (sinR (tt (tile t) i)) (m64 q.val) :=
  wide_spin hn v _ _ _ _ _ (fun l => iblk5 m c t i l) (fun l => iblk6 m c t i l) (fun l => iblk7 m c t i l) q

/-- A group of the normed queries or keys, of a real row. -/
theorem group_eq (v g : Fin 512 → EReal) (hv : ∀ q, ∃ r : ℝ, v q = (r : EReal)) (x : Fin 64 → EReal) (hg : ∀ q, g q = x (m64 q.val)) (q : Fin 512) :
    (fun l => gnorm v g (own four q l)) = hnorm (fun l => v (gl (grp q) l)) x := by
  funext l
  have e1 : grp (own four q l) = grp q := Fin.ext (by simp only [grp, own]; omega)
  have e2 : m64 (own four q l).val = l := Fin.ext (by simp only [m64, own]; omega)
  have e3 : (fun l => g (gl (grp q) l)) = x := funext fun l => (hg _).trans (congrArg x (Fin.ext (by simp only [m64, gl]; omega)))
  rw [gnorm_real v g hv, e1, e2, e3]

/-- A row of the retention's queries or keys, turned, is each of the reference's heads turned. -/
theorem ret_eq (t : Fin cfg0.N) (i : Fin 1024) (o : Nat) (ho : o + 256 ≤ 3072) (q : Fin 256) :
    turned m c t two i (fun q => prow m c t i (col o ho q)) q = spin (fun l => rowR (m ((c.tc : Thread nD τ).loc main_arg0)) (m ((c.tc : Thread nD τ).loc main_arg1)) (m ((c.tc : Thread nD τ).loc main_arg2)) (m ((c.tc : Thread nD τ).loc main_arg3)) (batch t) (tt (tile t) i) (col o ho (own dvd256 q l)))
      (cosR (tt (tile t) i)) (sinR (tt (tile t) i)) (m64 q.val) := by
  rw [prow_eq]
  exact turned_eq m c t two i _ q

/-- A point's columns of a slab are the reference's. -/
theorem slab_eq (t : Fin cfg0.N) (i : Fin 1024) (o : Nat) (ho : o + 512 ≤ 3072) (q : Fin 512) :
    prow m c t i (col o ho q) = rowR (m ((c.tc : Thread nD τ).loc main_arg0)) (m ((c.tc : Thread nD τ).loc main_arg1)) (m ((c.tc : Thread nD τ).loc main_arg2)) (m ((c.tc : Thread nD τ).loc main_arg3)) (batch t) (tt (tile t) i) (col o ho q) :=
  congrFun (prow_eq m c t i) _

/-- A row of the attention's queries or keys, normed and turned, is each of the reference's heads normed and turned. -/
theorem att_eq (h0 : ∀ i, ∃ r : ℝ, m ((c.tc : Thread nD τ).loc main_arg0) i = (r : EReal)) (h1 : ∀ i, ∃ r : ℝ, m ((c.tc : Thread nD τ).loc main_arg1) i = (r : EReal))
    (h2 : ∀ i, ∃ r : ℝ, m ((c.tc : Thread nD τ).loc main_arg2) i = (r : EReal)) (h3 : ∀ i, ∃ r : ℝ, m ((c.tc : Thread nD τ).loc main_arg3) i = (r : EReal))
    (t : Fin cfg0.N) (i : Fin 1024) (o : Nat) (ho : o + 512 ≤ 3072) (r : Fin 2) (q : Fin 512) :
    turned m c t four i (gnorm (fun q => prow m c t i (col o ho q)) (fun q => iblk m c 8 t (ix2 r q))) q =
      spin (hnorm (fun l => rowR (m ((c.tc : Thread nD τ).loc main_arg0)) (m ((c.tc : Thread nD τ).loc main_arg1)) (m ((c.tc : Thread nD τ).loc main_arg2)) (m ((c.tc : Thread nD τ).loc main_arg3)) (batch t) (tt (tile t) i) (col o ho (gl (grp q) l)))
        (fun l => m ((c.tc : Thread nD τ).loc main_arg4) (ix3 0 r l)))
        (cosR (tt (tile t) i)) (sinR (tt (tile t) i)) (m64 q.val) := by
  rw [prow_eq]
  exact (turned_eq m c t four i _ q).trans (congrArg (fun v => spin v (cosR (tt (tile t) i)) (sinR (tt (tile t) i)) (m64 q.val))
    (group_eq _ _ (fun q => row_real _ _ _ _ h0 h1 h2 h3 _ _ _) (fun l => m ((c.tc : Thread nD τ).loc main_arg4) (ix3 0 r l)) (fun q => iblk8 m c t r q) q))

/-- THE RETENTION'S QUERIES: what the blocks leave is the reference's value. -/
theorem out9_eq : (dats m 0 c).arrAt 9 cfg0.N = Cert.InReferenceIdeal.Read.val_main_v165 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t hf y => ?_
  blk_simp
  have he : (win0_9.blk t).view.emb y = ix3 (batch t) (tt (tile t) (y 1)) (y 2) := by
    blk_ext [idx t, batch, tile, tt]
  rw [after0_9]
  refine (out9_apply m c t y).trans (Eq.trans ?_ ((rq_apply _ _ _ _ (batch t) (tt (tile t) (y 1)) (y 2)).symm.trans (congrArg _ he.symm)))
  exact ret_eq m c t (y 1) 0 (by decide) (y 2)

/-- THE RETENTION'S KEYS: what the blocks leave is the reference's value. -/
theorem out10_eq : (dats m 0 c).arrAt 10 cfg0.N = Cert.InReferenceIdeal.Read.val_main_v166 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 10 _ (by decide +kernel) fun t hf y => ?_
  blk_simp
  have he : (win0_10.blk t).view.emb y = ix3 (batch t) (tt (tile t) (y 1)) (y 2) := by
    blk_ext [idx t, batch, tile, tt]
  rw [after0_10]
  refine (out10_apply m c t y).trans (Eq.trans ?_ ((rk_apply _ _ _ _ (batch t) (tt (tile t) (y 1)) (y 2)).symm.trans (congrArg _ he.symm)))
  exact congrArg (fun z : EReal => z * Ideal.ofBits .f32 0x3E000000#32) (ret_eq m c t (y 1) 256 (by decide) (y 2))

/-- THE RETENTION'S VALUES: what the blocks leave is the reference's value. -/
theorem out11_eq : (dats m 0 c).arrAt 11 cfg0.N = Cert.InReferenceIdeal.Read.val_main_v167 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 11 _ (by decide +kernel) fun t hf y => ?_
  blk_simp
  have he : (win0_11.blk t).view.emb y = ix3 (batch t) (tt (tile t) (y 1)) (y 2) := by
    blk_ext [idx t, batch, tile, tt]
  rw [after0_11]
  refine (out11_apply m c t y).trans ?_
  refine (slab_eq m c t (y 1) 512 (by decide) (y 2)).trans ?_
  exact (cols56 _ _ _ _ (batch t) (tt (tile t) (y 1)) (y 2)).symm.trans (congrArg (Cert.InReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3))) he.symm)

/-- THE RETENTION'S GATE: what the blocks leave is the reference's value. -/
theorem out12_eq : (dats m 0 c).arrAt 12 cfg0.N = Cert.InReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 12 _ (by decide +kernel) fun t hf y => ?_
  blk_simp
  have he : (win0_12.blk t).view.emb y = ix3 (batch t) (tt (tile t) (y 1)) (y 2) := by
    blk_ext [idx t, batch, tile, tt]
  rw [after0_12]
  refine (out12_apply m c t y).trans ?_
  refine (slab_eq m c t (y 1) 1024 (by decide) (y 2)).trans ?_
  exact (cols57 _ _ _ _ (batch t) (tt (tile t) (y 1)) (y 2)).symm.trans (congrArg (Cert.InReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3))) he.symm)

/-- THE ATTENTION'S VALUES: what the blocks leave is the reference's value. -/
theorem out15_eq : (dats m 0 c).arrAt 15 cfg0.N = Cert.InReferenceIdeal.Read.val_main_v170 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 15 _ (by decide +kernel) fun t hf y => ?_
  blk_simp
  have he : (win0_15.blk t).view.emb y = ix3 (batch t) (tt (tile t) (y 1)) (y 2) := by
    blk_ext [idx t, batch, tile, tt]
  rw [after0_15]
  refine (out15_apply m c t y).trans ?_
  refine (slab_eq m c t (y 1) 2560 (by decide) (y 2)).trans ?_
  exact (cols60 _ _ _ _ (batch t) (tt (tile t) (y 1)) (y 2)).symm.trans (congrArg (Cert.InReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3))) he.symm)

/-- The named scale is one over what the reference divides the queries by. -/
theorem scale_div (z : EReal) : z * Named.named (F := Ideal) (φ := .f32) κ "q_scale" 0x3E38AA3B#32 = Ideal.div z den := by
  have hk : (Named.named (F := Ideal) (φ := .f32) κ "q_scale" 0x3E38AA3B#32 : EReal) = (((8 * Real.log 2)⁻¹ : ℝ) : EReal) := rfl
  have h8 : Ideal.ofBits .f32 0x41000000#32 = ((8 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have hl : (0 : ℝ) < Real.log 2 := Real.log_pos (by norm_num)
  have hd : den = ((8 * Real.log 2 : ℝ) : EReal) := by
    show Ideal.ofBits .f32 0x41000000#32 * Ideal.log (Ideal.ofBits .f32 0x40000000#32) = _
    rw [h8, h2, EReal.coe_mul]
    congr 1
    show (if (2 : ℝ) ≤ 0 then (⊥ : EReal) else (Real.log 2 : ℝ)) = _
    rw [if_neg (by norm_num)]
  have hn : den ≠ 0 := by
    rw [hd]
    exact_mod_cast (by positivity : (8 * Real.log 2 : ℝ) ≠ 0)
  rw [hk, Ideal.div, if_neg hn, hd, ← EReal.coe_inv]

/-- THE ATTENTION'S QUERIES: what the blocks leave is the reference's value. -/
theorem out13_eq (h0 : ∀ i, ∃ r : ℝ, m ((c.tc : Thread nD τ).loc main_arg0) i = (r : EReal)) (h1 : ∀ i, ∃ r : ℝ, m ((c.tc : Thread nD τ).loc main_arg1) i = (r : EReal))
    (h2 : ∀ i, ∃ r : ℝ, m ((c.tc : Thread nD τ).loc main_arg2) i = (r : EReal)) (h3 : ∀ i, ∃ r : ℝ, m ((c.tc : Thread nD τ).loc main_arg3) i = (r : EReal)) : (dats m 0 c).arrAt 13 cfg0.N = Cert.InReferenceIdeal.Read.val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 13 _ (by decide +kernel) fun t hf y => ?_
  blk_simp
  have he : (win0_13.blk t).view.emb y = ix3 (batch t) (tt (tile t) (y 1)) (y 2) := by
    blk_ext [idx t, batch, tile, tt]
  rw [after0_13]
  refine (out13_apply m c t y).trans (Eq.trans ?_ ((dq_apply _ _ _ _ _ (batch t) (tt (tile t) (y 1)) (y 2)).symm.trans (congrArg _ he.symm)))
  have e := att_eq m c h0 h1 h2 h3 t (y 1) 1536 (by decide) 0 (y 2)
  exact (congrArg (fun z : EReal => z * Named.named (F := Ideal) (φ := .f32) κ "q_scale" 0x3E38AA3B#32) e).trans (scale_div _)

/-- THE ATTENTION'S KEYS: what the blocks leave is the reference's value. -/
theorem out14_eq (h0 : ∀ i, ∃ r : ℝ, m ((c.tc : Thread nD τ).loc main_arg0) i = (r : EReal)) (h1 : ∀ i, ∃ r : ℝ, m ((c.tc : Thread nD τ).loc main_arg1) i = (r : EReal))
    (h2 : ∀ i, ∃ r : ℝ, m ((c.tc : Thread nD τ).loc main_arg2) i = (r : EReal)) (h3 : ∀ i, ∃ r : ℝ, m ((c.tc : Thread nD τ).loc main_arg3) i = (r : EReal)) : (dats m 0 c).arrAt 14 cfg0.N = Cert.InReferenceIdeal.Read.val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 14 _ (by decide +kernel) fun t hf y => ?_
  blk_simp
  have he : (win0_14.blk t).view.emb y = ix3 (batch t) (tt (tile t) (y 1)) (y 2) := by
    blk_ext [idx t, batch, tile, tt]
  rw [after0_14]
  refine (out14_apply m c t y).trans (Eq.trans ?_ ((dk_apply _ _ _ _ _ (batch t) (tt (tile t) (y 1)) (y 2)).symm.trans (congrArg _ he.symm)))
  have e := att_eq m c h0 h1 h2 h3 t (y 1) 2048 (by decide) 1 (y 2)
  exact e

end Cert.InProj

end
-- ==== Proof.InPre.lean ====
/- What the input projection's precondition gives: every element of the four checked arrays is a real number. -/
module

public import proofs.«01_k».proof.Proof.Pre
public import proofs.«01_k».proof.Proof.Gen.Pre_finite_in

@[expose] public section

noncomputable section

namespace Cert.InProj

open Idealize.ShloMosaic Cert.Pre_finite_in
open Cert.DiffAttn (real_f32 inf_f32)

variable {a : FVec Ideal S8x2048x1024 .f32} {b : FVec Ideal S16x6144 .f32} {c : FVec Ideal S1x1024 .f32} {d : FVec Ideal S1x1024x3072 .f32}
  {e : FVec Ideal S1x2x64 .f32}

/-- THE PRECONDITION READ: the four checked arrays are real, element by element. -/
theorem finite_in_real (h1 : (fn (F := Ideal) a b c d e).1 = fun _ => 1#1) (h2 : (fn (F := Ideal) a b c d e).2.1 = fun _ => 1#1)
    (h3 : (fn (F := Ideal) a b c d e).2.2.1 = fun _ => 1#1) (h4 : (fn (F := Ideal) a b c d e).2.2.2 = fun _ => 1#1) :
    (∀ i, ∃ r : ℝ, a i = (r : EReal)) ∧ (∀ i, ∃ r : ℝ, b i = (r : EReal)) ∧ (∀ i, ∃ r : ℝ, c i = (r : EReal))
      ∧ (∀ i, ∃ r : ℝ, d i = (r : EReal)) :=
  ⟨real_f32 (fun _ => inf_f32) h1, real_f32 (fun _ => inf_f32) h2, real_f32 (fun _ => inf_f32) h3, real_f32 (fun _ => inf_f32) h4⟩

end Cert.InProj

end
-- ==== Proof.CtxBlock.lean ====
/- What a point of the context projection's grid leaves in the four used outputs' blocks, at an index. -/
module

public import proofs.«01_k».proof.Proof.Gen.CtxKernelIdeal.Frame
public import Idealize.ShloMosaic.Lib.Pipeline.ValueKit
public import Idealize.ShloMosaic.Lib.Pipeline.ReadBack
public import proofs.«01_k».proof.Proof.InBlock

@[expose] public section

noncomputable section

namespace Cert.CtxProj

open Idealize.ShloMosaic Idealize.SL.Sem Cert.CtxKernelIdeal Cert.CtxKernelIdeal.Gen
open Cert.MixOut (normed)
open Cert.InProj (sel grms gnorm quot_eq sel_word col)

section Block
variable (P0 : Vec Ideal S1x256x1024 .f32) (P1 : Vec Ideal S1x1024 .f32) (P2 P3 : Vec Ideal S1x1x1024 .f32) (P4 : Vec Ideal S1024x3072 .bf16)

/-- A token's modulated norm, of the body's operands. -/
def hid (t : Fin 256) : Fin 1024 → EReal :=
  normed (fun n => P0 (ix3 0 t n)) (fun n => P1 (ix2 0 n)) (fun n => P2 (ix3 0 0 n)) (fun n => P3 (ix3 0 0 n))

/-- A token's projection, of the body's operands. -/
def row (t : Fin 256) (k : Fin 3072) : EReal := ∑ n, hid P0 P1 P2 P3 t n * P4 (ix2 n k)

/-- The projection at a token and a column. -/
theorem pay3_apply (t : Fin 256) (k : Fin 3072) : k0_pay3 P0 P1 P2 P3 P4 (ix2 t k) = row P0 P1 P2 P3 P4 t k := by
  unfold row hid normed
  pointwise [k0_pay3]

/-- The group selection of the keys' norm. -/
theorem pay26_apply (q : Fin 512) (j : Fin 128) :
    k0_pay26 (F := Ideal) (iota Kind.tc S512x128 32 [0] iota_S512x128_d0_w32) (64#32) k0_pay23 k0_pay24 k0_pay25 (ix2 q j) = sel q j := by
  rw [← sel_word, ← quot_eq]
  pointwise [k0_pay26, k0_pay23, k0_pay24, k0_pay25]

/-- The keys' norm. -/
theorem pay28_apply (g : FVec Ideal S1x512 .f32) (v : Vec Ideal S256x512 .f32) (t : Fin 256) (q : Fin 512) :
    k0_pay28 (F := Ideal) g v (k0_pay26 (iota Kind.tc S512x128 32 [0] iota_S512x128_d0_w32) (64#32) k0_pay23 k0_pay24 k0_pay25) k0_pay27
      (iota Kind.tc S128x512 32 [0] iota_S128x512_d0_w32) (ix2 t q) = gnorm (fun q => v (ix2 t q)) (fun q => g (ix2 0 q)) q := by
  unfold gnorm grms
  simp only [← pay26_apply]
  simp only [pay26_apply q, ← sel_word, ← quot_eq]
  generalize k0_pay26 (F := Ideal) (iota Kind.tc S512x128 32 [0] iota_S512x128_d0_w32) (64#32) k0_pay23 k0_pay24 k0_pay25 = w
  pointwise [k0_pay28, k0_pay27]

end Block

/-- Lane `l` of slab `s`. -/
def lane {n : Nat} (s : Nat) (h : s * 128 + 128 ≤ n) (l : Fin 128) : Fin n := ⟨s * 128 + l.val, by omega⟩

section Slabs
variable (i : Fin 256) (l : Fin 128)

/-- The retention's keys, slab 0. -/
theorem rk0 (v : Vec Ideal S256x256 .f32) : k0_pay7 (F := Ideal) v (ix3 0 i l) = v (ix2 i (lane 0 (by decide) l)) * Ideal.ofBits .f32 0x3E000000#32 := by
  unfold lane
  pointwise [k0_pay7]

/-- The retention's keys, slab 1. -/
theorem rk1 (v : Vec Ideal S256x256 .f32) : k0_pay8 (F := Ideal) v (ix3 0 i l) = v (ix2 i (lane 1 (by decide) l)) * Ideal.ofBits .f32 0x3E000000#32 := by
  unfold lane
  pointwise [k0_pay8]

variable (g : FVec Ideal S1x512 .f32) (v : Vec Ideal S256x512 .f32) (S : FVec Ideal S512x128 .bf16) (a b : IVec S128x512 32)

/-- The attention's keys, slab 0. -/
theorem dk0 : k0_pay29 (F := Ideal) g v S a b (ix3 0 i l) = k0_pay28 g v S a b (ix2 i (lane 0 (by decide) l)) := by
  unfold lane k0_pay29
  generalize k0_pay28 (F := Ideal) g v S a b = y
  pointwise

/-- The attention's keys, slab 1. -/
theorem dk1 : k0_pay30 (F := Ideal) g v S a b (ix3 0 i l) = k0_pay28 g v S a b (ix2 i (lane 1 (by decide) l)) := by
  unfold lane k0_pay30
  generalize k0_pay28 (F := Ideal) g v S a b = y
  pointwise

/-- The attention's keys, slab 2. -/
theorem dk2 : k0_pay31 (F := Ideal) g v S a b (ix3 0 i l) = k0_pay28 g v S a b (ix2 i (lane 2 (by decide) l)) := by
  unfold lane k0_pay31
  generalize k0_pay28 (F := Ideal) g v S a b = y
  pointwise

/-- The attention's keys, slab 3. -/
theorem dk3 (y : FVec Ideal S256x512 .f32) : k0_pay1 (F := Ideal) y (ix3 0 i l) = y (ix2 i (lane 3 (by decide) l)) := by
  unfold lane
  pointwise [k0_pay1]

end Slabs

/-- An index of a store, by its token and lane. -/
theorem at_token (x : S1x256x128.Idx) : x = ix3 0 (x 1) (x 2) := funext fun a => by
  match a with
  | ⟨0, _⟩ => exact Fin.ext (by have := (x 0).isLt; show (x 0).val = 0; change (x 0).val < 1 at this; omega)
  | ⟨1, _⟩ => rfl
  | ⟨2, _⟩ => rfl

variable (m : (ℓ : Loc nD τ sig) → Buf (Elt Ideal) ℓ) (c : Dev nD) (t : Fin cfg0.N)

/-- The projection of a point's token. -/
def prow (i : Fin 256) : Fin 3072 → EReal := row (iblk m c 0 t) (iblk m c 3 t) (iblk m c 2 t) (iblk m c 1 t) (iblk m c 4 t) i

/-- Equal tokens' equal columns are equal. -/
theorem prow_congr {i i' : Fin 256} {k k' : Fin 3072} (hi : i = i') (hk : k = k') : prow m c t i k = prow m c t i' k' := by
  rw [hi, hk]

/-- The retention's keys. -/
theorem out10_apply (y : S1x256x256.Idx) : (outsAt0 m c t).2.1 y
    = prow m c t (y 1) (col (n := 256) 256 (by decide) (y 2)) * Ideal.ofBits .f32 0x3E000000#32 := by
  rw [outsAt0]
  dsimp only
  frame_out
  simp (disch := decide) only [View.readCov_fill]
  canon_tiles x h
  · refine (congrArg _ (at_token x)).trans ((rk1 (x 1) (x 2) _).trans (congrArg (· * _) (Eq.trans ?_
      ((pay3_apply _ _ _ _ _ (x 1) (col (n := 256) 256 (by decide) (lane 1 (by decide) (x 2)))).trans (prow_congr m c t (Fin.ext h1.symm) (Fin.ext ?_))))))
    · pointwise [col, lane]
    · show 256 + (1 * 128 + (x 2).val) = 256 + (y 2).val
      omega
  · refine (congrArg _ (at_token x)).trans ((rk0 (x 1) (x 2) _).trans (congrArg (· * _) (Eq.trans ?_
      ((pay3_apply _ _ _ _ _ (x 1) (col (n := 256) 256 (by decide) (lane 0 (by decide) (x 2)))).trans (prow_congr m c t (Fin.ext h1.symm) (Fin.ext ?_))))))
    · pointwise [col, lane]
    · show 256 + (0 * 128 + (x 2).val) = 256 + (y 2).val
      omega

/-- The retention's values. -/
theorem out11_apply (y : S1x256x512.Idx) : (outsAt0 m c t).2.2.1 y = prow m c t (y 1) (col (n := 512) 512 (by decide) (y 2)) := by
  rw [outsAt0]
  dsimp only
  frame_out
  simp (disch := decide) only [View.readCov_fill]
  refine Eq.trans ?_ (pay3_apply _ _ _ _ _ (y 1) (col (n := 512) 512 (by decide) (y 2)))
  pointwise [k0_pay9, col]

/-- The attention's values. -/
theorem out15_apply (y : S1x256x512.Idx) : (outsAt0 m c t).2.2.2.2.2.2 y = prow m c t (y 1) (col (n := 512) 2560 (by decide) (y 2)) := by
  rw [outsAt0]
  dsimp only
  frame_out
  simp (disch := decide) only [View.readCov_fill]
  refine Eq.trans ?_ (pay3_apply _ _ _ _ _ (y 1) (col (n := 512) 2560 (by decide) (y 2)))
  pointwise [k0_pay2, col]

/-- A token's attention keys, normed. -/
def dkn (i : Fin 256) : Fin 512 → EReal := gnorm (fun q => prow m c t i (col 2048 (by decide) q)) (fun q => iblk m c 8 t (ix2 1 q))

/-- The body's normed keys. -/
theorem dkn_apply (i : Fin 256) (q : Fin 512) :
    k0_pay28 (F := Ideal) (k0_pay22 (View.ld (iblk m c 8 t) (Rect.unit ![1, 0] ![1, 512] inb_S2x512_S1x512_1_0)))
      (View.ld (Val := Elt Ideal) (e' := .f32) (k0_pay3 (F := Ideal) (iblk m c 0 t) (iblk m c 3 t) (iblk m c 2 t) (iblk m c 1 t) (iblk m c 4 t)) (Rect.unit (s := S256x3072) ![0, 2048] ![256, 512] inb_S256x3072_S256x512_0_2048))
      (k0_pay26 (iota Kind.tc S512x128 32 [0] iota_S512x128_d0_w32) (64#32) k0_pay23 k0_pay24 k0_pay25) k0_pay27
      (iota Kind.tc S128x512 32 [0] iota_S128x512_d0_w32) (ix2 i q) = dkn m c t i q := by
  refine (pay28_apply _ _ i q).trans ?_
  unfold dkn
  refine congrArg₂ (fun a b => gnorm a b q) (funext fun q => ?_) (funext fun q => ?_)
  · refine Eq.trans ?_ (pay3_apply _ _ _ _ _ i (col (n := 512) 2048 (by decide) q))
    pointwise [col]
  · pointwise [k0_pay22]

/-- Equal tokens' equal lanes are equal. -/
theorem dkn_congr {i i' : Fin 256} {q q' : Fin 512} (hi : i = i') (hq : q = q') : dkn m c t i q = dkn m c t i' q' := by
  rw [hi, hq]

/-- The attention's keys. -/
theorem out14_apply (y : S1x256x512.Idx) : (outsAt0 m c t).2.2.2.2.2.1 y = dkn m c t (y 1) (y 2) := by
  rw [outsAt0]
  dsimp only
  frame_out
  simp (disch := decide) only [View.readCov_fill]
  canon_tiles x h
  · refine (congrArg _ (at_token x)).trans ((dk3 (x 1) (x 2) _).trans ((dkn_apply m c t (x 1) (lane 3 (by decide) (x 2))).trans
      (dkn_congr m c t (Fin.ext h1.symm) (Fin.ext ?_))))
    show 3 * 128 + (x 2).val = (y 2).val
    omega
  · refine (congrArg _ (at_token x)).trans ((dk2 (x 1) (x 2) _ _ _ _ _).trans ((dkn_apply m c t (x 1) (lane 2 (by decide) (x 2))).trans
      (dkn_congr m c t (Fin.ext h1.symm) (Fin.ext ?_))))
    show 2 * 128 + (x 2).val = (y 2).val
    omega
  · refine (congrArg _ (at_token x)).trans ((dk1 (x 1) (x 2) _ _ _ _ _).trans ((dkn_apply m c t (x 1) (lane 1 (by decide) (x 2))).trans
      (dkn_congr m c t (Fin.ext h1.symm) (Fin.ext ?_))))
    show 1 * 128 + (x 2).val = (y 2).val
    omega
  · refine (congrArg _ (at_token x)).trans ((dk0 (x 1) (x 2) _ _ _ _ _).trans ((dkn_apply m c t (x 1) (lane 0 (by decide) (x 2))).trans
      (dkn_congr m c t (Fin.ext h1.symm) (Fin.ext ?_))))
    show 0 * 128 + (x 2).val = (y 2).val
    omega

end Cert.CtxProj

end
-- ==== Proof.CtxRef.lean ====
/- The reference's first norm of the context and its projection, each stage at an index. -/
module

public import proofs.«01_k».proof.Proof.Gen.CtxReferenceIdeal.Read
public import proofs.«01_k».proof.Proof.InRef
public import proofs.«01_k».proof.Proof.InDiff

@[expose] public section

noncomputable section

namespace Cert.CtxProj

open Idealize.ShloMosaic Cert.CtxReferenceIdeal Cert.CtxReferenceIdeal.Gen Cert.CtxReferenceIdeal.Read
open Cert.MixOut (normed md)
open Cert.InProj (col zero_bits normed_real dot_real hg gl grp m64 hnorm)

section Stages
variable (x0 : Vec Ideal S8x256x1024 .f32) (x1 : Vec Ideal S16x6144 .f32) (x2 : Vec Ideal S1x1024 .f32) (x3 : Vec Ideal S1x1024x3072 .f32)

/-- The context's modulation as six vectors. -/
theorem mod_apply (k : Fin 6) (n : Fin 1024) : val_main_v1 (F := Ideal) x1 (ix4 0 k 0 n) = x1 (ix2 (8) (md k n)) := by
  rw [val_main_v1_apply, val_main_v0_apply]
  refine congrArg x1 (funext fun a => Fin.ext ?_)
  match a with
  | ⟨0, _⟩ => simp [idx_main_v1, idx_main_v0, ix4, ix2, md] <;> omega
  | ⟨1, _⟩ => simp [idx_main_v1, idx_main_v0, ix4, ix2, md] <;> omega

/-- The norm's scale, one added. -/
theorem scale_apply (b : Fin 8) (i : Fin 256) (n : Fin 1024) :
    val_main_v20 (F := Ideal) x1 (ix3 b i n) = Ideal.ofBits .f32 0x3F800000#32 + x1 (ix2 (8) (md 1 n)) := by
  rw [val_main_v20_apply, val_main_v19_apply, val_main_v18_apply, val_main_v17_apply, val_main_v16_apply, ← mod_apply x1]
  refine congrArg (fun z : EReal => Ideal.ofBits .f32 0x3F800000#32 + z) (congrArg _ (funext fun a => Fin.ext ?_))
  match a with
  | ⟨0, _⟩ => simp [idx_main_v20, idx_main_v17, idx_main_v16, ix4, ix3] <;> omega
  | ⟨1, _⟩ => simp [idx_main_v20, idx_main_v17, idx_main_v16, ix4, ix3]
  | ⟨2, _⟩ => simp [idx_main_v20, idx_main_v17, idx_main_v16, ix4, ix3]
  | ⟨3, _⟩ => simp [idx_main_v20, idx_main_v17, idx_main_v16, ix4, ix3] <;> omega

/-- The norm's shift. -/
theorem shift_apply (b : Fin 8) (i : Fin 256) (n : Fin 1024) : val_main_v24 (F := Ideal) x1 (ix3 b i n) = x1 (ix2 (8) (md 0 n)) := by
  rw [val_main_v24_apply, val_main_v23_apply, val_main_v22_apply, ← mod_apply x1]
  refine congrArg _ (funext fun a => Fin.ext ?_)
  match a with
  | ⟨0, _⟩ => simp [idx_main_v24, idx_main_v23, idx_main_v22, ix4, ix3] <;> omega
  | ⟨1, _⟩ => simp [idx_main_v24, idx_main_v23, idx_main_v22, ix4, ix3]
  | ⟨2, _⟩ => simp [idx_main_v24, idx_main_v23, idx_main_v22, ix4, ix3]
  | ⟨3, _⟩ => simp [idx_main_v24, idx_main_v23, idx_main_v22, ix4, ix3] <;> omega

/-- The norm's gain. -/
theorem gain_apply (b : Fin 8) (i : Fin 256) (n : Fin 1024) : val_main_v14 (F := Ideal) x2 (ix3 b i n) = x2 (ix2 0 n) := by
  rw [val_main_v14_apply, val_main_v13_apply, val_main_v12_apply]
  refine congrArg _ (funext fun a => Fin.ext ?_)
  match a with
  | ⟨0, _⟩ => simp [idx_main_v14, idx_main_v13, idx_main_v12, ix2, ix3]
  | ⟨1, _⟩ => simp [idx_main_v14, idx_main_v13, idx_main_v12, ix2, ix3] <;> omega

/-- A token's sum of squares. -/
theorem squares_apply (b : Fin 8) (i : Fin 256) : val_main_v3 (F := Ideal) x0 (ix2 b i) = ∑ k, x0 (ix3 b i k) * x0 (ix3 b i k) := by
  have i1 : ∀ l, idx_main_v3 (ix2 b i) l = ix3 b i l := fun l => funext fun a => by
    match a with | ⟨0, _⟩ => rfl | ⟨1, _⟩ => rfl | ⟨2, _⟩ => rfl
  rw [val_main_v3_apply, val_main_cst_apply, zero_bits]
  refine (zero_add _).trans (Finset.sum_congr rfl fun l _ => ?_)
  rw [i1, val_main_v2_apply]
  rfl

/-- One over a token's root mean square. -/
theorem rms_apply (b : Fin 8) (i : Fin 256) (n : Fin 1024) : val_main_v10 (F := Ideal) x0 (ix3 b i n)
    = FloatOps.rsqrt (F := Ideal) (φ := .f32) (FloatOps.addf (FloatOps.divf (F := Ideal) (φ := .f32)
      (∑ k, x0 (ix3 b i k) * x0 (ix3 b i k)) (Ideal.ofBits .f32 0x44800000#32)) (Ideal.ofBits .f32 0x358637BD#32)) := by
  have i1 : idx_main_v4 (idx_main_v10 (ix3 b i n)) = ix2 b i := funext fun a => by
    match a with | ⟨0, _⟩ => rfl | ⟨1, _⟩ => rfl
  rw [val_main_v10_apply, val_main_v9_apply, val_main_v8_apply, val_main_v6_apply, val_main_v4_apply, i1, squares_apply,
    val_main_v5_apply, val_main_v7_apply, val_main_cst_0_apply, val_main_cst_1_apply]
  generalize (∑ k, x0 (ix3 b i k) * x0 (ix3 b i k)) = y
  rfl

/-- A token's modulated norm, of the reference's arguments. -/
def hidR (b : Fin 8) (i : Fin 256) : Fin 1024 → EReal :=
  normed (fun n => x0 (ix3 b i n)) (fun n => x2 (ix2 0 n)) (fun n => x1 (ix2 (8) (md 1 n))) (fun n => x1 (ix2 (8) (md 0 n)))

/-- The normed tokens are the modulated norm. -/
theorem normed_apply (b : Fin 8) (i : Fin 256) (n : Fin 1024) : val_main_v25 (F := Ideal) x0 x1 x2 (ix3 b i n) = hidR x0 x1 x2 b i n := by
  rw [val_main_v25_apply, val_main_v21_apply, val_main_v15_apply, val_main_v11_apply, rms_apply, gain_apply, scale_apply, shift_apply]
  rfl

/-- The projection's weights. -/
theorem weight_apply (n : Fin 1024) (k : Fin 3072) : val_main_v26 (F := Ideal) x3 (ix2 n k) = x3 (ix3 0 n k) := by
  rw [val_main_v26_apply]
  refine congrArg _ (funext fun a => Fin.ext ?_)
  match a with
  | ⟨0, _⟩ => rfl
  | ⟨1, _⟩ => simp [idx_main_v26, ix2, ix3] <;> omega
  | ⟨2, _⟩ => simp [idx_main_v26, ix2, ix3] <;> omega

/-- A token's projection, of the reference's arguments. -/
def rowR (b : Fin 8) (i : Fin 256) (k : Fin 3072) : EReal := ∑ n, hidR x0 x1 x2 b i n * x3 (ix3 0 n k)

/-- The projection at a token and a column. -/
theorem row_apply (b : Fin 8) (i : Fin 256) (k : Fin 3072) : val_main_v27 (F := Ideal) x0 x1 x2 x3 (ix3 b i k) = rowR x0 x1 x2 x3 b i k := by
  have il : ∀ n, lidx_main_v27 (ix3 b i k) n = ix3 b i n := fun k => funext fun a => by
    match a with | ⟨0, _⟩ => rfl | ⟨1, _⟩ => rfl | ⟨2, _⟩ => rfl
  have ir : ∀ n, ridx_main_v27 (ix3 b i k) n = ix2 n k := fun k => funext fun a => by
    match a with | ⟨0, _⟩ => rfl | ⟨1, _⟩ => rfl
  rw [val_main_v27_apply]
  simp only [il, ir, normed_apply, weight_apply]
  rfl

/-- A real projection: of real operands, every column is real. -/
theorem row_real (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (b : Fin 8) (i : Fin 256) (k : Fin 3072) : ∃ r : ℝ, rowR x0 x1 x2 x3 b i k = (r : EReal) :=
  dot_real (fun n => normed_real (fun _ => h0 _) (fun _ => h2 _) (fun _ => h1 _) (fun _ => h1 _) n) (fun _ => h3 _)

/-- The retention's keys' columns. -/
theorem cols29 (b : Fin 8) (i : Fin 256) (q : Fin 256) :
    val_main_v29 (F := Ideal) x0 x1 x2 x3 (ix3 b i q) = rowR x0 x1 x2 x3 b i (col (n := 256) 256 (by decide) q) := by
  have i1 : idx_main_v29 (ix3 b i q) = ix3 b i (col (n := 256) 256 (by decide) q) := funext fun a => Fin.ext (by
    match a with
    | ⟨0, _⟩ => rfl
    | ⟨1, _⟩ => rfl
    | ⟨2, _⟩ => simp [idx_main_v29, ix3, col])
  rw [val_main_v29_apply, i1, row_apply]

/-- The retention's values' columns. -/
theorem cols30 (b : Fin 8) (i : Fin 256) (q : Fin 512) :
    val_main_v30 (F := Ideal) x0 x1 x2 x3 (ix3 b i q) = rowR x0 x1 x2 x3 b i (col (n := 512) 512 (by decide) q) := by
  have i1 : idx_main_v30 (ix3 b i q) = ix3 b i (col (n := 512) 512 (by decide) q) := funext fun a => Fin.ext (by
    match a with
    | ⟨0, _⟩ => rfl
    | ⟨1, _⟩ => rfl
    | ⟨2, _⟩ => simp [idx_main_v30, ix3, col])
  rw [val_main_v30_apply, i1, row_apply]

/-- The attention's keys' columns. -/
theorem cols33 (b : Fin 8) (i : Fin 256) (q : Fin 512) :
    val_main_v33 (F := Ideal) x0 x1 x2 x3 (ix3 b i q) = rowR x0 x1 x2 x3 b i (col (n := 512) 2048 (by decide) q) := by
  have i1 : idx_main_v33 (ix3 b i q) = ix3 b i (col (n := 512) 2048 (by decide) q) := funext fun a => Fin.ext (by
    match a with
    | ⟨0, _⟩ => rfl
    | ⟨1, _⟩ => rfl
    | ⟨2, _⟩ => simp [idx_main_v33, ix3, col])
  rw [val_main_v33_apply, i1, row_apply]

/-- The attention's values' columns. -/
theorem cols34 (b : Fin 8) (i : Fin 256) (q : Fin 512) :
    val_main_v34 (F := Ideal) x0 x1 x2 x3 (ix3 b i q) = rowR x0 x1 x2 x3 b i (col (n := 512) 2560 (by decide) q) := by
  have i1 : idx_main_v34 (ix3 b i q) = ix3 b i (col (n := 512) 2560 (by decide) q) := funext fun a => Fin.ext (by
    match a with
    | ⟨0, _⟩ => rfl
    | ⟨1, _⟩ => rfl
    | ⟨2, _⟩ => simp [idx_main_v34, ix3, col])
  rw [val_main_v34_apply, i1, row_apply]

variable (x4 : Vec Ideal S1x2x64 .f32)

/-- The keys' gain. -/
theorem gain50 (b : Fin 8) (h : Fin 4) (s : Fin 2) (i : Fin 256) (l : Fin 64) :
    val_main_v50 (F := Ideal) x4 (ix5 b h s i l) = x4 (ix3 0 1 l) := by
  have i1 : idx_main_v47 (idx_main_v48 (idx_main_v49 (idx_main_v50 (ix5 b h s i l)))) = ix3 0 1 l := funext fun a => Fin.ext (by
    match a with
    | ⟨0, _⟩ => rfl
    | ⟨1, _⟩ => rfl
    | ⟨2, _⟩ => simp [idx_main_v47, idx_main_v48, idx_main_v49, idx_main_v50, ix3, ix5] <;> omega)
  rw [val_main_v50_apply, val_main_v49_apply, val_main_v48_apply, val_main_v47_apply, i1]

/-- The keys as half heads. -/
theorem heads36 (b : Fin 8) (h : Fin 4) (s : Fin 2) (i : Fin 256) (l : Fin 64) :
    val_main_v36 (F := Ideal) x0 x1 x2 x3 (ix5 b h s i l) = rowR x0 x1 x2 x3 b i (col (n := 512) 2048 (by decide) (gl (hg h s) l)) := by
  have i1 : idx_main_v35 (idx_main_v36 (ix5 b h s i l)) = ix3 b i (gl (hg h s) l) := funext fun a => Fin.ext (by
    match a with
    | ⟨0, _⟩ => simp [idx_main_v36, idx_main_v35, ix3, ix5, gl, hg] <;> omega
    | ⟨1, _⟩ => simp [idx_main_v36, idx_main_v35, ix3, ix5, gl, hg] <;> omega
    | ⟨2, _⟩ => simp [idx_main_v36, idx_main_v35, ix3, ix5, gl, hg] <;> omega)
  rw [val_main_v36_apply, val_main_v35_apply, i1, cols33]

/-- A half head's sum of squares. -/
theorem squares38 (b : Fin 8) (h : Fin 4) (s : Fin 2) (i : Fin 256) : val_main_v38 (F := Ideal) x0 x1 x2 x3 (ix4 b h s i)
    = ∑ l, rowR x0 x1 x2 x3 b i (col (n := 512) 2048 (by decide) (gl (hg h s) l)) * rowR x0 x1 x2 x3 b i (col (n := 512) 2048 (by decide) (gl (hg h s) l)) := by
  have i1 : ∀ l, idx_main_v38 (ix4 b h s i) l = ix5 b h s i l := fun l => funext fun a => by
    match a with | ⟨0, _⟩ => rfl | ⟨1, _⟩ => rfl | ⟨2, _⟩ => rfl | ⟨3, _⟩ => rfl | ⟨4, _⟩ => rfl
  rw [val_main_v38_apply, val_main_cst_3_apply, zero_bits]
  refine (zero_add _).trans (Finset.sum_congr rfl fun l _ => ?_)
  rw [i1, val_main_v37_apply, heads36]
  rfl

/-- One over a half head's root mean square. -/
theorem rms45 (b : Fin 8) (h : Fin 4) (s : Fin 2) (i : Fin 256) (l : Fin 64) : val_main_v45 (F := Ideal) x0 x1 x2 x3 (ix5 b h s i l)
    = FloatOps.rsqrt (F := Ideal) (φ := .f32) (FloatOps.addf (FloatOps.divf (F := Ideal) (φ := .f32)
      (∑ l, rowR x0 x1 x2 x3 b i (col (n := 512) 2048 (by decide) (gl (hg h s) l)) * rowR x0 x1 x2 x3 b i (col (n := 512) 2048 (by decide) (gl (hg h s) l)))
      (Ideal.ofBits .f32 0x42800000#32)) (Ideal.ofBits .f32 0x358637BD#32)) := by
  have i1 : idx_main_v39 (idx_main_v45 (ix5 b h s i l)) = ix4 b h s i := funext fun a => by
    match a with | ⟨0, _⟩ => rfl | ⟨1, _⟩ => rfl | ⟨2, _⟩ => rfl | ⟨3, _⟩ => rfl
  rw [val_main_v45_apply, val_main_v44_apply, val_main_v43_apply, val_main_v41_apply, val_main_v39_apply, i1, squares38,
    val_main_v40_apply, val_main_v42_apply, val_main_cst_4_apply, val_main_cst_5_apply]
  generalize (∑ l, rowR x0 x1 x2 x3 b i (col (n := 512) 2048 (by decide) (gl (hg h s) l)) * rowR x0 x1 x2 x3 b i (col (n := 512) 2048 (by decide) (gl (hg h s) l))) = y
  rfl

/-- The keys normed. -/
theorem normed51 (b : Fin 8) (h : Fin 4) (s : Fin 2) (i : Fin 256) (l : Fin 64) : val_main_v51 (F := Ideal) x0 x1 x2 x3 x4 (ix5 b h s i l)
    = hnorm (fun l => rowR x0 x1 x2 x3 b i (col (n := 512) 2048 (by decide) (gl (hg h s) l))) (fun l => x4 (ix3 0 1 l)) l := by
  rw [val_main_v51_apply, val_main_v46_apply, heads36, rms45, gain50]
  rfl

/-- THE ATTENTION'S KEYS at an index. -/
theorem dk_apply (b : Fin 8) (i : Fin 256) (q : Fin 512) : val_main_v58 (F := Ideal) x0 x1 x2 x3 x4 (ix3 b i q)
    = hnorm (fun l => rowR x0 x1 x2 x3 b i (col (n := 512) 2048 (by decide) (gl (grp q) l))) (fun l => x4 (ix3 0 1 l)) (m64 q.val) := by
  have i1 : idx_main_v52 (idx_main_v53 (ix3 b i q)) = ix5 b ⟨q.val / 128, by omega⟩ ⟨q.val / 64 % 2, by omega⟩ i (m64 q.val) := funext fun a => Fin.ext (by
    match a with
    | ⟨0, _⟩ => simp [idx_main_v53, idx_main_v52, ix3, ix5, m64] <;> omega
    | ⟨1, _⟩ => simp [idx_main_v53, idx_main_v52, ix3, ix5, m64] <;> omega
    | ⟨2, _⟩ => simp [idx_main_v53, idx_main_v52, ix3, ix5, m64] <;> omega
    | ⟨3, _⟩ => simp [idx_main_v53, idx_main_v52, ix3, ix5, m64] <;> omega
    | ⟨4, _⟩ => simp [idx_main_v53, idx_main_v52, ix3, ix5, m64] <;> omega)
  have eg : hg ⟨q.val / 128, by omega⟩ ⟨q.val / 64 % 2, by omega⟩ = grp q := Fin.ext (by simp only [hg, grp]; omega)
  rw [val_main_v58_apply, val_main_v53_apply, val_main_v52_apply, i1, normed51, eg]
  rfl

/-- THE RETENTION'S KEYS at an index. -/
theorem rk_apply (b : Fin 8) (i : Fin 256) (q : Fin 256) : val_main_v56 (F := Ideal) x0 x1 x2 x3 (ix3 b i q)
    = rowR x0 x1 x2 x3 b i (col (n := 256) 256 (by decide) q) * Ideal.ofBits .f32 0x3E000000#32 := by
  rw [val_main_v56_apply, val_main_v55_apply, cols29, val_main_v54_apply, val_main_cst_6_apply]
  rfl

end Stages

end Cert.CtxProj

end
-- ==== Proof.CtxArray.lean ====
/- The context projection kernel's four used result arrays are the reference's. -/
module

public import proofs.«01_k».proof.Proof.CtxBlock
public import proofs.«01_k».proof.Proof.CtxRef
public import proofs.«01_k».proof.Proof.Gen.CtxKernelIdeal.Value
public import Idealize.ShloMosaic.Lib.StableHlo.RunRead

@[expose] public section

noncomputable section

namespace Cert.CtxProj

open Idealize.ShloMosaic Idealize.SL.Sem Cert.CtxKernelIdeal Cert.CtxKernelIdeal.Gen Cert.CtxKernelIdeal.Value
open Cert.MixOut (md)
open Cert.InProj (col gnorm hnorm gl grp m64 gnorm_real)

/-- The blocks of the operands read and of the results, by a grid point's sample. -/
theorem idx : ∀ t : Fin cfg0.N, win0_0.index t = ![(grid0.coords t 0).val, 0, 0]
    ∧ win0_1.index t = ![8, 0, 0] ∧ win0_2.index t = ![8, 0, 1] ∧ win0_3.index t = ![0, 0] ∧ win0_4.index t = ![0, 0] ∧ win0_8.index t = ![0, 0]
    ∧ win0_10.index t = ![(grid0.coords t 0).val, 0, 0] ∧ win0_11.index t = ![(grid0.coords t 0).val, 0, 0]
    ∧ win0_14.index t = ![(grid0.coords t 0).val, 0, 0] ∧ win0_15.index t = ![(grid0.coords t 0).val, 0, 0] :=
  (by decide +kernel : ∀ t : Fin grid0.N, _)

variable (m : (ℓ : Loc nD τ sig) → Buf (Elt Ideal) ℓ) (c : Dev nD)

/-- A point's sample. -/
def batch (t : Fin cfg0.N) : Fin 8 := grid0.coords t 0

/-- The context tokens' block. -/
theorem iblk0 (t : Fin cfg0.N) (i : Fin 256) (l : Fin 1024) :
    iblk m c 0 t (ix3 0 i l) = m ((c.tc : Thread nD τ).loc main_arg0) (ix3 (batch t) i l) := by
  blk_ext! [iblk, V, idx t, batch]

/-- The modulation rows as the kernel takes them. -/
theorem arr1 (b : Fin 16) (n : Fin 6144) : @Eq EReal (V m c main_v0 (ix3 b 0 n)) (m ((c.tc : Thread nD τ).loc main_arg1) (ix2 b n)) := by
  after_reads_simp
  pointwise

/-- The shift's block. -/
theorem iblk1 (t : Fin cfg0.N) (n : Fin 1024) :
    @Eq EReal (iblk m c 1 t (ix3 0 0 n)) (m ((c.tc : Thread nD τ).loc main_arg1) (ix2 8 (md 0 n))) := by
  refine Eq.trans ?_ (arr1 m c 8 (md 0 n))
  show V m c main_v0 ((win0_1.blk t).view.emb (ix3 0 0 n)) = V m c main_v0 _
  refine congrArg (V m c main_v0) ?_
  blk_ext [idx t, md]

/-- The scale's block. -/
theorem iblk2 (t : Fin cfg0.N) (n : Fin 1024) :
    @Eq EReal (iblk m c 2 t (ix3 0 0 n)) (m ((c.tc : Thread nD τ).loc main_arg1) (ix2 8 (md 1 n))) := by
  refine Eq.trans ?_ (arr1 m c 8 (md 1 n))
  show V m c main_v0 ((win0_2.blk t).view.emb (ix3 0 0 n)) = V m c main_v0 _
  refine congrArg (V m c main_v0) ?_
  blk_ext [idx t, md]

/-- The gain as the kernel takes it. -/
theorem arr3 (n : Fin 1024) : @Eq EReal (V m c main_v4 (ix2 0 n)) (m ((c.tc : Thread nD τ).loc main_arg2) (ix2 0 n)) := by
  after_reads_simp
  pointwise

/-- The gain's block. -/
theorem iblk3 (t : Fin cfg0.N) (n : Fin 1024) : @Eq EReal (iblk m c 3 t (ix2 0 n)) (m ((c.tc : Thread nD τ).loc main_arg2) (ix2 0 n)) := by
  refine Eq.trans ?_ (arr3 m c n)
  show V m c main_v4 ((win0_3.blk t).view.emb (ix2 0 n)) = V m c main_v4 _
  refine congrArg (V m c main_v4) ?_
  blk_ext [idx t]

/-- The weights as the kernel takes them. -/
theorem arr4 (n : Fin 1024) (k : Fin 3072) : @Eq EReal (V m c main_v2 (ix2 n k)) (m ((c.tc : Thread nD τ).loc main_arg3) (ix3 0 n k)) := by
  after_reads_simp
  pointwise

/-- The weights' block. -/
theorem iblk4 (t : Fin cfg0.N) (n : Fin 1024) (k : Fin 3072) :
    @Eq EReal (iblk m c 4 t (ix2 n k)) (m ((c.tc : Thread nD τ).loc main_arg3) (ix3 0 n k)) := by
  refine Eq.trans ?_ (arr4 m c n k)
  show V m c main_v2 ((win0_4.blk t).view.emb (ix2 n k)) = V m c main_v2 _
  refine congrArg (V m c main_v2) ?_
  blk_ext [idx t]

/-- The gains, one row for the queries and one for the keys, each over its group's lanes. -/
theorem arr8 (r : Fin 2) (q : Fin 512) : @Eq EReal (V m c main_v8 (ix2 r q)) (m ((c.tc : Thread nD τ).loc main_arg4) (ix3 0 r (m64 q.val))) := by
  after_reads_simp
  pointwise [m64]

/-- The gains' block. -/
theorem iblk8 (t : Fin cfg0.N) (r : Fin 2) (q : Fin 512) :
    @Eq EReal (iblk m c 8 t (ix2 r q)) (m ((c.tc : Thread nD τ).loc main_arg4) (ix3 0 r (m64 q.val))) := by
  refine Eq.trans ?_ (arr8 m c r q)
  show V m c main_v8 ((win0_8.blk t).view.emb (ix2 r q)) = V m c main_v8 _
  refine congrArg (V m c main_v8) ?_
  blk_ext [idx t]

/-- A point's projection is the reference's. -/
theorem prow_eq (t : Fin cfg0.N) (i : Fin 256) : prow m c t i = rowR (m ((c.tc : Thread nD τ).loc main_arg0)) (m ((c.tc : Thread nD τ).loc main_arg1)) (m ((c.tc : Thread nD τ).loc main_arg2)) (m ((c.tc : Thread nD τ).loc main_arg3)) (batch t) i := by
  have h : hid (iblk m c 0 t) (iblk m c 3 t) (iblk m c 2 t) (iblk m c 1 t) i = hidR (m ((c.tc : Thread nD τ).loc main_arg0)) (m ((c.tc : Thread nD τ).loc main_arg1)) (m ((c.tc : Thread nD τ).loc main_arg2)) (batch t) i := by
    unfold hid hidR
    simp only [iblk0, iblk1, iblk2, iblk3]
  funext k
  unfold prow row rowR
  rw [h]
  exact Finset.sum_congr rfl fun n _ => congrArg _ (iblk4 m c t n k)

/-- A point's keys, normed, are the reference's heads normed. -/
theorem dkn_eq (h0 : ∀ i, ∃ r : ℝ, m ((c.tc : Thread nD τ).loc main_arg0) i = (r : EReal)) (h1 : ∀ i, ∃ r : ℝ, m ((c.tc : Thread nD τ).loc main_arg1) i = (r : EReal))
    (h2 : ∀ i, ∃ r : ℝ, m ((c.tc : Thread nD τ).loc main_arg2) i = (r : EReal)) (h3 : ∀ i, ∃ r : ℝ, m ((c.tc : Thread nD τ).loc main_arg3) i = (r : EReal))
    (t : Fin cfg0.N) (i : Fin 256) (q : Fin 512) : dkn m c t i q
      = hnorm (fun l => rowR (m ((c.tc : Thread nD τ).loc main_arg0)) (m ((c.tc : Thread nD τ).loc main_arg1)) (m ((c.tc : Thread nD τ).loc main_arg2)) (m ((c.tc : Thread nD τ).loc main_arg3)) (batch t) i (col (n := 512) 2048 (by decide) (gl (grp q) l)))
        (fun l => m ((c.tc : Thread nD τ).loc main_arg4) (ix3 0 1 l)) (m64 q.val) := by
  have e : (fun l => m ((c.tc : Thread nD τ).loc main_arg4) (ix3 0 1 (m64 (gl (grp q) l).val)))
      = fun l => m ((c.tc : Thread nD τ).loc main_arg4) (ix3 0 1 l) := funext fun l =>
    congrArg (fun l => m ((c.tc : Thread nD τ).loc main_arg4) (ix3 0 1 l)) (Fin.ext (by simp only [m64, gl]; omega))
  unfold dkn
  rw [prow_eq, gnorm_real _ _ (fun q => row_real (m ((c.tc : Thread nD τ).loc main_arg0)) (m ((c.tc : Thread nD τ).loc main_arg1)) (m ((c.tc : Thread nD τ).loc main_arg2)) (m ((c.tc : Thread nD τ).loc main_arg3)) h0 h1 h2 h3 _ _ _)]
  refine congrArg (fun g => hnorm _ g _) (Eq.trans (funext fun l => ?_) e)
  exact iblk8 m c t 1 _

/-- THE RETENTION'S KEYS: what the blocks leave is the reference's value. -/
theorem out10_eq : (dats m 0 c).arrAt 10 cfg0.N = Cert.CtxReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 10 _ (by decide +kernel) fun t hf y => ?_
  blk_simp
  have he : (win0_10.blk t).view.emb y = ix3 (batch t) (y 1) (y 2) := by
    blk_ext [idx t, batch]
  rw [after0_10]
  refine (out10_apply m c t y).trans (Eq.trans ?_ ((rk_apply _ _ _ _ (batch t) (y 1) (y 2)).symm.trans (congrArg _ he.symm)))
  exact congrArg (fun z : EReal => z * Ideal.ofBits .f32 0x3E000000#32) (congrFun (prow_eq m c t (y 1)) _)

/-- THE RETENTION'S VALUES: what the blocks leave is the reference's value. -/
theorem out11_eq : (dats m 0 c).arrAt 11 cfg0.N = Cert.CtxReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 11 _ (by decide +kernel) fun t hf y => ?_
  blk_simp
  have he : (win0_11.blk t).view.emb y = ix3 (batch t) (y 1) (y 2) := by
    blk_ext [idx t, batch]
  rw [after0_11]
  refine (out11_apply m c t y).trans ((congrFun (prow_eq m c t (y 1)) _).trans ?_)
  exact (cols30 _ _ _ _ (batch t) (y 1) (y 2)).symm.trans (congrArg (Cert.CtxReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3))) he.symm)

/-- THE ATTENTION'S VALUES: what the blocks leave is the reference's value. -/
theorem out15_eq : (dats m 0 c).arrAt 15 cfg0.N = Cert.CtxReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 15 _ (by decide +kernel) fun t hf y => ?_
  blk_simp
  have he : (win0_15.blk t).view.emb y = ix3 (batch t) (y 1) (y 2) := by
    blk_ext [idx t, batch]
  rw [after0_15]
  refine (out15_apply m c t y).trans ((congrFun (prow_eq m c t (y 1)) _).trans ?_)
  exact (cols34 _ _ _ _ (batch t) (y 1) (y 2)).symm.trans (congrArg (Cert.CtxReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3))) he.symm)

/-- THE ATTENTION'S KEYS: what the blocks leave is the reference's value. -/
theorem out14_eq (h0 : ∀ i, ∃ r : ℝ, m ((c.tc : Thread nD τ).loc main_arg0) i = (r : EReal)) (h1 : ∀ i, ∃ r : ℝ, m ((c.tc : Thread nD τ).loc main_arg1) i = (r : EReal))
    (h2 : ∀ i, ∃ r : ℝ, m ((c.tc : Thread nD τ).loc main_arg2) i = (r : EReal)) (h3 : ∀ i, ∃ r : ℝ, m ((c.tc : Thread nD τ).loc main_arg3) i = (r : EReal)) : (dats m 0 c).arrAt 14 cfg0.N = Cert.CtxReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 14 _ (by decide +kernel) fun t hf y => ?_
  blk_simp
  have he : (win0_14.blk t).view.emb y = ix3 (batch t) (y 1) (y 2) := by
    blk_ext [idx t, batch]
  rw [after0_14]
  exact (out14_apply m c t y).trans ((dkn_eq m c h0 h1 h2 h3 t (y 1) (y 2)).trans
    ((dk_apply _ _ _ _ _ (batch t) (y 1) (y 2)).symm.trans (congrArg _ he.symm)))

end Cert.CtxProj

end
-- ==== Proof.CtxPre.lean ====
/- What the context projection's precondition gives: every element of the four checked arrays is a real number. -/
module

public import proofs.«01_k».proof.Proof.Pre
public import proofs.«01_k».proof.Proof.Gen.Pre_finite_ctx

@[expose] public section

noncomputable section

namespace Cert.CtxProj

open Idealize.ShloMosaic Cert.Pre_finite_ctx
open Cert.DiffAttn (real_f32 inf_f32)

variable {a : FVec Ideal S8x256x1024 .f32} {b : FVec Ideal S16x6144 .f32} {c : FVec Ideal S1x1024 .f32} {d : FVec Ideal S1x1024x3072 .f32}
  {e : FVec Ideal S1x2x64 .f32}

/-- THE PRECONDITION READ: the four checked arrays are real, element by element. -/
theorem finite_ctx_real (h1 : (fn (F := Ideal) a b c d e).1 = fun _ => 1#1) (h2 : (fn (F := Ideal) a b c d e).2.1 = fun _ => 1#1)
    (h3 : (fn (F := Ideal) a b c d e).2.2.1 = fun _ => 1#1) (h4 : (fn (F := Ideal) a b c d e).2.2.2 = fun _ => 1#1) :
    (∀ i, ∃ r : ℝ, a i = (r : EReal)) ∧ (∀ i, ∃ r : ℝ, b i = (r : EReal)) ∧ (∀ i, ∃ r : ℝ, c i = (r : EReal))
      ∧ (∀ i, ∃ r : ℝ, d i = (r : EReal)) :=
  ⟨real_f32 (fun _ => inf_f32) h1, real_f32 (fun _ => inf_f32) h2, real_f32 (fun _ => inf_f32) h3, real_f32 (fun _ => inf_f32) h4⟩

end Cert.CtxProj

end
-- ==== Proof.RetBlock.lean ====
/- What a point of the retention's grid leaves in its output's block: each chunk of the tokens from the running states before it. -/
module

public import proofs.«01_k».proof.Proof.Gen.RetKernelIdeal.Frame
public import Idealize.ShloMosaic.Lib.Pipeline.ValueKit
public import Idealize.ShloMosaic.Lib.Pipeline.ReadBack

@[expose] public section

noncomputable section

namespace Cert.Ret

open Idealize.ShloMosaic Idealize.SL.Sem Cert.RetKernelIdeal Cert.RetKernelIdeal.Gen

/-- Rows `128 n` to `128 n + 127` of a sample's operand. -/
def chunk {e : EltTy} (P : Vec Ideal S1x2048x128 e) (n : Nat) : Vec Ideal S1x128x128 e :=
  View.ld P (Rect.unit ![0, n % 16 * 128, 0] ![1, 128, 128] (fun a => by
    match a with
    | ⟨0, _⟩ => show 0 + 1 ≤ 1; omega
    | ⟨1, _⟩ => show n % 16 * 128 + 128 ≤ 2048; omega
    | ⟨2, _⟩ => show 0 + 128 ≤ 128; omega))

section Block
variable (i : grid0.Coords) (P0 : Vec Ideal S1x2x128 .f32) (P1 P2 P3 : Vec Ideal S1x2048x128 .bf16) (P4 : Vec Ideal S1x2048x128 .f32)
  (P5 P6 : Vec Ideal S1x256x128 .bf16) (P7 : Vec Ideal S1x1x128 .f32)

/-- What a chunk's keys and values add to the state of one direction. -/
def loc (w : FVec Ideal S128x128 .f32) (n : Nat) : Vec Ideal S1x128x128 .f32 := k0_pay26 (F := Ideal) w (k0_pay24 (F := Ideal) (chunk P2 n)) (chunk P3 n)

/-- The logarithm of the forward decay. -/
def lgf : FVec Ideal S1x128 .f32 := k0_pay6 (F := Ideal) (k0_pay4 (F := Ideal) P0) (k0_pay5 (F := Ideal))

/-- The logarithm of the backward decay. -/
def lgb : FVec Ideal S1x128 .f32 := k0_pay7 (F := Ideal) (k0_pay3 (F := Ideal) P0)

/-- The forward state before chunk `n`. -/
def stateF : Nat → FVec Ideal S128x128 .f32
  | 0 => k0_pay22 (F := Ideal) (lgf P0) P5 P6
  | n + 1 => k0_pay128 (F := Ideal) (k0_pay17 (F := Ideal) (lgf P0)) (stateF n) (loc P2 P3 (k0_pay9 (F := Ideal) (k0_pay4 (F := Ideal) P0) (k0_pay5 (F := Ideal))) n)

/-- The backward state after `n` chunks from the last. -/
def stateB : Nat → FVec Ideal S128x128 .f32
  | 0 => k0_pay23 (F := Ideal) (lgb P0) P5 P6
  | n + 1 => k0_pay128 (F := Ideal) (k0_pay18 (F := Ideal) (lgb P0)) (stateB n) (loc P2 P3 (k0_pay10 (F := Ideal) (k0_pay3 (F := Ideal) P0)) (15 - n))

/-- The output of chunk `n`. -/
def outChunk (n : Nat) : Vec Ideal S1x128x128 .bf16 :=
  k0_pay162 (F := Ideal) (k0_pay11 (F := Ideal) (k0_pay4 (F := Ideal) P0) (k0_pay5 (F := Ideal))) (k0_pay12 (F := Ideal) (k0_pay3 (F := Ideal) P0)) (k0_pay159 (F := Ideal) P7) (k0_pay160 (F := Ideal) (k0_pay2 i) (chunk P1 n))
    (k0_pay161 (F := Ideal) (k0_pay2 i) (k0_pay16 (F := Ideal) (lgb P0) (k0_pay13 (F := Ideal)) (k0_pay14 (F := Ideal)) (k0_pay15 (F := Ideal) (k0_pay4 (F := Ideal) P0) (k0_pay5 (F := Ideal)))) (chunk P1 n) (chunk P2 n) (chunk P3 n))
    (k0_pay127 (F := Ideal) (stateF P0 P2 P3 P5 P6 n)) (k0_pay127 (F := Ideal) (stateB P0 P2 P3 P5 P6 (15 - n))) (chunk P4 n)
end Block

variable (m : (ℓ : Loc nD τ sig) → Buf (Elt Ideal) ℓ) (c : Dev nD) (t : Fin cfg0.N)

section Read
variable (i : grid0.Coords) (P0 : Vec Ideal S1x2x128 .f32) (P1 P2 P3 : Vec Ideal S1x2048x128 .bf16) (P4 : Vec Ideal S1x2048x128 .f32)
  (P5 P6 : Vec Ideal S1x256x128 .bf16) (P7 : Vec Ideal S1x1x128 .f32)

/-- A chunk's output at a row of the chunk is the output at the row's place in the sample. -/
theorem outChunk_at {y : S1x2048x128.Idx} {x : S1x128x128.Idx} (n : Nat) (h : (y 1).val = n * 128 + (x 1).val) (h2 : (y 2).val = (x 2).val) :
    outChunk i P0 P1 P2 P3 P4 P5 P6 P7 n x
      = outChunk i P0 P1 P2 P3 P4 P5 P6 P7 ((y 1).val / 128) (ix3 0 ⟨(y 1).val % 128, Nat.mod_lt _ (by decide)⟩ (y 2)) := by
  have hx : (x 1).val < 128 := (x 1).isLt
  have hn : n = (y 1).val / 128 := by omega
  rw [← hn]
  refine congrArg _ (funext fun a => ?_)
  match a with
  | ⟨0, _⟩ => exact Fin.ext (by have := (x 0).isLt; show (x 0).val = 0; change (x 0).val < 1 at this; omega)
  | ⟨1, _⟩ => exact Fin.ext (by show (x 1).val = (y 1).val % 128; omega)
  | ⟨2, _⟩ => exact Fin.ext h2.symm

end Read

set_option maxHeartbeats 4000000 in
/-- The output's block, each row from its chunk. -/
theorem out_apply (y : S1x2048x128.Idx) : (outsAt0 m c t) y
    = outChunk (grid0.coords t) (iblk m c 0 t) (iblk m c 1 t) (iblk m c 2 t) (iblk m c 3 t) (iblk m c 4 t) (iblk m c 5 t) (iblk m c 6 t) (iblk m c 7 t)
      ((y 1).val / 128) (ix3 0 ⟨(y 1).val % 128, Nat.mod_lt _ (by decide)⟩ (y 2)) := by
  rw [outsAt0]
  frame_out
  simp (disch := decide) only [View.readCov_skip, View.readCov_cons_toLoadRect]
  generalize iblk m c 0 t = P0
  generalize iblk m c 1 t = P1
  generalize iblk m c 2 t = P2
  generalize iblk m c 3 t = P3
  generalize iblk m c 4 t = P4
  generalize iblk m c 5 t = P5
  generalize iblk m c 6 t = P6
  generalize iblk m c 7 t = P7
  generalize grid0.coords t = i
  canon_tiles x h
  · exact Eq.trans (congrFun (rfl : _ = outChunk i P0 P1 P2 P3 P4 P5 P6 P7 15) x) (outChunk_at i P0 P1 P2 P3 P4 P5 P6 P7 15 (by omega) h2)
  · exact Eq.trans (congrFun (rfl : _ = outChunk i P0 P1 P2 P3 P4 P5 P6 P7 14) x) (outChunk_at i P0 P1 P2 P3 P4 P5 P6 P7 14 (by omega) h2)
  · exact Eq.trans (congrFun (rfl : _ = outChunk i P0 P1 P2 P3 P4 P5 P6 P7 13) x) (outChunk_at i P0 P1 P2 P3 P4 P5 P6 P7 13 (by omega) h2)
  · exact Eq.trans (congrFun (rfl : _ = outChunk i P0 P1 P2 P3 P4 P5 P6 P7 12) x) (outChunk_at i P0 P1 P2 P3 P4 P5 P6 P7 12 (by omega) h2)
  · exact Eq.trans (congrFun (rfl : _ = outChunk i P0 P1 P2 P3 P4 P5 P6 P7 11) x) (outChunk_at i P0 P1 P2 P3 P4 P5 P6 P7 11 (by omega) h2)
  · exact Eq.trans (congrFun (rfl : _ = outChunk i P0 P1 P2 P3 P4 P5 P6 P7 10) x) (outChunk_at i P0 P1 P2 P3 P4 P5 P6 P7 10 (by omega) h2)
  · exact Eq.trans (congrFun (rfl : _ = outChunk i P0 P1 P2 P3 P4 P5 P6 P7 9) x) (outChunk_at i P0 P1 P2 P3 P4 P5 P6 P7 9 (by omega) h2)
  · exact Eq.trans (congrFun (rfl : _ = outChunk i P0 P1 P2 P3 P4 P5 P6 P7 8) x) (outChunk_at i P0 P1 P2 P3 P4 P5 P6 P7 8 (by omega) h2)
  · exact Eq.trans (congrFun (rfl : _ = outChunk i P0 P1 P2 P3 P4 P5 P6 P7 7) x) (outChunk_at i P0 P1 P2 P3 P4 P5 P6 P7 7 (by omega) h2)
  · exact Eq.trans (congrFun (rfl : _ = outChunk i P0 P1 P2 P3 P4 P5 P6 P7 6) x) (outChunk_at i P0 P1 P2 P3 P4 P5 P6 P7 6 (by omega) h2)
  · exact Eq.trans (congrFun (rfl : _ = outChunk i P0 P1 P2 P3 P4 P5 P6 P7 5) x) (outChunk_at i P0 P1 P2 P3 P4 P5 P6 P7 5 (by omega) h2)
  · exact Eq.trans (congrFun (rfl : _ = outChunk i P0 P1 P2 P3 P4 P5 P6 P7 4) x) (outChunk_at i P0 P1 P2 P3 P4 P5 P6 P7 4 (by omega) h2)
  · exact Eq.trans (congrFun (rfl : _ = outChunk i P0 P1 P2 P3 P4 P5 P6 P7 3) x) (outChunk_at i P0 P1 P2 P3 P4 P5 P6 P7 3 (by omega) h2)
  · exact Eq.trans (congrFun (rfl : _ = outChunk i P0 P1 P2 P3 P4 P5 P6 P7 2) x) (outChunk_at i P0 P1 P2 P3 P4 P5 P6 P7 2 (by omega) h2)
  · exact Eq.trans (congrFun (rfl : _ = outChunk i P0 P1 P2 P3 P4 P5 P6 P7 1) x) (outChunk_at i P0 P1 P2 P3 P4 P5 P6 P7 1 (by omega) h2)
  · exact Eq.trans (congrFun (rfl : _ = outChunk i P0 P1 P2 P3 P4 P5 P6 P7 0) x) (outChunk_at i P0 P1 P2 P3 P4 P5 P6 P7 0 (by omega) h2)
end Cert.Ret
end
-- ==== Proof.RetMath.lean ====
/- The retention's algebra: one pass over a chunk's tokens with one decay for each direction is the two directions' passes added, the
   second over the tokens in reverse. -/
module

public import Idealize.ShloMosaic.Lib.Pipeline.ValueKit

@[expose] public section

noncomputable section

namespace Cert.Ret

open Idealize.ShloMosaic

/-- The logarithm of the logistic, as the kernel takes it. -/
def lsig (x : EReal) : EReal := min x 0 - Ideal.log (1 + Ideal.exp (0 - FloatOps.absf (F := Ideal) (φ := .f32) x))

/-- The `n`-th power of a decay, from the decay's logarithm. -/
def ew (n : Nat) (lg : EReal) : EReal := Ideal.exp (((n : ℝ) : EReal) * lg)

/-- The absolute value of a real number. -/
theorem abs_coe (r : ℝ) : FloatOps.absf (F := Ideal) (φ := .f32) ((r : ℝ) : EReal) = ((|r| : ℝ) : EReal) := by
  show max (r : EReal) (-(r : EReal)) = _
  rw [← EReal.coe_neg]
  exact (EReal.coe_strictMono.monotone.map_max).symm

/-- The correction of the logarithm is a real number. -/
theorem corr_coe (r : ℝ) : Ideal.log (1 + Ideal.exp ((r : ℝ) : EReal)) = ((Real.log (1 + Real.exp r) : ℝ) : EReal) := by
  have h : ¬ (1 + Real.exp r ≤ 0) := not_le.mpr (by positivity)
  rw [Ideal.exp_coe, show (1 : EReal) = ((1 : ℝ) : EReal) from rfl, ← EReal.coe_add, Ideal.log_coe, if_neg h]

/-- A decay's logarithm is at most zero. -/
theorem lsig_nonpos (x : EReal) : lsig x ≤ 0 := by
  unfold lsig
  induction x with
  | bot =>
    rw [show min (⊥ : EReal) 0 = ⊥ from min_eq_left bot_le, EReal.bot_sub]
    exact bot_le
  | top =>
    have h : (0 : EReal) - FloatOps.absf (F := Ideal) (φ := .f32) (⊤ : EReal) = ⊥ := by
      show (0 : EReal) - max ⊤ (-⊤) = ⊥
      simp
    rw [h, show min (⊤ : EReal) 0 = 0 from min_eq_right le_top, Ideal.exp_bot, add_zero,
      show (1 : EReal) = ((1 : ℝ) : EReal) from rfl, Ideal.log_coe, if_neg (by norm_num), Real.log_one]
    simp
  | coe r =>
    rw [abs_coe, show (0 : EReal) = ((0 : ℝ) : EReal) from rfl, ← EReal.coe_sub, corr_coe,
      show min ((r : ℝ) : EReal) ((0 : ℝ) : EReal) = ((min r 0 : ℝ) : EReal) from (EReal.coe_strictMono.monotone.map_min).symm, ← EReal.coe_sub]
    have h1 : 0 ≤ Real.log (1 + Real.exp (0 - |r|)) := Real.log_nonneg (by linarith [Real.exp_pos (0 - |r|)])
    exact EReal.coe_le_coe_iff.mpr (by linarith [min_le_right r 0])

/-- The logarithm of the logistic as the reference takes it: minus the soft maximum of the negated argument and zero. -/
theorem lsig_ref (x : EReal) : -(max (-x) 0 + Ideal.log1p (Ideal.exp (-(FloatOps.absf (F := Ideal) (φ := .f32) (-x - 0))))) = lsig x := by
  unfold lsig Ideal.log1p
  rw [sub_zero]
  induction x with
  | bot =>
    have h : -(FloatOps.absf (F := Ideal) (φ := .f32) (-(⊥ : EReal))) = ⊥ := by
      show -(max (-(⊥ : EReal)) (-(-(⊥ : EReal)))) = ⊥
      simp
    rw [h, show min (⊥ : EReal) 0 = ⊥ from min_eq_left bot_le, EReal.bot_sub, Ideal.exp_bot, add_zero,
      show (1 : EReal) = ((1 : ℝ) : EReal) from rfl, Ideal.log_coe]
    simp
  | top =>
    have h : -(FloatOps.absf (F := Ideal) (φ := .f32) (-(⊤ : EReal))) = ⊥ := by
      show -(max (-(⊤ : EReal)) (-(-(⊤ : EReal)))) = ⊥
      simp
    have h' : (0 : EReal) - FloatOps.absf (F := Ideal) (φ := .f32) (⊤ : EReal) = ⊥ := by
      show (0 : EReal) - max ⊤ (-⊤) = ⊥
      simp
    rw [h, h', Ideal.exp_bot, add_zero, show (1 : EReal) = ((1 : ℝ) : EReal) from rfl, Ideal.log_coe]
    simp
  | coe r =>
    rw [abs_coe, ← EReal.coe_neg, abs_coe, ← EReal.coe_neg, show (0 : EReal) = ((0 : ℝ) : EReal) from rfl, ← EReal.coe_sub, corr_coe, corr_coe,
      show min ((r : ℝ) : EReal) ((0 : ℝ) : EReal) = ((min r 0 : ℝ) : EReal) from (EReal.coe_strictMono.monotone.map_min).symm,
      show max ((-r : ℝ) : EReal) ((0 : ℝ) : EReal) = ((max (-r) 0 : ℝ) : EReal) from (EReal.coe_strictMono.monotone.map_max).symm,
      ← EReal.coe_add, ← EReal.coe_neg, ← EReal.coe_sub, abs_neg]
    refine congrArg _ ?_
    have : max (-r) 0 = - min r 0 := by rcases le_total r 0 with h | h <;> simp [h]
    rw [this, zero_sub]
    ring

/-- A power of a decay is not negative. -/
theorem ew_nonneg (n : Nat) (lg : EReal) : 0 ≤ ew n lg := by
  unfold ew
  generalize ((n : ℝ) : EReal) * lg = y
  induction y with
  | bot => rw [Ideal.exp_bot]
  | top => rw [Ideal.exp_top]; exact le_top
  | coe r => rw [Ideal.exp_coe]; exact EReal.coe_nonneg.mpr (Real.exp_pos r).le

/-- A power of a decay is not infinite. -/
theorem ew_ne_top (n : Nat) {lg : EReal} (h : lg ≤ 0) : ew n lg ≠ ⊤ := by
  unfold ew
  have hy : ((n : ℝ) : EReal) * lg ≤ 0 := EReal.mul_nonpos_iff.mpr (Or.inl ⟨EReal.coe_nonneg.mpr (Nat.cast_nonneg n), h⟩)
  revert hy
  generalize ((n : ℝ) : EReal) * lg = y
  induction y with
  | bot => intro _; rw [Ideal.exp_bot]; exact EReal.zero_ne_top
  | top => intro hy; exact absurd hy (by simp)
  | coe r => intro _; rw [Ideal.exp_coe]; exact EReal.coe_ne_top _

/-- A number that is neither negative nor infinite moves out of a sum. -/
theorem mul_sum_of {ι : Type*} (s : Finset ι) {c : EReal} (h0 : 0 ≤ c) (h1 : c ≠ ⊤) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- Token `j` of chunk `n`. -/
def row (n : Nat) (j : Fin 128) : Fin 2048 := ⟨n % 16 * 128 + j.val, by omega⟩

/-- The forward state before chunk `n`, for one lane of the keys and one of the values. -/
def stF (lg : EReal) (ck cv : Fin 256 → EReal) (k v : Fin 2048 → EReal) : Nat → EReal
  | 0 => ∑ j : Fin 256, ck j * ew (255 - j.val) lg * cv j
  | n + 1 => ew 128 lg * stF lg ck cv k v n + ∑ j : Fin 128, k (row n j) * ew (127 - j.val) lg * v (row n j)

/-- The backward state after `n` chunks from the last, for one lane of the keys and one of the values. -/
def stB (lg : EReal) (ck cv : Fin 256 → EReal) (k v : Fin 2048 → EReal) : Nat → EReal
  | 0 => ∑ j : Fin 256, ck j * ew j.val lg * cv j
  | n + 1 => ew 128 lg * stB lg ck cv k v n + ∑ j : Fin 128, k (row (15 - n) j) * ew j.val lg * v (row (15 - n) j)

/-- The chunks in reverse are the tokens in reverse. -/
theorem rev_row {n : Nat} (h : n < 16) (j : Fin 128) : (row n (Fin.rev j)).rev = row (15 - n) j := by
  refine Fin.ext ?_
  simp only [row, Fin.val_rev]
  omega

/-- The backward state is the forward one of the tokens in reverse. -/
theorem stF_rev (lg : EReal) (ck cv : Fin 256 → EReal) (k v : Fin 2048 → EReal) (n : Nat) (h : n < 16) :
    stF lg (fun j => ck j.rev) (fun j => cv j.rev) (fun j => k j.rev) (fun j => v j.rev) n = stB lg ck cv k v n := by
  induction n with
  | zero =>
    refine (Equiv.sum_comp Fin.revPerm (fun j : Fin 256 => ck j.rev * ew (255 - j.val) lg * cv j.rev)).symm.trans (Finset.sum_congr rfl fun j _ => ?_)
    show ck j.rev.rev * ew (255 - j.rev.val) lg * cv j.rev.rev = _
    rw [Fin.rev_rev, show 255 - j.rev.val = j.val by simp only [Fin.val_rev]; omega]
  | succ n ih =>
    rw [stF, stB, ih (by omega)]
    refine congrArg (_ + ·) ((Equiv.sum_comp Fin.revPerm (fun j : Fin 128 => k (row n j).rev * ew (127 - j.val) lg * v (row n j).rev)).symm.trans
      (Finset.sum_congr rfl fun j _ => ?_))
    show k (row n j.rev).rev * ew (127 - j.rev.val) lg * v (row n j.rev).rev = _
    rw [rev_row (by omega), show 127 - j.rev.val = j.val by simp only [Fin.val_rev]; omega]

/-- The decay between two tokens of a chunk. -/
def dec (lf lb : EReal) (i j : Fin 128) : EReal := if j.val ≤ i.val then ew (i.val - j.val) lf else ew (j.val - i.val) lb

/-- One direction's decay between two tokens of a chunk: only tokens before (`s = 1`), or none after (`s = 0`), count. -/
def dec1 (s : Nat) (lg : EReal) (i j : Fin 128) : EReal := if j.val + s ≤ i.val then ew (i.val - j.val) lg else 0

section Mix
variable (lf lb : EReal) (q k : Fin 2048 → Fin 64 → EReal) (v : Fin 2048 → Fin 128 → EReal) (ck : Fin 256 → Fin 64 → EReal)
  (cv : Fin 256 → Fin 128 → EReal)

/-- A token's retention in both directions, as the kernel takes it. -/
def both (n : Nat) (i e : Fin 128) : EReal :=
  (∑ j : Fin 128, (∑ d, q (row n i) d * k (row n j) d) * dec lf lb i j * v (row n j) e)
    + ew (i.val + 1) lf * ∑ d, q (row n i) d * stF lf (fun j => ck j d) (fun j => cv j e) (fun j => k j d) (fun j => v j e) n
    + ew (128 - i.val) lb * ∑ d, q (row n i) d * stB lb (fun j => ck j d) (fun j => cv j e) (fun j => k j d) (fun j => v j e) (15 - n)

/-- A token's retention in one direction, as the reference takes it. -/
def once (s : Nat) (lg : EReal) (n : Nat) (i e : Fin 128) : EReal :=
  (∑ j : Fin 128, (∑ d, q (row n i) d * k (row n j) d) * dec1 s lg i j * v (row n j) e)
    + ∑ d, q (row n i) d * ew (i.val + 1) lg * stF lg (fun j => ck j d) (fun j => cv j e) (fun j => k j d) (fun j => v j e) n

/-- Both directions at once are the two directions added. -/
theorem both_eq (hf : lf ≤ 0) (hb : lb ≤ 0) (n : Nat) (h : n < 16) (i e : Fin 128) : both lf lb q k v ck cv n i e
    = once q k v ck cv 0 lf n i e
      + once (fun t => q t.rev) (fun t => k t.rev) (fun t => v t.rev) (fun t => ck t.rev) (fun t => cv t.rev) 1 lb (15 - n) i.rev e := by
  have hi : (row (15 - n) i.rev).rev = row n i := by rw [rev_row (by omega)]; exact congrArg (row · i) (by omega)
  have hj : ∀ j : Fin 128, (row (15 - n) j.rev).rev = row n j := fun j => by rw [rev_row (by omega)]; exact congrArg (row · j) (by omega)
  have A : (∑ j : Fin 128, (∑ d, q (row n i) d * k (row n j) d) * dec lf lb i j * v (row n j) e)
      = (∑ j : Fin 128, (∑ d, q (row n i) d * k (row n j) d) * dec1 0 lf i j * v (row n j) e)
        + ∑ j : Fin 128, (∑ d, q (row n i) d * k (row (15 - n) j).rev d) * dec1 1 lb i.rev j * v (row (15 - n) j).rev e := by
    rw [← Equiv.sum_comp Fin.revPerm (fun j : Fin 128 => (∑ d, q (row n i) d * k (row (15 - n) j).rev d) * dec1 1 lb i.rev j * v (row (15 - n) j).rev e),
      ← Finset.sum_add_distrib]
    refine Finset.sum_congr rfl fun j _ => ?_
    show _ = _ + (∑ d, q (row n i) d * k (row (15 - n) j.rev).rev d) * dec1 1 lb i.rev j.rev * v (row (15 - n) j.rev).rev e
    rw [hj]
    have e1 : i.rev.val = 127 - i.val := by simp only [Fin.val_rev]; omega
    have e2 : j.rev.val = 127 - j.val := by simp only [Fin.val_rev]; omega
    unfold dec dec1
    rw [e1, e2]
    by_cases c : j.val ≤ i.val
    · rw [if_pos c, if_pos (by omega), if_neg (by omega), mul_zero, zero_mul, add_zero]
    · rw [if_neg c, if_neg (by omega), if_pos (by omega), mul_zero, zero_mul, zero_add, show 127 - i.val - (127 - j.val) = j.val - i.val by omega]
  have B : ∀ (c : EReal), 0 ≤ c → c ≠ ⊤ → ∀ f g : Fin 64 → EReal, c * ∑ d, f d * g d = ∑ d, f d * c * g d := fun c h0 h1 f g => by
    rw [mul_sum_of _ h0 h1]
    exact Finset.sum_congr rfl fun d _ => by rw [← mul_assoc, mul_comm c]
  have hS : ∀ d, stF lb (fun j => ck j.rev d) (fun j => cv j.rev e) (fun j => k j.rev d) (fun j => v j.rev e) (15 - n)
      = stB lb (fun j => ck j d) (fun j => cv j e) (fun j => k j d) (fun j => v j e) (15 - n) := fun d =>
    stF_rev lb (fun j => ck j d) (fun j => cv j e) (fun j => k j d) (fun j => v j e) (15 - n) (by omega)
  unfold both once
  simp only [hi, hS]
  rw [A, B _ (ew_nonneg _ _) (ew_ne_top _ hf), B _ (ew_nonneg _ _) (ew_ne_top _ hb), show i.rev.val + 1 = 128 - i.val by simp only [Fin.val_rev]; omega]
  rw [add_assoc, add_add_add_comm]

end Mix

/-- A token's norm over its head's lanes, its gain and its gate. -/
def gated (y : Fin 128 → EReal) (g r : EReal) (e : Fin 128) : EReal :=
  y e * Ideal.rsqrt (Ideal.div (∑ l, y l * y l) (Ideal.ofBits .f32 0x43000000#32) + Ideal.ofBits .f32 0x358637BD#32) * g
    * (r * Ideal.div 1 (1 + Ideal.exp (0 - r)))

/-- Lane `d` of the head at parity `p`, in the two heads' 128. -/
def ln (p : Nat) (d : Fin 64) : Fin 128 := ⟨p % 2 * 64 + d.val, by omega⟩

/-- A dot product over two heads' lanes whose left operand is zero off one head is one over that head's. -/
theorem dot_head (p : Nat) (f g : Fin 128 → EReal) :
    (∑ l : Fin 128, (if l.val / 64 = p % 2 then f l else 0) * g l) = ∑ d : Fin 64, f (ln p d) * g (ln p d) := by
  rw [show (∑ l : Fin 128, (if l.val / 64 = p % 2 then f l else 0) * g l)
    = ∑ l : Fin (64 + 64), (if l.val / 64 = p % 2 then f l else 0) * g l from rfl, Fin.sum_univ_add]
  rcases Nat.mod_two_eq_zero_or_one p with hp | hp
  · rw [Finset.sum_eq_zero (f := fun i : Fin 64 => (if (Fin.natAdd 64 i : Fin (64 + 64)).val / 64 = p % 2 then f (Fin.natAdd 64 i : Fin (64 + 64)) else 0) * g (Fin.natAdd 64 i : Fin (64 + 64)))
      (fun i _ => by rw [if_neg (by rw [hp, Fin.val_natAdd]; omega), zero_mul]), add_zero]
    refine Finset.sum_congr rfl fun i _ => ?_
    rw [if_pos (by rw [hp, Fin.val_castAdd]; omega), show (Fin.castAdd 64 i : Fin (64 + 64)) = ln p i from Fin.ext (by simp [ln, hp])]
  · rw [Finset.sum_eq_zero (f := fun i : Fin 64 => (if (Fin.castAdd 64 i : Fin (64 + 64)).val / 64 = p % 2 then f (Fin.castAdd 64 i : Fin (64 + 64)) else 0) * g (Fin.castAdd 64 i : Fin (64 + 64)))
      (fun i _ => by rw [if_neg (by rw [hp, Fin.val_castAdd]; omega), zero_mul]), zero_add]
    refine Finset.sum_congr rfl fun i _ => ?_
    rw [if_pos (by rw [hp, Fin.val_natAdd]; omega), show (Fin.natAdd 64 i : Fin (64 + 64)) = ln p i from Fin.ext (by simp [ln, hp]; omega)]

end Cert.Ret

end
-- ==== Proof.RetBody.lean ====
/- The retention's block at a row: the running states as sums over tokens, and each row's output from them. -/
module

public import proofs.«01_k».proof.Proof.RetBlock
public import proofs.«01_k».proof.Proof.RetMath
public import proofs.«01_k».proof.Proof.InMath

@[expose] public section

noncomputable section

namespace Cert.Ret

open Idealize.ShloMosaic Cert.RetKernelIdeal Cert.RetKernelIdeal.Gen

/-- A counting word is its number. -/
theorem word (n : Nat) (h : n < 2048) : FloatOps.sitofp (F := Ideal) FTy.f32 (BitVec.ofNat 32 n) = ((n : ℝ) : EReal) := by
  show (((BitVec.ofNat 32 n).toInt : ℝ) : EReal) = _
  have e : (BitVec.ofNat 32 n).toInt = (n : Int) := by
    rw [BitVec.toInt_eq_toNat_of_lt (by rw [BitVec.toNat_ofNat, Nat.mod_eq_of_lt (by omega)]; omega), BitVec.toNat_ofNat, Nat.mod_eq_of_lt (by omega)]
  rw [e, Int.cast_natCast]

/-- The word of zero. -/
theorem zero32 : Ideal.ofBits .f32 0#32 = 0 := by
  simp [Ideal.ofBits, Ideal.ieee, -EReal.coe_mul]

/-- The word of 127. -/
theorem nat127 : Ideal.ofBits .f32 1123942400#32 = ((127 : ℝ) : EReal) := by
  simp [Ideal.ofBits, Ideal.ieee, -EReal.coe_mul]; norm_num
/-- The word of 128. -/
theorem nat128 : Ideal.ofBits .f32 1124073472#32 = ((128 : ℝ) : EReal) := by
  simp [Ideal.ofBits, Ideal.ieee, -EReal.coe_mul]; norm_num
/-- The word of 255. -/
theorem nat255 : Ideal.ofBits .f32 1132396544#32 = ((255 : ℝ) : EReal) := by
  simp [Ideal.ofBits, Ideal.ieee, -EReal.coe_mul]; norm_num

/-- A power of a decay from a difference of numbers. -/
theorem ew_sub {c : EReal} (m : Nat) (hc : c = ((m : ℝ) : EReal)) (j : Nat) (h : j ≤ m) (h2 : j < 2048) (lg : EReal) :
    Ideal.exp ((c - FloatOps.sitofp (F := Ideal) FTy.f32 (BitVec.ofNat 32 j)) * lg) = ew (m - j) lg := by
  rw [word j h2, hc, ew, ← EReal.coe_sub, Nat.cast_sub h]

/-- The word of a lane's half. -/
theorem half_word : ∀ l : Fin 128, (Scalar.select (IntOp.andi (IntOp.cmpi .ne
      (IntOp.subi (BitVec.setWidth 32 (IntOp.cmpi .sgt (BitVec.ofNat 32 l.val) 0#32)) (BitVec.setWidth 32 (IntOp.cmpi .slt (BitVec.ofNat 32 l.val) 0#32)))
      (Scalar.subi (Scalar.extui (Scalar.cmpi .sgt 64#32 0#32)) (Scalar.extui (Scalar.cmpi .slt 64#32 0#32))))
      (IntOp.cmpi .ne (IntOp.remsi .vector (BitVec.ofNat 32 l.val) 64#32) 0#32))
    (IntOp.subi (IntOp.divsi .vector (BitVec.ofNat 32 l.val) 64#32) 1#32)
    (IntOp.divsi .vector (BitVec.ofNat 32 l.val) 64#32) : BitVec 32) = BitVec.ofNat 32 (l.val / 64) := by
  decide +kernel

/-- The word of a head's parity. -/
theorem parity_word : ∀ p : Fin 4, (Scalar.select (Scalar.andi
      (Scalar.xori (Scalar.cmpi .slt (Scalar.remsi (BitVec.ofNat 32 p.val) (Scalar.select (Scalar.cmpi .eq 2#32 0#32) 1#32 2#32)) 0#32)
        (Scalar.cmpi .slt (Scalar.select (Scalar.cmpi .eq 2#32 0#32) 1#32 2#32) 0#32))
      (Scalar.cmpi .ne (Scalar.remsi (BitVec.ofNat 32 p.val) (Scalar.select (Scalar.cmpi .eq 2#32 0#32) 1#32 2#32)) 0#32))
    (Scalar.addi (Scalar.remsi (BitVec.ofNat 32 p.val) (Scalar.select (Scalar.cmpi .eq 2#32 0#32) 1#32 2#32)) (Scalar.select (Scalar.cmpi .eq 2#32 0#32) 1#32 2#32))
    (Scalar.remsi (BitVec.ofNat 32 p.val) (Scalar.select (Scalar.cmpi .eq 2#32 0#32) 1#32 2#32)) : BitVec 32) = BitVec.ofNat 32 (p.val % 2) := by
  decide +kernel

/-- The comparison of a lane's half with a head's parity. -/
theorem mask_word : ∀ (l : Fin 128) (p : Fin 4), IntOp.cmpi CmpIPredicate.eq (BitVec.ofNat 32 (l.val / 64)) (BitVec.ofNat 32 (p.val % 2))
    = if l.val / 64 = p.val % 2 then 1#1 else 0#1 := by
  decide +kernel

section Rows
variable (P0 : Vec Ideal S1x2x128 .f32) (P1 P2 P3 : Vec Ideal S1x2048x128 .bf16) (P4 : Vec Ideal S1x2048x128 .f32)
  (P5 P6 : Vec Ideal S1x256x128 .bf16) (P7 : Vec Ideal S1x1x128 .f32)

/-- The forward decay's logarithm at a lane. -/
theorem lgf_apply (l : Fin 128) : lgf P0 (ix2 0 l) = lsig (P0 (ix3 0 0 l)) := by
  unfold lgf lsig
  pointwise [k0_pay6, k0_pay4, k0_pay5, k0_pay3]

/-- The backward decay's logarithm at a lane. -/
theorem lgb_apply (l : Fin 128) : lgb P0 (ix2 0 l) = lsig (P0 (ix3 0 1 l)) := by
  unfold lgb lsig
  pointwise [k0_pay7, k0_pay3]

/-- The forward decay's logarithm where the kernel takes it again. -/
theorem lgf_again (l : Fin 128) : k0_pay6 (F := Ideal) (k0_pay4 (F := Ideal) P0) (k0_pay5 (F := Ideal)) (ix2 0 l) = lsig (P0 (ix3 0 0 l)) := lgf_apply P0 l

/-- The backward decay's logarithm where the kernel takes it again. -/
theorem lgb_again (l : Fin 128) : k0_pay7 (F := Ideal) (k0_pay3 (F := Ideal) P0) (ix2 0 l) = lsig (P0 (ix3 0 1 l)) := lgb_apply P0 l

/-- A chunk's rows are the operand's. -/
theorem chunk_apply {e : EltTy} (P : Vec Ideal S1x2048x128 e) (n : Nat) (j l : Fin 128) : chunk P n (ix3 0 j l) = P (ix3 0 (row n j) l) := by
  unfold chunk row
  pointwise

/-- What a chunk adds to a state. -/
theorem loc_apply (w : FVec Ideal S128x128 .f32) (n : Nat) (d e : Fin 128) : loc P2 P3 w n (ix3 0 d e)
    = ∑ j : Fin 128, P2 (ix3 0 (row n j) d) * w (ix2 j d) * P3 (ix3 0 (row n j) e) := by
  unfold loc
  pointwise [k0_pay26, k0_pay24, k0_pay25]
  simp only [chunk_apply]

variable (xf xb : EReal) (hf : ∀ l, P0 (ix3 0 0 l) = xf) (hb : ∀ l, P0 (ix3 0 1 l) = xb)

include hf in
/-- The forward state at a lane of the keys and one of the values. -/
theorem stateF_apply (n : Nat) (d e : Fin 128) : stateF P0 P2 P3 P5 P6 n (ix2 d e)
    = stF (lsig xf) (fun j => P5 (ix3 0 j d)) (fun j => P6 (ix3 0 j e)) (fun t => P2 (ix3 0 t d)) (fun t => P3 (ix3 0 t e)) n := by
  induction n with
  | zero =>
    unfold stateF stF
    pointwise [k0_pay22, k0_pay19, k0_pay20, k0_pay21, k0_pay8]
    refine Finset.sum_congr rfl fun j _ => ?_
    rw [lgf_apply, hf, ew_sub 255 nat255 j.val (by omega) (by omega)]
  | succ n ih =>
    unfold stateF stF
    rw [← ih]
    pointwise [k0_pay128, k0_pay17]
    rw [loc_apply, lgf_apply, hf, nat128]
    refine congrArg (_ + ·) (Finset.sum_congr rfl fun j _ => ?_)
    rw [show k0_pay9 (F := Ideal) (k0_pay4 (F := Ideal) P0) (k0_pay5 (F := Ideal)) (ix2 j d) = ew (127 - j.val) (lsig xf) by
      pointwise [k0_pay9, k0_pay8]
      rw [lgf_again, hf, ew_sub 127 nat127 j.val (by omega) (by omega)]]

include hb in
/-- The backward state at a lane of the keys and one of the values. -/
theorem stateB_apply (n : Nat) (d e : Fin 128) : stateB P0 P2 P3 P5 P6 n (ix2 d e)
    = stB (lsig xb) (fun j => P5 (ix3 0 j d)) (fun j => P6 (ix3 0 j e)) (fun t => P2 (ix3 0 t d)) (fun t => P3 (ix3 0 t e)) n := by
  induction n with
  | zero =>
    unfold stateB stB
    pointwise [k0_pay23, k0_pay19, k0_pay20, k0_pay21, k0_pay8]
    refine Finset.sum_congr rfl fun j _ => ?_
    rw [lgb_apply, hb, word j.val (by omega), ew]
  | succ n ih =>
    unfold stateB stB
    rw [← ih]
    pointwise [k0_pay128, k0_pay18]
    rw [loc_apply, lgb_apply, hb, nat128]
    refine congrArg (_ + ·) (Finset.sum_congr rfl fun j _ => ?_)
    rw [show k0_pay10 (F := Ideal) (k0_pay3 (F := Ideal) P0) (ix2 j d) = ew j.val (lsig xb) by
      pointwise [k0_pay10, k0_pay8]
      rw [lgb_again, hb, word j.val (by omega), ew]]

include hf hb in
/-- The decay between two tokens of a chunk. -/
theorem decay_apply (j l : Fin 128) : k0_pay16 (F := Ideal) (lgb P0) (k0_pay13 (F := Ideal)) (k0_pay14 (F := Ideal))
    (k0_pay15 (F := Ideal) (k0_pay4 (F := Ideal) P0) (k0_pay5 (F := Ideal))) (ix2 j l) = dec (lsig xf) (lsig xb) j l := by
  pointwise [k0_pay16, k0_pay13, k0_pay14, k0_pay15, k0_pay8]
  rw [lgf_again, lgb_apply, hf, hb, word j.val (by omega), word l.val (by omega), ← EReal.coe_sub, dec]
  by_cases c : l.val ≤ j.val
  · have c' : (0 : ℝ) ≤ (j.val : ℝ) - (l.val : ℝ) := sub_nonneg.mpr (Nat.cast_le.mpr c)
    rw [if_pos c, if_pos (EReal.coe_nonneg.mpr c'), max_eq_left (EReal.coe_nonneg.mpr c'), ew, Nat.cast_sub c]
  · have c' : ¬ (0 : ℝ) ≤ (j.val : ℝ) - (l.val : ℝ) := fun h => c (Nat.cast_le.mp (sub_nonneg.mp h))
    have c2 : (0 : ℝ) ≤ 0 - ((j.val : ℝ) - (l.val : ℝ)) := by linarith [not_le.mp c']
    rw [if_neg c, if_neg (fun h => c' (EReal.coe_nonneg.mp h)), show (0 : EReal) = ((0 : ℝ) : EReal) from rfl, ← EReal.coe_sub,
      max_eq_left (EReal.coe_le_coe_iff.mpr c2), ew, Nat.cast_sub (by omega)]
    refine congrArg (fun x : ℝ => Ideal.exp ((x : EReal) * _)) (by ring)

/-- A head's queries: the lanes of the head. -/
theorem mask_apply (i : grid0.Coords) (q : Vec Ideal S1x128x128 .bf16) (j l : Fin 128) : k0_pay160 (F := Ideal) (k0_pay2 i) q (ix2 j l)
    = if l.val / 64 = (i 1).val % 2 then q (ix3 0 j l) else 0 := by
  have hh : (i 1).val < 4 := (i 1).isLt
  pointwise [k0_pay160, k0_pay2]
  generalize q (ix3 0 j l) = z
  generalize (i 1).val = p at hh ⊢
  have e := mask_word l ⟨p, hh⟩
  have e2 := parity_word ⟨p, hh⟩
  dsimp only at e e2
  rw [half_word, e2, e]
  split <;> simp [Scalar.select]

include hf hb in
/-- A row of the block: the retention in both directions, normed and gated. -/
theorem outChunk_apply (i : grid0.Coords) (n : Nat) (j e : Fin 128) : outChunk i P0 P1 P2 P3 P4 P5 P6 P7 n (ix3 0 j e)
    = gated (both (lsig xf) (lsig xb) (fun t d => P1 (ix3 0 t (ln (i 1).val d))) (fun t d => P2 (ix3 0 t (ln (i 1).val d)))
        (fun t e => P3 (ix3 0 t e)) (fun t d => P5 (ix3 0 t (ln (i 1).val d))) (fun t e => P6 (ix3 0 t e)) n j)
      (P7 (ix3 0 0 e)) (P4 (ix3 0 (row n j) e)) e := by
  have hw : ∀ l, k0_pay11 (F := Ideal) (k0_pay4 (F := Ideal) P0) (k0_pay5 (F := Ideal)) (ix2 j l) = ew (j.val + 1) (lsig xf) := fun l => by
    pointwise [k0_pay11, k0_pay8]
    rw [lgf_again, hf, word j.val (by omega), ew, Nat.cast_add, Nat.cast_one, EReal.coe_add, EReal.coe_one]
  have hv : ∀ l, k0_pay12 (F := Ideal) (k0_pay3 (F := Ideal) P0) (ix2 j l) = ew (128 - j.val) (lsig xb) := fun l => by
    pointwise [k0_pay12, k0_pay8]
    rw [lgb_again, hb, ew_sub 128 nat128 j.val (by omega) (by omega)]
  have hq : ∀ g : Fin 128 → EReal, (∑ x, k0_pay160 (F := Ideal) (k0_pay2 i) (chunk P1 n) (ix2 j x) * g x)
      = ∑ d, P1 (ix3 0 (row n j) (ln (i 1).val d)) * g (ln (i 1).val d) := fun g => by
    simp only [mask_apply, chunk_apply]
    exact dot_head _ _ g
  have hy : ∀ e, k0_pay161 (F := Ideal) (k0_pay2 i) (k0_pay16 (F := Ideal) (lgb P0) (k0_pay13 (F := Ideal)) (k0_pay14 (F := Ideal))
      (k0_pay15 (F := Ideal) (k0_pay4 (F := Ideal) P0) (k0_pay5 (F := Ideal)))) (chunk P1 n) (chunk P2 n) (chunk P3 n) (ix2 j e)
      = ∑ x : Fin 128, (∑ d, P1 (ix3 0 (row n j) (ln (i 1).val d)) * P2 (ix3 0 (row n x) (ln (i 1).val d))) * dec (lsig xf) (lsig xb) j x
        * P3 (ix3 0 (row n x) e) := fun e => by
    pointwise [k0_pay161]
    simp only [decay_apply P0 xf xb hf hb, hq, chunk_apply]
  have hF : ∀ d e, k0_pay127 (F := Ideal) (stateF P0 P2 P3 P5 P6 n) (ix3 0 d e) = stateF P0 P2 P3 P5 P6 n (ix2 d e) := fun d e => by
    pointwise [k0_pay127]
  have hB : ∀ d e, k0_pay127 (F := Ideal) (stateB P0 P2 P3 P5 P6 (15 - n)) (ix3 0 d e) = stateB P0 P2 P3 P5 P6 (15 - n) (ix2 d e) := fun d e => by
    pointwise [k0_pay127]
  have hg : ∀ e, k0_pay159 (F := Ideal) P7 (ix2 0 e) = P7 (ix3 0 0 e) := fun e => by pointwise [k0_pay159]
  unfold outChunk gated both
  pointwise [k0_pay162]
  simp only [hw, hv, hq, hy, hF, hB, hg, stateF_apply P0 P2 P3 P5 P6 xf hf, stateB_apply P0 P2 P3 P5 P6 xb hb, chunk_apply]

end Rows

end Cert.Ret

end
-- ==== Proof.RetHeads.lean ====
/- The reference's retention: its heads and its decays' logarithms, each stage at an index. -/
module

public import proofs.«01_k».proof.Proof.Gen.RetReferenceIdeal.Read
public import proofs.«01_k».proof.Proof.RetBody

@[expose] public section

noncomputable section

namespace Cert.Ret

open Idealize.ShloMosaic Cert.RetReferenceIdeal Cert.RetReferenceIdeal.Gen Cert.RetReferenceIdeal.Read

/-- Lane `d` of the keys' head `h`, in all heads'. -/
def h64 (h : Fin 4) (d : Fin 64) : Fin 256 := ⟨h.val * 64 + d.val, by omega⟩

/-- Lane `e` of the values' head `h`, in all heads'. -/
def h128 (h : Fin 4) (e : Fin 128) : Fin 512 := ⟨h.val * 128 + e.val, by omega⟩

section Stages
variable (x0 x1 : Vec Ideal S8x2048x256 .bf16) (x2 : Vec Ideal S8x2048x512 .bf16) (x3 : Vec Ideal S8x2048x512 .f32)
  (x4 : Vec Ideal S8x256x256 .bf16) (x5 : Vec Ideal S8x256x512 .bf16) (x6 : Vec Ideal S1x2x4 .f32) (b : Fin 8) (h : Fin 4)

/-- A head's queries or keys. -/
def keys (x : Vec Ideal S8x2048x256 .bf16) (t : Fin 2048) (d : Fin 64) : EReal := x (ix3 b t (h64 h d))

/-- A head's values. -/
def vals (x : Vec Ideal S8x2048x512 .bf16) (t : Fin 2048) (e : Fin 128) : EReal := x (ix3 b t (h128 h e))

/-- A head's context keys. -/
def ckeys (x : Vec Ideal S8x256x256 .bf16) (t : Fin 256) (d : Fin 64) : EReal := x (ix3 b t (h64 h d))

/-- A head's context values. -/
def cvals (x : Vec Ideal S8x256x512 .bf16) (t : Fin 256) (e : Fin 128) : EReal := x (ix3 b t (h128 h e))

/-- The logarithm of a head's decay in a direction. -/
def lg (r : Fin 2) : EReal := lsig (x6 (ix3 0 r h))

/-- The queries, by head. -/
theorem head8 (t : Fin 2048) (d : Fin 64) : val_main_v8 (F := Ideal) x0 (ix4 b h t d) = keys b h x0 t d := by
  have i1 : idx_main_v7 (idx_main_v8 (ix4 b h t d)) = ix3 b t (h64 h d) := funext fun a => Fin.ext (by
    match a with
    | ⟨0, _⟩ => simp [idx_main_v7, idx_main_v8, ix3, ix4, h64] <;> omega
    | ⟨1, _⟩ => simp [idx_main_v7, idx_main_v8, ix3, ix4, h64] <;> omega
    | ⟨2, _⟩ => simp [idx_main_v7, idx_main_v8, ix3, ix4, h64] <;> omega)
  rw [val_main_v8_apply, val_main_v7_apply, i1]
  rfl

/-- The keys, by head. -/
theorem head10 (t : Fin 2048) (d : Fin 64) : val_main_v10 (F := Ideal) x1 (ix4 b h t d) = keys b h x1 t d := by
  have i1 : idx_main_v9 (idx_main_v10 (ix4 b h t d)) = ix3 b t (h64 h d) := funext fun a => Fin.ext (by
    match a with
    | ⟨0, _⟩ => simp [idx_main_v9, idx_main_v10, ix3, ix4, h64] <;> omega
    | ⟨1, _⟩ => simp [idx_main_v9, idx_main_v10, ix3, ix4, h64] <;> omega
    | ⟨2, _⟩ => simp [idx_main_v9, idx_main_v10, ix3, ix4, h64] <;> omega)
  rw [val_main_v10_apply, val_main_v9_apply, i1]
  rfl

/-- The values, by head. -/
theorem head12 (t : Fin 2048) (d : Fin 128) : val_main_v12 (F := Ideal) x2 (ix4 b h t d) = vals b h x2 t d := by
  have i1 : idx_main_v11 (idx_main_v12 (ix4 b h t d)) = ix3 b t (h128 h d) := funext fun a => Fin.ext (by
    match a with
    | ⟨0, _⟩ => simp [idx_main_v11, idx_main_v12, ix3, ix4, h128] <;> omega
    | ⟨1, _⟩ => simp [idx_main_v11, idx_main_v12, ix3, ix4, h128] <;> omega
    | ⟨2, _⟩ => simp [idx_main_v11, idx_main_v12, ix3, ix4, h128] <;> omega)
  rw [val_main_v12_apply, val_main_v11_apply, i1]
  rfl

/-- The context's keys, by head. -/
theorem head14 (t : Fin 256) (d : Fin 64) : val_main_v14 (F := Ideal) x4 (ix4 b h t d) = ckeys b h x4 t d := by
  have i1 : idx_main_v13 (idx_main_v14 (ix4 b h t d)) = ix3 b t (h64 h d) := funext fun a => Fin.ext (by
    match a with
    | ⟨0, _⟩ => simp [idx_main_v13, idx_main_v14, ix3, ix4, h64] <;> omega
    | ⟨1, _⟩ => simp [idx_main_v13, idx_main_v14, ix3, ix4, h64] <;> omega
    | ⟨2, _⟩ => simp [idx_main_v13, idx_main_v14, ix3, ix4, h64] <;> omega)
  rw [val_main_v14_apply, val_main_v13_apply, i1]
  rfl

/-- The context's values, by head. -/
theorem head16 (t : Fin 256) (d : Fin 128) : val_main_v16 (F := Ideal) x5 (ix4 b h t d) = cvals b h x5 t d := by
  have i1 : idx_main_v15 (idx_main_v16 (ix4 b h t d)) = ix3 b t (h128 h d) := funext fun a => Fin.ext (by
    match a with
    | ⟨0, _⟩ => simp [idx_main_v15, idx_main_v16, ix3, ix4, h128] <;> omega
    | ⟨1, _⟩ => simp [idx_main_v15, idx_main_v16, ix3, ix4, h128] <;> omega
    | ⟨2, _⟩ => simp [idx_main_v15, idx_main_v16, ix3, ix4, h128] <;> omega)
  rw [val_main_v16_apply, val_main_v15_apply, i1]
  rfl

/-- The queries in reverse, by head. -/
theorem head181 (t : Fin 2048) (d : Fin 64) : val_main_v181 (F := Ideal) x0 (ix4 b h t d) = keys b h x0 t.rev d := by
  rw [← head8]
  unfold val_main_v181
  generalize val_main_v8 (F := Ideal) x0 = y
  exact congrArg y (funext fun a => by match a with | ⟨0, _⟩ => rfl | ⟨1, _⟩ => rfl | ⟨2, _⟩ => rfl | ⟨3, _⟩ => rfl)

/-- The keys in reverse, by head. -/
theorem head182 (t : Fin 2048) (d : Fin 64) : val_main_v182 (F := Ideal) x1 (ix4 b h t d) = keys b h x1 t.rev d := by
  rw [← head10]
  unfold val_main_v182
  generalize val_main_v10 (F := Ideal) x1 = y
  exact congrArg y (funext fun a => by match a with | ⟨0, _⟩ => rfl | ⟨1, _⟩ => rfl | ⟨2, _⟩ => rfl | ⟨3, _⟩ => rfl)

/-- The values in reverse, by head. -/
theorem head183 (t : Fin 2048) (d : Fin 128) : val_main_v183 (F := Ideal) x2 (ix4 b h t d) = vals b h x2 t.rev d := by
  rw [← head12]
  unfold val_main_v183
  generalize val_main_v12 (F := Ideal) x2 = y
  exact congrArg y (funext fun a => by match a with | ⟨0, _⟩ => rfl | ⟨1, _⟩ => rfl | ⟨2, _⟩ => rfl | ⟨3, _⟩ => rfl)

/-- The context's keys in reverse, by head. -/
theorem head186 (t : Fin 256) (d : Fin 64) : val_main_v186 (F := Ideal) x4 (ix4 b h t d) = ckeys b h x4 t.rev d := by
  rw [← head14]
  unfold val_main_v186
  generalize val_main_v14 (F := Ideal) x4 = y
  exact congrArg y (funext fun a => by match a with | ⟨0, _⟩ => rfl | ⟨1, _⟩ => rfl | ⟨2, _⟩ => rfl | ⟨3, _⟩ => rfl)

/-- The context's values in reverse, by head. -/
theorem head187 (t : Fin 256) (d : Fin 128) : val_main_v187 (F := Ideal) x5 (ix4 b h t d) = cvals b h x5 t.rev d := by
  rw [← head16]
  unfold val_main_v187
  generalize val_main_v16 (F := Ideal) x5 = y
  exact congrArg y (funext fun a => by match a with | ⟨0, _⟩ => rfl | ⟨1, _⟩ => rfl | ⟨2, _⟩ => rfl | ⟨3, _⟩ => rfl)

/-- The logarithm of the logistic at a direction and a head. -/
theorem decay6 (r : Fin 2) : val_main_v6 (F := Ideal) x6 (ix2 r h) = lg x6 h r := by
  have i1 : idx_main_v5 (ix2 r h) = ix3 0 r h := funext fun a => Fin.ext (by
    match a with
    | ⟨0, _⟩ => simp [idx_main_v5, ix2, ix3] <;> omega
    | ⟨1, _⟩ => simp [idx_main_v5, ix2, ix3] <;> omega
    | ⟨2, _⟩ => simp [idx_main_v5, ix2, ix3] <;> omega)
  rw [val_main_v6_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v5_apply, val_main_call0_call0_v2_apply,
    val_main_call0_call0_v0_apply, val_main_call0_call0_cst_apply,
    val_main_call0_v0_apply, val_main_v5_apply, i1, Ideal.ofBits_def, zero32, lg, ← lsig_ref]
  generalize x6 (ix3 0 r h) = z
  show -(Scalar.select (FloatOps.cmpf (F := Ideal) (φ := .f32) CmpFPredicate.une (-z - 0 : EReal) (-z - 0 : EReal)) (-z + 0 : EReal) _) = _
  rw [show FloatOps.cmpf (F := Ideal) (φ := .f32) CmpFPredicate.une (-z - 0 : EReal) (-z - 0 : EReal) = 0#1 by
    simp [FloatOps.cmpf, Ideal.cmp]]
  rfl

/-- A head's decay logarithm, forward. -/
theorem decay18 : val_main_v18 (F := Ideal) x6 (ix1 h) = lg x6 h 0 := by
  have i1 : idx_main_v17 (idx_main_v18 (ix1 h)) = ix2 0 h := funext fun a => Fin.ext (by
    match a with
    | ⟨0, _⟩ => simp [idx_main_v17, idx_main_v18, ix1, ix2] <;> omega
    | ⟨1, _⟩ => simp [idx_main_v17, idx_main_v18, ix1, ix2] <;> omega)
  rw [val_main_v18_apply, val_main_v17_apply, i1, decay6]

/-- A head's decay logarithm, forward. -/
theorem decay20 : val_main_v20 (F := Ideal) x6 (ix1 h) = lg x6 h 0 := by
  have i1 : idx_main_v19 (idx_main_v20 (ix1 h)) = ix2 0 h := funext fun a => Fin.ext (by
    match a with
    | ⟨0, _⟩ => simp [idx_main_v19, idx_main_v20, ix1, ix2] <;> omega
    | ⟨1, _⟩ => simp [idx_main_v19, idx_main_v20, ix1, ix2] <;> omega)
  rw [val_main_v20_apply, val_main_v19_apply, i1, decay6]

/-- A head's decay logarithm, backward. -/
theorem decay185 : val_main_v185 (F := Ideal) x6 (ix1 h) = lg x6 h 1 := by
  have i1 : idx_main_v184 (idx_main_v185 (ix1 h)) = ix2 1 h := funext fun a => Fin.ext (by
    match a with
    | ⟨0, _⟩ => simp [idx_main_v184, idx_main_v185, ix1, ix2] <;> omega
    | ⟨1, _⟩ => simp [idx_main_v184, idx_main_v185, ix1, ix2] <;> omega)
  rw [val_main_v185_apply, val_main_v184_apply, i1, decay6]

/-- A head's decay logarithm, backward. -/
theorem decay189 : val_main_v189 (F := Ideal) x6 (ix1 h) = lg x6 h 1 := by
  have i1 : idx_main_v188 (idx_main_v189 (ix1 h)) = ix2 1 h := funext fun a => Fin.ext (by
    match a with
    | ⟨0, _⟩ => simp [idx_main_v188, idx_main_v189, ix1, ix2] <;> omega
    | ⟨1, _⟩ => simp [idx_main_v188, idx_main_v189, ix1, ix2] <;> omega)
  rw [val_main_v189_apply, val_main_v188_apply, i1, decay6]

/-- The context's distances. -/
theorem word255 : ∀ j : Fin 256, IntOp.subi 255#32 (BitVec.ofNat 32 j.val) = BitVec.ofNat 32 (255 - j.val) := by
  decide +kernel

end Stages

end Cert.Ret

end
-- ==== Proof.RetForth.lean ====
/- The reference's retention forward, each stage at an index. -/
module

public import proofs.«01_k».proof.Proof.RetHeads

@[expose] public section

noncomputable section

namespace Cert.Ret

open Idealize.ShloMosaic Cert.RetReferenceIdeal Cert.RetReferenceIdeal.Gen Cert.RetReferenceIdeal.Read

section Stages
variable (x0 x1 : Vec Ideal S8x2048x256 .bf16) (x2 : Vec Ideal S8x2048x512 .bf16) (x3 : Vec Ideal S8x2048x512 .f32)
  (x4 : Vec Ideal S8x256x256 .bf16) (x5 : Vec Ideal S8x256x512 .bf16) (x6 : Vec Ideal S1x2x4 .f32) (b : Fin 8) (h : Fin 4)

/-- The context's weights. -/
theorem stage30 (j : Fin 256) : val_main_v30 (F := Ideal) x6 (ix2 h j) = ew (255 - j.val) (lg x6 h 0) := by
  have i1 : idx_main_v26 (idx_main_v28 (ix2 h j)) = ix1 h := funext fun a => by match a with | ⟨0, _⟩ => rfl
  have i2 : idx_main_v25 (idx_main_v27 (ix2 h j)) = ix1 j := funext fun a => by match a with | ⟨0, _⟩ => rfl
  rw [val_main_v30_apply, val_main_v29_apply, val_main_v28_apply, val_main_v27_apply, val_main_v26_apply, val_main_v25_apply, i1, i2, decay20, val_main_v24_apply, val_main_v23_apply, val_main_v22_apply, val_main_v21_apply, val_main_c_apply]
  show Ideal.exp (FloatOps.sitofp (F := Ideal) FTy.f32 (IntOp.subi 255#32 (BitVec.ofNat 32 j.val)) * (lg x6 h 0)) = _
  rw [word255, word _ (by omega), ew]

/-- The state the context leaves. -/
theorem stage34 (d : Fin 64) (e : Fin 128) : val_main_v34 (F := Ideal) x4 x5 x6 (ix4 b h d e) = stF (lg x6 h 0) (fun j => ckeys b h x4 j d) (fun j => cvals b h x5 j e) (fun j => keys b h x1 j d) (fun j => vals b h x2 j e) 0 := by
  have il : ∀ k, lidx_main_v34 (ix4 b h d e) k = ix4 b h k d := fun k => funext fun a => by match a with | ⟨0, _⟩ => rfl | ⟨1, _⟩ => rfl | ⟨2, _⟩ => rfl | ⟨3, _⟩ => rfl
  have ir : ∀ k, ridx_main_v34 (ix4 b h d e) k = ix4 b h k e := fun k => funext fun a => by match a with | ⟨0, _⟩ => rfl | ⟨1, _⟩ => rfl | ⟨2, _⟩ => rfl | ⟨3, _⟩ => rfl
  have i1 : ∀ k, idx_main_v31 (idx_main_v32 (ix4 b h k d)) = ix2 h k := fun k => funext fun a => by match a with | ⟨0, _⟩ => rfl | ⟨1, _⟩ => rfl
  rw [val_main_v34_apply]
  simp only [il, ir, val_main_v33_apply, val_main_v32_apply, val_main_v31_apply, i1, stage30, head14, head16]
  rfl

/-- The queries, by chunk. -/
theorem stage35 (n : Fin 16) (i : Fin 128) (d : Fin 64) : val_main_v35 (F := Ideal) x0 (ix5 b h n i d) = keys b h x0 (row n i) d := by
  have i1 : idx_main_v35 (ix5 b h n i d) = ix4 b h (row n i) d := funext fun a => Fin.ext (by
    match a with
    | ⟨0, _⟩ => simp [idx_main_v35, ix4, ix5, row] <;> omega
    | ⟨1, _⟩ => simp [idx_main_v35, ix4, ix5, row] <;> omega
    | ⟨2, _⟩ => simp [idx_main_v35, ix4, ix5, row] <;> omega
    | ⟨3, _⟩ => simp [idx_main_v35, ix4, ix5, row] <;> omega)
  rw [val_main_v35_apply, i1, head8]

/-- The keys, by chunk. -/
theorem stage36 (n : Fin 16) (i : Fin 128) (d : Fin 64) : val_main_v36 (F := Ideal) x1 (ix5 b h n i d) = keys b h x1 (row n i) d := by
  have i1 : idx_main_v36 (ix5 b h n i d) = ix4 b h (row n i) d := funext fun a => Fin.ext (by
    match a with
    | ⟨0, _⟩ => simp [idx_main_v36, ix4, ix5, row] <;> omega
    | ⟨1, _⟩ => simp [idx_main_v36, ix4, ix5, row] <;> omega
    | ⟨2, _⟩ => simp [idx_main_v36, ix4, ix5, row] <;> omega
    | ⟨3, _⟩ => simp [idx_main_v36, ix4, ix5, row] <;> omega)
  rw [val_main_v36_apply, i1, head10]

/-- The values, by chunk. -/
theorem stage37 (n : Fin 16) (i : Fin 128) (e : Fin 128) : val_main_v37 (F := Ideal) x2 (ix5 b h n i e) = vals b h x2 (row n i) e := by
  have i1 : idx_main_v37 (ix5 b h n i e) = ix4 b h (row n i) e := funext fun a => Fin.ext (by
    match a with
    | ⟨0, _⟩ => simp [idx_main_v37, ix4, ix5, row] <;> omega
    | ⟨1, _⟩ => simp [idx_main_v37, ix4, ix5, row] <;> omega
    | ⟨2, _⟩ => simp [idx_main_v37, ix4, ix5, row] <;> omega
    | ⟨3, _⟩ => simp [idx_main_v37, ix4, ix5, row] <;> omega)
  rw [val_main_v37_apply, i1, head12]

/-- A row's number. -/
theorem stage38 (i : Fin 128) : val_main_v38 (F := Ideal) (ix1 i) = ((i.val : ℝ) : EReal) := word i.val (by omega)

/-- The distance between two rows. -/
theorem stage43 (i j : Fin 128) : val_main_v43 (F := Ideal) (ix2 i j) = (((i.val : ℝ) - (j.val : ℝ) : ℝ) : EReal) := by
  have i1 : idx_main_v39 (idx_main_v41 (ix2 i j)) = ix1 i := funext fun a => by match a with | ⟨0, _⟩ => rfl
  have i2 : idx_main_v40 (idx_main_v42 (ix2 i j)) = ix1 j := funext fun a => by match a with | ⟨0, _⟩ => rfl
  rw [val_main_v43_apply, val_main_v42_apply, val_main_v41_apply, val_main_v40_apply, val_main_v39_apply, i1, i2, stage38, stage38, EReal.coe_sub]
  rfl

/-- Which pairs of rows count. -/
theorem stage45 (i j : Fin 128) : val_main_v45 (F := Ideal) (ix2 i j) = if j.val + 0 ≤ i.val then 1#1 else 0#1 := by
  rw [val_main_v45_apply, stage43, val_main_v44_apply, val_main_cst_apply, Ideal.ofBits_def, zero32]
  by_cases c : j.val + 0 ≤ i.val
  · have c' : (0 : EReal) ≤ (((i.val : ℝ) - (j.val : ℝ) : ℝ) : EReal) := EReal.coe_nonneg.mpr (sub_nonneg.mpr (Nat.cast_le.mpr (by omega)))
    rw [if_pos c]
    exact congrArg BitVec.ofBool (decide_eq_true c')
  · have c' : ¬ (0 : EReal) ≤ (((i.val : ℝ) - (j.val : ℝ) : ℝ) : EReal) := fun h => c (by
      have := Nat.cast_le.mp (sub_nonneg.mp (EReal.coe_nonneg.mp h))
      omega)
    rw [if_neg c]
    exact congrArg BitVec.ofBool (decide_eq_false c')

/-- The decay between two rows of a chunk. -/
theorem stage53 (i j : Fin 128) : val_main_v53 (F := Ideal) x6 (ix3 h i j) = dec1 0 (lg x6 h 0) i j := by
  have i1 : idx_main_v48 (idx_main_v49 (ix3 h i j)) = ix2 i j := funext fun a => by match a with | ⟨0, _⟩ => rfl | ⟨1, _⟩ => rfl
  have i2 : idx_main_v46 (idx_main_v50 (ix3 h i j)) = ix1 h := funext fun a => by match a with | ⟨0, _⟩ => rfl
  have i3 : idx_main_call2_v1 (ix3 h i j) = ix2 i j := funext fun a => by match a with | ⟨0, _⟩ => rfl | ⟨1, _⟩ => rfl
  rw [val_main_v53_apply, val_main_call2_v1_apply, i3, stage45, val_main_v52_apply, val_main_v51_apply, val_main_v50_apply, val_main_v49_apply, val_main_v48_apply, val_main_v47_apply, val_main_v46_apply, i1, i2, stage45, stage43, decay18,
    val_main_call2_v2_apply, val_main_call2_v0_apply, val_main_cst_1_apply, Ideal.ofBits_def, zero32, dec1]
  by_cases c : j.val + 0 ≤ i.val
  · rw [if_pos c, if_pos c, ew, Nat.cast_sub (by omega)]
    rfl
  · rw [if_neg c, if_neg c]
    rfl

/-- A pair's score, decayed. -/
theorem stage57 (n : Fin 16) (i j : Fin 128) : val_main_v57 (F := Ideal) x0 x1 x6 (ix5 b h n i j)
    = (∑ d, keys b h x0 (row n i) d * keys b h x1 (row n j) d) * dec1 0 (lg x6 h 0) i j := by
  have il : ∀ k, lidx_main_v54 (ix5 b h n i j) k = ix5 b h n i k := fun k => funext fun a => by match a with | ⟨0, _⟩ => rfl | ⟨1, _⟩ => rfl | ⟨2, _⟩ => rfl | ⟨3, _⟩ => rfl | ⟨4, _⟩ => rfl
  have ir : ∀ k, ridx_main_v54 (ix5 b h n i j) k = ix5 b h n j k := fun k => funext fun a => by match a with | ⟨0, _⟩ => rfl | ⟨1, _⟩ => rfl | ⟨2, _⟩ => rfl | ⟨3, _⟩ => rfl | ⟨4, _⟩ => rfl
  have i1 : idx_main_v55 (idx_main_v56 (ix5 b h n i j)) = ix3 h i j := funext fun a => by match a with | ⟨0, _⟩ => rfl | ⟨1, _⟩ => rfl | ⟨2, _⟩ => rfl
  rw [val_main_v57_apply, val_main_v56_apply, val_main_v55_apply, i1, stage53, val_main_v54_apply]
  simp only [il, ir, stage35, stage36]
  rfl

/-- The part of a row's output from its own chunk. -/
theorem stage58 (n : Fin 16) (i e : Fin 128) : val_main_v58 (F := Ideal) x0 x1 x2 x6 (ix5 b h n i e)
    = ∑ j : Fin 128, (∑ d, keys b h x0 (row n i) d * keys b h x1 (row n j) d) * dec1 0 (lg x6 h 0) i j * vals b h x2 (row n j) e := by
  have il : ∀ k, lidx_main_v58 (ix5 b h n i e) k = ix5 b h n i k := fun k => funext fun a => by match a with | ⟨0, _⟩ => rfl | ⟨1, _⟩ => rfl | ⟨2, _⟩ => rfl | ⟨3, _⟩ => rfl | ⟨4, _⟩ => rfl
  have ir : ∀ k, ridx_main_v58 (ix5 b h n i e) k = ix5 b h n k e := fun k => funext fun a => by match a with | ⟨0, _⟩ => rfl | ⟨1, _⟩ => rfl | ⟨2, _⟩ => rfl | ⟨3, _⟩ => rfl | ⟨4, _⟩ => rfl
  rw [val_main_v58_apply]
  simp only [il, ir, stage57, stage37]

/-- The keys' weights. -/
theorem stage66 (j : Fin 128) : val_main_v66 (F := Ideal) x6 (ix2 h j) = ew (127 - j.val) (lg x6 h 0) := by
  have i1 : idx_main_v62 (idx_main_v64 (ix2 h j)) = ix1 h := funext fun a => by match a with | ⟨0, _⟩ => rfl
  have i2 : idx_main_v61 (idx_main_v63 (ix2 h j)) = ix1 j := funext fun a => by match a with | ⟨0, _⟩ => rfl
  rw [val_main_v66_apply, val_main_v65_apply, val_main_v64_apply, val_main_v63_apply, val_main_v62_apply, val_main_v61_apply, i1, i2, decay18, val_main_v60_apply, val_main_v59_apply, stage38, val_main_cst_2_apply, Ideal.ofBits_def, nat127, ew,
    Nat.cast_sub (by omega)]
  rfl

/-- What a chunk adds to the state. -/
theorem stage70 (n : Fin 16) (d : Fin 64) (e : Fin 128) : val_main_v70 (F := Ideal) x1 x2 x6 (ix5 b h n d e)
    = ∑ j : Fin 128, keys b h x1 (row n j) d * ew (127 - j.val) (lg x6 h 0) * vals b h x2 (row n j) e := by
  have il : ∀ k, lidx_main_v70 (ix5 b h n d e) k = ix5 b h n k d := fun k => funext fun a => by match a with | ⟨0, _⟩ => rfl | ⟨1, _⟩ => rfl | ⟨2, _⟩ => rfl | ⟨3, _⟩ => rfl | ⟨4, _⟩ => rfl
  have ir : ∀ k, ridx_main_v70 (ix5 b h n d e) k = ix5 b h n k e := fun k => funext fun a => by match a with | ⟨0, _⟩ => rfl | ⟨1, _⟩ => rfl | ⟨2, _⟩ => rfl | ⟨3, _⟩ => rfl | ⟨4, _⟩ => rfl
  have i1 : ∀ k, idx_main_v67 (idx_main_v68 (ix5 b h n k d)) = ix2 h k := fun k => funext fun a => by match a with | ⟨0, _⟩ => rfl | ⟨1, _⟩ => rfl
  rw [val_main_v70_apply]
  simp only [il, ir, val_main_v69_apply, val_main_v68_apply, val_main_v67_apply, i1, stage66, stage36, stage37]
  rfl

/-- A chunk's decay. -/
theorem stage74 : val_main_v74 (F := Ideal) x6 (ix4 0 h 0 0) = ew 128 (lg x6 h 0) := by
  have i1 : idx_main_v74 (ix4 0 h 0 0) = ix1 h := funext fun a => by match a with | ⟨0, _⟩ => rfl
  rw [val_main_v74_apply, i1, val_main_v73_apply, val_main_v72_apply, val_main_v71_apply, decay18, val_main_cst_3_apply, Ideal.ofBits_def, nat128, ew]
  rfl

/-- The state before chunk 1. -/
theorem stage79 (d : Fin 64) (e : Fin 128) : val_main_v79 (F := Ideal) x1 x2 x4 x5 x6 (ix4 b h d e) = stF (lg x6 h 0) (fun j => ckeys b h x4 j d) (fun j => cvals b h x5 j e) (fun j => keys b h x1 j d) (fun j => vals b h x2 j e) 1 := by
  have i1 : idx_main_v75 (ix4 b h d e) = ix4 0 h 0 0 := funext fun a => by match a with | ⟨0, _⟩ => rfl | ⟨1, _⟩ => rfl | ⟨2, _⟩ => rfl | ⟨3, _⟩ => rfl
  have i2 : idx_main_v77 (idx_main_v78 (ix4 b h d e)) = ix5 b h 0 d e := funext fun a => Fin.ext (by
    match a with
    | ⟨0, _⟩ => simp [idx_main_v77, idx_main_v78, ix4, ix5] <;> omega
    | ⟨1, _⟩ => simp [idx_main_v77, idx_main_v78, ix4, ix5] <;> omega
    | ⟨2, _⟩ => simp [idx_main_v77, idx_main_v78, ix4, ix5] <;> omega
    | ⟨3, _⟩ => simp [idx_main_v77, idx_main_v78, ix4, ix5] <;> omega
    | ⟨4, _⟩ => simp [idx_main_v77, idx_main_v78, ix4, ix5] <;> omega)
  rw [val_main_v79_apply, val_main_v76_apply, val_main_v75_apply, i1, stage74, stage34 x1 x2, val_main_v78_apply, val_main_v77_apply, i2, stage70, stF]
  rfl

/-- The state before chunk 2. -/
theorem stage84 (d : Fin 64) (e : Fin 128) : val_main_v84 (F := Ideal) x1 x2 x4 x5 x6 (ix4 b h d e) = stF (lg x6 h 0) (fun j => ckeys b h x4 j d) (fun j => cvals b h x5 j e) (fun j => keys b h x1 j d) (fun j => vals b h x2 j e) 2 := by
  have i1 : idx_main_v80 (ix4 b h d e) = ix4 0 h 0 0 := funext fun a => by match a with | ⟨0, _⟩ => rfl | ⟨1, _⟩ => rfl | ⟨2, _⟩ => rfl | ⟨3, _⟩ => rfl
  have i2 : idx_main_v82 (idx_main_v83 (ix4 b h d e)) = ix5 b h 1 d e := funext fun a => Fin.ext (by
    match a with
    | ⟨0, _⟩ => simp [idx_main_v82, idx_main_v83, ix4, ix5] <;> omega
    | ⟨1, _⟩ => simp [idx_main_v82, idx_main_v83, ix4, ix5] <;> omega
    | ⟨2, _⟩ => simp [idx_main_v82, idx_main_v83, ix4, ix5] <;> omega
    | ⟨3, _⟩ => simp [idx_main_v82, idx_main_v83, ix4, ix5] <;> omega
    | ⟨4, _⟩ => simp [idx_main_v82, idx_main_v83, ix4, ix5] <;> omega)
  rw [val_main_v84_apply, val_main_v81_apply, val_main_v80_apply, i1, stage74, stage79, val_main_v83_apply, val_main_v82_apply, i2, stage70, stF]
  rfl

/-- The state before chunk 3. -/
theorem stage89 (d : Fin 64) (e : Fin 128) : val_main_v89 (F := Ideal) x1 x2 x4 x5 x6 (ix4 b h d e) = stF (lg x6 h 0) (fun j => ckeys b h x4 j d) (fun j => cvals b h x5 j e) (fun j => keys b h x1 j d) (fun j => vals b h x2 j e) 3 := by
  have i1 : idx_main_v85 (ix4 b h d e) = ix4 0 h 0 0 := funext fun a => by match a with | ⟨0, _⟩ => rfl | ⟨1, _⟩ => rfl | ⟨2, _⟩ => rfl | ⟨3, _⟩ => rfl
  have i2 : idx_main_v87 (idx_main_v88 (ix4 b h d e)) = ix5 b h 2 d e := funext fun a => Fin.ext (by
    match a with
    | ⟨0, _⟩ => simp [idx_main_v87, idx_main_v88, ix4, ix5] <;> omega
    | ⟨1, _⟩ => simp [idx_main_v87, idx_main_v88, ix4, ix5] <;> omega
    | ⟨2, _⟩ => simp [idx_main_v87, idx_main_v88, ix4, ix5] <;> omega
    | ⟨3, _⟩ => simp [idx_main_v87, idx_main_v88, ix4, ix5] <;> omega
    | ⟨4, _⟩ => simp [idx_main_v87, idx_main_v88, ix4, ix5] <;> omega)
  rw [val_main_v89_apply, val_main_v86_apply, val_main_v85_apply, i1, stage74, stage84, val_main_v88_apply, val_main_v87_apply, i2, stage70, stF]
  rfl

/-- The state before chunk 4. -/
theorem stage94 (d : Fin 64) (e : Fin 128) : val_main_v94 (F := Ideal) x1 x2 x4 x5 x6 (ix4 b h d e) = stF (lg x6 h 0) (fun j => ckeys b h x4 j d) (fun j => cvals b h x5 j e) (fun j => keys b h x1 j d) (fun j => vals b h x2 j e) 4 := by
  have i1 : idx_main_v90 (ix4 b h d e) = ix4 0 h 0 0 := funext fun a => by match a with | ⟨0, _⟩ => rfl | ⟨1, _⟩ => rfl | ⟨2, _⟩ => rfl | ⟨3, _⟩ => rfl
  have i2 : idx_main_v92 (idx_main_v93 (ix4 b h d e)) = ix5 b h 3 d e := funext fun a => Fin.ext (by
    match a with
    | ⟨0, _⟩ => simp [idx_main_v92, idx_main_v93, ix4, ix5] <;> omega
    | ⟨1, _⟩ => simp [idx_main_v92, idx_main_v93, ix4, ix5] <;> omega
    | ⟨2, _⟩ => simp [idx_main_v92, idx_main_v93, ix4, ix5] <;> omega
    | ⟨3, _⟩ => simp [idx_main_v92, idx_main_v93, ix4, ix5] <;> omega
    | ⟨4, _⟩ => simp [idx_main_v92, idx_main_v93, ix4, ix5] <;> omega)
  rw [val_main_v94_apply, val_main_v91_apply, val_main_v90_apply, i1, stage74, stage89, val_main_v93_apply, val_main_v92_apply, i2, stage70, stF]
  rfl

/-- The state before chunk 5. -/
theorem stage99 (d : Fin 64) (e : Fin 128) : val_main_v99 (F := Ideal) x1 x2 x4 x5 x6 (ix4 b h d e) = stF (lg x6 h 0) (fun j => ckeys b h x4 j d) (fun j => cvals b h x5 j e) (fun j => keys b h x1 j d) (fun j => vals b h x2 j e) 5 := by
  have i1 : idx_main_v95 (ix4 b h d e) = ix4 0 h 0 0 := funext fun a => by match a with | ⟨0, _⟩ => rfl | ⟨1, _⟩ => rfl | ⟨2, _⟩ => rfl | ⟨3, _⟩ => rfl
  have i2 : idx_main_v97 (idx_main_v98 (ix4 b h d e)) = ix5 b h 4 d e := funext fun a => Fin.ext (by
    match a with
    | ⟨0, _⟩ => simp [idx_main_v97, idx_main_v98, ix4, ix5] <;> omega
    | ⟨1, _⟩ => simp [idx_main_v97, idx_main_v98, ix4, ix5] <;> omega
    | ⟨2, _⟩ => simp [idx_main_v97, idx_main_v98, ix4, ix5] <;> omega
    | ⟨3, _⟩ => simp [idx_main_v97, idx_main_v98, ix4, ix5] <;> omega
    | ⟨4, _⟩ => simp [idx_main_v97, idx_main_v98, ix4, ix5] <;> omega)
  rw [val_main_v99_apply, val_main_v96_apply, val_main_v95_apply, i1, stage74, stage94, val_main_v98_apply, val_main_v97_apply, i2, stage70, stF]
  rfl

/-- The state before chunk 6. -/
theorem stage104 (d : Fin 64) (e : Fin 128) : val_main_v104 (F := Ideal) x1 x2 x4 x5 x6 (ix4 b h d e) = stF (lg x6 h 0) (fun j => ckeys b h x4 j d) (fun j => cvals b h x5 j e) (fun j => keys b h x1 j d) (fun j => vals b h x2 j e) 6 := by
  have i1 : idx_main_v100 (ix4 b h d e) = ix4 0 h 0 0 := funext fun a => by match a with | ⟨0, _⟩ => rfl | ⟨1, _⟩ => rfl | ⟨2, _⟩ => rfl | ⟨3, _⟩ => rfl
  have i2 : idx_main_v102 (idx_main_v103 (ix4 b h d e)) = ix5 b h 5 d e := funext fun a => Fin.ext (by
    match a with
    | ⟨0, _⟩ => simp [idx_main_v102, idx_main_v103, ix4, ix5] <;> omega
    | ⟨1, _⟩ => simp [idx_main_v102, idx_main_v103, ix4, ix5] <;> omega
    | ⟨2, _⟩ => simp [idx_main_v102, idx_main_v103, ix4, ix5] <;> omega
    | ⟨3, _⟩ => simp [idx_main_v102, idx_main_v103, ix4, ix5] <;> omega
    | ⟨4, _⟩ => simp [idx_main_v102, idx_main_v103, ix4, ix5] <;> omega)
  rw [val_main_v104_apply, val_main_v101_apply, val_main_v100_apply, i1, stage74, stage99, val_main_v103_apply, val_main_v102_apply, i2, stage70, stF]
  rfl

/-- The state before chunk 7. -/
theorem stage109 (d : Fin 64) (e : Fin 128) : val_main_v109 (F := Ideal) x1 x2 x4 x5 x6 (ix4 b h d e) = stF (lg x6 h 0) (fun j => ckeys b h x4 j d) (fun j => cvals b h x5 j e) (fun j => keys b h x1 j d) (fun j => vals b h x2 j e) 7 := by
  have i1 : idx_main_v105 (ix4 b h d e) = ix4 0 h 0 0 := funext fun a => by match a with | ⟨0, _⟩ => rfl | ⟨1, _⟩ => rfl | ⟨2, _⟩ => rfl | ⟨3, _⟩ => rfl
  have i2 : idx_main_v107 (idx_main_v108 (ix4 b h d e)) = ix5 b h 6 d e := funext fun a => Fin.ext (by
    match a with
    | ⟨0, _⟩ => simp [idx_main_v107, idx_main_v108, ix4, ix5] <;> omega
    | ⟨1, _⟩ => simp [idx_main_v107, idx_main_v108, ix4, ix5] <;> omega
    | ⟨2, _⟩ => simp [idx_main_v107, idx_main_v108, ix4, ix5] <;> omega
    | ⟨3, _⟩ => simp [idx_main_v107, idx_main_v108, ix4, ix5] <;> omega
    | ⟨4, _⟩ => simp [idx_main_v107, idx_main_v108, ix4, ix5] <;> omega)
  rw [val_main_v109_apply, val_main_v106_apply, val_main_v105_apply, i1, stage74, stage104, val_main_v108_apply, val_main_v107_apply, i2, stage70, stF]
  rfl

/-- The state before chunk 8. -/
theorem stage114 (d : Fin 64) (e : Fin 128) : val_main_v114 (F := Ideal) x1 x2 x4 x5 x6 (ix4 b h d e) = stF (lg x6 h 0) (fun j => ckeys b h x4 j d) (fun j => cvals b h x5 j e) (fun j => keys b h x1 j d) (fun j => vals b h x2 j e) 8 := by
  have i1 : idx_main_v110 (ix4 b h d e) = ix4 0 h 0 0 := funext fun a => by match a with | ⟨0, _⟩ => rfl | ⟨1, _⟩ => rfl | ⟨2, _⟩ => rfl | ⟨3, _⟩ => rfl
  have i2 : idx_main_v112 (idx_main_v113 (ix4 b h d e)) = ix5 b h 7 d e := funext fun a => Fin.ext (by
    match a with
    | ⟨0, _⟩ => simp [idx_main_v112, idx_main_v113, ix4, ix5] <;> omega
    | ⟨1, _⟩ => simp [idx_main_v112, idx_main_v113, ix4, ix5] <;> omega
    | ⟨2, _⟩ => simp [idx_main_v112, idx_main_v113, ix4, ix5] <;> omega
    | ⟨3, _⟩ => simp [idx_main_v112, idx_main_v113, ix4, ix5] <;> omega
    | ⟨4, _⟩ => simp [idx_main_v112, idx_main_v113, ix4, ix5] <;> omega)
  rw [val_main_v114_apply, val_main_v111_apply, val_main_v110_apply, i1, stage74, stage109, val_main_v113_apply, val_main_v112_apply, i2, stage70, stF]
  rfl

/-- The state before chunk 9. -/
theorem stage119 (d : Fin 64) (e : Fin 128) : val_main_v119 (F := Ideal) x1 x2 x4 x5 x6 (ix4 b h d e) = stF (lg x6 h 0) (fun j => ckeys b h x4 j d) (fun j => cvals b h x5 j e) (fun j => keys b h x1 j d) (fun j => vals b h x2 j e) 9 := by
  have i1 : idx_main_v115 (ix4 b h d e) = ix4 0 h 0 0 := funext fun a => by match a with | ⟨0, _⟩ => rfl | ⟨1, _⟩ => rfl | ⟨2, _⟩ => rfl | ⟨3, _⟩ => rfl
  have i2 : idx_main_v117 (idx_main_v118 (ix4 b h d e)) = ix5 b h 8 d e := funext fun a => Fin.ext (by
    match a with
    | ⟨0, _⟩ => simp [idx_main_v117, idx_main_v118, ix4, ix5] <;> omega
    | ⟨1, _⟩ => simp [idx_main_v117, idx_main_v118, ix4, ix5] <;> omega
    | ⟨2, _⟩ => simp [idx_main_v117, idx_main_v118, ix4, ix5] <;> omega
    | ⟨3, _⟩ => simp [idx_main_v117, idx_main_v118, ix4, ix5] <;> omega
    | ⟨4, _⟩ => simp [idx_main_v117, idx_main_v118, ix4, ix5] <;> omega)
  rw [val_main_v119_apply, val_main_v116_apply, val_main_v115_apply, i1, stage74, stage114, val_main_v118_apply, val_main_v117_apply, i2, stage70, stF]
  rfl

/-- The state before chunk 10. -/
theorem stage124 (d : Fin 64) (e : Fin 128) : val_main_v124 (F := Ideal) x1 x2 x4 x5 x6 (ix4 b h d e) = stF (lg x6 h 0) (fun j => ckeys b h x4 j d) (fun j => cvals b h x5 j e) (fun j => keys b h x1 j d) (fun j => vals b h x2 j e) 10 := by
  have i1 : idx_main_v120 (ix4 b h d e) = ix4 0 h 0 0 := funext fun a => by match a with | ⟨0, _⟩ => rfl | ⟨1, _⟩ => rfl | ⟨2, _⟩ => rfl | ⟨3, _⟩ => rfl
  have i2 : idx_main_v122 (idx_main_v123 (ix4 b h d e)) = ix5 b h 9 d e := funext fun a => Fin.ext (by
    match a with
    | ⟨0, _⟩ => simp [idx_main_v122, idx_main_v123, ix4, ix5] <;> omega
    | ⟨1, _⟩ => simp [idx_main_v122, idx_main_v123, ix4, ix5] <;> omega
    | ⟨2, _⟩ => simp [idx_main_v122, idx_main_v123, ix4, ix5] <;> omega
    | ⟨3, _⟩ => simp [idx_main_v122, idx_main_v123, ix4, ix5] <;> omega
    | ⟨4, _⟩ => simp [idx_main_v122, idx_main_v123, ix4, ix5] <;> omega)
  rw [val_main_v124_apply, val_main_v121_apply, val_main_v120_apply, i1, stage74, stage119, val_main_v123_apply, val_main_v122_apply, i2, stage70, stF]
  rfl

/-- The state before chunk 11. -/
theorem stage129 (d : Fin 64) (e : Fin 128) : val_main_v129 (F := Ideal) x1 x2 x4 x5 x6 (ix4 b h d e) = stF (lg x6 h 0) (fun j => ckeys b h x4 j d) (fun j => cvals b h x5 j e) (fun j => keys b h x1 j d) (fun j => vals b h x2 j e) 11 := by
  have i1 : idx_main_v125 (ix4 b h d e) = ix4 0 h 0 0 := funext fun a => by match a with | ⟨0, _⟩ => rfl | ⟨1, _⟩ => rfl | ⟨2, _⟩ => rfl | ⟨3, _⟩ => rfl
  have i2 : idx_main_v127 (idx_main_v128 (ix4 b h d e)) = ix5 b h 10 d e := funext fun a => Fin.ext (by
    match a with
    | ⟨0, _⟩ => simp [idx_main_v127, idx_main_v128, ix4, ix5] <;> omega
    | ⟨1, _⟩ => simp [idx_main_v127, idx_main_v128, ix4, ix5] <;> omega
    | ⟨2, _⟩ => simp [idx_main_v127, idx_main_v128, ix4, ix5] <;> omega
    | ⟨3, _⟩ => simp [idx_main_v127, idx_main_v128, ix4, ix5] <;> omega
    | ⟨4, _⟩ => simp [idx_main_v127, idx_main_v128, ix4, ix5] <;> omega)
  rw [val_main_v129_apply, val_main_v126_apply, val_main_v125_apply, i1, stage74, stage124, val_main_v128_apply, val_main_v127_apply, i2, stage70, stF]
  rfl

/-- The state before chunk 12. -/
theorem stage134 (d : Fin 64) (e : Fin 128) : val_main_v134 (F := Ideal) x1 x2 x4 x5 x6 (ix4 b h d e) = stF (lg x6 h 0) (fun j => ckeys b h x4 j d) (fun j => cvals b h x5 j e) (fun j => keys b h x1 j d) (fun j => vals b h x2 j e) 12 := by
  have i1 : idx_main_v130 (ix4 b h d e) = ix4 0 h 0 0 := funext fun a => by match a with | ⟨0, _⟩ => rfl | ⟨1, _⟩ => rfl | ⟨2, _⟩ => rfl | ⟨3, _⟩ => rfl
  have i2 : idx_main_v132 (idx_main_v133 (ix4 b h d e)) = ix5 b h 11 d e := funext fun a => Fin.ext (by
    match a with
    | ⟨0, _⟩ => simp [idx_main_v132, idx_main_v133, ix4, ix5] <;> omega
    | ⟨1, _⟩ => simp [idx_main_v132, idx_main_v133, ix4, ix5] <;> omega
    | ⟨2, _⟩ => simp [idx_main_v132, idx_main_v133, ix4, ix5] <;> omega
    | ⟨3, _⟩ => simp [idx_main_v132, idx_main_v133, ix4, ix5] <;> omega
    | ⟨4, _⟩ => simp [idx_main_v132, idx_main_v133, ix4, ix5] <;> omega)
  rw [val_main_v134_apply, val_main_v131_apply, val_main_v130_apply, i1, stage74, stage129, val_main_v133_apply, val_main_v132_apply, i2, stage70, stF]
  rfl

/-- The state before chunk 13. -/
theorem stage139 (d : Fin 64) (e : Fin 128) : val_main_v139 (F := Ideal) x1 x2 x4 x5 x6 (ix4 b h d e) = stF (lg x6 h 0) (fun j => ckeys b h x4 j d) (fun j => cvals b h x5 j e) (fun j => keys b h x1 j d) (fun j => vals b h x2 j e) 13 := by
  have i1 : idx_main_v135 (ix4 b h d e) = ix4 0 h 0 0 := funext fun a => by match a with | ⟨0, _⟩ => rfl | ⟨1, _⟩ => rfl | ⟨2, _⟩ => rfl | ⟨3, _⟩ => rfl
  have i2 : idx_main_v137 (idx_main_v138 (ix4 b h d e)) = ix5 b h 12 d e := funext fun a => Fin.ext (by
    match a with
    | ⟨0, _⟩ => simp [idx_main_v137, idx_main_v138, ix4, ix5] <;> omega
    | ⟨1, _⟩ => simp [idx_main_v137, idx_main_v138, ix4, ix5] <;> omega
    | ⟨2, _⟩ => simp [idx_main_v137, idx_main_v138, ix4, ix5] <;> omega
    | ⟨3, _⟩ => simp [idx_main_v137, idx_main_v138, ix4, ix5] <;> omega
    | ⟨4, _⟩ => simp [idx_main_v137, idx_main_v138, ix4, ix5] <;> omega)
  rw [val_main_v139_apply, val_main_v136_apply, val_main_v135_apply, i1, stage74, stage134, val_main_v138_apply, val_main_v137_apply, i2, stage70, stF]
  rfl

/-- The state before chunk 14. -/
theorem stage144 (d : Fin 64) (e : Fin 128) : val_main_v144 (F := Ideal) x1 x2 x4 x5 x6 (ix4 b h d e) = stF (lg x6 h 0) (fun j => ckeys b h x4 j d) (fun j => cvals b h x5 j e) (fun j => keys b h x1 j d) (fun j => vals b h x2 j e) 14 := by
  have i1 : idx_main_v140 (ix4 b h d e) = ix4 0 h 0 0 := funext fun a => by match a with | ⟨0, _⟩ => rfl | ⟨1, _⟩ => rfl | ⟨2, _⟩ => rfl | ⟨3, _⟩ => rfl
  have i2 : idx_main_v142 (idx_main_v143 (ix4 b h d e)) = ix5 b h 13 d e := funext fun a => Fin.ext (by
    match a with
    | ⟨0, _⟩ => simp [idx_main_v142, idx_main_v143, ix4, ix5] <;> omega
    | ⟨1, _⟩ => simp [idx_main_v142, idx_main_v143, ix4, ix5] <;> omega
    | ⟨2, _⟩ => simp [idx_main_v142, idx_main_v143, ix4, ix5] <;> omega
    | ⟨3, _⟩ => simp [idx_main_v142, idx_main_v143, ix4, ix5] <;> omega
    | ⟨4, _⟩ => simp [idx_main_v142, idx_main_v143, ix4, ix5] <;> omega)
  rw [val_main_v144_apply, val_main_v141_apply, val_main_v140_apply, i1, stage74, stage139, val_main_v143_apply, val_main_v142_apply, i2, stage70, stF]
  rfl

/-- The state before chunk 15. -/
theorem stage149 (d : Fin 64) (e : Fin 128) : val_main_v149 (F := Ideal) x1 x2 x4 x5 x6 (ix4 b h d e) = stF (lg x6 h 0) (fun j => ckeys b h x4 j d) (fun j => cvals b h x5 j e) (fun j => keys b h x1 j d) (fun j => vals b h x2 j e) 15 := by
  have i1 : idx_main_v145 (ix4 b h d e) = ix4 0 h 0 0 := funext fun a => by match a with | ⟨0, _⟩ => rfl | ⟨1, _⟩ => rfl | ⟨2, _⟩ => rfl | ⟨3, _⟩ => rfl
  have i2 : idx_main_v147 (idx_main_v148 (ix4 b h d e)) = ix5 b h 14 d e := funext fun a => Fin.ext (by
    match a with
    | ⟨0, _⟩ => simp [idx_main_v147, idx_main_v148, ix4, ix5] <;> omega
    | ⟨1, _⟩ => simp [idx_main_v147, idx_main_v148, ix4, ix5] <;> omega
    | ⟨2, _⟩ => simp [idx_main_v147, idx_main_v148, ix4, ix5] <;> omega
    | ⟨3, _⟩ => simp [idx_main_v147, idx_main_v148, ix4, ix5] <;> omega
    | ⟨4, _⟩ => simp [idx_main_v147, idx_main_v148, ix4, ix5] <;> omega)
  rw [val_main_v149_apply, val_main_v146_apply, val_main_v145_apply, i1, stage74, stage144, val_main_v148_apply, val_main_v147_apply, i2, stage70, stF]
  rfl

/-- The states, by chunk. -/
theorem stage166 (n : Fin 16) (d : Fin 64) (e : Fin 128) : val_main_v166 (F := Ideal) x1 x2 x4 x5 x6 (ix5 b h n d e) = stF (lg x6 h 0) (fun j => ckeys b h x4 j d) (fun j => cvals b h x5 j e) (fun j => keys b h x1 j d) (fun j => vals b h x2 j e) n.val := by
  have e0 : ∀ y : S8x4x1x64x128.Idx, (y 0).val = b.val → (y 1).val = h.val → (y 3).val = d.val → (y 4).val = e.val →
      val_main_v150 (F := Ideal) x4 x5 x6 y = stF (lg x6 h 0) (fun j => ckeys b h x4 j d) (fun j => cvals b h x5 j e) (fun j => keys b h x1 j d) (fun j => vals b h x2 j e) 0 := fun y h0 h1 h3 h4 => by
    rw [val_main_v150_apply, show idx_main_v150 y = ix4 b h d e from funext fun a => Fin.ext (by match a with | ⟨0, _⟩ => exact h0 | ⟨1, _⟩ => exact h1 | ⟨2, _⟩ => exact h3 | ⟨3, _⟩ => exact h4), stage34 x1 x2]
  have e1 : ∀ y : S8x4x1x64x128.Idx, (y 0).val = b.val → (y 1).val = h.val → (y 3).val = d.val → (y 4).val = e.val →
      val_main_v151 (F := Ideal) x1 x2 x4 x5 x6 y = stF (lg x6 h 0) (fun j => ckeys b h x4 j d) (fun j => cvals b h x5 j e) (fun j => keys b h x1 j d) (fun j => vals b h x2 j e) 1 := fun y h0 h1 h3 h4 => by
    rw [val_main_v151_apply, show idx_main_v151 y = ix4 b h d e from funext fun a => Fin.ext (by match a with | ⟨0, _⟩ => exact h0 | ⟨1, _⟩ => exact h1 | ⟨2, _⟩ => exact h3 | ⟨3, _⟩ => exact h4), stage79]
  have e2 : ∀ y : S8x4x1x64x128.Idx, (y 0).val = b.val → (y 1).val = h.val → (y 3).val = d.val → (y 4).val = e.val →
      val_main_v152 (F := Ideal) x1 x2 x4 x5 x6 y = stF (lg x6 h 0) (fun j => ckeys b h x4 j d) (fun j => cvals b h x5 j e) (fun j => keys b h x1 j d) (fun j => vals b h x2 j e) 2 := fun y h0 h1 h3 h4 => by
    rw [val_main_v152_apply, show idx_main_v152 y = ix4 b h d e from funext fun a => Fin.ext (by match a with | ⟨0, _⟩ => exact h0 | ⟨1, _⟩ => exact h1 | ⟨2, _⟩ => exact h3 | ⟨3, _⟩ => exact h4), stage84]
  have e3 : ∀ y : S8x4x1x64x128.Idx, (y 0).val = b.val → (y 1).val = h.val → (y 3).val = d.val → (y 4).val = e.val →
      val_main_v153 (F := Ideal) x1 x2 x4 x5 x6 y = stF (lg x6 h 0) (fun j => ckeys b h x4 j d) (fun j => cvals b h x5 j e) (fun j => keys b h x1 j d) (fun j => vals b h x2 j e) 3 := fun y h0 h1 h3 h4 => by
    rw [val_main_v153_apply, show idx_main_v153 y = ix4 b h d e from funext fun a => Fin.ext (by match a with | ⟨0, _⟩ => exact h0 | ⟨1, _⟩ => exact h1 | ⟨2, _⟩ => exact h3 | ⟨3, _⟩ => exact h4), stage89]
  have e4 : ∀ y : S8x4x1x64x128.Idx, (y 0).val = b.val → (y 1).val = h.val → (y 3).val = d.val → (y 4).val = e.val →
      val_main_v154 (F := Ideal) x1 x2 x4 x5 x6 y = stF (lg x6 h 0) (fun j => ckeys b h x4 j d) (fun j => cvals b h x5 j e) (fun j => keys b h x1 j d) (fun j => vals b h x2 j e) 4 := fun y h0 h1 h3 h4 => by
    rw [val_main_v154_apply, show idx_main_v154 y = ix4 b h d e from funext fun a => Fin.ext (by match a with | ⟨0, _⟩ => exact h0 | ⟨1, _⟩ => exact h1 | ⟨2, _⟩ => exact h3 | ⟨3, _⟩ => exact h4), stage94]
  have e5 : ∀ y : S8x4x1x64x128.Idx, (y 0).val = b.val → (y 1).val = h.val → (y 3).val = d.val → (y 4).val = e.val →
      val_main_v155 (F := Ideal) x1 x2 x4 x5 x6 y = stF (lg x6 h 0) (fun j => ckeys b h x4 j d) (fun j => cvals b h x5 j e) (fun j => keys b h x1 j d) (fun j => vals b h x2 j e) 5 := fun y h0 h1 h3 h4 => by
    rw [val_main_v155_apply, show idx_main_v155 y = ix4 b h d e from funext fun a => Fin.ext (by match a with | ⟨0, _⟩ => exact h0 | ⟨1, _⟩ => exact h1 | ⟨2, _⟩ => exact h3 | ⟨3, _⟩ => exact h4), stage99]
  have e6 : ∀ y : S8x4x1x64x128.Idx, (y 0).val = b.val → (y 1).val = h.val → (y 3).val = d.val → (y 4).val = e.val →
      val_main_v156 (F := Ideal) x1 x2 x4 x5 x6 y = stF (lg x6 h 0) (fun j => ckeys b h x4 j d) (fun j => cvals b h x5 j e) (fun j => keys b h x1 j d) (fun j => vals b h x2 j e) 6 := fun y h0 h1 h3 h4 => by
    rw [val_main_v156_apply, show idx_main_v156 y = ix4 b h d e from funext fun a => Fin.ext (by match a with | ⟨0, _⟩ => exact h0 | ⟨1, _⟩ => exact h1 | ⟨2, _⟩ => exact h3 | ⟨3, _⟩ => exact h4), stage104]
  have e7 : ∀ y : S8x4x1x64x128.Idx, (y 0).val = b.val → (y 1).val = h.val → (y 3).val = d.val → (y 4).val = e.val →
      val_main_v157 (F := Ideal) x1 x2 x4 x5 x6 y = stF (lg x6 h 0) (fun j => ckeys b h x4 j d) (fun j => cvals b h x5 j e) (fun j => keys b h x1 j d) (fun j => vals b h x2 j e) 7 := fun y h0 h1 h3 h4 => by
    rw [val_main_v157_apply, show idx_main_v157 y = ix4 b h d e from funext fun a => Fin.ext (by match a with | ⟨0, _⟩ => exact h0 | ⟨1, _⟩ => exact h1 | ⟨2, _⟩ => exact h3 | ⟨3, _⟩ => exact h4), stage109]
  have e8 : ∀ y : S8x4x1x64x128.Idx, (y 0).val = b.val → (y 1).val = h.val → (y 3).val = d.val → (y 4).val = e.val →
      val_main_v158 (F := Ideal) x1 x2 x4 x5 x6 y = stF (lg x6 h 0) (fun j => ckeys b h x4 j d) (fun j => cvals b h x5 j e) (fun j => keys b h x1 j d) (fun j => vals b h x2 j e) 8 := fun y h0 h1 h3 h4 => by
    rw [val_main_v158_apply, show idx_main_v158 y = ix4 b h d e from funext fun a => Fin.ext (by match a with | ⟨0, _⟩ => exact h0 | ⟨1, _⟩ => exact h1 | ⟨2, _⟩ => exact h3 | ⟨3, _⟩ => exact h4), stage114]
  have e9 : ∀ y : S8x4x1x64x128.Idx, (y 0).val = b.val → (y 1).val = h.val → (y 3).val = d.val → (y 4).val = e.val →
      val_main_v159 (F := Ideal) x1 x2 x4 x5 x6 y = stF (lg x6 h 0) (fun j => ckeys b h x4 j d) (fun j => cvals b h x5 j e) (fun j => keys b h x1 j d) (fun j => vals b h x2 j e) 9 := fun y h0 h1 h3 h4 => by
    rw [val_main_v159_apply, show idx_main_v159 y = ix4 b h d e from funext fun a => Fin.ext (by match a with | ⟨0, _⟩ => exact h0 | ⟨1, _⟩ => exact h1 | ⟨2, _⟩ => exact h3 | ⟨3, _⟩ => exact h4), stage119]
  have e10 : ∀ y : S8x4x1x64x128.Idx, (y 0).val = b.val → (y 1).val = h.val → (y 3).val = d.val → (y 4).val = e.val →
      val_main_v160 (F := Ideal) x1 x2 x4 x5 x6 y = stF (lg x6 h 0) (fun j => ckeys b h x4 j d) (fun j => cvals b h x5 j e) (fun j => keys b h x1 j d) (fun j => vals b h x2 j e) 10 := fun y h0 h1 h3 h4 => by
    rw [val_main_v160_apply, show idx_main_v160 y = ix4 b h d e from funext fun a => Fin.ext (by match a with | ⟨0, _⟩ => exact h0 | ⟨1, _⟩ => exact h1 | ⟨2, _⟩ => exact h3 | ⟨3, _⟩ => exact h4), stage124]
  have e11 : ∀ y : S8x4x1x64x128.Idx, (y 0).val = b.val → (y 1).val = h.val → (y 3).val = d.val → (y 4).val = e.val →
      val_main_v161 (F := Ideal) x1 x2 x4 x5 x6 y = stF (lg x6 h 0) (fun j => ckeys b h x4 j d) (fun j => cvals b h x5 j e) (fun j => keys b h x1 j d) (fun j => vals b h x2 j e) 11 := fun y h0 h1 h3 h4 => by
    rw [val_main_v161_apply, show idx_main_v161 y = ix4 b h d e from funext fun a => Fin.ext (by match a with | ⟨0, _⟩ => exact h0 | ⟨1, _⟩ => exact h1 | ⟨2, _⟩ => exact h3 | ⟨3, _⟩ => exact h4), stage129]
  have e12 : ∀ y : S8x4x1x64x128.Idx, (y 0).val = b.val → (y 1).val = h.val → (y 3).val = d.val → (y 4).val = e.val →
      val_main_v162 (F := Ideal) x1 x2 x4 x5 x6 y = stF (lg x6 h 0) (fun j => ckeys b h x4 j d) (fun j => cvals b h x5 j e) (fun j => keys b h x1 j d) (fun j => vals b h x2 j e) 12 := fun y h0 h1 h3 h4 => by
    rw [val_main_v162_apply, show idx_main_v162 y = ix4 b h d e from funext fun a => Fin.ext (by match a with | ⟨0, _⟩ => exact h0 | ⟨1, _⟩ => exact h1 | ⟨2, _⟩ => exact h3 | ⟨3, _⟩ => exact h4), stage134]
  have e13 : ∀ y : S8x4x1x64x128.Idx, (y 0).val = b.val → (y 1).val = h.val → (y 3).val = d.val → (y 4).val = e.val →
      val_main_v163 (F := Ideal) x1 x2 x4 x5 x6 y = stF (lg x6 h 0) (fun j => ckeys b h x4 j d) (fun j => cvals b h x5 j e) (fun j => keys b h x1 j d) (fun j => vals b h x2 j e) 13 := fun y h0 h1 h3 h4 => by
    rw [val_main_v163_apply, show idx_main_v163 y = ix4 b h d e from funext fun a => Fin.ext (by match a with | ⟨0, _⟩ => exact h0 | ⟨1, _⟩ => exact h1 | ⟨2, _⟩ => exact h3 | ⟨3, _⟩ => exact h4), stage139]
  have e14 : ∀ y : S8x4x1x64x128.Idx, (y 0).val = b.val → (y 1).val = h.val → (y 3).val = d.val → (y 4).val = e.val →
      val_main_v164 (F := Ideal) x1 x2 x4 x5 x6 y = stF (lg x6 h 0) (fun j => ckeys b h x4 j d) (fun j => cvals b h x5 j e) (fun j => keys b h x1 j d) (fun j => vals b h x2 j e) 14 := fun y h0 h1 h3 h4 => by
    rw [val_main_v164_apply, show idx_main_v164 y = ix4 b h d e from funext fun a => Fin.ext (by match a with | ⟨0, _⟩ => exact h0 | ⟨1, _⟩ => exact h1 | ⟨2, _⟩ => exact h3 | ⟨3, _⟩ => exact h4), stage144]
  have e15 : ∀ y : S8x4x1x64x128.Idx, (y 0).val = b.val → (y 1).val = h.val → (y 3).val = d.val → (y 4).val = e.val →
      val_main_v165 (F := Ideal) x1 x2 x4 x5 x6 y = stF (lg x6 h 0) (fun j => ckeys b h x4 j d) (fun j => cvals b h x5 j e) (fun j => keys b h x1 j d) (fun j => vals b h x2 j e) 15 := fun y h0 h1 h3 h4 => by
    rw [val_main_v165_apply, show idx_main_v165 y = ix4 b h d e from funext fun a => Fin.ext (by match a with | ⟨0, _⟩ => exact h0 | ⟨1, _⟩ => exact h1 | ⟨2, _⟩ => exact h3 | ⟨3, _⟩ => exact h4), stage149]
  unfold val_main_v166
  concat_tiles
  · exact (e0 i h0 h1 h3 h4).trans (congrArg (stF _ _ _ _ _) h.symm)
  · exact (e1 i h0 h1 h3 h4).trans (congrArg (stF _ _ _ _ _) h.symm)
  · exact (e2 i h0 h1 h3 h4).trans (congrArg (stF _ _ _ _ _) h.symm)
  · exact (e3 i h0 h1 h3 h4).trans (congrArg (stF _ _ _ _ _) h.symm)
  · exact (e4 i h0 h1 h3 h4).trans (congrArg (stF _ _ _ _ _) h.symm)
  · exact (e5 i h0 h1 h3 h4).trans (congrArg (stF _ _ _ _ _) h.symm)
  · exact (e6 i h0 h1 h3 h4).trans (congrArg (stF _ _ _ _ _) h.symm)
  · exact (e7 i h0 h1 h3 h4).trans (congrArg (stF _ _ _ _ _) h.symm)
  · exact (e8 i h0 h1 h3 h4).trans (congrArg (stF _ _ _ _ _) h.symm)
  · exact (e9 i h0 h1 h3 h4).trans (congrArg (stF _ _ _ _ _) h.symm)
  · exact (e10 i h0 h1 h3 h4).trans (congrArg (stF _ _ _ _ _) h.symm)
  · exact (e11 i h0 h1 h3 h4).trans (congrArg (stF _ _ _ _ _) h.symm)
  · exact (e12 i h0 h1 h3 h4).trans (congrArg (stF _ _ _ _ _) h.symm)
  · exact (e13 i h0 h1 h3 h4).trans (congrArg (stF _ _ _ _ _) h.symm)
  · exact (e14 i h0 h1 h3 h4).trans (congrArg (stF _ _ _ _ _) h.symm)
  · exact (e15 i h0 h1 h3 h4).trans (congrArg (stF _ _ _ _ _) h.symm)

/-- The queries' weights. -/
theorem stage174 (i : Fin 128) : val_main_v174 (F := Ideal) x6 (ix2 h i) = ew (i.val + 1) (lg x6 h 0) := by
  have i1 : idx_main_v170 (idx_main_v172 (ix2 h i)) = ix1 h := funext fun a => by match a with | ⟨0, _⟩ => rfl
  have i2 : idx_main_v169 (idx_main_v171 (ix2 h i)) = ix1 i := funext fun a => by match a with | ⟨0, _⟩ => rfl
  rw [val_main_v174_apply, val_main_v173_apply, val_main_v172_apply, val_main_v171_apply, val_main_v170_apply, val_main_v169_apply, i1, i2, decay18, val_main_v168_apply, val_main_v167_apply, stage38, val_main_cst_4_apply, Ideal.ofBits_def, Cert.InProj.nat1, ew,
    Nat.cast_add, Nat.cast_one, EReal.coe_add]
  rfl

/-- The part of a row's output from the state before its chunk. -/
theorem stage178 (n : Fin 16) (i e : Fin 128) : val_main_v178 (F := Ideal) x0 x1 x2 x4 x5 x6 (ix5 b h n i e)
    = ∑ d, keys b h x0 (row n i) d * ew (i.val + 1) (lg x6 h 0) * stF (lg x6 h 0) (fun j => ckeys b h x4 j d) (fun j => cvals b h x5 j e) (fun j => keys b h x1 j d) (fun j => vals b h x2 j e) n.val := by
  have il : ∀ k, lidx_main_v178 (ix5 b h n i e) k = ix5 b h n i k := fun k => funext fun a => by match a with | ⟨0, _⟩ => rfl | ⟨1, _⟩ => rfl | ⟨2, _⟩ => rfl | ⟨3, _⟩ => rfl | ⟨4, _⟩ => rfl
  have ir : ∀ k, ridx_main_v178 (ix5 b h n i e) k = ix5 b h n k e := fun k => funext fun a => by match a with | ⟨0, _⟩ => rfl | ⟨1, _⟩ => rfl | ⟨2, _⟩ => rfl | ⟨3, _⟩ => rfl | ⟨4, _⟩ => rfl
  have i1 : ∀ k, idx_main_v175 (idx_main_v176 (ix5 b h n i k)) = ix2 h i := fun k => funext fun a => by match a with | ⟨0, _⟩ => rfl | ⟨1, _⟩ => rfl
  rw [val_main_v178_apply]
  simp only [il, ir, val_main_v177_apply, val_main_v176_apply, val_main_v175_apply, i1, stage174, stage35, stage166]
  rfl

/-- A ROW'S RETENTION FORWARD. -/
theorem stage180 (t : Fin 2048) (e : Fin 128) : val_main_v180 (F := Ideal) x0 x1 x2 x4 x5 x6 (ix4 b h t e)
    = once (keys b h x0) (keys b h x1) (vals b h x2) (ckeys b h x4) (cvals b h x5) 0 (lg x6 h 0) (t.val / 128)
      ⟨t.val % 128, Nat.mod_lt _ (by decide)⟩ e := by
  have i1 : idx_main_v180 (ix4 b h t e) = ix5 b h ⟨t.val / 128, by omega⟩ ⟨t.val % 128, Nat.mod_lt _ (by decide)⟩ e := funext fun a => Fin.ext (by
    match a with
    | ⟨0, _⟩ => simp [idx_main_v180, ix4, ix5] <;> omega
    | ⟨1, _⟩ => simp [idx_main_v180, ix4, ix5] <;> omega
    | ⟨2, _⟩ => simp [idx_main_v180, ix4, ix5] <;> omega
    | ⟨3, _⟩ => simp [idx_main_v180, ix4, ix5] <;> omega
    | ⟨4, _⟩ => simp [idx_main_v180, ix4, ix5] <;> omega)
  rw [val_main_v180_apply, i1, val_main_v179_apply, stage58, stage178]
  rfl

end Stages

end Cert.Ret

end
-- ==== Proof.RetBack.lean ====
/- The reference's retention backward, each stage at an index. -/
module

public import proofs.«01_k».proof.Proof.RetHeads

@[expose] public section

noncomputable section

namespace Cert.Ret

open Idealize.ShloMosaic Cert.RetReferenceIdeal Cert.RetReferenceIdeal.Gen Cert.RetReferenceIdeal.Read

section Stages
variable (x0 x1 : Vec Ideal S8x2048x256 .bf16) (x2 : Vec Ideal S8x2048x512 .bf16) (x3 : Vec Ideal S8x2048x512 .f32)
  (x4 : Vec Ideal S8x256x256 .bf16) (x5 : Vec Ideal S8x256x512 .bf16) (x6 : Vec Ideal S1x2x4 .f32) (b : Fin 8) (h : Fin 4)

/-- The context's weights. -/
theorem stage199 (j : Fin 256) : val_main_v199 (F := Ideal) x6 (ix2 h j) = ew (255 - j.val) (lg x6 h 1) := by
  have i1 : idx_main_v195 (idx_main_v197 (ix2 h j)) = ix1 h := funext fun a => by match a with | ⟨0, _⟩ => rfl
  have i2 : idx_main_v194 (idx_main_v196 (ix2 h j)) = ix1 j := funext fun a => by match a with | ⟨0, _⟩ => rfl
  rw [val_main_v199_apply, val_main_v198_apply, val_main_v197_apply, val_main_v196_apply, val_main_v195_apply, val_main_v194_apply, i1, i2, decay189, val_main_v193_apply, val_main_v192_apply, val_main_v191_apply, val_main_v190_apply, val_main_c_5_apply]
  show Ideal.exp (FloatOps.sitofp (F := Ideal) FTy.f32 (IntOp.subi 255#32 (BitVec.ofNat 32 j.val)) * (lg x6 h 1)) = _
  rw [word255, word _ (by omega), ew]

/-- The state the context leaves. -/
theorem stage203 (d : Fin 64) (e : Fin 128) : val_main_v203 (F := Ideal) x4 x5 x6 (ix4 b h d e) = stF (lg x6 h 1) (fun j => ckeys b h x4 j.rev d) (fun j => cvals b h x5 j.rev e) (fun j => keys b h x1 j.rev d) (fun j => vals b h x2 j.rev e) 0 := by
  have il : ∀ k, lidx_main_v203 (ix4 b h d e) k = ix4 b h k d := fun k => funext fun a => by match a with | ⟨0, _⟩ => rfl | ⟨1, _⟩ => rfl | ⟨2, _⟩ => rfl | ⟨3, _⟩ => rfl
  have ir : ∀ k, ridx_main_v203 (ix4 b h d e) k = ix4 b h k e := fun k => funext fun a => by match a with | ⟨0, _⟩ => rfl | ⟨1, _⟩ => rfl | ⟨2, _⟩ => rfl | ⟨3, _⟩ => rfl
  have i1 : ∀ k, idx_main_v200 (idx_main_v201 (ix4 b h k d)) = ix2 h k := fun k => funext fun a => by match a with | ⟨0, _⟩ => rfl | ⟨1, _⟩ => rfl
  rw [val_main_v203_apply]
  simp only [il, ir, val_main_v202_apply, val_main_v201_apply, val_main_v200_apply, i1, stage199, head186, head187]
  rfl

/-- The queries, by chunk. -/
theorem stage204 (n : Fin 16) (i : Fin 128) (d : Fin 64) : val_main_v204 (F := Ideal) x0 (ix5 b h n i d) = keys b h x0 (row n i).rev d := by
  have i1 : idx_main_v204 (ix5 b h n i d) = ix4 b h (row n i) d := funext fun a => Fin.ext (by
    match a with
    | ⟨0, _⟩ => simp [idx_main_v204, ix4, ix5, row] <;> omega
    | ⟨1, _⟩ => simp [idx_main_v204, ix4, ix5, row] <;> omega
    | ⟨2, _⟩ => simp [idx_main_v204, ix4, ix5, row] <;> omega
    | ⟨3, _⟩ => simp [idx_main_v204, ix4, ix5, row] <;> omega)
  rw [val_main_v204_apply, i1, head181]

/-- The keys, by chunk. -/
theorem stage205 (n : Fin 16) (i : Fin 128) (d : Fin 64) : val_main_v205 (F := Ideal) x1 (ix5 b h n i d) = keys b h x1 (row n i).rev d := by
  have i1 : idx_main_v205 (ix5 b h n i d) = ix4 b h (row n i) d := funext fun a => Fin.ext (by
    match a with
    | ⟨0, _⟩ => simp [idx_main_v205, ix4, ix5, row] <;> omega
    | ⟨1, _⟩ => simp [idx_main_v205, ix4, ix5, row] <;> omega
    | ⟨2, _⟩ => simp [idx_main_v205, ix4, ix5, row] <;> omega
    | ⟨3, _⟩ => simp [idx_main_v205, ix4, ix5, row] <;> omega)
  rw [val_main_v205_apply, i1, head182]

/-- The values, by chunk. -/
theorem stage206 (n : Fin 16) (i : Fin 128) (e : Fin 128) : val_main_v206 (F := Ideal) x2 (ix5 b h n i e) = vals b h x2 (row n i).rev e := by
  have i1 : idx_main_v206 (ix5 b h n i e) = ix4 b h (row n i) e := funext fun a => Fin.ext (by
    match a with
    | ⟨0, _⟩ => simp [idx_main_v206, ix4, ix5, row] <;> omega
    | ⟨1, _⟩ => simp [idx_main_v206, ix4, ix5, row] <;> omega
    | ⟨2, _⟩ => simp [idx_main_v206, ix4, ix5, row] <;> omega
    | ⟨3, _⟩ => simp [idx_main_v206, ix4, ix5, row] <;> omega)
  rw [val_main_v206_apply, i1, head183]

/-- A row's number. -/
theorem stage207 (i : Fin 128) : val_main_v207 (F := Ideal) (ix1 i) = ((i.val : ℝ) : EReal) := word i.val (by omega)

/-- The distance between two rows. -/
theorem stage212 (i j : Fin 128) : val_main_v212 (F := Ideal) (ix2 i j) = (((i.val : ℝ) - (j.val : ℝ) : ℝ) : EReal) := by
  have i1 : idx_main_v208 (idx_main_v210 (ix2 i j)) = ix1 i := funext fun a => by match a with | ⟨0, _⟩ => rfl
  have i2 : idx_main_v209 (idx_main_v211 (ix2 i j)) = ix1 j := funext fun a => by match a with | ⟨0, _⟩ => rfl
  rw [val_main_v212_apply, val_main_v211_apply, val_main_v210_apply, val_main_v209_apply, val_main_v208_apply, i1, i2, stage207, stage207, EReal.coe_sub]
  rfl

/-- Which pairs of rows count. -/
theorem stage214 (i j : Fin 128) : val_main_v214 (F := Ideal) (ix2 i j) = if j.val + 1 ≤ i.val then 1#1 else 0#1 := by
  rw [val_main_v214_apply, stage212, val_main_v213_apply, val_main_cst_6_apply, Ideal.ofBits_def, zero32]
  by_cases c : j.val + 1 ≤ i.val
  · have c' : (0 : EReal) < (((i.val : ℝ) - (j.val : ℝ) : ℝ) : EReal) := EReal.coe_pos.mpr (sub_pos.mpr (Nat.cast_lt.mpr (by omega)))
    rw [if_pos c]
    exact congrArg BitVec.ofBool (decide_eq_true c')
  · have c' : ¬ (0 : EReal) < (((i.val : ℝ) - (j.val : ℝ) : ℝ) : EReal) := fun h => c (by
      have := Nat.cast_lt.mp (sub_pos.mp (EReal.coe_pos.mp h))
      omega)
    rw [if_neg c]
    exact congrArg BitVec.ofBool (decide_eq_false c')

/-- The decay between two rows of a chunk. -/
theorem stage222 (i j : Fin 128) : val_main_v222 (F := Ideal) x6 (ix3 h i j) = dec1 1 (lg x6 h 1) i j := by
  have i1 : idx_main_v217 (idx_main_v218 (ix3 h i j)) = ix2 i j := funext fun a => by match a with | ⟨0, _⟩ => rfl | ⟨1, _⟩ => rfl
  have i2 : idx_main_v215 (idx_main_v219 (ix3 h i j)) = ix1 h := funext fun a => by match a with | ⟨0, _⟩ => rfl
  have i3 : idx_main_call9_v1 (ix3 h i j) = ix2 i j := funext fun a => by match a with | ⟨0, _⟩ => rfl | ⟨1, _⟩ => rfl
  rw [val_main_v222_apply, val_main_call9_v1_apply, i3, stage214, val_main_v221_apply, val_main_v220_apply, val_main_v219_apply, val_main_v218_apply, val_main_v217_apply, val_main_v216_apply, val_main_v215_apply, i1, i2, stage214, stage212, decay185,
    val_main_call9_v2_apply, val_main_call9_v0_apply, val_main_cst_8_apply, Ideal.ofBits_def, zero32, dec1]
  by_cases c : j.val + 1 ≤ i.val
  · rw [if_pos c, if_pos c, ew, Nat.cast_sub (by omega)]
    rfl
  · rw [if_neg c, if_neg c]
    rfl

/-- A pair's score, decayed. -/
theorem stage226 (n : Fin 16) (i j : Fin 128) : val_main_v226 (F := Ideal) x0 x1 x6 (ix5 b h n i j)
    = (∑ d, keys b h x0 (row n i).rev d * keys b h x1 (row n j).rev d) * dec1 1 (lg x6 h 1) i j := by
  have il : ∀ k, lidx_main_v223 (ix5 b h n i j) k = ix5 b h n i k := fun k => funext fun a => by match a with | ⟨0, _⟩ => rfl | ⟨1, _⟩ => rfl | ⟨2, _⟩ => rfl | ⟨3, _⟩ => rfl | ⟨4, _⟩ => rfl
  have ir : ∀ k, ridx_main_v223 (ix5 b h n i j) k = ix5 b h n j k := fun k => funext fun a => by match a with | ⟨0, _⟩ => rfl | ⟨1, _⟩ => rfl | ⟨2, _⟩ => rfl | ⟨3, _⟩ => rfl | ⟨4, _⟩ => rfl
  have i1 : idx_main_v224 (idx_main_v225 (ix5 b h n i j)) = ix3 h i j := funext fun a => by match a with | ⟨0, _⟩ => rfl | ⟨1, _⟩ => rfl | ⟨2, _⟩ => rfl
  rw [val_main_v226_apply, val_main_v225_apply, val_main_v224_apply, i1, stage222, val_main_v223_apply]
  simp only [il, ir, stage204, stage205]
  rfl

/-- The part of a row's output from its own chunk. -/
theorem stage227 (n : Fin 16) (i e : Fin 128) : val_main_v227 (F := Ideal) x0 x1 x2 x6 (ix5 b h n i e)
    = ∑ j : Fin 128, (∑ d, keys b h x0 (row n i).rev d * keys b h x1 (row n j).rev d) * dec1 1 (lg x6 h 1) i j * vals b h x2 (row n j).rev e := by
  have il : ∀ k, lidx_main_v227 (ix5 b h n i e) k = ix5 b h n i k := fun k => funext fun a => by match a with | ⟨0, _⟩ => rfl | ⟨1, _⟩ => rfl | ⟨2, _⟩ => rfl | ⟨3, _⟩ => rfl | ⟨4, _⟩ => rfl
  have ir : ∀ k, ridx_main_v227 (ix5 b h n i e) k = ix5 b h n k e := fun k => funext fun a => by match a with | ⟨0, _⟩ => rfl | ⟨1, _⟩ => rfl | ⟨2, _⟩ => rfl | ⟨3, _⟩ => rfl | ⟨4, _⟩ => rfl
  rw [val_main_v227_apply]
  simp only [il, ir, stage226, stage206]

/-- The keys' weights. -/
theorem stage235 (j : Fin 128) : val_main_v235 (F := Ideal) x6 (ix2 h j) = ew (127 - j.val) (lg x6 h 1) := by
  have i1 : idx_main_v231 (idx_main_v233 (ix2 h j)) = ix1 h := funext fun a => by match a with | ⟨0, _⟩ => rfl
  have i2 : idx_main_v230 (idx_main_v232 (ix2 h j)) = ix1 j := funext fun a => by match a with | ⟨0, _⟩ => rfl
  rw [val_main_v235_apply, val_main_v234_apply, val_main_v233_apply, val_main_v232_apply, val_main_v231_apply, val_main_v230_apply, i1, i2, decay185, val_main_v229_apply, val_main_v228_apply, stage207, val_main_cst_9_apply, Ideal.ofBits_def, nat127, ew,
    Nat.cast_sub (by omega)]
  rfl

/-- What a chunk adds to the state. -/
theorem stage239 (n : Fin 16) (d : Fin 64) (e : Fin 128) : val_main_v239 (F := Ideal) x1 x2 x6 (ix5 b h n d e)
    = ∑ j : Fin 128, keys b h x1 (row n j).rev d * ew (127 - j.val) (lg x6 h 1) * vals b h x2 (row n j).rev e := by
  have il : ∀ k, lidx_main_v239 (ix5 b h n d e) k = ix5 b h n k d := fun k => funext fun a => by match a with | ⟨0, _⟩ => rfl | ⟨1, _⟩ => rfl | ⟨2, _⟩ => rfl | ⟨3, _⟩ => rfl | ⟨4, _⟩ => rfl
  have ir : ∀ k, ridx_main_v239 (ix5 b h n d e) k = ix5 b h n k e := fun k => funext fun a => by match a with | ⟨0, _⟩ => rfl | ⟨1, _⟩ => rfl | ⟨2, _⟩ => rfl | ⟨3, _⟩ => rfl | ⟨4, _⟩ => rfl
  have i1 : ∀ k, idx_main_v236 (idx_main_v237 (ix5 b h n k d)) = ix2 h k := fun k => funext fun a => by match a with | ⟨0, _⟩ => rfl | ⟨1, _⟩ => rfl
  rw [val_main_v239_apply]
  simp only [il, ir, val_main_v238_apply, val_main_v237_apply, val_main_v236_apply, i1, stage235, stage205, stage206]
  rfl

/-- A chunk's decay. -/
theorem stage243 : val_main_v243 (F := Ideal) x6 (ix4 0 h 0 0) = ew 128 (lg x6 h 1) := by
  have i1 : idx_main_v243 (ix4 0 h 0 0) = ix1 h := funext fun a => by match a with | ⟨0, _⟩ => rfl
  rw [val_main_v243_apply, i1, val_main_v242_apply, val_main_v241_apply, val_main_v240_apply, decay185, val_main_cst_10_apply, Ideal.ofBits_def, nat128, ew]
  rfl

/-- The state before chunk 1. -/
theorem stage248 (d : Fin 64) (e : Fin 128) : val_main_v248 (F := Ideal) x1 x2 x4 x5 x6 (ix4 b h d e) = stF (lg x6 h 1) (fun j => ckeys b h x4 j.rev d) (fun j => cvals b h x5 j.rev e) (fun j => keys b h x1 j.rev d) (fun j => vals b h x2 j.rev e) 1 := by
  have i1 : idx_main_v244 (ix4 b h d e) = ix4 0 h 0 0 := funext fun a => by match a with | ⟨0, _⟩ => rfl | ⟨1, _⟩ => rfl | ⟨2, _⟩ => rfl | ⟨3, _⟩ => rfl
  have i2 : idx_main_v246 (idx_main_v247 (ix4 b h d e)) = ix5 b h 0 d e := funext fun a => Fin.ext (by
    match a with
    | ⟨0, _⟩ => simp [idx_main_v246, idx_main_v247, ix4, ix5] <;> omega
    | ⟨1, _⟩ => simp [idx_main_v246, idx_main_v247, ix4, ix5] <;> omega
    | ⟨2, _⟩ => simp [idx_main_v246, idx_main_v247, ix4, ix5] <;> omega
    | ⟨3, _⟩ => simp [idx_main_v246, idx_main_v247, ix4, ix5] <;> omega
    | ⟨4, _⟩ => simp [idx_main_v246, idx_main_v247, ix4, ix5] <;> omega)
  rw [val_main_v248_apply, val_main_v245_apply, val_main_v244_apply, i1, stage243, stage203 x1 x2, val_main_v247_apply, val_main_v246_apply, i2, stage239, stF]
  rfl

/-- The state before chunk 2. -/
theorem stage253 (d : Fin 64) (e : Fin 128) : val_main_v253 (F := Ideal) x1 x2 x4 x5 x6 (ix4 b h d e) = stF (lg x6 h 1) (fun j => ckeys b h x4 j.rev d) (fun j => cvals b h x5 j.rev e) (fun j => keys b h x1 j.rev d) (fun j => vals b h x2 j.rev e) 2 := by
  have i1 : idx_main_v249 (ix4 b h d e) = ix4 0 h 0 0 := funext fun a => by match a with | ⟨0, _⟩ => rfl | ⟨1, _⟩ => rfl | ⟨2, _⟩ => rfl | ⟨3, _⟩ => rfl
  have i2 : idx_main_v251 (idx_main_v252 (ix4 b h d e)) = ix5 b h 1 d e := funext fun a => Fin.ext (by
    match a with
    | ⟨0, _⟩ => simp [idx_main_v251, idx_main_v252, ix4, ix5] <;> omega
    | ⟨1, _⟩ => simp [idx_main_v251, idx_main_v252, ix4, ix5] <;> omega
    | ⟨2, _⟩ => simp [idx_main_v251, idx_main_v252, ix4, ix5] <;> omega
    | ⟨3, _⟩ => simp [idx_main_v251, idx_main_v252, ix4, ix5] <;> omega
    | ⟨4, _⟩ => simp [idx_main_v251, idx_main_v252, ix4, ix5] <;> omega)
  rw [val_main_v253_apply, val_main_v250_apply, val_main_v249_apply, i1, stage243, stage248, val_main_v252_apply, val_main_v251_apply, i2, stage239, stF]
  rfl

/-- The state before chunk 3. -/
theorem stage258 (d : Fin 64) (e : Fin 128) : val_main_v258 (F := Ideal) x1 x2 x4 x5 x6 (ix4 b h d e) = stF (lg x6 h 1) (fun j => ckeys b h x4 j.rev d) (fun j => cvals b h x5 j.rev e) (fun j => keys b h x1 j.rev d) (fun j => vals b h x2 j.rev e) 3 := by
  have i1 : idx_main_v254 (ix4 b h d e) = ix4 0 h 0 0 := funext fun a => by match a with | ⟨0, _⟩ => rfl | ⟨1, _⟩ => rfl | ⟨2, _⟩ => rfl | ⟨3, _⟩ => rfl
  have i2 : idx_main_v256 (idx_main_v257 (ix4 b h d e)) = ix5 b h 2 d e := funext fun a => Fin.ext (by
    match a with
    | ⟨0, _⟩ => simp [idx_main_v256, idx_main_v257, ix4, ix5] <;> omega
    | ⟨1, _⟩ => simp [idx_main_v256, idx_main_v257, ix4, ix5] <;> omega
    | ⟨2, _⟩ => simp [idx_main_v256, idx_main_v257, ix4, ix5] <;> omega
    | ⟨3, _⟩ => simp [idx_main_v256, idx_main_v257, ix4, ix5] <;> omega
    | ⟨4, _⟩ => simp [idx_main_v256, idx_main_v257, ix4, ix5] <;> omega)
  rw [val_main_v258_apply, val_main_v255_apply, val_main_v254_apply, i1, stage243, stage253, val_main_v257_apply, val_main_v256_apply, i2, stage239, stF]
  rfl

/-- The state before chunk 4. -/
theorem stage263 (d : Fin 64) (e : Fin 128) : val_main_v263 (F := Ideal) x1 x2 x4 x5 x6 (ix4 b h d e) = stF (lg x6 h 1) (fun j => ckeys b h x4 j.rev d) (fun j => cvals b h x5 j.rev e) (fun j => keys b h x1 j.rev d) (fun j => vals b h x2 j.rev e) 4 := by
  have i1 : idx_main_v259 (ix4 b h d e) = ix4 0 h 0 0 := funext fun a => by match a with | ⟨0, _⟩ => rfl | ⟨1, _⟩ => rfl | ⟨2, _⟩ => rfl | ⟨3, _⟩ => rfl
  have i2 : idx_main_v261 (idx_main_v262 (ix4 b h d e)) = ix5 b h 3 d e := funext fun a => Fin.ext (by
    match a with
    | ⟨0, _⟩ => simp [idx_main_v261, idx_main_v262, ix4, ix5] <;> omega
    | ⟨1, _⟩ => simp [idx_main_v261, idx_main_v262, ix4, ix5] <;> omega
    | ⟨2, _⟩ => simp [idx_main_v261, idx_main_v262, ix4, ix5] <;> omega
    | ⟨3, _⟩ => simp [idx_main_v261, idx_main_v262, ix4, ix5] <;> omega
    | ⟨4, _⟩ => simp [idx_main_v261, idx_main_v262, ix4, ix5] <;> omega)
  rw [val_main_v263_apply, val_main_v260_apply, val_main_v259_apply, i1, stage243, stage258, val_main_v262_apply, val_main_v261_apply, i2, stage239, stF]
  rfl

/-- The state before chunk 5. -/
theorem stage268 (d : Fin 64) (e : Fin 128) : val_main_v268 (F := Ideal) x1 x2 x4 x5 x6 (ix4 b h d e) = stF (lg x6 h 1) (fun j => ckeys b h x4 j.rev d) (fun j => cvals b h x5 j.rev e) (fun j => keys b h x1 j.rev d) (fun j => vals b h x2 j.rev e) 5 := by
  have i1 : idx_main_v264 (ix4 b h d e) = ix4 0 h 0 0 := funext fun a => by match a with | ⟨0, _⟩ => rfl | ⟨1, _⟩ => rfl | ⟨2, _⟩ => rfl | ⟨3, _⟩ => rfl
  have i2 : idx_main_v266 (idx_main_v267 (ix4 b h d e)) = ix5 b h 4 d e := funext fun a => Fin.ext (by
    match a with
    | ⟨0, _⟩ => simp [idx_main_v266, idx_main_v267, ix4, ix5] <;> omega
    | ⟨1, _⟩ => simp [idx_main_v266, idx_main_v267, ix4, ix5] <;> omega
    | ⟨2, _⟩ => simp [idx_main_v266, idx_main_v267, ix4, ix5] <;> omega
    | ⟨3, _⟩ => simp [idx_main_v266, idx_main_v267, ix4, ix5] <;> omega
    | ⟨4, _⟩ => simp [idx_main_v266, idx_main_v267, ix4, ix5] <;> omega)
  rw [val_main_v268_apply, val_main_v265_apply, val_main_v264_apply, i1, stage243, stage263, val_main_v267_apply, val_main_v266_apply, i2, stage239, stF]
  rfl

/-- The state before chunk 6. -/
theorem stage273 (d : Fin 64) (e : Fin 128) : val_main_v273 (F := Ideal) x1 x2 x4 x5 x6 (ix4 b h d e) = stF (lg x6 h 1) (fun j => ckeys b h x4 j.rev d) (fun j => cvals b h x5 j.rev e) (fun j => keys b h x1 j.rev d) (fun j => vals b h x2 j.rev e) 6 := by
  have i1 : idx_main_v269 (ix4 b h d e) = ix4 0 h 0 0 := funext fun a => by match a with | ⟨0, _⟩ => rfl | ⟨1, _⟩ => rfl | ⟨2, _⟩ => rfl | ⟨3, _⟩ => rfl
  have i2 : idx_main_v271 (idx_main_v272 (ix4 b h d e)) = ix5 b h 5 d e := funext fun a => Fin.ext (by
    match a with
    | ⟨0, _⟩ => simp [idx_main_v271, idx_main_v272, ix4, ix5] <;> omega
    | ⟨1, _⟩ => simp [idx_main_v271, idx_main_v272, ix4, ix5] <;> omega
    | ⟨2, _⟩ => simp [idx_main_v271, idx_main_v272, ix4, ix5] <;> omega
    | ⟨3, _⟩ => simp [idx_main_v271, idx_main_v272, ix4, ix5] <;> omega
    | ⟨4, _⟩ => simp [idx_main_v271, idx_main_v272, ix4, ix5] <;> omega)
  rw [val_main_v273_apply, val_main_v270_apply, val_main_v269_apply, i1, stage243, stage268, val_main_v272_apply, val_main_v271_apply, i2, stage239, stF]
  rfl

/-- The state before chunk 7. -/
theorem stage278 (d : Fin 64) (e : Fin 128) : val_main_v278 (F := Ideal) x1 x2 x4 x5 x6 (ix4 b h d e) = stF (lg x6 h 1) (fun j => ckeys b h x4 j.rev d) (fun j => cvals b h x5 j.rev e) (fun j => keys b h x1 j.rev d) (fun j => vals b h x2 j.rev e) 7 := by
  have i1 : idx_main_v274 (ix4 b h d e) = ix4 0 h 0 0 := funext fun a => by match a with | ⟨0, _⟩ => rfl | ⟨1, _⟩ => rfl | ⟨2, _⟩ => rfl | ⟨3, _⟩ => rfl
  have i2 : idx_main_v276 (idx_main_v277 (ix4 b h d e)) = ix5 b h 6 d e := funext fun a => Fin.ext (by
    match a with
    | ⟨0, _⟩ => simp [idx_main_v276, idx_main_v277, ix4, ix5] <;> omega
    | ⟨1, _⟩ => simp [idx_main_v276, idx_main_v277, ix4, ix5] <;> omega
    | ⟨2, _⟩ => simp [idx_main_v276, idx_main_v277, ix4, ix5] <;> omega
    | ⟨3, _⟩ => simp [idx_main_v276, idx_main_v277, ix4, ix5] <;> omega
    | ⟨4, _⟩ => simp [idx_main_v276, idx_main_v277, ix4, ix5] <;> omega)
  rw [val_main_v278_apply, val_main_v275_apply, val_main_v274_apply, i1, stage243, stage273, val_main_v277_apply, val_main_v276_apply, i2, stage239, stF]
  rfl

/-- The state before chunk 8. -/
theorem stage283 (d : Fin 64) (e : Fin 128) : val_main_v283 (F := Ideal) x1 x2 x4 x5 x6 (ix4 b h d e) = stF (lg x6 h 1) (fun j => ckeys b h x4 j.rev d) (fun j => cvals b h x5 j.rev e) (fun j => keys b h x1 j.rev d) (fun j => vals b h x2 j.rev e) 8 := by
  have i1 : idx_main_v279 (ix4 b h d e) = ix4 0 h 0 0 := funext fun a => by match a with | ⟨0, _⟩ => rfl | ⟨1, _⟩ => rfl | ⟨2, _⟩ => rfl | ⟨3, _⟩ => rfl
  have i2 : idx_main_v281 (idx_main_v282 (ix4 b h d e)) = ix5 b h 7 d e := funext fun a => Fin.ext (by
    match a with
    | ⟨0, _⟩ => simp [idx_main_v281, idx_main_v282, ix4, ix5] <;> omega
    | ⟨1, _⟩ => simp [idx_main_v281, idx_main_v282, ix4, ix5] <;> omega
    | ⟨2, _⟩ => simp [idx_main_v281, idx_main_v282, ix4, ix5] <;> omega
    | ⟨3, _⟩ => simp [idx_main_v281, idx_main_v282, ix4, ix5] <;> omega
    | ⟨4, _⟩ => simp [idx_main_v281, idx_main_v282, ix4, ix5] <;> omega)
  rw [val_main_v283_apply, val_main_v280_apply, val_main_v279_apply, i1, stage243, stage278, val_main_v282_apply, val_main_v281_apply, i2, stage239, stF]
  rfl

/-- The state before chunk 9. -/
theorem stage288 (d : Fin 64) (e : Fin 128) : val_main_v288 (F := Ideal) x1 x2 x4 x5 x6 (ix4 b h d e) = stF (lg x6 h 1) (fun j => ckeys b h x4 j.rev d) (fun j => cvals b h x5 j.rev e) (fun j => keys b h x1 j.rev d) (fun j => vals b h x2 j.rev e) 9 := by
  have i1 : idx_main_v284 (ix4 b h d e) = ix4 0 h 0 0 := funext fun a => by match a with | ⟨0, _⟩ => rfl | ⟨1, _⟩ => rfl | ⟨2, _⟩ => rfl | ⟨3, _⟩ => rfl
  have i2 : idx_main_v286 (idx_main_v287 (ix4 b h d e)) = ix5 b h 8 d e := funext fun a => Fin.ext (by
    match a with
    | ⟨0, _⟩ => simp [idx_main_v286, idx_main_v287, ix4, ix5] <;> omega
    | ⟨1, _⟩ => simp [idx_main_v286, idx_main_v287, ix4, ix5] <;> omega
    | ⟨2, _⟩ => simp [idx_main_v286, idx_main_v287, ix4, ix5] <;> omega
    | ⟨3, _⟩ => simp [idx_main_v286, idx_main_v287, ix4, ix5] <;> omega
    | ⟨4, _⟩ => simp [idx_main_v286, idx_main_v287, ix4, ix5] <;> omega)
  rw [val_main_v288_apply, val_main_v285_apply, val_main_v284_apply, i1, stage243, stage283, val_main_v287_apply, val_main_v286_apply, i2, stage239, stF]
  rfl

/-- The state before chunk 10. -/
theorem stage293 (d : Fin 64) (e : Fin 128) : val_main_v293 (F := Ideal) x1 x2 x4 x5 x6 (ix4 b h d e) = stF (lg x6 h 1) (fun j => ckeys b h x4 j.rev d) (fun j => cvals b h x5 j.rev e) (fun j => keys b h x1 j.rev d) (fun j => vals b h x2 j.rev e) 10 := by
  have i1 : idx_main_v289 (ix4 b h d e) = ix4 0 h 0 0 := funext fun a => by match a with | ⟨0, _⟩ => rfl | ⟨1, _⟩ => rfl | ⟨2, _⟩ => rfl | ⟨3, _⟩ => rfl
  have i2 : idx_main_v291 (idx_main_v292 (ix4 b h d e)) = ix5 b h 9 d e := funext fun a => Fin.ext (by
    match a with
    | ⟨0, _⟩ => simp [idx_main_v291, idx_main_v292, ix4, ix5] <;> omega
    | ⟨1, _⟩ => simp [idx_main_v291, idx_main_v292, ix4, ix5] <;> omega
    | ⟨2, _⟩ => simp [idx_main_v291, idx_main_v292, ix4, ix5] <;> omega
    | ⟨3, _⟩ => simp [idx_main_v291, idx_main_v292, ix4, ix5] <;> omega
    | ⟨4, _⟩ => simp [idx_main_v291, idx_main_v292, ix4, ix5] <;> omega)
  rw [val_main_v293_apply, val_main_v290_apply, val_main_v289_apply, i1, stage243, stage288, val_main_v292_apply, val_main_v291_apply, i2, stage239, stF]
  rfl

/-- The state before chunk 11. -/
theorem stage298 (d : Fin 64) (e : Fin 128) : val_main_v298 (F := Ideal) x1 x2 x4 x5 x6 (ix4 b h d e) = stF (lg x6 h 1) (fun j => ckeys b h x4 j.rev d) (fun j => cvals b h x5 j.rev e) (fun j => keys b h x1 j.rev d) (fun j => vals b h x2 j.rev e) 11 := by
  have i1 : idx_main_v294 (ix4 b h d e) = ix4 0 h 0 0 := funext fun a => by match a with | ⟨0, _⟩ => rfl | ⟨1, _⟩ => rfl | ⟨2, _⟩ => rfl | ⟨3, _⟩ => rfl
  have i2 : idx_main_v296 (idx_main_v297 (ix4 b h d e)) = ix5 b h 10 d e := funext fun a => Fin.ext (by
    match a with
    | ⟨0, _⟩ => simp [idx_main_v296, idx_main_v297, ix4, ix5] <;> omega
    | ⟨1, _⟩ => simp [idx_main_v296, idx_main_v297, ix4, ix5] <;> omega
    | ⟨2, _⟩ => simp [idx_main_v296, idx_main_v297, ix4, ix5] <;> omega
    | ⟨3, _⟩ => simp [idx_main_v296, idx_main_v297, ix4, ix5] <;> omega
    | ⟨4, _⟩ => simp [idx_main_v296, idx_main_v297, ix4, ix5] <;> omega)
  rw [val_main_v298_apply, val_main_v295_apply, val_main_v294_apply, i1, stage243, stage293, val_main_v297_apply, val_main_v296_apply, i2, stage239, stF]
  rfl

/-- The state before chunk 12. -/
theorem stage303 (d : Fin 64) (e : Fin 128) : val_main_v303 (F := Ideal) x1 x2 x4 x5 x6 (ix4 b h d e) = stF (lg x6 h 1) (fun j => ckeys b h x4 j.rev d) (fun j => cvals b h x5 j.rev e) (fun j => keys b h x1 j.rev d) (fun j => vals b h x2 j.rev e) 12 := by
  have i1 : idx_main_v299 (ix4 b h d e) = ix4 0 h 0 0 := funext fun a => by match a with | ⟨0, _⟩ => rfl | ⟨1, _⟩ => rfl | ⟨2, _⟩ => rfl | ⟨3, _⟩ => rfl
  have i2 : idx_main_v301 (idx_main_v302 (ix4 b h d e)) = ix5 b h 11 d e := funext fun a => Fin.ext (by
    match a with
    | ⟨0, _⟩ => simp [idx_main_v301, idx_main_v302, ix4, ix5] <;> omega
    | ⟨1, _⟩ => simp [idx_main_v301, idx_main_v302, ix4, ix5] <;> omega
    | ⟨2, _⟩ => simp [idx_main_v301, idx_main_v302, ix4, ix5] <;> omega
    | ⟨3, _⟩ => simp [idx_main_v301, idx_main_v302, ix4, ix5] <;> omega
    | ⟨4, _⟩ => simp [idx_main_v301, idx_main_v302, ix4, ix5] <;> omega)
  rw [val_main_v303_apply, val_main_v300_apply, val_main_v299_apply, i1, stage243, stage298, val_main_v302_apply, val_main_v301_apply, i2, stage239, stF]
  rfl

/-- The state before chunk 13. -/
theorem stage308 (d : Fin 64) (e : Fin 128) : val_main_v308 (F := Ideal) x1 x2 x4 x5 x6 (ix4 b h d e) = stF (lg x6 h 1) (fun j => ckeys b h x4 j.rev d) (fun j => cvals b h x5 j.rev e) (fun j => keys b h x1 j.rev d) (fun j => vals b h x2 j.rev e) 13 := by
  have i1 : idx_main_v304 (ix4 b h d e) = ix4 0 h 0 0 := funext fun a => by match a with | ⟨0, _⟩ => rfl | ⟨1, _⟩ => rfl | ⟨2, _⟩ => rfl | ⟨3, _⟩ => rfl
  have i2 : idx_main_v306 (idx_main_v307 (ix4 b h d e)) = ix5 b h 12 d e := funext fun a => Fin.ext (by
    match a with
    | ⟨0, _⟩ => simp [idx_main_v306, idx_main_v307, ix4, ix5] <;> omega
    | ⟨1, _⟩ => simp [idx_main_v306, idx_main_v307, ix4, ix5] <;> omega
    | ⟨2, _⟩ => simp [idx_main_v306, idx_main_v307, ix4, ix5] <;> omega
    | ⟨3, _⟩ => simp [idx_main_v306, idx_main_v307, ix4, ix5] <;> omega
    | ⟨4, _⟩ => simp [idx_main_v306, idx_main_v307, ix4, ix5] <;> omega)
  rw [val_main_v308_apply, val_main_v305_apply, val_main_v304_apply, i1, stage243, stage303, val_main_v307_apply, val_main_v306_apply, i2, stage239, stF]
  rfl

/-- The state before chunk 14. -/
theorem stage313 (d : Fin 64) (e : Fin 128) : val_main_v313 (F := Ideal) x1 x2 x4 x5 x6 (ix4 b h d e) = stF (lg x6 h 1) (fun j => ckeys b h x4 j.rev d) (fun j => cvals b h x5 j.rev e) (fun j => keys b h x1 j.rev d) (fun j => vals b h x2 j.rev e) 14 := by
  have i1 : idx_main_v309 (ix4 b h d e) = ix4 0 h 0 0 := funext fun a => by match a with | ⟨0, _⟩ => rfl | ⟨1, _⟩ => rfl | ⟨2, _⟩ => rfl | ⟨3, _⟩ => rfl
  have i2 : idx_main_v311 (idx_main_v312 (ix4 b h d e)) = ix5 b h 13 d e := funext fun a => Fin.ext (by
    match a with
    | ⟨0, _⟩ => simp [idx_main_v311, idx_main_v312, ix4, ix5] <;> omega
    | ⟨1, _⟩ => simp [idx_main_v311, idx_main_v312, ix4, ix5] <;> omega
    | ⟨2, _⟩ => simp [idx_main_v311, idx_main_v312, ix4, ix5] <;> omega
    | ⟨3, _⟩ => simp [idx_main_v311, idx_main_v312, ix4, ix5] <;> omega
    | ⟨4, _⟩ => simp [idx_main_v311, idx_main_v312, ix4, ix5] <;> omega)
  rw [val_main_v313_apply, val_main_v310_apply, val_main_v309_apply, i1, stage243, stage308, val_main_v312_apply, val_main_v311_apply, i2, stage239, stF]
  rfl

/-- The state before chunk 15. -/
theorem stage318 (d : Fin 64) (e : Fin 128) : val_main_v318 (F := Ideal) x1 x2 x4 x5 x6 (ix4 b h d e) = stF (lg x6 h 1) (fun j => ckeys b h x4 j.rev d) (fun j => cvals b h x5 j.rev e) (fun j => keys b h x1 j.rev d) (fun j => vals b h x2 j.rev e) 15 := by
  have i1 : idx_main_v314 (ix4 b h d e) = ix4 0 h 0 0 := funext fun a => by match a with | ⟨0, _⟩ => rfl | ⟨1, _⟩ => rfl | ⟨2, _⟩ => rfl | ⟨3, _⟩ => rfl
  have i2 : idx_main_v316 (idx_main_v317 (ix4 b h d e)) = ix5 b h 14 d e := funext fun a => Fin.ext (by
    match a with
    | ⟨0, _⟩ => simp [idx_main_v316, idx_main_v317, ix4, ix5] <;> omega
    | ⟨1, _⟩ => simp [idx_main_v316, idx_main_v317, ix4, ix5] <;> omega
    | ⟨2, _⟩ => simp [idx_main_v316, idx_main_v317, ix4, ix5] <;> omega
    | ⟨3, _⟩ => simp [idx_main_v316, idx_main_v317, ix4, ix5] <;> omega
    | ⟨4, _⟩ => simp [idx_main_v316, idx_main_v317, ix4, ix5] <;> omega)
  rw [val_main_v318_apply, val_main_v315_apply, val_main_v314_apply, i1, stage243, stage313, val_main_v317_apply, val_main_v316_apply, i2, stage239, stF]
  rfl

/-- The states, by chunk. -/
theorem stage335 (n : Fin 16) (d : Fin 64) (e : Fin 128) : val_main_v335 (F := Ideal) x1 x2 x4 x5 x6 (ix5 b h n d e) = stF (lg x6 h 1) (fun j => ckeys b h x4 j.rev d) (fun j => cvals b h x5 j.rev e) (fun j => keys b h x1 j.rev d) (fun j => vals b h x2 j.rev e) n.val := by
  have e0 : ∀ y : S8x4x1x64x128.Idx, (y 0).val = b.val → (y 1).val = h.val → (y 3).val = d.val → (y 4).val = e.val →
      val_main_v319 (F := Ideal) x4 x5 x6 y = stF (lg x6 h 1) (fun j => ckeys b h x4 j.rev d) (fun j => cvals b h x5 j.rev e) (fun j => keys b h x1 j.rev d) (fun j => vals b h x2 j.rev e) 0 := fun y h0 h1 h3 h4 => by
    rw [val_main_v319_apply, show idx_main_v319 y = ix4 b h d e from funext fun a => Fin.ext (by match a with | ⟨0, _⟩ => exact h0 | ⟨1, _⟩ => exact h1 | ⟨2, _⟩ => exact h3 | ⟨3, _⟩ => exact h4), stage203 x1 x2]
  have e1 : ∀ y : S8x4x1x64x128.Idx, (y 0).val = b.val → (y 1).val = h.val → (y 3).val = d.val → (y 4).val = e.val →
      val_main_v320 (F := Ideal) x1 x2 x4 x5 x6 y = stF (lg x6 h 1) (fun j => ckeys b h x4 j.rev d) (fun j => cvals b h x5 j.rev e) (fun j => keys b h x1 j.rev d) (fun j => vals b h x2 j.rev e) 1 := fun y h0 h1 h3 h4 => by
    rw [val_main_v320_apply, show idx_main_v320 y = ix4 b h d e from funext fun a => Fin.ext (by match a with | ⟨0, _⟩ => exact h0 | ⟨1, _⟩ => exact h1 | ⟨2, _⟩ => exact h3 | ⟨3, _⟩ => exact h4), stage248]
  have e2 : ∀ y : S8x4x1x64x128.Idx, (y 0).val = b.val → (y 1).val = h.val → (y 3).val = d.val → (y 4).val = e.val →
      val_main_v321 (F := Ideal) x1 x2 x4 x5 x6 y = stF (lg x6 h 1) (fun j => ckeys b h x4 j.rev d) (fun j => cvals b h x5 j.rev e) (fun j => keys b h x1 j.rev d) (fun j => vals b h x2 j.rev e) 2 := fun y h0 h1 h3 h4 => by
    rw [val_main_v321_apply, show idx_main_v321 y = ix4 b h d e from funext fun a => Fin.ext (by match a with | ⟨0, _⟩ => exact h0 | ⟨1, _⟩ => exact h1 | ⟨2, _⟩ => exact h3 | ⟨3, _⟩ => exact h4), stage253]
  have e3 : ∀ y : S8x4x1x64x128.Idx, (y 0).val = b.val → (y 1).val = h.val → (y 3).val = d.val → (y 4).val = e.val →
      val_main_v322 (F := Ideal) x1 x2 x4 x5 x6 y = stF (lg x6 h 1) (fun j => ckeys b h x4 j.rev d) (fun j => cvals b h x5 j.rev e) (fun j => keys b h x1 j.rev d) (fun j => vals b h x2 j.rev e) 3 := fun y h0 h1 h3 h4 => by
    rw [val_main_v322_apply, show idx_main_v322 y = ix4 b h d e from funext fun a => Fin.ext (by match a with | ⟨0, _⟩ => exact h0 | ⟨1, _⟩ => exact h1 | ⟨2, _⟩ => exact h3 | ⟨3, _⟩ => exact h4), stage258]
  have e4 : ∀ y : S8x4x1x64x128.Idx, (y 0).val = b.val → (y 1).val = h.val → (y 3).val = d.val → (y 4).val = e.val →
      val_main_v323 (F := Ideal) x1 x2 x4 x5 x6 y = stF (lg x6 h 1) (fun j => ckeys b h x4 j.rev d) (fun j => cvals b h x5 j.rev e) (fun j => keys b h x1 j.rev d) (fun j => vals b h x2 j.rev e) 4 := fun y h0 h1 h3 h4 => by
    rw [val_main_v323_apply, show idx_main_v323 y = ix4 b h d e from funext fun a => Fin.ext (by match a with | ⟨0, _⟩ => exact h0 | ⟨1, _⟩ => exact h1 | ⟨2, _⟩ => exact h3 | ⟨3, _⟩ => exact h4), stage263]
  have e5 : ∀ y : S8x4x1x64x128.Idx, (y 0).val = b.val → (y 1).val = h.val → (y 3).val = d.val → (y 4).val = e.val →
      val_main_v324 (F := Ideal) x1 x2 x4 x5 x6 y = stF (lg x6 h 1) (fun j => ckeys b h x4 j.rev d) (fun j => cvals b h x5 j.rev e) (fun j => keys b h x1 j.rev d) (fun j => vals b h x2 j.rev e) 5 := fun y h0 h1 h3 h4 => by
    rw [val_main_v324_apply, show idx_main_v324 y = ix4 b h d e from funext fun a => Fin.ext (by match a with | ⟨0, _⟩ => exact h0 | ⟨1, _⟩ => exact h1 | ⟨2, _⟩ => exact h3 | ⟨3, _⟩ => exact h4), stage268]
  have e6 : ∀ y : S8x4x1x64x128.Idx, (y 0).val = b.val → (y 1).val = h.val → (y 3).val = d.val → (y 4).val = e.val →
      val_main_v325 (F := Ideal) x1 x2 x4 x5 x6 y = stF (lg x6 h 1) (fun j => ckeys b h x4 j.rev d) (fun j => cvals b h x5 j.rev e) (fun j => keys b h x1 j.rev d) (fun j => vals b h x2 j.rev e) 6 := fun y h0 h1 h3 h4 => by
    rw [val_main_v325_apply, show idx_main_v325 y = ix4 b h d e from funext fun a => Fin.ext (by match a with | ⟨0, _⟩ => exact h0 | ⟨1, _⟩ => exact h1 | ⟨2, _⟩ => exact h3 | ⟨3, _⟩ => exact h4), stage273]
  have e7 : ∀ y : S8x4x1x64x128.Idx, (y 0).val = b.val → (y 1).val = h.val → (y 3).val = d.val → (y 4).val = e.val →
      val_main_v326 (F := Ideal) x1 x2 x4 x5 x6 y = stF (lg x6 h 1) (fun j => ckeys b h x4 j.rev d) (fun j => cvals b h x5 j.rev e) (fun j => keys b h x1 j.rev d) (fun j => vals b h x2 j.rev e) 7 := fun y h0 h1 h3 h4 => by
    rw [val_main_v326_apply, show idx_main_v326 y = ix4 b h d e from funext fun a => Fin.ext (by match a with | ⟨0, _⟩ => exact h0 | ⟨1, _⟩ => exact h1 | ⟨2, _⟩ => exact h3 | ⟨3, _⟩ => exact h4), stage278]
  have e8 : ∀ y : S8x4x1x64x128.Idx, (y 0).val = b.val → (y 1).val = h.val → (y 3).val = d.val → (y 4).val = e.val →
      val_main_v327 (F := Ideal) x1 x2 x4 x5 x6 y = stF (lg x6 h 1) (fun j => ckeys b h x4 j.rev d) (fun j => cvals b h x5 j.rev e) (fun j => keys b h x1 j.rev d) (fun j => vals b h x2 j.rev e) 8 := fun y h0 h1 h3 h4 => by
    rw [val_main_v327_apply, show idx_main_v327 y = ix4 b h d e from funext fun a => Fin.ext (by match a with | ⟨0, _⟩ => exact h0 | ⟨1, _⟩ => exact h1 | ⟨2, _⟩ => exact h3 | ⟨3, _⟩ => exact h4), stage283]
  have e9 : ∀ y : S8x4x1x64x128.Idx, (y 0).val = b.val → (y 1).val = h.val → (y 3).val = d.val → (y 4).val = e.val →
      val_main_v328 (F := Ideal) x1 x2 x4 x5 x6 y = stF (lg x6 h 1) (fun j => ckeys b h x4 j.rev d) (fun j => cvals b h x5 j.rev e) (fun j => keys b h x1 j.rev d) (fun j => vals b h x2 j.rev e) 9 := fun y h0 h1 h3 h4 => by
    rw [val_main_v328_apply, show idx_main_v328 y = ix4 b h d e from funext fun a => Fin.ext (by match a with | ⟨0, _⟩ => exact h0 | ⟨1, _⟩ => exact h1 | ⟨2, _⟩ => exact h3 | ⟨3, _⟩ => exact h4), stage288]
  have e10 : ∀ y : S8x4x1x64x128.Idx, (y 0).val = b.val → (y 1).val = h.val → (y 3).val = d.val → (y 4).val = e.val →
      val_main_v329 (F := Ideal) x1 x2 x4 x5 x6 y = stF (lg x6 h 1) (fun j => ckeys b h x4 j.rev d) (fun j => cvals b h x5 j.rev e) (fun j => keys b h x1 j.rev d) (fun j => vals b h x2 j.rev e) 10 := fun y h0 h1 h3 h4 => by
    rw [val_main_v329_apply, show idx_main_v329 y = ix4 b h d e from funext fun a => Fin.ext (by match a with | ⟨0, _⟩ => exact h0 | ⟨1, _⟩ => exact h1 | ⟨2, _⟩ => exact h3 | ⟨3, _⟩ => exact h4), stage293]
  have e11 : ∀ y : S8x4x1x64x128.Idx, (y 0).val = b.val → (y 1).val = h.val → (y 3).val = d.val → (y 4).val = e.val →
      val_main_v330 (F := Ideal) x1 x2 x4 x5 x6 y = stF (lg x6 h 1) (fun j => ckeys b h x4 j.rev d) (fun j => cvals b h x5 j.rev e) (fun j => keys b h x1 j.rev d) (fun j => vals b h x2 j.rev e) 11 := fun y h0 h1 h3 h4 => by
    rw [val_main_v330_apply, show idx_main_v330 y = ix4 b h d e from funext fun a => Fin.ext (by match a with | ⟨0, _⟩ => exact h0 | ⟨1, _⟩ => exact h1 | ⟨2, _⟩ => exact h3 | ⟨3, _⟩ => exact h4), stage298]
  have e12 : ∀ y : S8x4x1x64x128.Idx, (y 0).val = b.val → (y 1).val = h.val → (y 3).val = d.val → (y 4).val = e.val →
      val_main_v331 (F := Ideal) x1 x2 x4 x5 x6 y = stF (lg x6 h 1) (fun j => ckeys b h x4 j.rev d) (fun j => cvals b h x5 j.rev e) (fun j => keys b h x1 j.rev d) (fun j => vals b h x2 j.rev e) 12 := fun y h0 h1 h3 h4 => by
    rw [val_main_v331_apply, show idx_main_v331 y = ix4 b h d e from funext fun a => Fin.ext (by match a with | ⟨0, _⟩ => exact h0 | ⟨1, _⟩ => exact h1 | ⟨2, _⟩ => exact h3 | ⟨3, _⟩ => exact h4), stage303]
  have e13 : ∀ y : S8x4x1x64x128.Idx, (y 0).val = b.val → (y 1).val = h.val → (y 3).val = d.val → (y 4).val = e.val →
      val_main_v332 (F := Ideal) x1 x2 x4 x5 x6 y = stF (lg x6 h 1) (fun j => ckeys b h x4 j.rev d) (fun j => cvals b h x5 j.rev e) (fun j => keys b h x1 j.rev d) (fun j => vals b h x2 j.rev e) 13 := fun y h0 h1 h3 h4 => by
    rw [val_main_v332_apply, show idx_main_v332 y = ix4 b h d e from funext fun a => Fin.ext (by match a with | ⟨0, _⟩ => exact h0 | ⟨1, _⟩ => exact h1 | ⟨2, _⟩ => exact h3 | ⟨3, _⟩ => exact h4), stage308]
  have e14 : ∀ y : S8x4x1x64x128.Idx, (y 0).val = b.val → (y 1).val = h.val → (y 3).val = d.val → (y 4).val = e.val →
      val_main_v333 (F := Ideal) x1 x2 x4 x5 x6 y = stF (lg x6 h 1) (fun j => ckeys b h x4 j.rev d) (fun j => cvals b h x5 j.rev e) (fun j => keys b h x1 j.rev d) (fun j => vals b h x2 j.rev e) 14 := fun y h0 h1 h3 h4 => by
    rw [val_main_v333_apply, show idx_main_v333 y = ix4 b h d e from funext fun a => Fin.ext (by match a with | ⟨0, _⟩ => exact h0 | ⟨1, _⟩ => exact h1 | ⟨2, _⟩ => exact h3 | ⟨3, _⟩ => exact h4), stage313]
  have e15 : ∀ y : S8x4x1x64x128.Idx, (y 0).val = b.val → (y 1).val = h.val → (y 3).val = d.val → (y 4).val = e.val →
      val_main_v334 (F := Ideal) x1 x2 x4 x5 x6 y = stF (lg x6 h 1) (fun j => ckeys b h x4 j.rev d) (fun j => cvals b h x5 j.rev e) (fun j => keys b h x1 j.rev d) (fun j => vals b h x2 j.rev e) 15 := fun y h0 h1 h3 h4 => by
    rw [val_main_v334_apply, show idx_main_v334 y = ix4 b h d e from funext fun a => Fin.ext (by match a with | ⟨0, _⟩ => exact h0 | ⟨1, _⟩ => exact h1 | ⟨2, _⟩ => exact h3 | ⟨3, _⟩ => exact h4), stage318]
  unfold val_main_v335
  concat_tiles
  · exact (e0 i h0 h1 h3 h4).trans (congrArg (stF _ _ _ _ _) h.symm)
  · exact (e1 i h0 h1 h3 h4).trans (congrArg (stF _ _ _ _ _) h.symm)
  · exact (e2 i h0 h1 h3 h4).trans (congrArg (stF _ _ _ _ _) h.symm)
  · exact (e3 i h0 h1 h3 h4).trans (congrArg (stF _ _ _ _ _) h.symm)
  · exact (e4 i h0 h1 h3 h4).trans (congrArg (stF _ _ _ _ _) h.symm)
  · exact (e5 i h0 h1 h3 h4).trans (congrArg (stF _ _ _ _ _) h.symm)
  · exact (e6 i h0 h1 h3 h4).trans (congrArg (stF _ _ _ _ _) h.symm)
  · exact (e7 i h0 h1 h3 h4).trans (congrArg (stF _ _ _ _ _) h.symm)
  · exact (e8 i h0 h1 h3 h4).trans (congrArg (stF _ _ _ _ _) h.symm)
  · exact (e9 i h0 h1 h3 h4).trans (congrArg (stF _ _ _ _ _) h.symm)
  · exact (e10 i h0 h1 h3 h4).trans (congrArg (stF _ _ _ _ _) h.symm)
  · exact (e11 i h0 h1 h3 h4).trans (congrArg (stF _ _ _ _ _) h.symm)
  · exact (e12 i h0 h1 h3 h4).trans (congrArg (stF _ _ _ _ _) h.symm)
  · exact (e13 i h0 h1 h3 h4).trans (congrArg (stF _ _ _ _ _) h.symm)
  · exact (e14 i h0 h1 h3 h4).trans (congrArg (stF _ _ _ _ _) h.symm)
  · exact (e15 i h0 h1 h3 h4).trans (congrArg (stF _ _ _ _ _) h.symm)

/-- The queries' weights. -/
theorem stage343 (i : Fin 128) : val_main_v343 (F := Ideal) x6 (ix2 h i) = ew (i.val + 1) (lg x6 h 1) := by
  have i1 : idx_main_v339 (idx_main_v341 (ix2 h i)) = ix1 h := funext fun a => by match a with | ⟨0, _⟩ => rfl
  have i2 : idx_main_v338 (idx_main_v340 (ix2 h i)) = ix1 i := funext fun a => by match a with | ⟨0, _⟩ => rfl
  rw [val_main_v343_apply, val_main_v342_apply, val_main_v341_apply, val_main_v340_apply, val_main_v339_apply, val_main_v338_apply, i1, i2, decay185, val_main_v337_apply, val_main_v336_apply, stage207, val_main_cst_11_apply, Ideal.ofBits_def, Cert.InProj.nat1, ew,
    Nat.cast_add, Nat.cast_one, EReal.coe_add]
  rfl

/-- The part of a row's output from the state before its chunk. -/
theorem stage347 (n : Fin 16) (i e : Fin 128) : val_main_v347 (F := Ideal) x0 x1 x2 x4 x5 x6 (ix5 b h n i e)
    = ∑ d, keys b h x0 (row n i).rev d * ew (i.val + 1) (lg x6 h 1) * stF (lg x6 h 1) (fun j => ckeys b h x4 j.rev d) (fun j => cvals b h x5 j.rev e) (fun j => keys b h x1 j.rev d) (fun j => vals b h x2 j.rev e) n.val := by
  have il : ∀ k, lidx_main_v347 (ix5 b h n i e) k = ix5 b h n i k := fun k => funext fun a => by match a with | ⟨0, _⟩ => rfl | ⟨1, _⟩ => rfl | ⟨2, _⟩ => rfl | ⟨3, _⟩ => rfl | ⟨4, _⟩ => rfl
  have ir : ∀ k, ridx_main_v347 (ix5 b h n i e) k = ix5 b h n k e := fun k => funext fun a => by match a with | ⟨0, _⟩ => rfl | ⟨1, _⟩ => rfl | ⟨2, _⟩ => rfl | ⟨3, _⟩ => rfl | ⟨4, _⟩ => rfl
  have i1 : ∀ k, idx_main_v344 (idx_main_v345 (ix5 b h n i k)) = ix2 h i := fun k => funext fun a => by match a with | ⟨0, _⟩ => rfl | ⟨1, _⟩ => rfl
  rw [val_main_v347_apply]
  simp only [il, ir, val_main_v346_apply, val_main_v345_apply, val_main_v344_apply, i1, stage343, stage204, stage335]
  rfl

/-- A ROW'S RETENTION BACKWARD. -/
theorem stage349 (t : Fin 2048) (e : Fin 128) : val_main_v349 (F := Ideal) x0 x1 x2 x4 x5 x6 (ix4 b h t e)
    = once (fun t => keys b h x0 t.rev) (fun t => keys b h x1 t.rev) (fun t => vals b h x2 t.rev) (fun t => ckeys b h x4 t.rev) (fun t => cvals b h x5 t.rev) 1 (lg x6 h 1) (t.val / 128)
      ⟨t.val % 128, Nat.mod_lt _ (by decide)⟩ e := by
  have i1 : idx_main_v349 (ix4 b h t e) = ix5 b h ⟨t.val / 128, by omega⟩ ⟨t.val % 128, Nat.mod_lt _ (by decide)⟩ e := funext fun a => Fin.ext (by
    match a with
    | ⟨0, _⟩ => simp [idx_main_v349, ix4, ix5] <;> omega
    | ⟨1, _⟩ => simp [idx_main_v349, ix4, ix5] <;> omega
    | ⟨2, _⟩ => simp [idx_main_v349, ix4, ix5] <;> omega
    | ⟨3, _⟩ => simp [idx_main_v349, ix4, ix5] <;> omega
    | ⟨4, _⟩ => simp [idx_main_v349, ix4, ix5] <;> omega)
  rw [val_main_v349_apply, i1, val_main_v348_apply, stage227, stage347]
  rfl

end Stages

end Cert.Ret

end
-- ==== Proof.RetRef.lean ====
/- The reference's retention in both directions, normed and gated, each stage at an index. -/
module

public import proofs.«01_k».proof.Proof.RetForth
public import proofs.«01_k».proof.Proof.RetBack

@[expose] public section

noncomputable section

namespace Cert.Ret

open Idealize.ShloMosaic Cert.RetReferenceIdeal Cert.RetReferenceIdeal.Gen Cert.RetReferenceIdeal.Read

section Stages
variable (x0 x1 : Vec Ideal S8x2048x256 .bf16) (x2 : Vec Ideal S8x2048x512 .bf16) (x3 : Vec Ideal S8x2048x512 .f32)
  (x4 : Vec Ideal S8x256x256 .bf16) (x5 : Vec Ideal S8x256x512 .bf16) (x6 : Vec Ideal S1x2x4 .f32) (x7 : Vec Ideal S1x4x128 .f32)
  (b : Fin 8) (h : Fin 4)

/-- A token's retention in both directions. -/
def retR (t : Fin 2048) : Fin 128 → EReal :=
  both (lg x6 h 0) (lg x6 h 1) (keys b h x0) (keys b h x1) (vals b h x2) (ckeys b h x4) (cvals b h x5) (t.val / 128)
    ⟨t.val % 128, Nat.mod_lt _ (by decide)⟩

/-- The two directions' retentions added. -/
theorem stage351 (t : Fin 2048) (e : Fin 128) : val_main_v351 (F := Ideal) x0 x1 x2 x4 x5 x6 (ix4 b h t e) = retR x0 x1 x2 x4 x5 x6 b h t e := by
  have r : val_main_v350 (F := Ideal) x0 x1 x2 x4 x5 x6 (ix4 b h t e) = val_main_v349 (F := Ideal) x0 x1 x2 x4 x5 x6 (ix4 b h t.rev e) := by
    unfold val_main_v350
    generalize val_main_v349 (F := Ideal) x0 x1 x2 x4 x5 x6 = y
    exact congrArg y (funext fun a => by match a with | ⟨0, _⟩ => rfl | ⟨1, _⟩ => rfl | ⟨2, _⟩ => rfl | ⟨3, _⟩ => rfl)
  have e1 : t.rev.val / 128 = 15 - t.val / 128 := by simp only [Fin.val_rev]; omega
  have e2 : (⟨t.rev.val % 128, Nat.mod_lt _ (by decide)⟩ : Fin 128) = (⟨t.val % 128, Nat.mod_lt _ (by decide)⟩ : Fin 128).rev :=
    Fin.ext (by simp only [Fin.val_rev]; omega)
  rw [val_main_v351_apply, r, stage180, stage349, e1, e2, retR, both_eq (lg x6 h 0) (lg x6 h 1) _ _ _ _ _ (lsig_nonpos _) (lsig_nonpos _) _ (by omega)]
  rfl

/-- A token's sum of squares over a head's lanes. -/
theorem stage353 (t : Fin 2048) : val_main_v353 (F := Ideal) x0 x1 x2 x4 x5 x6 (ix3 b h t)
    = ∑ l, retR x0 x1 x2 x4 x5 x6 b h t l * retR x0 x1 x2 x4 x5 x6 b h t l := by
  have i1 : ∀ l, idx_main_v353 (ix3 b h t) l = ix4 b h t l := fun l => funext fun a => by
    match a with | ⟨0, _⟩ => rfl | ⟨1, _⟩ => rfl | ⟨2, _⟩ => rfl | ⟨3, _⟩ => rfl
  rw [val_main_v353_apply, val_main_cst_12_apply, Ideal.ofBits_def, zero32]
  refine (zero_add _).trans (Finset.sum_congr rfl fun l _ => ?_)
  rw [i1, val_main_v352_apply, stage351]
  rfl

/-- One over a token's root mean square over a head's lanes. -/
theorem stage360 (t : Fin 2048) (e : Fin 128) : val_main_v360 (F := Ideal) x0 x1 x2 x4 x5 x6 (ix4 b h t e)
    = Ideal.rsqrt (Ideal.div (∑ l, retR x0 x1 x2 x4 x5 x6 b h t l * retR x0 x1 x2 x4 x5 x6 b h t l) (Ideal.ofBits .f32 0x43000000#32)
      + Ideal.ofBits .f32 0x358637BD#32) := by
  have i1 : idx_main_v354 (idx_main_v360 (ix4 b h t e)) = ix3 b h t := funext fun a => by
    match a with | ⟨0, _⟩ => rfl | ⟨1, _⟩ => rfl | ⟨2, _⟩ => rfl
  rw [val_main_v360_apply, val_main_v359_apply, val_main_v358_apply, val_main_v357_apply, val_main_v356_apply, val_main_v355_apply, val_main_v354_apply, i1,
    stage353, val_main_cst_13_apply, val_main_cst_14_apply]
  generalize (∑ l, retR x0 x1 x2 x4 x5 x6 b h t l * retR x0 x1 x2 x4 x5 x6 b h t l) = y
  rfl

/-- The norm's gain. -/
theorem stage365 (t : Fin 2048) (e : Fin 128) : val_main_v365 (F := Ideal) x7 (ix4 b h t e) = x7 (ix3 0 h e) := by
  have i1 : idx_main_v362 (idx_main_v363 (idx_main_v364 (idx_main_v365 (ix4 b h t e)))) = ix3 0 h e := funext fun a => Fin.ext (by
    match a with
    | ⟨0, _⟩ => simp [idx_main_v362, idx_main_v363, idx_main_v364, idx_main_v365, ix3, ix4] <;> omega
    | ⟨1, _⟩ => simp [idx_main_v362, idx_main_v363, idx_main_v364, idx_main_v365, ix3, ix4] <;> omega
    | ⟨2, _⟩ => simp [idx_main_v362, idx_main_v363, idx_main_v364, idx_main_v365, ix3, ix4] <;> omega)
  rw [val_main_v365_apply, val_main_v364_apply, val_main_v363_apply, val_main_v362_apply, i1]

/-- THE RETENTION'S RESULT at an index. -/
theorem out_ref (t : Fin 2048) (e : Fin 128) : val_main_v371 (F := Ideal) x0 x1 x2 x3 x4 x5 x6 x7 (ix3 b t (h128 h e))
    = gated (retR x0 x1 x2 x4 x5 x6 b h t) (x7 (ix3 0 h e)) (x3 (ix3 b t (h128 h e))) e := by
  have i1 : idx_main_v367 (idx_main_v368 (ix3 b t (h128 h e))) = ix4 b h t e := funext fun a => Fin.ext (by
    match a with
    | ⟨0, _⟩ => simp [idx_main_v367, idx_main_v368, ix3, ix4, h128] <;> omega
    | ⟨1, _⟩ => simp [idx_main_v367, idx_main_v368, ix3, ix4, h128] <;> omega
    | ⟨2, _⟩ => simp [idx_main_v367, idx_main_v368, ix3, ix4, h128] <;> omega
    | ⟨3, _⟩ => simp [idx_main_v367, idx_main_v368, ix3, ix4, h128] <;> omega)
  rw [val_main_v371_apply, val_main_v370_apply, val_main_v369_apply, val_main_v368_apply, val_main_v367_apply, i1, val_main_v366_apply, val_main_v361_apply,
    stage351, stage360, stage365, val_main_call11_v5_apply, val_main_call11_v4_apply, val_main_call11_v3_apply, val_main_call11_v2_apply,
    val_main_call11_v1_apply, val_main_call11_v0_apply, val_main_call11_cst_apply, val_main_call11_cst_0_apply, Ideal.ofBits_def, Cert.InProj.nat1, gated, zero_sub]
  generalize retR x0 x1 x2 x4 x5 x6 b h t = y
  generalize x3 (ix3 b t (h128 h e)) = r
  generalize x7 (ix3 0 h e) = g
  rfl

end Stages

end Cert.Ret

end
-- ==== Proof.RetArray.lean ====
/- The retention kernel's result array is the reference's. -/
module

public import proofs.«01_k».proof.Proof.RetBody
public import proofs.«01_k».proof.Proof.RetRef
public import proofs.«01_k».proof.Proof.Gen.RetKernelIdeal.Value
public import Idealize.ShloMosaic.Lib.StableHlo.RunRead

@[expose] public section

noncomputable section

namespace Cert.Ret

open Idealize.ShloMosaic Idealize.SL.Sem Cert.RetKernelIdeal Cert.RetKernelIdeal.Gen Cert.RetKernelIdeal.Value

/-- The blocks of the operands and of the result, by a grid point's sample and head. -/
theorem idx : ∀ t : Fin cfg0.N, win0_0.index t = ![(grid0.coords t 1).val, 0, 0]
    ∧ win0_1.index t = ![(grid0.coords t 0).val, 0, (grid0.coords t 1).val / 2] ∧ win0_2.index t = ![(grid0.coords t 0).val, 0, (grid0.coords t 1).val / 2]
    ∧ win0_3.index t = ![(grid0.coords t 0).val, 0, (grid0.coords t 1).val] ∧ win0_4.index t = ![(grid0.coords t 0).val, 0, (grid0.coords t 1).val]
    ∧ win0_5.index t = ![(grid0.coords t 0).val, 0, (grid0.coords t 1).val / 2] ∧ win0_6.index t = ![(grid0.coords t 0).val, 0, (grid0.coords t 1).val]
    ∧ win0_7.index t = ![(grid0.coords t 1).val, 0, 0] ∧ win0_8.index t = ![(grid0.coords t 0).val, 0, (grid0.coords t 1).val] :=
  (by decide +kernel : ∀ t : Fin grid0.N, _)

variable (m : (ℓ : Loc nD τ sig) → Buf (Elt Ideal) ℓ) (c : Dev nD)

/-- A point's sample. -/
def batch (t : Fin cfg0.N) : Fin 8 := grid0.coords t 0

/-- A point's head. -/
def head (t : Fin cfg0.N) : Fin 4 := grid0.coords t 1

/-- The decays as the kernel takes them. -/
theorem arr0 (h : Fin 4) (r : Fin 2) (l : Fin 128) : @Eq EReal (V m c main_v3 (ix3 h r l)) (m ((c.tc : Thread nD τ).loc main_arg6) (ix3 0 r h)) := by
  after_reads_simp
  pointwise

/-- The decays' block. -/
theorem iblk0 (t : Fin cfg0.N) (r : Fin 2) (l : Fin 128) :
    @Eq EReal (iblk m c 0 t (ix3 0 r l)) (m ((c.tc : Thread nD τ).loc main_arg6) (ix3 0 r (head t))) := by
  refine Eq.trans ?_ (arr0 m c (head t) r l)
  show V m c main_v3 ((win0_0.blk t).view.emb (ix3 0 r l)) = V m c main_v3 _
  refine congrArg (V m c main_v3) ?_
  blk_ext [idx t, head]

/-- The gain as the kernel takes it. -/
theorem arr7 (h : Fin 4) (e : Fin 128) : @Eq EReal (V m c main_v5 (ix3 h 0 e)) (m ((c.tc : Thread nD τ).loc main_arg7) (ix3 0 h e)) := by
  after_reads_simp
  pointwise

/-- The gain's block. -/
theorem iblk7 (t : Fin cfg0.N) (e : Fin 128) :
    @Eq EReal (iblk m c 7 t (ix3 0 0 e)) (m ((c.tc : Thread nD τ).loc main_arg7) (ix3 0 (head t) e)) := by
  refine Eq.trans ?_ (arr7 m c (head t) e)
  show V m c main_v5 ((win0_7.blk t).view.emb (ix3 0 0 e)) = V m c main_v5 _
  refine congrArg (V m c main_v5) ?_
  blk_ext [idx t, head]

/-- The queries' block at the head's lanes. -/
theorem iblk1 (t : Fin cfg0.N) (i : Fin 2048) (d : Fin 64) :
    @Eq EReal (iblk m c 1 t (ix3 0 i (ln (grid0.coords t 1).val d))) (keys (batch t) (head t) (m ((c.tc : Thread nD τ).loc main_arg0)) i d) := by
  have hh : (grid0.coords t 1).val < 4 := (grid0.coords t 1).isLt
  unfold keys
  blk_ext! [iblk, V, idx t, batch, head, ln, h64]

/-- The keys' block at the head's lanes. -/
theorem iblk2 (t : Fin cfg0.N) (i : Fin 2048) (d : Fin 64) :
    @Eq EReal (iblk m c 2 t (ix3 0 i (ln (grid0.coords t 1).val d))) (keys (batch t) (head t) (m ((c.tc : Thread nD τ).loc main_arg1)) i d) := by
  have hh : (grid0.coords t 1).val < 4 := (grid0.coords t 1).isLt
  unfold keys
  blk_ext! [iblk, V, idx t, batch, head, ln, h64]

/-- The values' block. -/
theorem iblk3 (t : Fin cfg0.N) (i : Fin 2048) (e : Fin 128) :
    @Eq EReal (iblk m c 3 t (ix3 0 i e)) (vals (batch t) (head t) (m ((c.tc : Thread nD τ).loc main_arg2)) i e) := by
  unfold vals
  blk_ext! [iblk, V, idx t, batch, head, h128]

/-- The gates' block. -/
theorem iblk4 (t : Fin cfg0.N) (i : Fin 2048) (e : Fin 128) :
    @Eq EReal (iblk m c 4 t (ix3 0 i e)) (m ((c.tc : Thread nD τ).loc main_arg3) (ix3 (batch t) i (h128 (head t) e))) := by
  blk_ext! [iblk, V, idx t, batch, head, h128]

/-- The context's keys' block at the head's lanes. -/
theorem iblk5 (t : Fin cfg0.N) (i : Fin 256) (d : Fin 64) :
    @Eq EReal (iblk m c 5 t (ix3 0 i (ln (grid0.coords t 1).val d))) (ckeys (batch t) (head t) (m ((c.tc : Thread nD τ).loc main_arg4)) i d) := by
  have hh : (grid0.coords t 1).val < 4 := (grid0.coords t 1).isLt
  unfold ckeys
  blk_ext! [iblk, V, idx t, batch, head, ln, h64]

/-- The context's values' block. -/
theorem iblk6 (t : Fin cfg0.N) (i : Fin 256) (e : Fin 128) :
    @Eq EReal (iblk m c 6 t (ix3 0 i e)) (cvals (batch t) (head t) (m ((c.tc : Thread nD τ).loc main_arg5)) i e) := by
  unfold cvals
  blk_ext! [iblk, V, idx t, batch, head, h128]

/-- What a point leaves at a row and a lane is the reference's. -/
theorem point_eq (t : Fin cfg0.N) (i : Fin 2048) (e : Fin 128) : outChunk (grid0.coords t) (iblk m c 0 t) (iblk m c 1 t) (iblk m c 2 t) (iblk m c 3 t) (iblk m c 4 t)
      (iblk m c 5 t) (iblk m c 6 t) (iblk m c 7 t) (i.val / 128) (ix3 0 ⟨i.val % 128, Nat.mod_lt _ (by decide)⟩ e)
    = gated (retR (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) (batch t) (head t) i)
      (m ((c.tc : Thread nD τ).loc main_arg7) (ix3 0 (head t) e)) (m ((c.tc : Thread nD τ).loc main_arg3) (ix3 (batch t) i (h128 (head t) e))) e := by
  have hr : row (i.val / 128) ⟨i.val % 128, Nat.mod_lt _ (by decide)⟩ = i := Fin.ext (by simp only [row]; omega)
  refine (outChunk_apply (iblk m c 0 t) (iblk m c 1 t) (iblk m c 2 t) (iblk m c 3 t) (iblk m c 4 t) (iblk m c 5 t) (iblk m c 6 t) (iblk m c 7 t)
    (m ((c.tc : Thread nD τ).loc main_arg6) (ix3 0 0 (head t))) (m ((c.tc : Thread nD τ).loc main_arg6) (ix3 0 1 (head t)))
    (fun l => iblk0 m c t 0 l) (fun l => iblk0 m c t 1 l) (grid0.coords t) (i.val / 128) ⟨i.val % 128, Nat.mod_lt _ (by decide)⟩ e).trans ?_
  have q1 : (fun (s : Fin 2048) (d : Fin 64) => (iblk m c 1 t (ix3 0 s (ln (grid0.coords t 1).val d)) : EReal)) = keys (batch t) (head t) (m ((c.tc : Thread nD τ).loc main_arg0)) :=
    funext fun s => funext fun d => iblk1 m c t s d
  have q2 : (fun (s : Fin 2048) (d : Fin 64) => (iblk m c 2 t (ix3 0 s (ln (grid0.coords t 1).val d)) : EReal)) = keys (batch t) (head t) (m ((c.tc : Thread nD τ).loc main_arg1)) :=
    funext fun s => funext fun d => iblk2 m c t s d
  have q3 : (fun (s : Fin 2048) (d : Fin 128) => (iblk m c 3 t (ix3 0 s d) : EReal)) = vals (batch t) (head t) (m ((c.tc : Thread nD τ).loc main_arg2)) :=
    funext fun s => funext fun d => iblk3 m c t s d
  have q5 : (fun (s : Fin 256) (d : Fin 64) => (iblk m c 5 t (ix3 0 s (ln (grid0.coords t 1).val d)) : EReal)) = ckeys (batch t) (head t) (m ((c.tc : Thread nD τ).loc main_arg4)) :=
    funext fun s => funext fun d => iblk5 m c t s d
  have q6 : (fun (s : Fin 256) (d : Fin 128) => (iblk m c 6 t (ix3 0 s d) : EReal)) = cvals (batch t) (head t) (m ((c.tc : Thread nD τ).loc main_arg5)) :=
    funext fun s => funext fun d => iblk6 m c t s d
  have q4 := iblk4 m c t i e
  have q7 := iblk7 m c t e
  rw [hr]
  unfold retR lg
  rw [← q1, ← q2, ← q3, ← q5, ← q6, ← q7, ← q4]

/-- THE RETENTION'S RESULT: what the blocks leave is the reference's value. -/
theorem out8_eq : (dats m 0 c).arrAt 8 cfg0.N = Cert.RetReferenceIdeal.Read.val_main_v371 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) := by
  refine (dats m 0 c).arrAt_eq_of_covers 8 _ (by decide +kernel) fun t hf y => ?_
  blk_simp
  have he : (win0_8.blk t).view.emb y = ix3 (batch t) (y 1) (h128 (head t) (y 2)) := by
    blk_ext [idx t, batch, head, h128]
  rw [after0_8]
  exact (out_apply m c t y).trans ((point_eq m c t (y 1) (y 2)).trans
    ((out_ref _ _ _ _ _ _ _ _ (batch t) (head t) (y 1) (y 2)).symm.trans (congrArg _ he.symm)))

end Cert.Ret

end
-- ==== Proof.lean ====
module

public import proofs.«01_k».proof.Proof.Gen.KernelIdeal.Value
public import proofs.«01_k».proof.Proof.Array
public import proofs.«01_k».proof.Proof.Pre
public import proofs.«01_k».proof.Proof.MixArray
public import proofs.«01_k».proof.Proof.InArray
public import proofs.«01_k».proof.Proof.InPre
public import proofs.«01_k».proof.Proof.CtxArray
public import proofs.«01_k».proof.Proof.CtxPre
public import proofs.«01_k».proof.Proof.RetArray
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Pre_finite_in
public import proofs.«01_k».proof.Proof.Gen.CtxKernel
public import proofs.«01_k».proof.Proof.Gen.CtxKernel.Skeleton
public import proofs.«01_k».proof.Proof.Gen.CtxKernel.Launch
public import proofs.«01_k».proof.Proof.Gen.CtxKernel.Points
public import proofs.«01_k».proof.Proof.Gen.CtxKernel.Frame
public import proofs.«01_k».proof.Proof.Gen.CtxKernelIdeal
public import proofs.«01_k».proof.Proof.Gen.CtxKernelIdeal.Skeleton
public import proofs.«01_k».proof.Proof.Gen.CtxKernelIdeal.Launch
public import proofs.«01_k».proof.Proof.Gen.CtxKernelIdeal.Points
public import proofs.«01_k».proof.Proof.Gen.CtxKernelIdeal.Frame
public import proofs.«01_k».proof.Proof.Gen.CtxKernelIdeal.Value
public import proofs.«01_k».proof.Proof.Gen.CtxReferenceIdeal
public import proofs.«01_k».proof.Proof.Gen.CtxReferenceIdeal.Run
public import proofs.«01_k».proof.Proof.Gen.CtxReferenceIdeal.Read
public import proofs.«01_k».proof.Proof.Gen.Pre_finite_ctx
public import proofs.«01_k».proof.Proof.Gen.RetKernel
public import proofs.«01_k».proof.Proof.Gen.RetKernel.Skeleton
public import proofs.«01_k».proof.Proof.Gen.RetKernel.Launch
public import proofs.«01_k».proof.Proof.Gen.RetKernel.Points
public import proofs.«01_k».proof.Proof.Gen.RetKernel.Frame
public import proofs.«01_k».proof.Proof.Gen.RetKernelIdeal
public import proofs.«01_k».proof.Proof.Gen.RetKernelIdeal.Skeleton
public import proofs.«01_k».proof.Proof.Gen.RetKernelIdeal.Launch
public import proofs.«01_k».proof.Proof.Gen.RetKernelIdeal.Points
public import proofs.«01_k».proof.Proof.Gen.RetKernelIdeal.Frame
public import proofs.«01_k».proof.Proof.Gen.RetKernelIdeal.Value
public import proofs.«01_k».proof.Proof.Gen.RetReferenceIdeal
public import proofs.«01_k».proof.Proof.Gen.RetReferenceIdeal.Run
public import proofs.«01_k».proof.Proof.Gen.RetReferenceIdeal.Read
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The reference runs, keeps its arguments and, declaring no semaphore, ends with every counter at zero. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run m g)

/-- The kernel's differential attention is the reference's, from finite queries, keys, values and weights. -/
theorem attention_eq : Cert.algebraic_KernelIdeal_ReferenceIdeal_pre_finite := by
  intro m g m' g' hpre hargs
  have hout : ∀ c : Dev Cert.KernelIdeal.nD, (Cert.KernelIdeal.Gen.dats m 0 c).arrAt 7 Cert.KernelIdeal.cfg0.N
      = Cert.ReferenceIdeal.Value.res_main_v79 m' c := fun c => by
    obtain ⟨h1, h2, h3, h4, h5, h6⟩ := hpre c
    obtain ⟨r0, r1, r2, r3, r4, r5⟩ := Cert.DiffAttn.finite_real h1 h2 h3 h4 h5 h6
    choose q hq using r0
    choose k hk using r1
    choose v hv using r2
    choose ck hck using r3
    choose cv hcv using r4
    choose p hp using r5
    rw [Cert.DiffAttn.out_eq m c (q := fun b i l => q (ix3 b i l)) (k := fun b i l => k (ix3 b i l)) (v := fun b i l => v (ix3 b i l))
      (ck := fun b i l => ck (ix3 b i l)) (cv := fun b i l => cv (ix3 b i l)) (p := fun i d => p (ix3 0 i d))
      (fun b i l => hq _) (fun b i l => hk _) (fun b i l => hv _) (fun b i l => hck _) (fun b i l => hcv _) (fun i d => hp _)]
    obtain ⟨e0, e1, e2, e3, e4, e5, e6⟩ := hargs c
    rw [← e0, ← e1, ← e2, ← e3, ← e4, ← e5, ← e6]
    exact (Cert.ReferenceIdeal.Read.val_main_v79_eq m' c).symm
  refine ⟨fun c => (Cert.KernelIdeal.Gen.dats m 0 c).arrAt 7 Cert.KernelIdeal.cfg0.N, Cert.KernelIdeal.Value.run_blocks m g, ?_⟩
  exact (θ_run Cert.ReferenceIdeal.defs _ _).mono (fun r h c => ⟨(h c).1.trans (hout c).symm, (h c).2⟩) (Cert.ReferenceIdeal.Value.run m' g')

/-- The mixing reference runs, keeps its arguments and, declaring no semaphore, ends with every counter at zero. -/
theorem frame_mix_reference : Cert.quiescent_MixReferenceIdeal := fun m g _ =>
  (θ_run Cert.MixReferenceIdeal.defs _ _).mono (fun r h => ⟨fun c => (h c).2.2.2, Idealize.ShloMosaic.sem_eq_zero_of_no_sems (by decide) r.2⟩)
    (Cert.MixReferenceIdeal.Value.run m g)

/-- The mixing kernel's stream, normed stream and key scores are the reference's, from any arguments. -/
theorem mix_eq : Cert.algebraic_MixKernelIdeal_MixReferenceIdeal := by
  intro m g m' g' _ hargs
  refine ⟨fun c => (Cert.MixKernelIdeal.Gen.dats m 0 c).arrAt 11 Cert.MixKernelIdeal.cfg0.N,
    fun c => (Cert.MixKernelIdeal.Gen.dats m 0 c).arrAt 12 Cert.MixKernelIdeal.cfg0.N,
    fun c => (Cert.MixKernelIdeal.Gen.dats m 0 c).arrAt 13 Cert.MixKernelIdeal.cfg0.N, Cert.MixKernelIdeal.Value.run_blocks m g, ?_⟩
  refine (θ_run Cert.MixReferenceIdeal.defs _ _).mono (fun r h c => ?_) (Cert.MixReferenceIdeal.Value.run m' g')
  obtain ⟨e0, e1, e2, e3, e4, e5, e6, e7⟩ := hargs c
  refine ⟨(h c).1.trans (Eq.trans ?_ (Cert.MixOut.out11_eq m c).symm), (h c).2.1.trans (Eq.trans ?_ (Cert.MixOut.out12_eq m c).symm),
    (h c).2.2.1.trans (Eq.trans ?_ (Cert.MixOut.out13_eq m c).symm), (h c).2.2.2⟩
  · rw [← e0, ← e1, ← e2, ← e3, ← e5]
    exact Cert.MixReferenceIdeal.Read.val_main_v11_eq _ _ _ _ _
  · rw [← e0, ← e1, ← e2, ← e3, ← e4, ← e5]
    exact Cert.MixReferenceIdeal.Read.val_main_v44_eq m' c
  · rw [← e0, ← e1, ← e2, ← e3, ← e4, ← e5, ← e6, ← e7]
    exact Cert.MixReferenceIdeal.Read.val_main_v46_eq m' c

/-- The input projection's reference leaves its arguments alone. -/
theorem frame_in_reference : Cert.quiescent_InReferenceIdeal := fun m g _ =>
  (θ_run Cert.InReferenceIdeal.defs _ _).mono (fun r h => ⟨fun c => (h c).2.2.2.2.2.2.2, Idealize.ShloMosaic.sem_eq_zero_of_no_sems (by decide) r.2⟩)
    (Cert.InReferenceIdeal.Value.run m g)

/-- The query scale's word is named for the real it rounds, one over eight times the logarithm of two. -/
theorem preserves_in : Cert.preserves_InKernel_InKernelIdeal :=
  IdealRules.named_const.statement Cert.InKernelIdeal.κ "q_scale" .f32 0x3E38AA3B#32 (((8 * (Real.log 2))⁻¹ : ℝ) : EReal) rfl

set_option maxHeartbeats 2000000 in
/-- The input projection's seven results are the reference's, from a finite stream, finite modulation rows, gains and weights. -/
theorem in_eq : Cert.algebraic_InKernelIdeal_InReferenceIdeal_pre_finite_in := by
  intro m g m' g' hpre hargs
  refine ⟨fun c => (Cert.InKernelIdeal.Gen.dats m 0 c).arrAt 9 Cert.InKernelIdeal.cfg0.N,
    fun c => (Cert.InKernelIdeal.Gen.dats m 0 c).arrAt 10 Cert.InKernelIdeal.cfg0.N,
    fun c => (Cert.InKernelIdeal.Gen.dats m 0 c).arrAt 11 Cert.InKernelIdeal.cfg0.N,
    fun c => (Cert.InKernelIdeal.Gen.dats m 0 c).arrAt 12 Cert.InKernelIdeal.cfg0.N,
    fun c => (Cert.InKernelIdeal.Gen.dats m 0 c).arrAt 13 Cert.InKernelIdeal.cfg0.N,
    fun c => (Cert.InKernelIdeal.Gen.dats m 0 c).arrAt 14 Cert.InKernelIdeal.cfg0.N,
    fun c => (Cert.InKernelIdeal.Gen.dats m 0 c).arrAt 15 Cert.InKernelIdeal.cfg0.N, Cert.InKernelIdeal.Value.run_blocks m g, ?_⟩
  refine (θ_run Cert.InReferenceIdeal.defs _ _).mono (fun r h c => ?_) (Cert.InReferenceIdeal.Value.run m' g')
  obtain ⟨e0, e1, e2, e3, e4⟩ := hargs c
  obtain ⟨p0, p1, p2, p3⟩ := hpre c
  obtain ⟨h0, h1, h2, h3⟩ := Cert.InProj.finite_in_real p0 p1 p2 p3
  refine ⟨(h c).1.trans (Eq.trans ?_ (Cert.InProj.out9_eq m c).symm),
    (h c).2.1.trans (Eq.trans ?_ (Cert.InProj.out10_eq m c).symm),
    (h c).2.2.1.trans (Eq.trans ?_ (Cert.InProj.out11_eq m c).symm),
    (h c).2.2.2.1.trans (Eq.trans ?_ (Cert.InProj.out12_eq m c).symm),
    (h c).2.2.2.2.1.trans (Eq.trans ?_ (Cert.InProj.out13_eq m c h0 h1 h2 h3).symm),
    (h c).2.2.2.2.2.1.trans (Eq.trans ?_ (Cert.InProj.out14_eq m c h0 h1 h2 h3).symm),
    (h c).2.2.2.2.2.2.1.trans (Eq.trans ?_ (Cert.InProj.out15_eq m c).symm), (h c).2.2.2.2.2.2.2⟩
  · rw [← e0, ← e1, ← e2, ← e3]
    exact Cert.InReferenceIdeal.Read.val_main_v165_eq _
  · rw [← e0, ← e1, ← e2, ← e3]
    exact Cert.InReferenceIdeal.Read.val_main_v166_eq _
  · rw [← e0, ← e1, ← e2, ← e3]
    exact Cert.InReferenceIdeal.Read.val_main_v167_eq _
  · rw [← e0, ← e1, ← e2, ← e3]
    exact Cert.InReferenceIdeal.Read.val_main_v57_eq _
  · rw [← e0, ← e1, ← e2, ← e3, ← e4]
    exact Cert.InReferenceIdeal.Read.val_main_v168_eq _
  · rw [← e0, ← e1, ← e2, ← e3, ← e4]
    exact Cert.InReferenceIdeal.Read.val_main_v169_eq _
  · rw [← e0, ← e1, ← e2, ← e3]
    exact Cert.InReferenceIdeal.Read.val_main_v170_eq _

/-- The context projection's reference leaves its arguments alone. -/
theorem frame_ctx_reference : Cert.quiescent_CtxReferenceIdeal := fun m g _ =>
  (θ_run Cert.CtxReferenceIdeal.defs _ _).mono (fun r h => ⟨fun c => (h c).2.2.2.2, Idealize.ShloMosaic.sem_eq_zero_of_no_sems (by decide) r.2⟩)
    (Cert.CtxReferenceIdeal.Value.run m g)

set_option maxHeartbeats 2000000 in
/-- The context projection's four results are the reference's, from a finite context, finite modulation rows, gains and weights. -/
theorem ctx_eq : Cert.algebraic_CtxKernelIdeal_CtxReferenceIdeal_pre_finite_ctx := by
  intro m g m' g' hpre hargs
  refine ⟨fun c => (Cert.CtxKernelIdeal.Gen.dats m 0 c).arrAt 10 Cert.CtxKernelIdeal.cfg0.N,
    fun c => (Cert.CtxKernelIdeal.Gen.dats m 0 c).arrAt 11 Cert.CtxKernelIdeal.cfg0.N,
    fun c => (Cert.CtxKernelIdeal.Gen.dats m 0 c).arrAt 14 Cert.CtxKernelIdeal.cfg0.N,
    fun c => (Cert.CtxKernelIdeal.Gen.dats m 0 c).arrAt 15 Cert.CtxKernelIdeal.cfg0.N,
    (θ_run Cert.CtxKernelIdeal.defs _ _).mono (fun r h c => ⟨(h c).2.1, (h c).2.2.1, (h c).2.2.2.2.2.1, (h c).2.2.2.2.2.2⟩)
      (Cert.CtxKernelIdeal.Value.run_blocks m g), ?_⟩
  refine (θ_run Cert.CtxReferenceIdeal.defs _ _).mono (fun r h c => ?_) (Cert.CtxReferenceIdeal.Value.run m' g')
  obtain ⟨e0, e1, e2, e3, e4⟩ := hargs c
  obtain ⟨p0, p1, p2, p3⟩ := hpre c
  obtain ⟨h0, h1, h2, h3⟩ := Cert.CtxProj.finite_ctx_real p0 p1 p2 p3
  refine ⟨(h c).1.trans (Eq.trans ?_ (Cert.CtxProj.out10_eq m c).symm),
    (h c).2.1.trans (Eq.trans ?_ (Cert.CtxProj.out11_eq m c).symm),
    (h c).2.2.1.trans (Eq.trans ?_ (Cert.CtxProj.out14_eq m c h0 h1 h2 h3).symm),
    (h c).2.2.2.1.trans (Eq.trans ?_ (Cert.CtxProj.out15_eq m c).symm), (h c).2.2.2.2⟩
  · rw [← e0, ← e1, ← e2, ← e3]
    exact Cert.CtxReferenceIdeal.Read.val_main_v56_eq _ _ _ _
  · rw [← e0, ← e1, ← e2, ← e3]
    exact Cert.CtxReferenceIdeal.Read.val_main_v57_eq _ _ _ _
  · rw [← e0, ← e1, ← e2, ← e3, ← e4]
    exact Cert.CtxReferenceIdeal.Read.val_main_v58_eq m' c
  · rw [← e0, ← e1, ← e2, ← e3]
    exact Cert.CtxReferenceIdeal.Read.val_main_v59_eq _ _ _ _

/-- The retention's reference leaves its arguments alone. -/
theorem frame_ret_reference : Cert.quiescent_RetReferenceIdeal := fun m g _ =>
  (θ_run Cert.RetReferenceIdeal.defs _ _).mono (fun r h => ⟨fun c => (h c).2, Idealize.ShloMosaic.sem_eq_zero_of_no_sems (by decide) r.2⟩)
    (Cert.RetReferenceIdeal.Value.run m g)

set_option maxHeartbeats 2000000 in
/-- The retention's result is the reference's, from any arguments. -/
theorem ret_eq : Cert.algebraic_RetKernelIdeal_RetReferenceIdeal := by
  intro m g m' g' _ hargs
  refine ⟨fun c => (Cert.RetKernelIdeal.Gen.dats m 0 c).arrAt 8 Cert.RetKernelIdeal.cfg0.N, Cert.RetKernelIdeal.Value.run_blocks m g, ?_⟩
  refine (θ_run Cert.RetReferenceIdeal.defs _ _).mono (fun r h c => ?_) (Cert.RetReferenceIdeal.Value.run m' g')
  obtain ⟨e0, e1, e2, e3, e4, e5, e6, e7⟩ := hargs c
  refine ⟨(h c).1.trans (Eq.trans ?_ (Cert.Ret.out8_eq m c).symm), (h c).2⟩
  rw [← e0, ← e1, ← e2, ← e3, ← e4, ← e5, ← e6, ← e7]
  exact Cert.RetReferenceIdeal.Read.val_main_v371_eq _

/-- Every claim. -/
theorem claim : Cert.Claim := ⟨Cert.Kernel.Gen.facts, Cert.KernelIdeal.Gen.facts, Cert.ReferenceIdeal.Gen.facts,
  Cert.MixKernel.Gen.facts, Cert.MixKernelIdeal.Gen.facts, Cert.MixReferenceIdeal.Gen.facts,
  Cert.InKernel.Gen.facts, Cert.InKernelIdeal.Gen.facts, Cert.InReferenceIdeal.Gen.facts,
  Cert.CtxKernel.Gen.facts, Cert.CtxKernelIdeal.Gen.facts, Cert.CtxReferenceIdeal.Gen.facts,
  Cert.RetKernel.Gen.facts, Cert.RetKernelIdeal.Gen.facts, Cert.RetReferenceIdeal.Gen.facts, Cert.Pre_finite.Gen.facts, Cert.Pre_finite_in.Gen.facts,
  Cert.Pre_finite_ctx.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.MixKernel.Gen.frame m g, fun m g _ => Cert.MixKernelIdeal.Gen.frame m g, frame_mix_reference,
  fun m g _ => Cert.InKernel.Gen.frame m g, fun m g _ => Cert.InKernelIdeal.Gen.frame m g, fun m g _ => Cert.InKernelIdeal.Gen.frame m g,
  frame_in_reference, fun m g _ => frame_in_reference m g trivial,
  fun m g _ => Cert.CtxKernel.Gen.frame m g, fun m g _ => Cert.CtxKernelIdeal.Gen.frame m g, fun m g _ => Cert.CtxKernelIdeal.Gen.frame m g,
  frame_ctx_reference, fun m g _ => frame_ctx_reference m g trivial,
  fun m g _ => Cert.RetKernel.Gen.frame m g, fun m g _ => Cert.RetKernelIdeal.Gen.frame m g, frame_ret_reference,
  trivial, attention_eq, trivial, mix_eq, preserves_in, in_eq, trivial, ctx_eq, trivial, ret_eq⟩

end Cert.Proof

end
